-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inert [hPre_finite_inert : Cert.Pre_finite_inert.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inert [hPre_finite_inert : Cert.Pre_finite_inert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_UpDxG (m : (ℓ : Loc Cert.UpDxG.nD Cert.UpDxG.τ Cert.UpDxG.sig) → Buf (Elt Bits) ℓ) : Prop :=
  True

def Pre_UpDxGIdeal (m : (ℓ : Loc Cert.UpDxGIdeal.nD Cert.UpDxGIdeal.τ Cert.UpDxGIdeal.sig) → Buf (Elt Ideal) ℓ) : Prop :=
  True

def Pre_RefUpDxGIdeal (m : (ℓ : Loc Cert.RefUpDxGIdeal.nD Cert.RefUpDxGIdeal.τ Cert.RefUpDxGIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_RefFoxInIdeal (m : (ℓ : Loc Cert.RefFoxInIdeal.nD Cert.RefFoxInIdeal.τ Cert.RefFoxInIdeal.sig) → Buf (Elt Ideal) ℓ) : Prop :=
  True

def Pre_FoxInDw (m : (ℓ : Loc Cert.FoxInDw.nD Cert.FoxInDw.τ Cert.FoxInDw.sig) → Buf (Elt Bits) ℓ) : Prop :=
  True

def Pre_FoxInDwIdeal (m : (ℓ : Loc Cert.FoxInDwIdeal.nD Cert.FoxInDwIdeal.τ Cert.FoxInDwIdeal.sig) → Buf (Elt Ideal) ℓ) : Prop :=
  True

def Pre_RefFoxInDwIdeal (m : (ℓ : Loc Cert.RefFoxInDwIdeal.nD Cert.RefFoxInDwIdeal.τ Cert.RefFoxInDwIdeal.sig) → Buf (Elt Ideal) ℓ) : Prop :=
  True

def Pre_FoxInDx (m : (ℓ : Loc Cert.FoxInDx.nD Cert.FoxInDx.τ Cert.FoxInDx.sig) → Buf (Elt Bits) ℓ) : Prop :=
  True

def Pre_FoxInDxIdeal (m : (ℓ : Loc Cert.FoxInDxIdeal.nD Cert.FoxInDxIdeal.τ Cert.FoxInDxIdeal.sig) → Buf (Elt Ideal) ℓ) : Prop :=
  True

def Pre_RefFoxInDxIdeal (m : (ℓ : Loc Cert.RefFoxInDxIdeal.nD Cert.RefFoxInDxIdeal.τ Cert.RefFoxInDxIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_RefGlaInIdeal (m : (ℓ : Loc Cert.RefGlaInIdeal.nD Cert.RefGlaInIdeal.τ Cert.RefGlaInIdeal.sig) → Buf (Elt Ideal) ℓ) : Prop :=
  True

def Pre_GlaInDw (m : (ℓ : Loc Cert.GlaInDw.nD Cert.GlaInDw.τ Cert.GlaInDw.sig) → Buf (Elt Bits) ℓ) : Prop :=
  True

def Pre_GlaInDwIdeal (m : (ℓ : Loc Cert.GlaInDwIdeal.nD Cert.GlaInDwIdeal.τ Cert.GlaInDwIdeal.sig) → Buf (Elt Ideal) ℓ) : Prop :=
  True

def Pre_RefGlaInDwIdeal (m : (ℓ : Loc Cert.RefGlaInDwIdeal.nD Cert.RefGlaInDwIdeal.τ Cert.RefGlaInDwIdeal.sig) → Buf (Elt Ideal) ℓ) : Prop :=
  True

def Pre_GlaInDx (m : (ℓ : Loc Cert.GlaInDx.nD Cert.GlaInDx.τ Cert.GlaInDx.sig) → Buf (Elt Bits) ℓ) : Prop :=
  True

def Pre_GlaInDxIdeal (m : (ℓ : Loc Cert.GlaInDxIdeal.nD Cert.GlaInDxIdeal.τ Cert.GlaInDxIdeal.sig) → Buf (Elt Ideal) ℓ) : Prop :=
  True

def Pre_RefGlaInDxIdeal (m : (ℓ : Loc Cert.RefGlaInDxIdeal.nD Cert.RefGlaInDxIdeal.τ Cert.RefGlaInDxIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_RefKvProjIdeal (m : (ℓ : Loc Cert.RefKvProjIdeal.nD Cert.RefKvProjIdeal.τ Cert.RefKvProjIdeal.sig) → Buf (Elt Ideal) ℓ) : Prop :=
  True

def Pre_KvGate (m : (ℓ : Loc Cert.KvGate.nD Cert.KvGate.τ Cert.KvGate.sig) → Buf (Elt Bits) ℓ) : Prop :=
  True

def Pre_KvGateIdeal (m : (ℓ : Loc Cert.KvGateIdeal.nD Cert.KvGateIdeal.τ Cert.KvGateIdeal.sig) → Buf (Elt Ideal) ℓ) : Prop :=
  True

def Pre_RefKvGateIdeal (m : (ℓ : Loc Cert.RefKvGateIdeal.nD Cert.RefKvGateIdeal.τ Cert.RefKvGateIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_RefKvDwIdeal (m : (ℓ : Loc Cert.RefKvDwIdeal.nD Cert.RefKvDwIdeal.τ Cert.RefKvDwIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_RefKvDxIdeal (m : (ℓ : Loc Cert.RefKvDxIdeal.nD Cert.RefKvDxIdeal.τ Cert.RefKvDxIdeal.sig) → Buf (Elt Ideal) ℓ) : Prop :=
  True

def Pre_AdamFoxIn (m : (ℓ : Loc Cert.AdamFoxIn.nD Cert.AdamFoxIn.τ Cert.AdamFoxIn.sig) → Buf (Elt Bits) ℓ) : Prop :=
  True

def Pre_AdamFoxInIdeal (m : (ℓ : Loc Cert.AdamFoxInIdeal.nD Cert.AdamFoxInIdeal.τ Cert.AdamFoxInIdeal.sig) → Buf (Elt Ideal) ℓ) : Prop :=
  True

def Pre_RefAdamFoxInIdeal (m : (ℓ : Loc Cert.RefAdamFoxInIdeal.nD Cert.RefAdamFoxInIdeal.τ Cert.RefAdamFoxInIdeal.sig) → Buf (Elt Ideal) ℓ) : Prop :=
  True

def Pre_AdamFoxOut (m : (ℓ : Loc Cert.AdamFoxOut.nD Cert.AdamFoxOut.τ Cert.AdamFoxOut.sig) → Buf (Elt Bits) ℓ) : Prop :=
  True

def Pre_AdamFoxOutIdeal (m : (ℓ : Loc Cert.AdamFoxOutIdeal.nD Cert.AdamFoxOutIdeal.τ Cert.AdamFoxOutIdeal.sig) → Buf (Elt Ideal) ℓ) : Prop :=
  True

def Pre_RefAdamFoxOutIdeal (m : (ℓ : Loc Cert.RefAdamFoxOutIdeal.nD Cert.RefAdamFoxOutIdeal.τ Cert.RefAdamFoxOutIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_RefAdamKvIdeal (m : (ℓ : Loc Cert.RefAdamKvIdeal.nD Cert.RefAdamKvIdeal.τ Cert.RefAdamKvIdeal.sig) → Buf (Elt Ideal) ℓ) : Prop :=
  True

def Pre_AdamGlaIn (m : (ℓ : Loc Cert.AdamGlaIn.nD Cert.AdamGlaIn.τ Cert.AdamGlaIn.sig) → Buf (Elt Bits) ℓ) : Prop :=
  True

def Pre_AdamGlaInIdeal (m : (ℓ : Loc Cert.AdamGlaInIdeal.nD Cert.AdamGlaInIdeal.τ Cert.AdamGlaInIdeal.sig) → Buf (Elt Ideal) ℓ) : Prop :=
  True

def Pre_RefAdamGlaInIdeal (m : (ℓ : Loc Cert.RefAdamGlaInIdeal.nD Cert.RefAdamGlaInIdeal.τ Cert.RefAdamGlaInIdeal.sig) → Buf (Elt Ideal) ℓ) : Prop :=
  True

def Pre_AdamGlaOut (m : (ℓ : Loc Cert.AdamGlaOut.nD Cert.AdamGlaOut.τ Cert.AdamGlaOut.sig) → Buf (Elt Bits) ℓ) : Prop :=
  True

def Pre_AdamGlaOutIdeal (m : (ℓ : Loc Cert.AdamGlaOutIdeal.nD Cert.AdamGlaOutIdeal.τ Cert.AdamGlaOutIdeal.sig) → Buf (Elt Ideal) ℓ) : Prop :=
  True

def Pre_RefAdamGlaOutIdeal (m : (ℓ : Loc Cert.RefAdamGlaOutIdeal.nD Cert.RefAdamGlaOutIdeal.τ Cert.RefAdamGlaOutIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_RefSumSmallIdeal (m : (ℓ : Loc Cert.RefSumSmallIdeal.nD Cert.RefSumSmallIdeal.τ Cert.RefSumSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inert [hKernelIdeal : Cert.KernelIdeal.Facts] [hPre_finite_inert : Cert.Pre_finite_inert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inert m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inert [hReferenceIdeal : Cert.ReferenceIdeal.Facts] [hPre_finite_inert : Cert.Pre_finite_inert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inert m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1)
      ∧ r.2.mem ((c.tc : Thread Cert.RefUpDxIdeal.nD Cert.RefUpDxIdeal.τ).loc Cert.RefUpDxIdeal.main_arg2) = m ((c.tc : Thread Cert.RefUpDxIdeal.nD Cert.RefUpDxIdeal.τ).loc Cert.RefUpDxIdeal.main_arg2))
      ∧ r.2.sem = fun _ => 0)

def quiescent_UpDxG [hUpDxG : Cert.UpDxG.Facts] : Prop :=
  ∀ (m : (ℓ : Loc Cert.UpDxG.nD Cert.UpDxG.τ Cert.UpDxG.sig) → Buf (Elt Bits) ℓ) (g : Dev Cert.UpDxG.nD → PrngReg), Pre_UpDxG m →
    θ_run (Cert.UpDxG.defs (F := Bits)) (onTc (τ := Cert.UpDxG.τ) (Cert.UpDxG.main (F := Bits))) ⟨m, fun _ => 0, g⟩ (fun r => (∀ c : Dev Cert.UpDxG.nD,
      r.2.mem ((c.tc : Thread Cert.UpDxG.nD Cert.UpDxG.τ).loc Cert.UpDxG.main_arg0) = m ((c.tc : Thread Cert.UpDxG.nD Cert.UpDxG.τ).loc Cert.UpDxG.main_arg0)
      ∧ r.2.mem ((c.tc : Thread Cert.UpDxG.nD Cert.UpDxG.τ).loc Cert.UpDxG.main_arg1) = m ((c.tc : Thread Cert.UpDxG.nD Cert.UpDxG.τ).loc Cert.UpDxG.main_arg1)
      ∧ r.2.mem ((c.tc : Thread Cert.UpDxG.nD Cert.UpDxG.τ).loc Cert.UpDxG.main_arg2) = m ((c.tc : Thread Cert.UpDxG.nD Cert.UpDxG.τ).loc Cert.UpDxG.main_arg2))
      ∧ r.2.sem = fun _ => 0)

def quiescent_UpDxGIdeal [hUpDxGIdeal : Cert.UpDxGIdeal.Facts] : Prop :=
  ∀ (m : (ℓ : Loc Cert.UpDxGIdeal.nD Cert.UpDxGIdeal.τ Cert.UpDxGIdeal.sig) → Buf (Elt Ideal) ℓ) (g : Dev Cert.UpDxGIdeal.nD → PrngReg), Pre_UpDxGIdeal m →
    θ_run (Cert.UpDxGIdeal.defs (F := Ideal)) (onTc (τ := Cert.UpDxGIdeal.τ) (Cert.UpDxGIdeal.main (F := Ideal))) ⟨m, fun _ => 0, g⟩ (fun r => (∀ c : Dev Cert.UpDxGIdeal.nD,
      r.2.mem ((c.tc : Thread Cert.UpDxGIdeal.nD Cert.UpDxGIdeal.τ).loc Cert.UpDxGIdeal.main_arg0) = m ((c.tc : Thread Cert.UpDxGIdeal.nD Cert.UpDxGIdeal.τ).loc Cert.UpDxGIdeal.main_arg0)
      ∧ r.2.mem ((c.tc : Thread Cert.UpDxGIdeal.nD Cert.UpDxGIdeal.τ).loc Cert.UpDxGIdeal.main_arg1) = m ((c.tc : Thread Cert.UpDxGIdeal.nD Cert.UpDxGIdeal.τ).loc Cert.UpDxGIdeal.main_arg1)
      ∧ r.2.mem ((c.tc : Thread Cert.UpDxGIdeal.nD Cert.UpDxGIdeal.τ).loc Cert.UpDxGIdeal.main_arg2) = m ((c.tc : Thread Cert.UpDxGIdeal.nD Cert.UpDxGIdeal.τ).loc Cert.UpDxGIdeal.main_arg2))
      ∧ r.2.sem = fun _ => 0)

def quiescent_RefUpDxGIdeal [hRefUpDxGIdeal : Cert.RefUpDxGIdeal.Facts] : Prop :=
  ∀ (m : (ℓ : Loc Cert.RefUpDxGIdeal.nD Cert.RefUpDxGIdeal.τ Cert.RefUpDxGIdeal.sig) → Buf (Elt Ideal) ℓ) (g : Dev Cert.RefUpDxGIdeal.nD → PrngReg), Pre_RefUpDxGIdeal m →
    θ_run (Cert.RefUpDxGIdeal.defs (F := Ideal)) (onTc (τ := Cert.RefUpDxGIdeal.τ) (Cert.RefUpDxGIdeal.main (F := Ideal))) ⟨m, fun _ => 0, g⟩ (fun r => (∀ c : Dev Cert.RefUpDxGIdeal.nD,
      r.2.mem ((c.tc : Thread Cert.RefUpDxGIdeal.nD Cert.RefUpDxGIdeal.τ).loc Cert.RefUpDxGIdeal.main_arg0) = m ((c.tc : Thread Cert.RefUpDxGIdeal.nD Cert.RefUpDxGIdeal.τ).loc Cert.RefUpDxGIdeal.main_arg0)
      ∧ r.2.mem ((c.tc : Thread Cert.RefUpDxGIdeal.nD Cert.RefUpDxGIdeal.τ).loc Cert.RefUpDxGIdeal.main_arg1) = m ((c.tc : Thread Cert.RefUpDxGIdeal.nD Cert.RefUpDxGIdeal.τ).loc Cert.RefUpDxGIdeal.main_arg1)
      ∧ r.2.mem ((c.tc : Thread Cert.RefUpDxGIdeal.nD Cert.RefUpDxGIdeal.τ).loc Cert.RefUpDxGIdeal.main_arg2) = m ((c.tc : Thread Cert.RefUpDxGIdeal.nD Cert.RefUpDxGIdeal.τ).loc Cert.RefUpDxGIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_RefFoxInIdeal [hRefFoxInIdeal : Cert.RefFoxInIdeal.Facts] : Prop :=
  ∀ (m : (ℓ : Loc Cert.RefFoxInIdeal.nD Cert.RefFoxInIdeal.τ Cert.RefFoxInIdeal.sig) → Buf (Elt Ideal) ℓ) (g : Dev Cert.RefFoxInIdeal.nD → PrngReg), Pre_RefFoxInIdeal m →
    θ_run (Cert.RefFoxInIdeal.defs (F := Ideal)) (onTc (τ := Cert.RefFoxInIdeal.τ) (Cert.RefFoxInIdeal.main (F := Ideal))) ⟨m, fun _ => 0, g⟩ (fun r => (∀ c : Dev Cert.RefFoxInIdeal.nD,
      r.2.mem ((c.tc : Thread Cert.RefFoxInIdeal.nD Cert.RefFoxInIdeal.τ).loc Cert.RefFoxInIdeal.main_arg0) = m ((c.tc : Thread Cert.RefFoxInIdeal.nD Cert.RefFoxInIdeal.τ).loc Cert.RefFoxInIdeal.main_arg0)
      ∧ r.2.mem ((c.tc : Thread Cert.RefFoxInIdeal.nD Cert.RefFoxInIdeal.τ).loc Cert.RefFoxInIdeal.main_arg1) = m ((c.tc : Thread Cert.RefFoxInIdeal.nD Cert.RefFoxInIdeal.τ).loc Cert.RefFoxInIdeal.main_arg1))
      ∧ r.2.sem = fun _ => 0)

def quiescent_FoxInDw [hFoxInDw : Cert.FoxInDw.Facts] : Prop :=
  ∀ (m : (ℓ : Loc Cert.FoxInDw.nD Cert.FoxInDw.τ Cert.FoxInDw.sig) → Buf (Elt Bits) ℓ) (g : Dev Cert.FoxInDw.nD → PrngReg), Pre_FoxInDw m →
    θ_run (Cert.FoxInDw.defs (F := Bits)) (onTc (τ := Cert.FoxInDw.τ) (Cert.FoxInDw.main (F := Bits))) ⟨m, fun _ => 0, g⟩ (fun r => (∀ c : Dev Cert.FoxInDw.nD,
      r.2.mem ((c.tc : Thread Cert.FoxInDw.nD Cert.FoxInDw.τ).loc Cert.FoxInDw.main_arg0) = m ((c.tc : Thread Cert.FoxInDw.nD Cert.FoxInDw.τ).loc Cert.FoxInDw.main_arg0)
      ∧ r.2.mem ((c.tc : Thread Cert.FoxInDw.nD Cert.FoxInDw.τ).loc Cert.FoxInDw.main_arg1) = m ((c.tc : Thread Cert.FoxInDw.nD Cert.FoxInDw.τ).loc Cert.FoxInDw.main_arg1))
      ∧ r.2.sem = fun _ => 0)

def quiescent_FoxInDwIdeal [hFoxInDwIdeal : Cert.FoxInDwIdeal.Facts] : Prop :=
  ∀ (m : (ℓ : Loc Cert.FoxInDwIdeal.nD Cert.FoxInDwIdeal.τ Cert.FoxInDwIdeal.sig) → Buf (Elt Ideal) ℓ) (g : Dev Cert.FoxInDwIdeal.nD → PrngReg), Pre_FoxInDwIdeal m →
    θ_run (Cert.FoxInDwIdeal.defs (F := Ideal)) (onTc (τ := Cert.FoxInDwIdeal.τ) (Cert.FoxInDwIdeal.main (F := Ideal))) ⟨m, fun _ => 0, g⟩ (fun r => (∀ c : Dev Cert.FoxInDwIdeal.nD,
      r.2.mem ((c.tc : Thread Cert.FoxInDwIdeal.nD Cert.FoxInDwIdeal.τ).loc Cert.FoxInDwIdeal.main_arg0) = m ((c.tc : Thread Cert.FoxInDwIdeal.nD Cert.FoxInDwIdeal.τ).loc Cert.FoxInDwIdeal.main_arg0)
      ∧ r.2.mem ((c.tc : Thread Cert.FoxInDwIdeal.nD Cert.FoxInDwIdeal.τ).loc Cert.FoxInDwIdeal.main_arg1) = m ((c.tc : Thread Cert.FoxInDwIdeal.nD Cert.FoxInDwIdeal.τ).loc Cert.FoxInDwIdeal.main_arg1))
      ∧ r.2.sem = fun _ => 0)

def quiescent_RefFoxInDwIdeal [hRefFoxInDwIdeal : Cert.RefFoxInDwIdeal.Facts] : Prop :=
  ∀ (m : (ℓ : Loc Cert.RefFoxInDwIdeal.nD Cert.RefFoxInDwIdeal.τ Cert.RefFoxInDwIdeal.sig) → Buf (Elt Ideal) ℓ) (g : Dev Cert.RefFoxInDwIdeal.nD → PrngReg), Pre_RefFoxInDwIdeal m →
    θ_run (Cert.RefFoxInDwIdeal.defs (F := Ideal)) (onTc (τ := Cert.RefFoxInDwIdeal.τ) (Cert.RefFoxInDwIdeal.main (F := Ideal))) ⟨m, fun _ => 0, g⟩ (fun r => (∀ c : Dev Cert.RefFoxInDwIdeal.nD,
      r.2.mem ((c.tc : Thread Cert.RefFoxInDwIdeal.nD Cert.RefFoxInDwIdeal.τ).loc Cert.RefFoxInDwIdeal.main_arg0) = m ((c.tc : Thread Cert.RefFoxInDwIdeal.nD Cert.RefFoxInDwIdeal.τ).loc Cert.RefFoxInDwIdeal.main_arg0)
      ∧ r.2.mem ((c.tc : Thread Cert.RefFoxInDwIdeal.nD Cert.RefFoxInDwIdeal.τ).loc Cert.RefFoxInDwIdeal.main_arg1) = m ((c.tc : Thread Cert.RefFoxInDwIdeal.nD Cert.RefFoxInDwIdeal.τ).loc Cert.RefFoxInDwIdeal.main_arg1))
      ∧ r.2.sem = fun _ => 0)

def quiescent_FoxInDx [hFoxInDx : Cert.FoxInDx.Facts] : Prop :=
  ∀ (m : (ℓ : Loc Cert.FoxInDx.nD Cert.FoxInDx.τ Cert.FoxInDx.sig) → Buf (Elt Bits) ℓ) (g : Dev Cert.FoxInDx.nD → PrngReg), Pre_FoxInDx m →
    θ_run (Cert.FoxInDx.defs (F := Bits)) (onTc (τ := Cert.FoxInDx.τ) (Cert.FoxInDx.main (F := Bits))) ⟨m, fun _ => 0, g⟩ (fun r => (∀ c : Dev Cert.FoxInDx.nD,
      r.2.mem ((c.tc : Thread Cert.FoxInDx.nD Cert.FoxInDx.τ).loc Cert.FoxInDx.main_arg0) = m ((c.tc : Thread Cert.FoxInDx.nD Cert.FoxInDx.τ).loc Cert.FoxInDx.main_arg0)
      ∧ r.2.mem ((c.tc : Thread Cert.FoxInDx.nD Cert.FoxInDx.τ).loc Cert.FoxInDx.main_arg1) = m ((c.tc : Thread Cert.FoxInDx.nD Cert.FoxInDx.τ).loc Cert.FoxInDx.main_arg1)
      ∧ r.2.mem ((c.tc : Thread Cert.FoxInDx.nD Cert.FoxInDx.τ).loc Cert.FoxInDx.main_arg2) = m ((c.tc : Thread Cert.FoxInDx.nD Cert.FoxInDx.τ).loc Cert.FoxInDx.main_arg2))
      ∧ r.2.sem = fun _ => 0)

def quiescent_FoxInDxIdeal [hFoxInDxIdeal : Cert.FoxInDxIdeal.Facts] : Prop :=
  ∀ (m : (ℓ : Loc Cert.FoxInDxIdeal.nD Cert.FoxInDxIdeal.τ Cert.FoxInDxIdeal.sig) → Buf (Elt Ideal) ℓ) (g : Dev Cert.FoxInDxIdeal.nD → PrngReg), Pre_FoxInDxIdeal m →
    θ_run (Cert.FoxInDxIdeal.defs (F := Ideal)) (onTc (τ := Cert.FoxInDxIdeal.τ) (Cert.FoxInDxIdeal.main (F := Ideal))) ⟨m, fun _ => 0, g⟩ (fun r => (∀ c : Dev Cert.FoxInDxIdeal.nD,
      r.2.mem ((c.tc : Thread Cert.FoxInDxIdeal.nD Cert.FoxInDxIdeal.τ).loc Cert.FoxInDxIdeal.main_arg0) = m ((c.tc : Thread Cert.FoxInDxIdeal.nD Cert.FoxInDxIdeal.τ).loc Cert.FoxInDxIdeal.main_arg0)
      ∧ r.2.mem ((c.tc : Thread Cert.FoxInDxIdeal.nD Cert.FoxInDxIdeal.τ).loc Cert.FoxInDxIdeal.main_arg1) = m ((c.tc : Thread Cert.FoxInDxIdeal.nD Cert.FoxInDxIdeal.τ).loc Cert.FoxInDxIdeal.main_arg1)
      ∧ r.2.mem ((c.tc : Thread Cert.FoxInDxIdeal.nD Cert.FoxInDxIdeal.τ).loc Cert.FoxInDxIdeal.main_arg2) = m ((c.tc : Thread Cert.FoxInDxIdeal.nD Cert.FoxInDxIdeal.τ).loc Cert.FoxInDxIdeal.main_arg2))
      ∧ r.2.sem = fun _ => 0)

def quiescent_RefFoxInDxIdeal [hRefFoxInDxIdeal : Cert.RefFoxInDxIdeal.Facts] : Prop :=
  ∀ (m : (ℓ : Loc Cert.RefFoxInDxIdeal.nD Cert.RefFoxInDxIdeal.τ Cert.RefFoxInDxIdeal.sig) → Buf (Elt Ideal) ℓ) (g : Dev Cert.RefFoxInDxIdeal.nD → PrngReg), Pre_RefFoxInDxIdeal m →
    θ_run (Cert.RefFoxInDxIdeal.defs (F := Ideal)) (onTc (τ := Cert.RefFoxInDxIdeal.τ) (Cert.RefFoxInDxIdeal.main (F := Ideal))) ⟨m, fun _ => 0, g⟩ (fun r => (∀ c : Dev Cert.RefFoxInDxIdeal.nD,
      r.2.mem ((c.tc : Thread Cert.RefFoxInDxIdeal.nD Cert.RefFoxInDxIdeal.τ).loc Cert.RefFoxInDxIdeal.main_arg0) = m ((c.tc : Thread Cert.RefFoxInDxIdeal.nD Cert.RefFoxInDxIdeal.τ).loc Cert.RefFoxInDxIdeal.main_arg0)
      ∧ r.2.mem ((c.tc : Thread Cert.RefFoxInDxIdeal.nD Cert.RefFoxInDxIdeal.τ).loc Cert.RefFoxInDxIdeal.main_arg1) = m ((c.tc : Thread Cert.RefFoxInDxIdeal.nD Cert.RefFoxInDxIdeal.τ).loc Cert.RefFoxInDxIdeal.main_arg1)
      ∧ r.2.mem ((c.tc : Thread Cert.RefFoxInDxIdeal.nD Cert.RefFoxInDxIdeal.τ).loc Cert.RefFoxInDxIdeal.main_arg2) = m ((c.tc : Thread Cert.RefFoxInDxIdeal.nD Cert.RefFoxInDxIdeal.τ).loc Cert.RefFoxInDxIdeal.main_arg2))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_RefGlaInIdeal [hRefGlaInIdeal : Cert.RefGlaInIdeal.Facts] : Prop :=
  ∀ (m : (ℓ : Loc Cert.RefGlaInIdeal.nD Cert.RefGlaInIdeal.τ Cert.RefGlaInIdeal.sig) → Buf (Elt Ideal) ℓ) (g : Dev Cert.RefGlaInIdeal.nD → PrngReg), Pre_RefGlaInIdeal m →
    θ_run (Cert.RefGlaInIdeal.defs (F := Ideal)) (onTc (τ := Cert.RefGlaInIdeal.τ) (Cert.RefGlaInIdeal.main (F := Ideal))) ⟨m, fun _ => 0, g⟩ (fun r => (∀ c : Dev Cert.RefGlaInIdeal.nD,
      r.2.mem ((c.tc : Thread Cert.RefGlaInIdeal.nD Cert.RefGlaInIdeal.τ).loc Cert.RefGlaInIdeal.main_arg0) = m ((c.tc : Thread Cert.RefGlaInIdeal.nD Cert.RefGlaInIdeal.τ).loc Cert.RefGlaInIdeal.main_arg0)
      ∧ r.2.mem ((c.tc : Thread Cert.RefGlaInIdeal.nD Cert.RefGlaInIdeal.τ).loc Cert.RefGlaInIdeal.main_arg1) = m ((c.tc : Thread Cert.RefGlaInIdeal.nD Cert.RefGlaInIdeal.τ).loc Cert.RefGlaInIdeal.main_arg1))
      ∧ r.2.sem = fun _ => 0)

def quiescent_GlaInDw [hGlaInDw : Cert.GlaInDw.Facts] : Prop :=
  ∀ (m : (ℓ : Loc Cert.GlaInDw.nD Cert.GlaInDw.τ Cert.GlaInDw.sig) → Buf (Elt Bits) ℓ) (g : Dev Cert.GlaInDw.nD → PrngReg), Pre_GlaInDw m →
    θ_run (Cert.GlaInDw.defs (F := Bits)) (onTc (τ := Cert.GlaInDw.τ) (Cert.GlaInDw.main (F := Bits))) ⟨m, fun _ => 0, g⟩ (fun r => (∀ c : Dev Cert.GlaInDw.nD,
      r.2.mem ((c.tc : Thread Cert.GlaInDw.nD Cert.GlaInDw.τ).loc Cert.GlaInDw.main_arg0) = m ((c.tc : Thread Cert.GlaInDw.nD Cert.GlaInDw.τ).loc Cert.GlaInDw.main_arg0)
      ∧ r.2.mem ((c.tc : Thread Cert.GlaInDw.nD Cert.GlaInDw.τ).loc Cert.GlaInDw.main_arg1) = m ((c.tc : Thread Cert.GlaInDw.nD Cert.GlaInDw.τ).loc Cert.GlaInDw.main_arg1))
      ∧ r.2.sem = fun _ => 0)

def quiescent_GlaInDwIdeal [hGlaInDwIdeal : Cert.GlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg), Pre_GlaInDwIdeal m →
    θ_run (Cert.GlaInDwIdeal.defs (F := Ideal)) (onTc (τ := Cert.GlaInDwIdeal.τ) (Cert.GlaInDwIdeal.main (F := Ideal))) ⟨m, fun _ => 0, g⟩ (fun r => (∀ c : Dev Cert.GlaInDwIdeal.nD,
      r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
      ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ r.2.sem = fun _ => 0)

def quiescent_RefGlaInDwIdeal [hRefGlaInDwIdeal : Cert.RefGlaInDwIdeal.Facts] : Prop :=
  ∀ (m : (ℓ : Loc Cert.RefGlaInDwIdeal.nD Cert.RefGlaInDwIdeal.τ Cert.RefGlaInDwIdeal.sig) → Buf (Elt Ideal) ℓ) (g : Dev Cert.RefGlaInDwIdeal.nD → PrngReg), Pre_RefGlaInDwIdeal m →
    θ_run (Cert.RefGlaInDwIdeal.defs (F := Ideal)) (onTc (τ := Cert.RefGlaInDwIdeal.τ) (Cert.RefGlaInDwIdeal.main (F := Ideal))) ⟨m, fun _ => 0, g⟩ (fun r => (∀ c : Dev Cert.RefGlaInDwIdeal.nD,
      r.2.mem ((c.tc : Thread Cert.RefGlaInDwIdeal.nD Cert.RefGlaInDwIdeal.τ).loc Cert.RefGlaInDwIdeal.main_arg0) = m ((c.tc : Thread Cert.RefGlaInDwIdeal.nD Cert.RefGlaInDwIdeal.τ).loc Cert.RefGlaInDwIdeal.main_arg0)
      ∧ r.2.mem ((c.tc : Thread Cert.RefGlaInDwIdeal.nD Cert.RefGlaInDwIdeal.τ).loc Cert.RefGlaInDwIdeal.main_arg1) = m ((c.tc : Thread Cert.RefGlaInDwIdeal.nD Cert.RefGlaInDwIdeal.τ).loc Cert.RefGlaInDwIdeal.main_arg1))
      ∧ r.2.sem = fun _ => 0)

def quiescent_GlaInDx [hGlaInDx : Cert.GlaInDx.Facts] : Prop :=
  ∀ (m : (ℓ : Loc Cert.GlaInDx.nD Cert.GlaInDx.τ Cert.GlaInDx.sig) → Buf (Elt Bits) ℓ) (g : Dev Cert.GlaInDx.nD → PrngReg), Pre_GlaInDx m →
    θ_run (Cert.GlaInDx.defs (F := Bits)) (onTc (τ := Cert.GlaInDx.τ) (Cert.GlaInDx.main (F := Bits))) ⟨m, fun _ => 0, g⟩ (fun r => (∀ c : Dev Cert.GlaInDx.nD,
      r.2.mem ((c.tc : Thread Cert.GlaInDx.nD Cert.GlaInDx.τ).loc Cert.GlaInDx.main_arg0) = m ((c.tc : Thread Cert.GlaInDx.nD Cert.GlaInDx.τ).loc Cert.GlaInDx.main_arg0)
      ∧ r.2.mem ((c.tc : Thread Cert.GlaInDx.nD Cert.GlaInDx.τ).loc Cert.GlaInDx.main_arg1) = m ((c.tc : Thread Cert.GlaInDx.nD Cert.GlaInDx.τ).loc Cert.GlaInDx.main_arg1)
      ∧ r.2.mem ((c.tc : Thread Cert.GlaInDx.nD Cert.GlaInDx.τ).loc Cert.GlaInDx.main_arg2) = m ((c.tc : Thread Cert.GlaInDx.nD Cert.GlaInDx.τ).loc Cert.GlaInDx.main_arg2))
      ∧ r.2.sem = fun _ => 0)

def quiescent_GlaInDxIdeal [hGlaInDxIdeal : Cert.GlaInDxIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg), Pre_GlaInDxIdeal m →
    θ_run (Cert.GlaInDxIdeal.defs (F := Ideal)) (onTc (τ := Cert.GlaInDxIdeal.τ) (Cert.GlaInDxIdeal.main (F := Ideal))) ⟨m, fun _ => 0, g⟩ (fun r => (∀ c : Dev Cert.GlaInDxIdeal.nD,
      r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
      ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1)
      ∧ r.2.mem ((c.tc : Thread Cert.GlaInDxIdeal.nD Cert.GlaInDxIdeal.τ).loc Cert.GlaInDxIdeal.main_arg2) = m ((c.tc : Thread Cert.GlaInDxIdeal.nD Cert.GlaInDxIdeal.τ).loc Cert.GlaInDxIdeal.main_arg2))
      ∧ r.2.sem = fun _ => 0)

def quiescent_RefGlaInDxIdeal [hRefGlaInDxIdeal : Cert.RefGlaInDxIdeal.Facts] : Prop :=
  ∀ (m : (ℓ : Loc Cert.RefGlaInDxIdeal.nD Cert.RefGlaInDxIdeal.τ Cert.RefGlaInDxIdeal.sig) → Buf (Elt Ideal) ℓ) (g : Dev Cert.RefGlaInDxIdeal.nD → PrngReg), Pre_RefGlaInDxIdeal m →
    θ_run (Cert.RefGlaInDxIdeal.defs (F := Ideal)) (onTc (τ := Cert.RefGlaInDxIdeal.τ) (Cert.RefGlaInDxIdeal.main (F := Ideal))) ⟨m, fun _ => 0, g⟩ (fun r => (∀ c : Dev Cert.RefGlaInDxIdeal.nD,
      r.2.mem ((c.tc : Thread Cert.RefGlaInDxIdeal.nD Cert.RefGlaInDxIdeal.τ).loc Cert.RefGlaInDxIdeal.main_arg0) = m ((c.tc : Thread Cert.RefGlaInDxIdeal.nD Cert.RefGlaInDxIdeal.τ).loc Cert.RefGlaInDxIdeal.main_arg0)
      ∧ r.2.mem ((c.tc : Thread Cert.RefGlaInDxIdeal.nD Cert.RefGlaInDxIdeal.τ).loc Cert.RefGlaInDxIdeal.main_arg1) = m ((c.tc : Thread Cert.RefGlaInDxIdeal.nD Cert.RefGlaInDxIdeal.τ).loc Cert.RefGlaInDxIdeal.main_arg1)
      ∧ r.2.mem ((c.tc : Thread Cert.RefGlaInDxIdeal.nD Cert.RefGlaInDxIdeal.τ).loc Cert.RefGlaInDxIdeal.main_arg2) = m ((c.tc : Thread Cert.RefGlaInDxIdeal.nD Cert.RefGlaInDxIdeal.τ).loc Cert.RefGlaInDxIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_RefKvProjIdeal [hRefKvProjIdeal : Cert.RefKvProjIdeal.Facts] : Prop :=
  ∀ (m : (ℓ : Loc Cert.RefKvProjIdeal.nD Cert.RefKvProjIdeal.τ Cert.RefKvProjIdeal.sig) → Buf (Elt Ideal) ℓ) (g : Dev Cert.RefKvProjIdeal.nD → PrngReg), Pre_RefKvProjIdeal m →
    θ_run (Cert.RefKvProjIdeal.defs (F := Ideal)) (onTc (τ := Cert.RefKvProjIdeal.τ) (Cert.RefKvProjIdeal.main (F := Ideal))) ⟨m, fun _ => 0, g⟩ (fun r => (∀ c : Dev Cert.RefKvProjIdeal.nD,
      r.2.mem ((c.tc : Thread Cert.RefKvProjIdeal.nD Cert.RefKvProjIdeal.τ).loc Cert.RefKvProjIdeal.main_arg0) = m ((c.tc : Thread Cert.RefKvProjIdeal.nD Cert.RefKvProjIdeal.τ).loc Cert.RefKvProjIdeal.main_arg0)
      ∧ r.2.mem ((c.tc : Thread Cert.RefKvProjIdeal.nD Cert.RefKvProjIdeal.τ).loc Cert.RefKvProjIdeal.main_arg1) = m ((c.tc : Thread Cert.RefKvProjIdeal.nD Cert.RefKvProjIdeal.τ).loc Cert.RefKvProjIdeal.main_arg1))
      ∧ r.2.sem = fun _ => 0)

def quiescent_KvGate [hKvGate : Cert.KvGate.Facts] : Prop :=
  ∀ (m : (ℓ : Loc Cert.KvGate.nD Cert.KvGate.τ Cert.KvGate.sig) → Buf (Elt Bits) ℓ) (g : Dev Cert.KvGate.nD → PrngReg), Pre_KvGate m →
    θ_run (Cert.KvGate.defs (F := Bits)) (onTc (τ := Cert.KvGate.τ) (Cert.KvGate.main (F := Bits))) ⟨m, fun _ => 0, g⟩ (fun r => (∀ c : Dev Cert.KvGate.nD,
      r.2.mem ((c.tc : Thread Cert.KvGate.nD Cert.KvGate.τ).loc Cert.KvGate.main_arg0) = m ((c.tc : Thread Cert.KvGate.nD Cert.KvGate.τ).loc Cert.KvGate.main_arg0)
      ∧ r.2.mem ((c.tc : Thread Cert.KvGate.nD Cert.KvGate.τ).loc Cert.KvGate.main_arg1) = m ((c.tc : Thread Cert.KvGate.nD Cert.KvGate.τ).loc Cert.KvGate.main_arg1))
      ∧ r.2.sem = fun _ => 0)

def quiescent_KvGateIdeal [hKvGateIdeal : Cert.KvGateIdeal.Facts] : Prop :=
  ∀ (m : (ℓ : Loc Cert.KvGateIdeal.nD Cert.KvGateIdeal.τ Cert.KvGateIdeal.sig) → Buf (Elt Ideal) ℓ) (g : Dev Cert.KvGateIdeal.nD → PrngReg), Pre_KvGateIdeal m →
    θ_run (Cert.KvGateIdeal.defs (F := Ideal)) (onTc (τ := Cert.KvGateIdeal.τ) (Cert.KvGateIdeal.main (F := Ideal))) ⟨m, fun _ => 0, g⟩ (fun r => (∀ c : Dev Cert.KvGateIdeal.nD,
      r.2.mem ((c.tc : Thread Cert.KvGateIdeal.nD Cert.KvGateIdeal.τ).loc Cert.KvGateIdeal.main_arg0) = m ((c.tc : Thread Cert.KvGateIdeal.nD Cert.KvGateIdeal.τ).loc Cert.KvGateIdeal.main_arg0)
      ∧ r.2.mem ((c.tc : Thread Cert.KvGateIdeal.nD Cert.KvGateIdeal.τ).loc Cert.KvGateIdeal.main_arg1) = m ((c.tc : Thread Cert.KvGateIdeal.nD Cert.KvGateIdeal.τ).loc Cert.KvGateIdeal.main_arg1))
      ∧ r.2.sem = fun _ => 0)

def quiescent_RefKvGateIdeal [hRefKvGateIdeal : Cert.RefKvGateIdeal.Facts] : Prop :=
  ∀ (m : (ℓ : Loc Cert.RefKvGateIdeal.nD Cert.RefKvGateIdeal.τ Cert.RefKvGateIdeal.sig) → Buf (Elt Ideal) ℓ) (g : Dev Cert.RefKvGateIdeal.nD → PrngReg), Pre_RefKvGateIdeal m →
    θ_run (Cert.RefKvGateIdeal.defs (F := Ideal)) (onTc (τ := Cert.RefKvGateIdeal.τ) (Cert.RefKvGateIdeal.main (F := Ideal))) ⟨m, fun _ => 0, g⟩ (fun r => (∀ c : Dev Cert.RefKvGateIdeal.nD,
      r.2.mem ((c.tc : Thread Cert.RefKvGateIdeal.nD Cert.RefKvGateIdeal.τ).loc Cert.RefKvGateIdeal.main_arg0) = m ((c.tc : Thread Cert.RefKvGateIdeal.nD Cert.RefKvGateIdeal.τ).loc Cert.RefKvGateIdeal.main_arg0)
      ∧ r.2.mem ((c.tc : Thread Cert.RefKvGateIdeal.nD Cert.RefKvGateIdeal.τ).loc Cert.RefKvGateIdeal.main_arg1) = m ((c.tc : Thread Cert.RefKvGateIdeal.nD Cert.RefKvGateIdeal.τ).loc Cert.RefKvGateIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_RefKvDwIdeal [hRefKvDwIdeal : Cert.RefKvDwIdeal.Facts] : Prop :=
  ∀ (m : (ℓ : Loc Cert.RefKvDwIdeal.nD Cert.RefKvDwIdeal.τ Cert.RefKvDwIdeal.sig) → Buf (Elt Ideal) ℓ) (g : Dev Cert.RefKvDwIdeal.nD → PrngReg), Pre_RefKvDwIdeal m →
    θ_run (Cert.RefKvDwIdeal.defs (F := Ideal)) (onTc (τ := Cert.RefKvDwIdeal.τ) (Cert.RefKvDwIdeal.main (F := Ideal))) ⟨m, fun _ => 0, g⟩ (fun r => (∀ c : Dev Cert.RefKvDwIdeal.nD,
      r.2.mem ((c.tc : Thread Cert.RefKvDwIdeal.nD Cert.RefKvDwIdeal.τ).loc Cert.RefKvDwIdeal.main_arg0) = m ((c.tc : Thread Cert.RefKvDwIdeal.nD Cert.RefKvDwIdeal.τ).loc Cert.RefKvDwIdeal.main_arg0)
      ∧ r.2.mem ((c.tc : Thread Cert.RefKvDwIdeal.nD Cert.RefKvDwIdeal.τ).loc Cert.RefKvDwIdeal.main_arg1) = m ((c.tc : Thread Cert.RefKvDwIdeal.nD Cert.RefKvDwIdeal.τ).loc Cert.RefKvDwIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ r.2.sem = fun _ => 0)

def quiescent_RefKvDxIdeal [hRefKvDxIdeal : Cert.RefKvDxIdeal.Facts] : Prop :=
  ∀ (m : (ℓ : Loc Cert.RefKvDxIdeal.nD Cert.RefKvDxIdeal.τ Cert.RefKvDxIdeal.sig) → Buf (Elt Ideal) ℓ) (g : Dev Cert.RefKvDxIdeal.nD → PrngReg), Pre_RefKvDxIdeal m →
    θ_run (Cert.RefKvDxIdeal.defs (F := Ideal)) (onTc (τ := Cert.RefKvDxIdeal.τ) (Cert.RefKvDxIdeal.main (F := Ideal))) ⟨m, fun _ => 0, g⟩ (fun r => (∀ c : Dev Cert.RefKvDxIdeal.nD,
      r.2.mem ((c.tc : Thread Cert.RefKvDxIdeal.nD Cert.RefKvDxIdeal.τ).loc Cert.RefKvDxIdeal.main_arg0) = m ((c.tc : Thread Cert.RefKvDxIdeal.nD Cert.RefKvDxIdeal.τ).loc Cert.RefKvDxIdeal.main_arg0)
      ∧ r.2.mem ((c.tc : Thread Cert.RefKvDxIdeal.nD Cert.RefKvDxIdeal.τ).loc Cert.RefKvDxIdeal.main_arg1) = m ((c.tc : Thread Cert.RefKvDxIdeal.nD Cert.RefKvDxIdeal.τ).loc Cert.RefKvDxIdeal.main_arg1)
      ∧ r.2.mem ((c.tc : Thread Cert.RefKvDxIdeal.nD Cert.RefKvDxIdeal.τ).loc Cert.RefKvDxIdeal.main_arg2) = m ((c.tc : Thread Cert.RefKvDxIdeal.nD Cert.RefKvDxIdeal.τ).loc Cert.RefKvDxIdeal.main_arg2))
      ∧ r.2.sem = fun _ => 0)

def quiescent_AdamFoxIn [hAdamFoxIn : Cert.AdamFoxIn.Facts] : Prop :=
  ∀ (m : (ℓ : Loc Cert.AdamFoxIn.nD Cert.AdamFoxIn.τ Cert.AdamFoxIn.sig) → Buf (Elt Bits) ℓ) (g : Dev Cert.AdamFoxIn.nD → PrngReg), Pre_AdamFoxIn m →
    θ_run (Cert.AdamFoxIn.defs (F := Bits)) (onTc (τ := Cert.AdamFoxIn.τ) (Cert.AdamFoxIn.main (F := Bits))) ⟨m, fun _ => 0, g⟩ (fun r => (∀ c : Dev Cert.AdamFoxIn.nD,
      r.2.mem ((c.tc : Thread Cert.AdamFoxIn.nD Cert.AdamFoxIn.τ).loc Cert.AdamFoxIn.main_arg0) = m ((c.tc : Thread Cert.AdamFoxIn.nD Cert.AdamFoxIn.τ).loc Cert.AdamFoxIn.main_arg0)
      ∧ r.2.mem ((c.tc : Thread Cert.AdamFoxIn.nD Cert.AdamFoxIn.τ).loc Cert.AdamFoxIn.main_arg1) = m ((c.tc : Thread Cert.AdamFoxIn.nD Cert.AdamFoxIn.τ).loc Cert.AdamFoxIn.main_arg1)
      ∧ r.2.mem ((c.tc : Thread Cert.AdamFoxIn.nD Cert.AdamFoxIn.τ).loc Cert.AdamFoxIn.main_arg2) = m ((c.tc : Thread Cert.AdamFoxIn.nD Cert.AdamFoxIn.τ).loc Cert.AdamFoxIn.main_arg2)
      ∧ r.2.mem ((c.tc : Thread Cert.AdamFoxIn.nD Cert.AdamFoxIn.τ).loc Cert.AdamFoxIn.main_arg3) = m ((c.tc : Thread Cert.AdamFoxIn.nD Cert.AdamFoxIn.τ).loc Cert.AdamFoxIn.main_arg3))
      ∧ r.2.sem = fun _ => 0)

def quiescent_AdamFoxInIdeal [hAdamFoxInIdeal : Cert.AdamFoxInIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg), Pre_AdamFoxInIdeal m →
    θ_run (Cert.AdamFoxInIdeal.defs (F := Ideal)) (onTc (τ := Cert.AdamFoxInIdeal.τ) (Cert.AdamFoxInIdeal.main (F := Ideal))) ⟨m, fun _ => 0, g⟩ (fun r => (∀ c : Dev Cert.AdamFoxInIdeal.nD,
      r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
      ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
      ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
      ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3))
      ∧ r.2.sem = fun _ => 0)

def quiescent_RefAdamFoxInIdeal [hRefAdamFoxInIdeal : Cert.RefAdamFoxInIdeal.Facts] : Prop :=
  ∀ (m : (ℓ : Loc Cert.RefAdamFoxInIdeal.nD Cert.RefAdamFoxInIdeal.τ Cert.RefAdamFoxInIdeal.sig) → Buf (Elt Ideal) ℓ) (g : Dev Cert.RefAdamFoxInIdeal.nD → PrngReg), Pre_RefAdamFoxInIdeal m →
    θ_run (Cert.RefAdamFoxInIdeal.defs (F := Ideal)) (onTc (τ := Cert.RefAdamFoxInIdeal.τ) (Cert.RefAdamFoxInIdeal.main (F := Ideal))) ⟨m, fun _ => 0, g⟩ (fun r => (∀ c : Dev Cert.RefAdamFoxInIdeal.nD,
      r.2.mem ((c.tc : Thread Cert.RefAdamFoxInIdeal.nD Cert.RefAdamFoxInIdeal.τ).loc Cert.RefAdamFoxInIdeal.main_arg0) = m ((c.tc : Thread Cert.RefAdamFoxInIdeal.nD Cert.RefAdamFoxInIdeal.τ).loc Cert.RefAdamFoxInIdeal.main_arg0)
      ∧ r.2.mem ((c.tc : Thread Cert.RefAdamFoxInIdeal.nD Cert.RefAdamFoxInIdeal.τ).loc Cert.RefAdamFoxInIdeal.main_arg1) = m ((c.tc : Thread Cert.RefAdamFoxInIdeal.nD Cert.RefAdamFoxInIdeal.τ).loc Cert.RefAdamFoxInIdeal.main_arg1)
      ∧ r.2.mem ((c.tc : Thread Cert.RefAdamFoxInIdeal.nD Cert.RefAdamFoxInIdeal.τ).loc Cert.RefAdamFoxInIdeal.main_arg2) = m ((c.tc : Thread Cert.RefAdamFoxInIdeal.nD Cert.RefAdamFoxInIdeal.τ).loc Cert.RefAdamFoxInIdeal.main_arg2)
      ∧ r.2.mem ((c.tc : Thread Cert.RefAdamFoxInIdeal.nD Cert.RefAdamFoxInIdeal.τ).loc Cert.RefAdamFoxInIdeal.main_arg3) = m ((c.tc : Thread Cert.RefAdamFoxInIdeal.nD Cert.RefAdamFoxInIdeal.τ).loc Cert.RefAdamFoxInIdeal.main_arg3))
      ∧ r.2.sem = fun _ => 0)

def quiescent_AdamFoxOut [hAdamFoxOut : Cert.AdamFoxOut.Facts] : Prop :=
  ∀ (m : (ℓ : Loc Cert.AdamFoxOut.nD Cert.AdamFoxOut.τ Cert.AdamFoxOut.sig) → Buf (Elt Bits) ℓ) (g : Dev Cert.AdamFoxOut.nD → PrngReg), Pre_AdamFoxOut m →
    θ_run (Cert.AdamFoxOut.defs (F := Bits)) (onTc (τ := Cert.AdamFoxOut.τ) (Cert.AdamFoxOut.main (F := Bits))) ⟨m, fun _ => 0, g⟩ (fun r => (∀ c : Dev Cert.AdamFoxOut.nD,
      r.2.mem ((c.tc : Thread Cert.AdamFoxOut.nD Cert.AdamFoxOut.τ).loc Cert.AdamFoxOut.main_arg0) = m ((c.tc : Thread Cert.AdamFoxOut.nD Cert.AdamFoxOut.τ).loc Cert.AdamFoxOut.main_arg0)
      ∧ r.2.mem ((c.tc : Thread Cert.AdamFoxOut.nD Cert.AdamFoxOut.τ).loc Cert.AdamFoxOut.main_arg1) = m ((c.tc : Thread Cert.AdamFoxOut.nD Cert.AdamFoxOut.τ).loc Cert.AdamFoxOut.main_arg1)
      ∧ r.2.mem ((c.tc : Thread Cert.AdamFoxOut.nD Cert.AdamFoxOut.τ).loc Cert.AdamFoxOut.main_arg2) = m ((c.tc : Thread Cert.AdamFoxOut.nD Cert.AdamFoxOut.τ).loc Cert.AdamFoxOut.main_arg2)
      ∧ r.2.mem ((c.tc : Thread Cert.AdamFoxOut.nD Cert.AdamFoxOut.τ).loc Cert.AdamFoxOut.main_arg3) = m ((c.tc : Thread Cert.AdamFoxOut.nD Cert.AdamFoxOut.τ).loc Cert.AdamFoxOut.main_arg3))
      ∧ r.2.sem = fun _ => 0)

def quiescent_AdamFoxOutIdeal [hAdamFoxOutIdeal : Cert.AdamFoxOutIdeal.Facts] : Prop :=
  ∀ (m : (ℓ : Loc Cert.AdamFoxOutIdeal.nD Cert.AdamFoxOutIdeal.τ Cert.AdamFoxOutIdeal.sig) → Buf (Elt Ideal) ℓ) (g : Dev Cert.AdamFoxOutIdeal.nD → PrngReg), Pre_AdamFoxOutIdeal m →
    θ_run (Cert.AdamFoxOutIdeal.defs (F := Ideal)) (onTc (τ := Cert.AdamFoxOutIdeal.τ) (Cert.AdamFoxOutIdeal.main (F := Ideal))) ⟨m, fun _ => 0, g⟩ (fun r => (∀ c : Dev Cert.AdamFoxOutIdeal.nD,
      r.2.mem ((c.tc : Thread Cert.AdamFoxOutIdeal.nD Cert.AdamFoxOutIdeal.τ).loc Cert.AdamFoxOutIdeal.main_arg0) = m ((c.tc : Thread Cert.AdamFoxOutIdeal.nD Cert.AdamFoxOutIdeal.τ).loc Cert.AdamFoxOutIdeal.main_arg0)
      ∧ r.2.mem ((c.tc : Thread Cert.AdamFoxOutIdeal.nD Cert.AdamFoxOutIdeal.τ).loc Cert.AdamFoxOutIdeal.main_arg1) = m ((c.tc : Thread Cert.AdamFoxOutIdeal.nD Cert.AdamFoxOutIdeal.τ).loc Cert.AdamFoxOutIdeal.main_arg1)
      ∧ r.2.mem ((c.tc : Thread Cert.AdamFoxOutIdeal.nD Cert.AdamFoxOutIdeal.τ).loc Cert.AdamFoxOutIdeal.main_arg2) = m ((c.tc : Thread Cert.AdamFoxOutIdeal.nD Cert.AdamFoxOutIdeal.τ).loc Cert.AdamFoxOutIdeal.main_arg2)
      ∧ r.2.mem ((c.tc : Thread Cert.AdamFoxOutIdeal.nD Cert.AdamFoxOutIdeal.τ).loc Cert.AdamFoxOutIdeal.main_arg3) = m ((c.tc : Thread Cert.AdamFoxOutIdeal.nD Cert.AdamFoxOutIdeal.τ).loc Cert.AdamFoxOutIdeal.main_arg3))
      ∧ r.2.sem = fun _ => 0)

def quiescent_RefAdamFoxOutIdeal [hRefAdamFoxOutIdeal : Cert.RefAdamFoxOutIdeal.Facts] : Prop :=
  ∀ (m : (ℓ : Loc Cert.RefAdamFoxOutIdeal.nD Cert.RefAdamFoxOutIdeal.τ Cert.RefAdamFoxOutIdeal.sig) → Buf (Elt Ideal) ℓ) (g : Dev Cert.RefAdamFoxOutIdeal.nD → PrngReg), Pre_RefAdamFoxOutIdeal m →
    θ_run (Cert.RefAdamFoxOutIdeal.defs (F := Ideal)) (onTc (τ := Cert.RefAdamFoxOutIdeal.τ) (Cert.RefAdamFoxOutIdeal.main (F := Ideal))) ⟨m, fun _ => 0, g⟩ (fun r => (∀ c : Dev Cert.RefAdamFoxOutIdeal.nD,
      r.2.mem ((c.tc : Thread Cert.RefAdamFoxOutIdeal.nD Cert.RefAdamFoxOutIdeal.τ).loc Cert.RefAdamFoxOutIdeal.main_arg0) = m ((c.tc : Thread Cert.RefAdamFoxOutIdeal.nD Cert.RefAdamFoxOutIdeal.τ).loc Cert.RefAdamFoxOutIdeal.main_arg0)
      ∧ r.2.mem ((c.tc : Thread Cert.RefAdamFoxOutIdeal.nD Cert.RefAdamFoxOutIdeal.τ).loc Cert.RefAdamFoxOutIdeal.main_arg1) = m ((c.tc : Thread Cert.RefAdamFoxOutIdeal.nD Cert.RefAdamFoxOutIdeal.τ).loc Cert.RefAdamFoxOutIdeal.main_arg1)
      ∧ r.2.mem ((c.tc : Thread Cert.RefAdamFoxOutIdeal.nD Cert.RefAdamFoxOutIdeal.τ).loc Cert.RefAdamFoxOutIdeal.main_arg2) = m ((c.tc : Thread Cert.RefAdamFoxOutIdeal.nD Cert.RefAdamFoxOutIdeal.τ).loc Cert.RefAdamFoxOutIdeal.main_arg2)
      ∧ r.2.mem ((c.tc : Thread Cert.RefAdamFoxOutIdeal.nD Cert.RefAdamFoxOutIdeal.τ).loc Cert.RefAdamFoxOutIdeal.main_arg3) = m ((c.tc : Thread Cert.RefAdamFoxOutIdeal.nD Cert.RefAdamFoxOutIdeal.τ).loc Cert.RefAdamFoxOutIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_RefAdamKvIdeal [hRefAdamKvIdeal : Cert.RefAdamKvIdeal.Facts] : Prop :=
  ∀ (m : (ℓ : Loc Cert.RefAdamKvIdeal.nD Cert.RefAdamKvIdeal.τ Cert.RefAdamKvIdeal.sig) → Buf (Elt Ideal) ℓ) (g : Dev Cert.RefAdamKvIdeal.nD → PrngReg), Pre_RefAdamKvIdeal m →
    θ_run (Cert.RefAdamKvIdeal.defs (F := Ideal)) (onTc (τ := Cert.RefAdamKvIdeal.τ) (Cert.RefAdamKvIdeal.main (F := Ideal))) ⟨m, fun _ => 0, g⟩ (fun r => (∀ c : Dev Cert.RefAdamKvIdeal.nD,
      r.2.mem ((c.tc : Thread Cert.RefAdamKvIdeal.nD Cert.RefAdamKvIdeal.τ).loc Cert.RefAdamKvIdeal.main_arg0) = m ((c.tc : Thread Cert.RefAdamKvIdeal.nD Cert.RefAdamKvIdeal.τ).loc Cert.RefAdamKvIdeal.main_arg0)
      ∧ r.2.mem ((c.tc : Thread Cert.RefAdamKvIdeal.nD Cert.RefAdamKvIdeal.τ).loc Cert.RefAdamKvIdeal.main_arg1) = m ((c.tc : Thread Cert.RefAdamKvIdeal.nD Cert.RefAdamKvIdeal.τ).loc Cert.RefAdamKvIdeal.main_arg1)
      ∧ r.2.mem ((c.tc : Thread Cert.RefAdamKvIdeal.nD Cert.RefAdamKvIdeal.τ).loc Cert.RefAdamKvIdeal.main_arg2) = m ((c.tc : Thread Cert.RefAdamKvIdeal.nD Cert.RefAdamKvIdeal.τ).loc Cert.RefAdamKvIdeal.main_arg2)
      ∧ r.2.mem ((c.tc : Thread Cert.RefAdamKvIdeal.nD Cert.RefAdamKvIdeal.τ).loc Cert.RefAdamKvIdeal.main_arg3) = m ((c.tc : Thread Cert.RefAdamKvIdeal.nD Cert.RefAdamKvIdeal.τ).loc Cert.RefAdamKvIdeal.main_arg3))
      ∧ r.2.sem = fun _ => 0)

def quiescent_AdamGlaIn [hAdamGlaIn : Cert.AdamGlaIn.Facts] : Prop :=
  ∀ (m : (ℓ : Loc Cert.AdamGlaIn.nD Cert.AdamGlaIn.τ Cert.AdamGlaIn.sig) → Buf (Elt Bits) ℓ) (g : Dev Cert.AdamGlaIn.nD → PrngReg), Pre_AdamGlaIn m →
    θ_run (Cert.AdamGlaIn.defs (F := Bits)) (onTc (τ := Cert.AdamGlaIn.τ) (Cert.AdamGlaIn.main (F := Bits))) ⟨m, fun _ => 0, g⟩ (fun r => (∀ c : Dev Cert.AdamGlaIn.nD,
      r.2.mem ((c.tc : Thread Cert.AdamGlaIn.nD Cert.AdamGlaIn.τ).loc Cert.AdamGlaIn.main_arg0) = m ((c.tc : Thread Cert.AdamGlaIn.nD Cert.AdamGlaIn.τ).loc Cert.AdamGlaIn.main_arg0)
      ∧ r.2.mem ((c.tc : Thread Cert.AdamGlaIn.nD Cert.AdamGlaIn.τ).loc Cert.AdamGlaIn.main_arg1) = m ((c.tc : Thread Cert.AdamGlaIn.nD Cert.AdamGlaIn.τ).loc Cert.AdamGlaIn.main_arg1)
      ∧ r.2.mem ((c.tc : Thread Cert.AdamGlaIn.nD Cert.AdamGlaIn.τ).loc Cert.AdamGlaIn.main_arg2) = m ((c.tc : Thread Cert.AdamGlaIn.nD Cert.AdamGlaIn.τ).loc Cert.AdamGlaIn.main_arg2)
      ∧ r.2.mem ((c.tc : Thread Cert.AdamGlaIn.nD Cert.AdamGlaIn.τ).loc Cert.AdamGlaIn.main_arg3) = m ((c.tc : Thread Cert.AdamGlaIn.nD Cert.AdamGlaIn.τ).loc Cert.AdamGlaIn.main_arg3)
      ∧ r.2.mem ((c.tc : Thread Cert.AdamGlaIn.nD Cert.AdamGlaIn.τ).loc Cert.AdamGlaIn.main_arg4) = m ((c.tc : Thread Cert.AdamGlaIn.nD Cert.AdamGlaIn.τ).loc Cert.AdamGlaIn.main_arg4))
      ∧ r.2.sem = fun _ => 0)

def quiescent_AdamGlaInIdeal [hAdamGlaInIdeal : Cert.AdamGlaInIdeal.Facts] : Prop :=
  ∀ (m : (ℓ : Loc Cert.AdamGlaInIdeal.nD Cert.AdamGlaInIdeal.τ Cert.AdamGlaInIdeal.sig) → Buf (Elt Ideal) ℓ) (g : Dev Cert.AdamGlaInIdeal.nD → PrngReg), Pre_AdamGlaInIdeal m →
    θ_run (Cert.AdamGlaInIdeal.defs (F := Ideal)) (onTc (τ := Cert.AdamGlaInIdeal.τ) (Cert.AdamGlaInIdeal.main (F := Ideal))) ⟨m, fun _ => 0, g⟩ (fun r => (∀ c : Dev Cert.AdamGlaInIdeal.nD,
      r.2.mem ((c.tc : Thread Cert.AdamGlaInIdeal.nD Cert.AdamGlaInIdeal.τ).loc Cert.AdamGlaInIdeal.main_arg0) = m ((c.tc : Thread Cert.AdamGlaInIdeal.nD Cert.AdamGlaInIdeal.τ).loc Cert.AdamGlaInIdeal.main_arg0)
      ∧ r.2.mem ((c.tc : Thread Cert.AdamGlaInIdeal.nD Cert.AdamGlaInIdeal.τ).loc Cert.AdamGlaInIdeal.main_arg1) = m ((c.tc : Thread Cert.AdamGlaInIdeal.nD Cert.AdamGlaInIdeal.τ).loc Cert.AdamGlaInIdeal.main_arg1)
      ∧ r.2.mem ((c.tc : Thread Cert.AdamGlaInIdeal.nD Cert.AdamGlaInIdeal.τ).loc Cert.AdamGlaInIdeal.main_arg2) = m ((c.tc : Thread Cert.AdamGlaInIdeal.nD Cert.AdamGlaInIdeal.τ).loc Cert.AdamGlaInIdeal.main_arg2)
      ∧ r.2.mem ((c.tc : Thread Cert.AdamGlaInIdeal.nD Cert.AdamGlaInIdeal.τ).loc Cert.AdamGlaInIdeal.main_arg3) = m ((c.tc : Thread Cert.AdamGlaInIdeal.nD Cert.AdamGlaInIdeal.τ).loc Cert.AdamGlaInIdeal.main_arg3)
      ∧ r.2.mem ((c.tc : Thread Cert.AdamGlaInIdeal.nD Cert.AdamGlaInIdeal.τ).loc Cert.AdamGlaInIdeal.main_arg4) = m ((c.tc : Thread Cert.AdamGlaInIdeal.nD Cert.AdamGlaInIdeal.τ).loc Cert.AdamGlaInIdeal.main_arg4))
      ∧ r.2.sem = fun _ => 0)

def quiescent_RefAdamGlaInIdeal [hRefAdamGlaInIdeal : Cert.RefAdamGlaInIdeal.Facts] : Prop :=
  ∀ (m : (ℓ : Loc Cert.RefAdamGlaInIdeal.nD Cert.RefAdamGlaInIdeal.τ Cert.RefAdamGlaInIdeal.sig) → Buf (Elt Ideal) ℓ) (g : Dev Cert.RefAdamGlaInIdeal.nD → PrngReg), Pre_RefAdamGlaInIdeal m →
    θ_run (Cert.RefAdamGlaInIdeal.defs (F := Ideal)) (onTc (τ := Cert.RefAdamGlaInIdeal.τ) (Cert.RefAdamGlaInIdeal.main (F := Ideal))) ⟨m, fun _ => 0, g⟩ (fun r => (∀ c : Dev Cert.RefAdamGlaInIdeal.nD,
      r.2.mem ((c.tc : Thread Cert.RefAdamGlaInIdeal.nD Cert.RefAdamGlaInIdeal.τ).loc Cert.RefAdamGlaInIdeal.main_arg0) = m ((c.tc : Thread Cert.RefAdamGlaInIdeal.nD Cert.RefAdamGlaInIdeal.τ).loc Cert.RefAdamGlaInIdeal.main_arg0)
      ∧ r.2.mem ((c.tc : Thread Cert.RefAdamGlaInIdeal.nD Cert.RefAdamGlaInIdeal.τ).loc Cert.RefAdamGlaInIdeal.main_arg1) = m ((c.tc : Thread Cert.RefAdamGlaInIdeal.nD Cert.RefAdamGlaInIdeal.τ).loc Cert.RefAdamGlaInIdeal.main_arg1)
      ∧ r.2.mem ((c.tc : Thread Cert.RefAdamGlaInIdeal.nD Cert.RefAdamGlaInIdeal.τ).loc Cert.RefAdamGlaInIdeal.main_arg2) = m ((c.tc : Thread Cert.RefAdamGlaInIdeal.nD Cert.RefAdamGlaInIdeal.τ).loc Cert.RefAdamGlaInIdeal.main_arg2)
      ∧ r.2.mem ((c.tc : Thread Cert.RefAdamGlaInIdeal.nD Cert.RefAdamGlaInIdeal.τ).loc Cert.RefAdamGlaInIdeal.main_arg3) = m ((c.tc : Thread Cert.RefAdamGlaInIdeal.nD Cert.RefAdamGlaInIdeal.τ).loc Cert.RefAdamGlaInIdeal.main_arg3)
      ∧ r.2.mem ((c.tc : Thread Cert.RefAdamGlaInIdeal.nD Cert.RefAdamGlaInIdeal.τ).loc Cert.RefAdamGlaInIdeal.main_arg4) = m ((c.tc : Thread Cert.RefAdamGlaInIdeal.nD Cert.RefAdamGlaInIdeal.τ).loc Cert.RefAdamGlaInIdeal.main_arg4))
      ∧ r.2.sem = fun _ => 0)

def quiescent_AdamGlaOut [hAdamGlaOut : Cert.AdamGlaOut.Facts] : Prop :=
  ∀ (m : (ℓ : Loc Cert.AdamGlaOut.nD Cert.AdamGlaOut.τ Cert.AdamGlaOut.sig) → Buf (Elt Bits) ℓ) (g : Dev Cert.AdamGlaOut.nD → PrngReg), Pre_AdamGlaOut m →
    θ_run (Cert.AdamGlaOut.defs (F := Bits)) (onTc (τ := Cert.AdamGlaOut.τ) (Cert.AdamGlaOut.main (F := Bits))) ⟨m, fun _ => 0, g⟩ (fun r => (∀ c : Dev Cert.AdamGlaOut.nD,
      r.2.mem ((c.tc : Thread Cert.AdamGlaOut.nD Cert.AdamGlaOut.τ).loc Cert.AdamGlaOut.main_arg0) = m ((c.tc : Thread Cert.AdamGlaOut.nD Cert.AdamGlaOut.τ).loc Cert.AdamGlaOut.main_arg0)
      ∧ r.2.mem ((c.tc : Thread Cert.AdamGlaOut.nD Cert.AdamGlaOut.τ).loc Cert.AdamGlaOut.main_arg1) = m ((c.tc : Thread Cert.AdamGlaOut.nD Cert.AdamGlaOut.τ).loc Cert.AdamGlaOut.main_arg1)
      ∧ r.2.mem ((c.tc : Thread Cert.AdamGlaOut.nD Cert.AdamGlaOut.τ).loc Cert.AdamGlaOut.main_arg2) = m ((c.tc : Thread Cert.AdamGlaOut.nD Cert.AdamGlaOut.τ).loc Cert.AdamGlaOut.main_arg2)
      ∧ r.2.mem ((c.tc : Thread Cert.AdamGlaOut.nD Cert.AdamGlaOut.τ).loc Cert.AdamGlaOut.main_arg3) = m ((c.tc : Thread Cert.AdamGlaOut.nD Cert.AdamGlaOut.τ).loc Cert.AdamGlaOut.main_arg3)
      ∧ r.2.mem ((c.tc : Thread Cert.AdamGlaOut.nD Cert.AdamGlaOut.τ).loc Cert.AdamGlaOut.main_arg4) = m ((c.tc : Thread Cert.AdamGlaOut.nD Cert.AdamGlaOut.τ).loc Cert.AdamGlaOut.main_arg4))
      ∧ r.2.sem = fun _ => 0)

def quiescent_AdamGlaOutIdeal [hAdamGlaOutIdeal : Cert.AdamGlaOutIdeal.Facts] : Prop :=
  ∀ (m : (ℓ : Loc Cert.AdamGlaOutIdeal.nD Cert.AdamGlaOutIdeal.τ Cert.AdamGlaOutIdeal.sig) → Buf (Elt Ideal) ℓ) (g : Dev Cert.AdamGlaOutIdeal.nD → PrngReg), Pre_AdamGlaOutIdeal m →
    θ_run (Cert.AdamGlaOutIdeal.defs (F := Ideal)) (onTc (τ := Cert.AdamGlaOutIdeal.τ) (Cert.AdamGlaOutIdeal.main (F := Ideal))) ⟨m, fun _ => 0, g⟩ (fun r => (∀ c : Dev Cert.AdamGlaOutIdeal.nD,
      r.2.mem ((c.tc : Thread Cert.AdamGlaOutIdeal.nD Cert.AdamGlaOutIdeal.τ).loc Cert.AdamGlaOutIdeal.main_arg0) = m ((c.tc : Thread Cert.AdamGlaOutIdeal.nD Cert.AdamGlaOutIdeal.τ).loc Cert.AdamGlaOutIdeal.main_arg0)
      ∧ r.2.mem ((c.tc : Thread Cert.AdamGlaOutIdeal.nD Cert.AdamGlaOutIdeal.τ).loc Cert.AdamGlaOutIdeal.main_arg1) = m ((c.tc : Thread Cert.AdamGlaOutIdeal.nD Cert.AdamGlaOutIdeal.τ).loc Cert.AdamGlaOutIdeal.main_arg1)
      ∧ r.2.mem ((c.tc : Thread Cert.AdamGlaOutIdeal.nD Cert.AdamGlaOutIdeal.τ).loc Cert.AdamGlaOutIdeal.main_arg2) = m ((c.tc : Thread Cert.AdamGlaOutIdeal.nD Cert.AdamGlaOutIdeal.τ).loc Cert.AdamGlaOutIdeal.main_arg2)
      ∧ r.2.mem ((c.tc : Thread Cert.AdamGlaOutIdeal.nD Cert.AdamGlaOutIdeal.τ).loc Cert.AdamGlaOutIdeal.main_arg3) = m ((c.tc : Thread Cert.AdamGlaOutIdeal.nD Cert.AdamGlaOutIdeal.τ).loc Cert.AdamGlaOutIdeal.main_arg3)
      ∧ r.2.mem ((c.tc : Thread Cert.AdamGlaOutIdeal.nD Cert.AdamGlaOutIdeal.τ).loc Cert.AdamGlaOutIdeal.main_arg4) = m ((c.tc : Thread Cert.AdamGlaOutIdeal.nD Cert.AdamGlaOutIdeal.τ).loc Cert.AdamGlaOutIdeal.main_arg4))
      ∧ r.2.sem = fun _ => 0)

def quiescent_RefAdamGlaOutIdeal [hRefAdamGlaOutIdeal : Cert.RefAdamGlaOutIdeal.Facts] : Prop :=
  ∀ (m : (ℓ : Loc Cert.RefAdamGlaOutIdeal.nD Cert.RefAdamGlaOutIdeal.τ Cert.RefAdamGlaOutIdeal.sig) → Buf (Elt Ideal) ℓ) (g : Dev Cert.RefAdamGlaOutIdeal.nD → PrngReg), Pre_RefAdamGlaOutIdeal m →
    θ_run (Cert.RefAdamGlaOutIdeal.defs (F := Ideal)) (onTc (τ := Cert.RefAdamGlaOutIdeal.τ) (Cert.RefAdamGlaOutIdeal.main (F := Ideal))) ⟨m, fun _ => 0, g⟩ (fun r => (∀ c : Dev Cert.RefAdamGlaOutIdeal.nD,
      r.2.mem ((c.tc : Thread Cert.RefAdamGlaOutIdeal.nD Cert.RefAdamGlaOutIdeal.τ).loc Cert.RefAdamGlaOutIdeal.main_arg0) = m ((c.tc : Thread Cert.RefAdamGlaOutIdeal.nD Cert.RefAdamGlaOutIdeal.τ).loc Cert.RefAdamGlaOutIdeal.main_arg0)
      ∧ r.2.mem ((c.tc : Thread Cert.RefAdamGlaOutIdeal.nD Cert.RefAdamGlaOutIdeal.τ).loc Cert.RefAdamGlaOutIdeal.main_arg1) = m ((c.tc : Thread Cert.RefAdamGlaOutIdeal.nD Cert.RefAdamGlaOutIdeal.τ).loc Cert.RefAdamGlaOutIdeal.main_arg1)
      ∧ r.2.mem ((c.tc : Thread Cert.RefAdamGlaOutIdeal.nD Cert.RefAdamGlaOutIdeal.τ).loc Cert.RefAdamGlaOutIdeal.main_arg2) = m ((c.tc : Thread Cert.RefAdamGlaOutIdeal.nD Cert.RefAdamGlaOutIdeal.τ).loc Cert.RefAdamGlaOutIdeal.main_arg2)
      ∧ r.2.mem ((c.tc : Thread Cert.RefAdamGlaOutIdeal.nD Cert.RefAdamGlaOutIdeal.τ).loc Cert.RefAdamGlaOutIdeal.main_arg3) = m ((c.tc : Thread Cert.RefAdamGlaOutIdeal.nD Cert.RefAdamGlaOutIdeal.τ).loc Cert.RefAdamGlaOutIdeal.main_arg3)
      ∧ r.2.mem ((c.tc : Thread Cert.RefAdamGlaOutIdeal.nD Cert.RefAdamGlaOutIdeal.τ).loc Cert.RefAdamGlaOutIdeal.main_arg4) = m ((c.tc : Thread Cert.RefAdamGlaOutIdeal.nD Cert.RefAdamGlaOutIdeal.τ).loc Cert.RefAdamGlaOutIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3)
      ∧ r.2.mem ((c.tc : Thread Cert.RefAdamUpIdeal.nD Cert.RefAdamUpIdeal.τ).loc Cert.RefAdamUpIdeal.main_arg4) = m ((c.tc : Thread Cert.RefAdamUpIdeal.nD Cert.RefAdamUpIdeal.τ).loc Cert.RefAdamUpIdeal.main_arg4)
      ∧ r.2.mem ((c.tc : Thread Cert.RefAdamUpIdeal.nD Cert.RefAdamUpIdeal.τ).loc Cert.RefAdamUpIdeal.main_arg5) = m ((c.tc : Thread Cert.RefAdamUpIdeal.nD Cert.RefAdamUpIdeal.τ).loc Cert.RefAdamUpIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4)
      ∧ r.2.mem ((c.tc : Thread Cert.RefAdamDownIdeal.nD Cert.RefAdamDownIdeal.τ).loc Cert.RefAdamDownIdeal.main_arg5) = m ((c.tc : Thread Cert.RefAdamDownIdeal.nD Cert.RefAdamDownIdeal.τ).loc Cert.RefAdamDownIdeal.main_arg5))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_RefSumSmallIdeal [hRefSumSmallIdeal : Cert.RefSumSmallIdeal.Facts] : Prop :=
  ∀ (m : (ℓ : Loc Cert.RefSumSmallIdeal.nD Cert.RefSumSmallIdeal.τ Cert.RefSumSmallIdeal.sig) → Buf (Elt Ideal) ℓ) (g : Dev Cert.RefSumSmallIdeal.nD → PrngReg), Pre_RefSumSmallIdeal m →
    θ_run (Cert.RefSumSmallIdeal.defs (F := Ideal)) (onTc (τ := Cert.RefSumSmallIdeal.τ) (Cert.RefSumSmallIdeal.main (F := Ideal))) ⟨m, fun _ => 0, g⟩ (fun r => (∀ c : Dev Cert.RefSumSmallIdeal.nD,
      r.2.mem ((c.tc : Thread Cert.RefSumSmallIdeal.nD Cert.RefSumSmallIdeal.τ).loc Cert.RefSumSmallIdeal.main_arg0) = m ((c.tc : Thread Cert.RefSumSmallIdeal.nD Cert.RefSumSmallIdeal.τ).loc Cert.RefSumSmallIdeal.main_arg0))
      ∧ r.2.sem = fun _ => 0)

def preserves_Kernel_KernelIdeal : Prop :=
  True

def algebraic_KernelIdeal_ReferenceIdeal_pre_finite_inert [hKernelIdeal : Cert.KernelIdeal.Facts] [hReferenceIdeal : Cert.ReferenceIdeal.Facts] [hPre_finite_inert : Cert.Pre_finite_inert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inert m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v127)) (v2 : (c : Dev Cert.KernelIdeal.nD) → Buf (Elt Ideal) ((c.tc : Thread Cert.KernelIdeal.nD Cert.KernelIdeal.τ).loc Cert.KernelIdeal.main_v129)) (v3 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_v125) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v4) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v6) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v6) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)
      ∧ m' ((c.tc : Thread Cert.RefUpDxIdeal.nD Cert.RefUpDxIdeal.τ).loc Cert.RefUpDxIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v7) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1)
          ∧ r.2.mem ((c.tc : Thread Cert.RefUpDxIdeal.nD Cert.RefUpDxIdeal.τ).loc Cert.RefUpDxIdeal.main_arg2) = m' ((c.tc : Thread Cert.RefUpDxIdeal.nD Cert.RefUpDxIdeal.τ).loc Cert.RefUpDxIdeal.main_arg2))

def preserves_UpDxG_UpDxGIdeal : Prop :=
  True

def algebraic_UpDxGIdeal_RefUpDxGIdeal [hUpDxGIdeal : Cert.UpDxGIdeal.Facts] [hRefUpDxGIdeal : Cert.RefUpDxGIdeal.Facts] : Prop :=
  ∀ (m : (ℓ : Loc Cert.UpDxGIdeal.nD Cert.UpDxGIdeal.τ Cert.UpDxGIdeal.sig) → Buf (Elt Ideal) ℓ) (g : Dev Cert.UpDxGIdeal.nD → PrngReg)
    (m' : (ℓ : Loc Cert.RefUpDxGIdeal.nD Cert.RefUpDxGIdeal.τ Cert.RefUpDxGIdeal.sig) → Buf (Elt Ideal) ℓ) (g' : Dev Cert.RefUpDxGIdeal.nD → PrngReg), Pre_UpDxGIdeal m →
    (∀ c : Dev Cert.UpDxGIdeal.nD,
      m' ((c.tc : Thread Cert.RefUpDxGIdeal.nD Cert.RefUpDxGIdeal.τ).loc Cert.RefUpDxGIdeal.main_arg0) = m ((c.tc : Thread Cert.UpDxGIdeal.nD Cert.UpDxGIdeal.τ).loc Cert.UpDxGIdeal.main_arg0)
      ∧ m' ((c.tc : Thread Cert.RefUpDxGIdeal.nD Cert.RefUpDxGIdeal.τ).loc Cert.RefUpDxGIdeal.main_arg1) = m ((c.tc : Thread Cert.UpDxGIdeal.nD Cert.UpDxGIdeal.τ).loc Cert.UpDxGIdeal.main_arg1)
      ∧ m' ((c.tc : Thread Cert.RefUpDxGIdeal.nD Cert.RefUpDxGIdeal.τ).loc Cert.RefUpDxGIdeal.main_arg2) = m ((c.tc : Thread Cert.UpDxGIdeal.nD Cert.UpDxGIdeal.τ).loc Cert.UpDxGIdeal.main_arg2)) →
    ∃ (v0 : (c : Dev Cert.UpDxGIdeal.nD) → Buf (Elt Ideal) ((c.tc : Thread Cert.UpDxGIdeal.nD Cert.UpDxGIdeal.τ).loc Cert.UpDxGIdeal.main_v0)),
      θ_run (Cert.UpDxGIdeal.defs (F := Ideal)) (onTc (τ := Cert.UpDxGIdeal.τ) (Cert.UpDxGIdeal.main (F := Ideal))) ⟨m, fun _ => 0, g⟩ (fun r => ∀ c : Dev Cert.UpDxGIdeal.nD,
          r.2.mem ((c.tc : Thread Cert.UpDxGIdeal.nD Cert.UpDxGIdeal.τ).loc Cert.UpDxGIdeal.main_v0) = v0 c
          ∧ r.2.mem ((c.tc : Thread Cert.UpDxGIdeal.nD Cert.UpDxGIdeal.τ).loc Cert.UpDxGIdeal.main_arg0) = m ((c.tc : Thread Cert.UpDxGIdeal.nD Cert.UpDxGIdeal.τ).loc Cert.UpDxGIdeal.main_arg0)
          ∧ r.2.mem ((c.tc : Thread Cert.UpDxGIdeal.nD Cert.UpDxGIdeal.τ).loc Cert.UpDxGIdeal.main_arg1) = m ((c.tc : Thread Cert.UpDxGIdeal.nD Cert.UpDxGIdeal.τ).loc Cert.UpDxGIdeal.main_arg1)
          ∧ r.2.mem ((c.tc : Thread Cert.UpDxGIdeal.nD Cert.UpDxGIdeal.τ).loc Cert.UpDxGIdeal.main_arg2) = m ((c.tc : Thread Cert.UpDxGIdeal.nD Cert.UpDxGIdeal.τ).loc Cert.UpDxGIdeal.main_arg2))
      ∧ θ_run (Cert.RefUpDxGIdeal.defs (F := Ideal)) (onTc (τ := Cert.RefUpDxGIdeal.τ) (Cert.RefUpDxGIdeal.main (F := Ideal))) ⟨m', fun _ => 0, g'⟩ (fun r => ∀ c : Dev Cert.RefUpDxGIdeal.nD,
          r.2.mem ((c.tc : Thread Cert.RefUpDxGIdeal.nD Cert.RefUpDxGIdeal.τ).loc Cert.RefUpDxGIdeal.main_v5) = v0 c
          ∧ r.2.mem ((c.tc : Thread Cert.RefUpDxGIdeal.nD Cert.RefUpDxGIdeal.τ).loc Cert.RefUpDxGIdeal.main_arg0) = m' ((c.tc : Thread Cert.RefUpDxGIdeal.nD Cert.RefUpDxGIdeal.τ).loc Cert.RefUpDxGIdeal.main_arg0)
          ∧ r.2.mem ((c.tc : Thread Cert.RefUpDxGIdeal.nD Cert.RefUpDxGIdeal.τ).loc Cert.RefUpDxGIdeal.main_arg1) = m' ((c.tc : Thread Cert.RefUpDxGIdeal.nD Cert.RefUpDxGIdeal.τ).loc Cert.RefUpDxGIdeal.main_arg1)
          ∧ r.2.mem ((c.tc : Thread Cert.RefUpDxGIdeal.nD Cert.RefUpDxGIdeal.τ).loc Cert.RefUpDxGIdeal.main_arg2) = m' ((c.tc : Thread Cert.RefUpDxGIdeal.nD Cert.RefUpDxGIdeal.τ).loc Cert.RefUpDxGIdeal.main_arg2))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v2) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v2) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v4) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v6) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_FoxIn_FoxInIdeal : Prop :=
  True

def algebraic_FoxInIdeal_RefFoxInIdeal [hFoxInIdeal : Cert.FoxInIdeal.Facts] [hRefFoxInIdeal : Cert.RefFoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.RefFoxInIdeal.nD Cert.RefFoxInIdeal.τ Cert.RefFoxInIdeal.sig) → Buf (Elt Ideal) ℓ) (g' : Dev Cert.RefFoxInIdeal.nD → PrngReg), Pre_FoxInIdeal m →
    (∀ c : Dev Cert.FoxInIdeal.nD,
      m' ((c.tc : Thread Cert.RefFoxInIdeal.nD Cert.RefFoxInIdeal.τ).loc Cert.RefFoxInIdeal.main_arg0) = m ((c.tc : Thread Cert.FoxInIdeal.nD Cert.FoxInIdeal.τ).loc Cert.FoxInIdeal.main_arg0)
      ∧ m' ((c.tc : Thread Cert.RefFoxInIdeal.nD Cert.RefFoxInIdeal.τ).loc Cert.RefFoxInIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.RefFoxInIdeal.defs (F := Ideal)) (onTc (τ := Cert.RefFoxInIdeal.τ) (Cert.RefFoxInIdeal.main (F := Ideal))) ⟨m', fun _ => 0, g'⟩ (fun r => ∀ c : Dev Cert.RefFoxInIdeal.nD,
          r.2.mem ((c.tc : Thread Cert.RefFoxInIdeal.nD Cert.RefFoxInIdeal.τ).loc Cert.RefFoxInIdeal.main_v2) = v0 c
          ∧ r.2.mem ((c.tc : Thread Cert.RefFoxInIdeal.nD Cert.RefFoxInIdeal.τ).loc Cert.RefFoxInIdeal.main_arg0) = m' ((c.tc : Thread Cert.RefFoxInIdeal.nD Cert.RefFoxInIdeal.τ).loc Cert.RefFoxInIdeal.main_arg0)
          ∧ r.2.mem ((c.tc : Thread Cert.RefFoxInIdeal.nD Cert.RefFoxInIdeal.τ).loc Cert.RefFoxInIdeal.main_arg1) = m' ((c.tc : Thread Cert.RefFoxInIdeal.nD Cert.RefFoxInIdeal.τ).loc Cert.RefFoxInIdeal.main_arg1))

def preserves_FoxInDw_FoxInDwIdeal : Prop :=
  True

def algebraic_FoxInDwIdeal_RefFoxInDwIdeal [hFoxInDwIdeal : Cert.FoxInDwIdeal.Facts] [hRefFoxInDwIdeal : Cert.RefFoxInDwIdeal.Facts] : Prop :=
  ∀ (m : (ℓ : Loc Cert.FoxInDwIdeal.nD Cert.FoxInDwIdeal.τ Cert.FoxInDwIdeal.sig) → Buf (Elt Ideal) ℓ) (g : Dev Cert.FoxInDwIdeal.nD → PrngReg)
    (m' : (ℓ : Loc Cert.RefFoxInDwIdeal.nD Cert.RefFoxInDwIdeal.τ Cert.RefFoxInDwIdeal.sig) → Buf (Elt Ideal) ℓ) (g' : Dev Cert.RefFoxInDwIdeal.nD → PrngReg), Pre_FoxInDwIdeal m →
    (∀ c : Dev Cert.FoxInDwIdeal.nD,
      m' ((c.tc : Thread Cert.RefFoxInDwIdeal.nD Cert.RefFoxInDwIdeal.τ).loc Cert.RefFoxInDwIdeal.main_arg0) = m ((c.tc : Thread Cert.FoxInDwIdeal.nD Cert.FoxInDwIdeal.τ).loc Cert.FoxInDwIdeal.main_arg0)
      ∧ m' ((c.tc : Thread Cert.RefFoxInDwIdeal.nD Cert.RefFoxInDwIdeal.τ).loc Cert.RefFoxInDwIdeal.main_arg1) = m ((c.tc : Thread Cert.FoxInDwIdeal.nD Cert.FoxInDwIdeal.τ).loc Cert.FoxInDwIdeal.main_arg1)) →
    ∃ (v0 : (c : Dev Cert.FoxInDwIdeal.nD) → Buf (Elt Ideal) ((c.tc : Thread Cert.FoxInDwIdeal.nD Cert.FoxInDwIdeal.τ).loc Cert.FoxInDwIdeal.main_v0)),
      θ_run (Cert.FoxInDwIdeal.defs (F := Ideal)) (onTc (τ := Cert.FoxInDwIdeal.τ) (Cert.FoxInDwIdeal.main (F := Ideal))) ⟨m, fun _ => 0, g⟩ (fun r => ∀ c : Dev Cert.FoxInDwIdeal.nD,
          r.2.mem ((c.tc : Thread Cert.FoxInDwIdeal.nD Cert.FoxInDwIdeal.τ).loc Cert.FoxInDwIdeal.main_v0) = v0 c
          ∧ r.2.mem ((c.tc : Thread Cert.FoxInDwIdeal.nD Cert.FoxInDwIdeal.τ).loc Cert.FoxInDwIdeal.main_arg0) = m ((c.tc : Thread Cert.FoxInDwIdeal.nD Cert.FoxInDwIdeal.τ).loc Cert.FoxInDwIdeal.main_arg0)
          ∧ r.2.mem ((c.tc : Thread Cert.FoxInDwIdeal.nD Cert.FoxInDwIdeal.τ).loc Cert.FoxInDwIdeal.main_arg1) = m ((c.tc : Thread Cert.FoxInDwIdeal.nD Cert.FoxInDwIdeal.τ).loc Cert.FoxInDwIdeal.main_arg1))
      ∧ θ_run (Cert.RefFoxInDwIdeal.defs (F := Ideal)) (onTc (τ := Cert.RefFoxInDwIdeal.τ) (Cert.RefFoxInDwIdeal.main (F := Ideal))) ⟨m', fun _ => 0, g'⟩ (fun r => ∀ c : Dev Cert.RefFoxInDwIdeal.nD,
          r.2.mem ((c.tc : Thread Cert.RefFoxInDwIdeal.nD Cert.RefFoxInDwIdeal.τ).loc Cert.RefFoxInDwIdeal.main_v6) = v0 c
          ∧ r.2.mem ((c.tc : Thread Cert.RefFoxInDwIdeal.nD Cert.RefFoxInDwIdeal.τ).loc Cert.RefFoxInDwIdeal.main_arg0) = m' ((c.tc : Thread Cert.RefFoxInDwIdeal.nD Cert.RefFoxInDwIdeal.τ).loc Cert.RefFoxInDwIdeal.main_arg0)
          ∧ r.2.mem ((c.tc : Thread Cert.RefFoxInDwIdeal.nD Cert.RefFoxInDwIdeal.τ).loc Cert.RefFoxInDwIdeal.main_arg1) = m' ((c.tc : Thread Cert.RefFoxInDwIdeal.nD Cert.RefFoxInDwIdeal.τ).loc Cert.RefFoxInDwIdeal.main_arg1))

def preserves_FoxInDx_FoxInDxIdeal : Prop :=
  True

def algebraic_FoxInDxIdeal_RefFoxInDxIdeal [hFoxInDxIdeal : Cert.FoxInDxIdeal.Facts] [hRefFoxInDxIdeal : Cert.RefFoxInDxIdeal.Facts] : Prop :=
  ∀ (m : (ℓ : Loc Cert.FoxInDxIdeal.nD Cert.FoxInDxIdeal.τ Cert.FoxInDxIdeal.sig) → Buf (Elt Ideal) ℓ) (g : Dev Cert.FoxInDxIdeal.nD → PrngReg)
    (m' : (ℓ : Loc Cert.RefFoxInDxIdeal.nD Cert.RefFoxInDxIdeal.τ Cert.RefFoxInDxIdeal.sig) → Buf (Elt Ideal) ℓ) (g' : Dev Cert.RefFoxInDxIdeal.nD → PrngReg), Pre_FoxInDxIdeal m →
    (∀ c : Dev Cert.FoxInDxIdeal.nD,
      m' ((c.tc : Thread Cert.RefFoxInDxIdeal.nD Cert.RefFoxInDxIdeal.τ).loc Cert.RefFoxInDxIdeal.main_arg0) = m ((c.tc : Thread Cert.FoxInDxIdeal.nD Cert.FoxInDxIdeal.τ).loc Cert.FoxInDxIdeal.main_arg0)
      ∧ m' ((c.tc : Thread Cert.RefFoxInDxIdeal.nD Cert.RefFoxInDxIdeal.τ).loc Cert.RefFoxInDxIdeal.main_arg1) = m ((c.tc : Thread Cert.FoxInDxIdeal.nD Cert.FoxInDxIdeal.τ).loc Cert.FoxInDxIdeal.main_arg1)
      ∧ m' ((c.tc : Thread Cert.RefFoxInDxIdeal.nD Cert.RefFoxInDxIdeal.τ).loc Cert.RefFoxInDxIdeal.main_arg2) = m ((c.tc : Thread Cert.FoxInDxIdeal.nD Cert.FoxInDxIdeal.τ).loc Cert.FoxInDxIdeal.main_arg2)) →
    ∃ (v0 : (c : Dev Cert.FoxInDxIdeal.nD) → Buf (Elt Ideal) ((c.tc : Thread Cert.FoxInDxIdeal.nD Cert.FoxInDxIdeal.τ).loc Cert.FoxInDxIdeal.main_v0)),
      θ_run (Cert.FoxInDxIdeal.defs (F := Ideal)) (onTc (τ := Cert.FoxInDxIdeal.τ) (Cert.FoxInDxIdeal.main (F := Ideal))) ⟨m, fun _ => 0, g⟩ (fun r => ∀ c : Dev Cert.FoxInDxIdeal.nD,
          r.2.mem ((c.tc : Thread Cert.FoxInDxIdeal.nD Cert.FoxInDxIdeal.τ).loc Cert.FoxInDxIdeal.main_v0) = v0 c
          ∧ r.2.mem ((c.tc : Thread Cert.FoxInDxIdeal.nD Cert.FoxInDxIdeal.τ).loc Cert.FoxInDxIdeal.main_arg0) = m ((c.tc : Thread Cert.FoxInDxIdeal.nD Cert.FoxInDxIdeal.τ).loc Cert.FoxInDxIdeal.main_arg0)
          ∧ r.2.mem ((c.tc : Thread Cert.FoxInDxIdeal.nD Cert.FoxInDxIdeal.τ).loc Cert.FoxInDxIdeal.main_arg1) = m ((c.tc : Thread Cert.FoxInDxIdeal.nD Cert.FoxInDxIdeal.τ).loc Cert.FoxInDxIdeal.main_arg1)
          ∧ r.2.mem ((c.tc : Thread Cert.FoxInDxIdeal.nD Cert.FoxInDxIdeal.τ).loc Cert.FoxInDxIdeal.main_arg2) = m ((c.tc : Thread Cert.FoxInDxIdeal.nD Cert.FoxInDxIdeal.τ).loc Cert.FoxInDxIdeal.main_arg2))
      ∧ θ_run (Cert.RefFoxInDxIdeal.defs (F := Ideal)) (onTc (τ := Cert.RefFoxInDxIdeal.τ) (Cert.RefFoxInDxIdeal.main (F := Ideal))) ⟨m', fun _ => 0, g'⟩ (fun r => ∀ c : Dev Cert.RefFoxInDxIdeal.nD,
          r.2.mem ((c.tc : Thread Cert.RefFoxInDxIdeal.nD Cert.RefFoxInDxIdeal.τ).loc Cert.RefFoxInDxIdeal.main_v7) = v0 c
          ∧ r.2.mem ((c.tc : Thread Cert.RefFoxInDxIdeal.nD Cert.RefFoxInDxIdeal.τ).loc Cert.RefFoxInDxIdeal.main_arg0) = m' ((c.tc : Thread Cert.RefFoxInDxIdeal.nD Cert.RefFoxInDxIdeal.τ).loc Cert.RefFoxInDxIdeal.main_arg0)
          ∧ r.2.mem ((c.tc : Thread Cert.RefFoxInDxIdeal.nD Cert.RefFoxInDxIdeal.τ).loc Cert.RefFoxInDxIdeal.main_arg1) = m' ((c.tc : Thread Cert.RefFoxInDxIdeal.nD Cert.RefFoxInDxIdeal.τ).loc Cert.RefFoxInDxIdeal.main_arg1)
          ∧ r.2.mem ((c.tc : Thread Cert.RefFoxInDxIdeal.nD Cert.RefFoxInDxIdeal.τ).loc Cert.RefFoxInDxIdeal.main_arg2) = m' ((c.tc : Thread Cert.RefFoxInDxIdeal.nD Cert.RefFoxInDxIdeal.τ).loc Cert.RefFoxInDxIdeal.main_arg2))

def preserves_GlaIn_GlaInIdeal : Prop :=
  True

def algebraic_GlaInIdeal_RefGlaInIdeal [hGlaInIdeal : Cert.GlaInIdeal.Facts] [hRefGlaInIdeal : Cert.RefGlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.RefGlaInIdeal.nD Cert.RefGlaInIdeal.τ Cert.RefGlaInIdeal.sig) → Buf (Elt Ideal) ℓ) (g' : Dev Cert.RefGlaInIdeal.nD → PrngReg), Pre_GlaInIdeal m →
    (∀ c : Dev Cert.GlaInIdeal.nD,
      m' ((c.tc : Thread Cert.RefGlaInIdeal.nD Cert.RefGlaInIdeal.τ).loc Cert.RefGlaInIdeal.main_arg0) = m ((c.tc : Thread Cert.GlaInIdeal.nD Cert.GlaInIdeal.τ).loc Cert.GlaInIdeal.main_arg0)
      ∧ m' ((c.tc : Thread Cert.RefGlaInIdeal.nD Cert.RefGlaInIdeal.τ).loc Cert.RefGlaInIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.RefGlaInIdeal.defs (F := Ideal)) (onTc (τ := Cert.RefGlaInIdeal.τ) (Cert.RefGlaInIdeal.main (F := Ideal))) ⟨m', fun _ => 0, g'⟩ (fun r => ∀ c : Dev Cert.RefGlaInIdeal.nD,
          r.2.mem ((c.tc : Thread Cert.RefGlaInIdeal.nD Cert.RefGlaInIdeal.τ).loc Cert.RefGlaInIdeal.main_v2) = v0 c
          ∧ r.2.mem ((c.tc : Thread Cert.RefGlaInIdeal.nD Cert.RefGlaInIdeal.τ).loc Cert.RefGlaInIdeal.main_arg0) = m' ((c.tc : Thread Cert.RefGlaInIdeal.nD Cert.RefGlaInIdeal.τ).loc Cert.RefGlaInIdeal.main_arg0)
          ∧ r.2.mem ((c.tc : Thread Cert.RefGlaInIdeal.nD Cert.RefGlaInIdeal.τ).loc Cert.RefGlaInIdeal.main_arg1) = m' ((c.tc : Thread Cert.RefGlaInIdeal.nD Cert.RefGlaInIdeal.τ).loc Cert.RefGlaInIdeal.main_arg1))

def preserves_GlaInDw_GlaInDwIdeal : Prop :=
  True

def algebraic_GlaInDwIdeal_RefGlaInDwIdeal [hGlaInDwIdeal : Cert.GlaInDwIdeal.Facts] [hRefGlaInDwIdeal : Cert.RefGlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg)
    (m' : (ℓ : Loc Cert.RefGlaInDwIdeal.nD Cert.RefGlaInDwIdeal.τ Cert.RefGlaInDwIdeal.sig) → Buf (Elt Ideal) ℓ) (g' : Dev Cert.RefGlaInDwIdeal.nD → PrngReg), Pre_GlaInDwIdeal m →
    (∀ c : Dev Cert.GlaInDwIdeal.nD,
      m' ((c.tc : Thread Cert.RefGlaInDwIdeal.nD Cert.RefGlaInDwIdeal.τ).loc Cert.RefGlaInDwIdeal.main_arg0) = m ((c.tc : Thread Cert.GlaInDwIdeal.nD Cert.GlaInDwIdeal.τ).loc Cert.GlaInDwIdeal.main_arg0)
      ∧ m' ((c.tc : Thread Cert.RefGlaInDwIdeal.nD Cert.RefGlaInDwIdeal.τ).loc Cert.RefGlaInDwIdeal.main_arg1) = m ((c.tc : Thread Cert.GlaInDwIdeal.nD Cert.GlaInDwIdeal.τ).loc Cert.GlaInDwIdeal.main_arg1)) →
    ∃ (v0 : (c : Dev Cert.GlaInDwIdeal.nD) → Buf (Elt Ideal) ((c.tc : Thread Cert.GlaInDwIdeal.nD Cert.GlaInDwIdeal.τ).loc Cert.GlaInDwIdeal.main_v0)),
      θ_run (Cert.GlaInDwIdeal.defs (F := Ideal)) (onTc (τ := Cert.GlaInDwIdeal.τ) (Cert.GlaInDwIdeal.main (F := Ideal))) ⟨m, fun _ => 0, g⟩ (fun r => ∀ c : Dev Cert.GlaInDwIdeal.nD,
          r.2.mem ((c.tc : Thread Cert.GlaInDwIdeal.nD Cert.GlaInDwIdeal.τ).loc Cert.GlaInDwIdeal.main_v0) = v0 c
          ∧ r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
          ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ θ_run (Cert.RefGlaInDwIdeal.defs (F := Ideal)) (onTc (τ := Cert.RefGlaInDwIdeal.τ) (Cert.RefGlaInDwIdeal.main (F := Ideal))) ⟨m', fun _ => 0, g'⟩ (fun r => ∀ c : Dev Cert.RefGlaInDwIdeal.nD,
          r.2.mem ((c.tc : Thread Cert.RefGlaInDwIdeal.nD Cert.RefGlaInDwIdeal.τ).loc Cert.RefGlaInDwIdeal.main_v6) = v0 c
          ∧ r.2.mem ((c.tc : Thread Cert.RefGlaInDwIdeal.nD Cert.RefGlaInDwIdeal.τ).loc Cert.RefGlaInDwIdeal.main_arg0) = m' ((c.tc : Thread Cert.RefGlaInDwIdeal.nD Cert.RefGlaInDwIdeal.τ).loc Cert.RefGlaInDwIdeal.main_arg0)
          ∧ r.2.mem ((c.tc : Thread Cert.RefGlaInDwIdeal.nD Cert.RefGlaInDwIdeal.τ).loc Cert.RefGlaInDwIdeal.main_arg1) = m' ((c.tc : Thread Cert.RefGlaInDwIdeal.nD Cert.RefGlaInDwIdeal.τ).loc Cert.RefGlaInDwIdeal.main_arg1))

def preserves_GlaInDx_GlaInDxIdeal : Prop :=
  True

def algebraic_GlaInDxIdeal_RefGlaInDxIdeal [hGlaInDxIdeal : Cert.GlaInDxIdeal.Facts] [hRefGlaInDxIdeal : Cert.RefGlaInDxIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg)
    (m' : (ℓ : Loc Cert.RefGlaInDxIdeal.nD Cert.RefGlaInDxIdeal.τ Cert.RefGlaInDxIdeal.sig) → Buf (Elt Ideal) ℓ) (g' : Dev Cert.RefGlaInDxIdeal.nD → PrngReg), Pre_GlaInDxIdeal m →
    (∀ c : Dev Cert.GlaInDxIdeal.nD,
      m' ((c.tc : Thread Cert.RefGlaInDxIdeal.nD Cert.RefGlaInDxIdeal.τ).loc Cert.RefGlaInDxIdeal.main_arg0) = m ((c.tc : Thread Cert.GlaInDxIdeal.nD Cert.GlaInDxIdeal.τ).loc Cert.GlaInDxIdeal.main_arg0)
      ∧ m' ((c.tc : Thread Cert.RefGlaInDxIdeal.nD Cert.RefGlaInDxIdeal.τ).loc Cert.RefGlaInDxIdeal.main_arg1) = m ((c.tc : Thread Cert.GlaInDxIdeal.nD Cert.GlaInDxIdeal.τ).loc Cert.GlaInDxIdeal.main_arg1)
      ∧ m' ((c.tc : Thread Cert.RefGlaInDxIdeal.nD Cert.RefGlaInDxIdeal.τ).loc Cert.RefGlaInDxIdeal.main_arg2) = m ((c.tc : Thread Cert.GlaInDxIdeal.nD Cert.GlaInDxIdeal.τ).loc Cert.GlaInDxIdeal.main_arg2)) →
    ∃ (v0 : (c : Dev Cert.GlaInDxIdeal.nD) → Buf (Elt Ideal) ((c.tc : Thread Cert.GlaInDxIdeal.nD Cert.GlaInDxIdeal.τ).loc Cert.GlaInDxIdeal.main_v0)),
      θ_run (Cert.GlaInDxIdeal.defs (F := Ideal)) (onTc (τ := Cert.GlaInDxIdeal.τ) (Cert.GlaInDxIdeal.main (F := Ideal))) ⟨m, fun _ => 0, g⟩ (fun r => ∀ c : Dev Cert.GlaInDxIdeal.nD,
          r.2.mem ((c.tc : Thread Cert.GlaInDxIdeal.nD Cert.GlaInDxIdeal.τ).loc Cert.GlaInDxIdeal.main_v0) = v0 c
          ∧ r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
          ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1)
          ∧ r.2.mem ((c.tc : Thread Cert.GlaInDxIdeal.nD Cert.GlaInDxIdeal.τ).loc Cert.GlaInDxIdeal.main_arg2) = m ((c.tc : Thread Cert.GlaInDxIdeal.nD Cert.GlaInDxIdeal.τ).loc Cert.GlaInDxIdeal.main_arg2))
      ∧ θ_run (Cert.RefGlaInDxIdeal.defs (F := Ideal)) (onTc (τ := Cert.RefGlaInDxIdeal.τ) (Cert.RefGlaInDxIdeal.main (F := Ideal))) ⟨m', fun _ => 0, g'⟩ (fun r => ∀ c : Dev Cert.RefGlaInDxIdeal.nD,
          r.2.mem ((c.tc : Thread Cert.RefGlaInDxIdeal.nD Cert.RefGlaInDxIdeal.τ).loc Cert.RefGlaInDxIdeal.main_v7) = v0 c
          ∧ r.2.mem ((c.tc : Thread Cert.RefGlaInDxIdeal.nD Cert.RefGlaInDxIdeal.τ).loc Cert.RefGlaInDxIdeal.main_arg0) = m' ((c.tc : Thread Cert.RefGlaInDxIdeal.nD Cert.RefGlaInDxIdeal.τ).loc Cert.RefGlaInDxIdeal.main_arg0)
          ∧ r.2.mem ((c.tc : Thread Cert.RefGlaInDxIdeal.nD Cert.RefGlaInDxIdeal.τ).loc Cert.RefGlaInDxIdeal.main_arg1) = m' ((c.tc : Thread Cert.RefGlaInDxIdeal.nD Cert.RefGlaInDxIdeal.τ).loc Cert.RefGlaInDxIdeal.main_arg1)
          ∧ r.2.mem ((c.tc : Thread Cert.RefGlaInDxIdeal.nD Cert.RefGlaInDxIdeal.τ).loc Cert.RefGlaInDxIdeal.main_arg2) = m' ((c.tc : Thread Cert.RefGlaInDxIdeal.nD Cert.RefGlaInDxIdeal.τ).loc Cert.RefGlaInDxIdeal.main_arg2))

def preserves_KvProj_KvProjIdeal : Prop :=
  True

def algebraic_KvProjIdeal_RefKvProjIdeal [hKvProjIdeal : Cert.KvProjIdeal.Facts] [hRefKvProjIdeal : Cert.RefKvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.RefKvProjIdeal.nD Cert.RefKvProjIdeal.τ Cert.RefKvProjIdeal.sig) → Buf (Elt Ideal) ℓ) (g' : Dev Cert.RefKvProjIdeal.nD → PrngReg), Pre_KvProjIdeal m →
    (∀ c : Dev Cert.KvProjIdeal.nD,
      m' ((c.tc : Thread Cert.RefKvProjIdeal.nD Cert.RefKvProjIdeal.τ).loc Cert.RefKvProjIdeal.main_arg0) = m ((c.tc : Thread Cert.KvProjIdeal.nD Cert.KvProjIdeal.τ).loc Cert.KvProjIdeal.main_arg0)
      ∧ m' ((c.tc : Thread Cert.RefKvProjIdeal.nD Cert.RefKvProjIdeal.τ).loc Cert.RefKvProjIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.RefKvProjIdeal.defs (F := Ideal)) (onTc (τ := Cert.RefKvProjIdeal.τ) (Cert.RefKvProjIdeal.main (F := Ideal))) ⟨m', fun _ => 0, g'⟩ (fun r => ∀ c : Dev Cert.RefKvProjIdeal.nD,
          r.2.mem ((c.tc : Thread Cert.RefKvProjIdeal.nD Cert.RefKvProjIdeal.τ).loc Cert.RefKvProjIdeal.main_v3) = v0 c
          ∧ r.2.mem ((c.tc : Thread Cert.RefKvProjIdeal.nD Cert.RefKvProjIdeal.τ).loc Cert.RefKvProjIdeal.main_arg0) = m' ((c.tc : Thread Cert.RefKvProjIdeal.nD Cert.RefKvProjIdeal.τ).loc Cert.RefKvProjIdeal.main_arg0)
          ∧ r.2.mem ((c.tc : Thread Cert.RefKvProjIdeal.nD Cert.RefKvProjIdeal.τ).loc Cert.RefKvProjIdeal.main_arg1) = m' ((c.tc : Thread Cert.RefKvProjIdeal.nD Cert.RefKvProjIdeal.τ).loc Cert.RefKvProjIdeal.main_arg1))

def preserves_KvGate_KvGateIdeal : Prop :=
  True

def algebraic_KvGateIdeal_RefKvGateIdeal [hKvGateIdeal : Cert.KvGateIdeal.Facts] [hRefKvGateIdeal : Cert.RefKvGateIdeal.Facts] : Prop :=
  ∀ (m : (ℓ : Loc Cert.KvGateIdeal.nD Cert.KvGateIdeal.τ Cert.KvGateIdeal.sig) → Buf (Elt Ideal) ℓ) (g : Dev Cert.KvGateIdeal.nD → PrngReg)
    (m' : (ℓ : Loc Cert.RefKvGateIdeal.nD Cert.RefKvGateIdeal.τ Cert.RefKvGateIdeal.sig) → Buf (Elt Ideal) ℓ) (g' : Dev Cert.RefKvGateIdeal.nD → PrngReg), Pre_KvGateIdeal m →
    (∀ c : Dev Cert.KvGateIdeal.nD,
      m' ((c.tc : Thread Cert.RefKvGateIdeal.nD Cert.RefKvGateIdeal.τ).loc Cert.RefKvGateIdeal.main_arg0) = m ((c.tc : Thread Cert.KvGateIdeal.nD Cert.KvGateIdeal.τ).loc Cert.KvGateIdeal.main_arg0)
      ∧ m' ((c.tc : Thread Cert.RefKvGateIdeal.nD Cert.RefKvGateIdeal.τ).loc Cert.RefKvGateIdeal.main_arg1) = m ((c.tc : Thread Cert.KvGateIdeal.nD Cert.KvGateIdeal.τ).loc Cert.KvGateIdeal.main_arg1)) →
    ∃ (v0 : (c : Dev Cert.KvGateIdeal.nD) → Buf (Elt Ideal) ((c.tc : Thread Cert.KvGateIdeal.nD Cert.KvGateIdeal.τ).loc Cert.KvGateIdeal.main_v0)),
      θ_run (Cert.KvGateIdeal.defs (F := Ideal)) (onTc (τ := Cert.KvGateIdeal.τ) (Cert.KvGateIdeal.main (F := Ideal))) ⟨m, fun _ => 0, g⟩ (fun r => ∀ c : Dev Cert.KvGateIdeal.nD,
          r.2.mem ((c.tc : Thread Cert.KvGateIdeal.nD Cert.KvGateIdeal.τ).loc Cert.KvGateIdeal.main_v0) = v0 c
          ∧ r.2.mem ((c.tc : Thread Cert.KvGateIdeal.nD Cert.KvGateIdeal.τ).loc Cert.KvGateIdeal.main_arg0) = m ((c.tc : Thread Cert.KvGateIdeal.nD Cert.KvGateIdeal.τ).loc Cert.KvGateIdeal.main_arg0)
          ∧ r.2.mem ((c.tc : Thread Cert.KvGateIdeal.nD Cert.KvGateIdeal.τ).loc Cert.KvGateIdeal.main_arg1) = m ((c.tc : Thread Cert.KvGateIdeal.nD Cert.KvGateIdeal.τ).loc Cert.KvGateIdeal.main_arg1))
      ∧ θ_run (Cert.RefKvGateIdeal.defs (F := Ideal)) (onTc (τ := Cert.RefKvGateIdeal.τ) (Cert.RefKvGateIdeal.main (F := Ideal))) ⟨m', fun _ => 0, g'⟩ (fun r => ∀ c : Dev Cert.RefKvGateIdeal.nD,
          r.2.mem ((c.tc : Thread Cert.RefKvGateIdeal.nD Cert.RefKvGateIdeal.τ).loc Cert.RefKvGateIdeal.main_v2) = v0 c
          ∧ r.2.mem ((c.tc : Thread Cert.RefKvGateIdeal.nD Cert.RefKvGateIdeal.τ).loc Cert.RefKvGateIdeal.main_arg0) = m' ((c.tc : Thread Cert.RefKvGateIdeal.nD Cert.RefKvGateIdeal.τ).loc Cert.RefKvGateIdeal.main_arg0)
          ∧ r.2.mem ((c.tc : Thread Cert.RefKvGateIdeal.nD Cert.RefKvGateIdeal.τ).loc Cert.RefKvGateIdeal.main_arg1) = m' ((c.tc : Thread Cert.RefKvGateIdeal.nD Cert.RefKvGateIdeal.τ).loc Cert.RefKvGateIdeal.main_arg1))

def preserves_KvDw_KvDwIdeal : Prop :=
  True

def algebraic_KvDwIdeal_RefKvDwIdeal [hKvDwIdeal : Cert.KvDwIdeal.Facts] [hRefKvDwIdeal : Cert.RefKvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.RefKvDwIdeal.nD Cert.RefKvDwIdeal.τ Cert.RefKvDwIdeal.sig) → Buf (Elt Ideal) ℓ) (g' : Dev Cert.RefKvDwIdeal.nD → PrngReg), Pre_KvDwIdeal m →
    (∀ c : Dev Cert.KvDwIdeal.nD,
      m' ((c.tc : Thread Cert.RefKvDwIdeal.nD Cert.RefKvDwIdeal.τ).loc Cert.RefKvDwIdeal.main_arg0) = m ((c.tc : Thread Cert.KvDwIdeal.nD Cert.KvDwIdeal.τ).loc Cert.KvDwIdeal.main_arg0)
      ∧ m' ((c.tc : Thread Cert.RefKvDwIdeal.nD Cert.RefKvDwIdeal.τ).loc Cert.RefKvDwIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.RefKvDwIdeal.defs (F := Ideal)) (onTc (τ := Cert.RefKvDwIdeal.τ) (Cert.RefKvDwIdeal.main (F := Ideal))) ⟨m', fun _ => 0, g'⟩ (fun r => ∀ c : Dev Cert.RefKvDwIdeal.nD,
          r.2.mem ((c.tc : Thread Cert.RefKvDwIdeal.nD Cert.RefKvDwIdeal.τ).loc Cert.RefKvDwIdeal.main_v6) = v0 c
          ∧ r.2.mem ((c.tc : Thread Cert.RefKvDwIdeal.nD Cert.RefKvDwIdeal.τ).loc Cert.RefKvDwIdeal.main_arg0) = m' ((c.tc : Thread Cert.RefKvDwIdeal.nD Cert.RefKvDwIdeal.τ).loc Cert.RefKvDwIdeal.main_arg0)
          ∧ r.2.mem ((c.tc : Thread Cert.RefKvDwIdeal.nD Cert.RefKvDwIdeal.τ).loc Cert.RefKvDwIdeal.main_arg1) = m' ((c.tc : Thread Cert.RefKvDwIdeal.nD Cert.RefKvDwIdeal.τ).loc Cert.RefKvDwIdeal.main_arg1))

def preserves_KvDx_KvDxIdeal : Prop :=
  True

def algebraic_KvDxIdeal_RefKvDxIdeal [hKvDxIdeal : Cert.KvDxIdeal.Facts] [hRefKvDxIdeal : Cert.RefKvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.RefKvDxIdeal.nD Cert.RefKvDxIdeal.τ Cert.RefKvDxIdeal.sig) → Buf (Elt Ideal) ℓ) (g' : Dev Cert.RefKvDxIdeal.nD → PrngReg), Pre_KvDxIdeal m →
    (∀ c : Dev Cert.KvDxIdeal.nD,
      m' ((c.tc : Thread Cert.RefKvDxIdeal.nD Cert.RefKvDxIdeal.τ).loc Cert.RefKvDxIdeal.main_arg0) = m ((c.tc : Thread Cert.KvDxIdeal.nD Cert.KvDxIdeal.τ).loc Cert.KvDxIdeal.main_arg0)
      ∧ m' ((c.tc : Thread Cert.RefKvDxIdeal.nD Cert.RefKvDxIdeal.τ).loc Cert.RefKvDxIdeal.main_arg1) = m ((c.tc : Thread Cert.KvDxIdeal.nD Cert.KvDxIdeal.τ).loc Cert.KvDxIdeal.main_arg1)
      ∧ m' ((c.tc : Thread Cert.RefKvDxIdeal.nD Cert.RefKvDxIdeal.τ).loc Cert.RefKvDxIdeal.main_arg2) = m ((c.tc : Thread Cert.KvDxIdeal.nD Cert.KvDxIdeal.τ).loc Cert.KvDxIdeal.main_arg2)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ θ_run (Cert.RefKvDxIdeal.defs (F := Ideal)) (onTc (τ := Cert.RefKvDxIdeal.τ) (Cert.RefKvDxIdeal.main (F := Ideal))) ⟨m', fun _ => 0, g'⟩ (fun r => ∀ c : Dev Cert.RefKvDxIdeal.nD,
          r.2.mem ((c.tc : Thread Cert.RefKvDxIdeal.nD Cert.RefKvDxIdeal.τ).loc Cert.RefKvDxIdeal.main_v5) = v0 c
          ∧ r.2.mem ((c.tc : Thread Cert.RefKvDxIdeal.nD Cert.RefKvDxIdeal.τ).loc Cert.RefKvDxIdeal.main_arg0) = m' ((c.tc : Thread Cert.RefKvDxIdeal.nD Cert.RefKvDxIdeal.τ).loc Cert.RefKvDxIdeal.main_arg0)
          ∧ r.2.mem ((c.tc : Thread Cert.RefKvDxIdeal.nD Cert.RefKvDxIdeal.τ).loc Cert.RefKvDxIdeal.main_arg1) = m' ((c.tc : Thread Cert.RefKvDxIdeal.nD Cert.RefKvDxIdeal.τ).loc Cert.RefKvDxIdeal.main_arg1)
          ∧ r.2.mem ((c.tc : Thread Cert.RefKvDxIdeal.nD Cert.RefKvDxIdeal.τ).loc Cert.RefKvDxIdeal.main_arg2) = m' ((c.tc : Thread Cert.RefKvDxIdeal.nD Cert.RefKvDxIdeal.τ).loc Cert.RefKvDxIdeal.main_arg2))

def preserves_AdamFoxIn_AdamFoxInIdeal : Prop :=
  True

def algebraic_AdamFoxInIdeal_RefAdamFoxInIdeal [hAdamFoxInIdeal : Cert.AdamFoxInIdeal.Facts] [hRefAdamFoxInIdeal : Cert.RefAdamFoxInIdeal.Facts] : Prop :=
  ∀ (m : (ℓ : Loc Cert.AdamFoxInIdeal.nD Cert.AdamFoxInIdeal.τ Cert.AdamFoxInIdeal.sig) → Buf (Elt Ideal) ℓ) (g : Dev Cert.AdamFoxInIdeal.nD → PrngReg)
    (m' : (ℓ : Loc Cert.RefAdamFoxInIdeal.nD Cert.RefAdamFoxInIdeal.τ Cert.RefAdamFoxInIdeal.sig) → Buf (Elt Ideal) ℓ) (g' : Dev Cert.RefAdamFoxInIdeal.nD → PrngReg), Pre_AdamFoxInIdeal m →
    (∀ c : Dev Cert.AdamFoxInIdeal.nD,
      m' ((c.tc : Thread Cert.RefAdamFoxInIdeal.nD Cert.RefAdamFoxInIdeal.τ).loc Cert.RefAdamFoxInIdeal.main_arg0) = m ((c.tc : Thread Cert.AdamFoxInIdeal.nD Cert.AdamFoxInIdeal.τ).loc Cert.AdamFoxInIdeal.main_arg0)
      ∧ m' ((c.tc : Thread Cert.RefAdamFoxInIdeal.nD Cert.RefAdamFoxInIdeal.τ).loc Cert.RefAdamFoxInIdeal.main_arg1) = m ((c.tc : Thread Cert.AdamFoxInIdeal.nD Cert.AdamFoxInIdeal.τ).loc Cert.AdamFoxInIdeal.main_arg1)
      ∧ m' ((c.tc : Thread Cert.RefAdamFoxInIdeal.nD Cert.RefAdamFoxInIdeal.τ).loc Cert.RefAdamFoxInIdeal.main_arg2) = m ((c.tc : Thread Cert.AdamFoxInIdeal.nD Cert.AdamFoxInIdeal.τ).loc Cert.AdamFoxInIdeal.main_arg2)
      ∧ m' ((c.tc : Thread Cert.RefAdamFoxInIdeal.nD Cert.RefAdamFoxInIdeal.τ).loc Cert.RefAdamFoxInIdeal.main_arg3) = m ((c.tc : Thread Cert.AdamFoxInIdeal.nD Cert.AdamFoxInIdeal.τ).loc Cert.AdamFoxInIdeal.main_arg3)) →
    ∃ (v0 : (c : Dev Cert.AdamFoxInIdeal.nD) → Buf (Elt Ideal) ((c.tc : Thread Cert.AdamFoxInIdeal.nD Cert.AdamFoxInIdeal.τ).loc Cert.AdamFoxInIdeal.main_v0_0)) (v1 : (c : Dev Cert.AdamFoxInIdeal.nD) → Buf (Elt Ideal) ((c.tc : Thread Cert.AdamFoxInIdeal.nD Cert.AdamFoxInIdeal.τ).loc Cert.AdamFoxInIdeal.main_v0_1)) (v2 : (c : Dev Cert.AdamFoxInIdeal.nD) → Buf (Elt Ideal) ((c.tc : Thread Cert.AdamFoxInIdeal.nD Cert.AdamFoxInIdeal.τ).loc Cert.AdamFoxInIdeal.main_v0_2)) (v3 : (c : Dev Cert.AdamFoxInIdeal.nD) → Buf (Elt Ideal) ((c.tc : Thread Cert.AdamFoxInIdeal.nD Cert.AdamFoxInIdeal.τ).loc Cert.AdamFoxInIdeal.main_v0_3)),
      θ_run (Cert.AdamFoxInIdeal.defs (F := Ideal)) (onTc (τ := Cert.AdamFoxInIdeal.τ) (Cert.AdamFoxInIdeal.main (F := Ideal))) ⟨m, fun _ => 0, g⟩ (fun r => ∀ c : Dev Cert.AdamFoxInIdeal.nD,
          r.2.mem ((c.tc : Thread Cert.AdamFoxInIdeal.nD Cert.AdamFoxInIdeal.τ).loc Cert.AdamFoxInIdeal.main_v0_0) = v0 c
          ∧ r.2.mem ((c.tc : Thread Cert.AdamFoxInIdeal.nD Cert.AdamFoxInIdeal.τ).loc Cert.AdamFoxInIdeal.main_v0_1) = v1 c
          ∧ r.2.mem ((c.tc : Thread Cert.AdamFoxInIdeal.nD Cert.AdamFoxInIdeal.τ).loc Cert.AdamFoxInIdeal.main_v0_2) = v2 c
          ∧ r.2.mem ((c.tc : Thread Cert.AdamFoxInIdeal.nD Cert.AdamFoxInIdeal.τ).loc Cert.AdamFoxInIdeal.main_v0_3) = v3 c
          ∧ r.2.mem ((c.tc : Thread Cert.AdamFoxInIdeal.nD Cert.AdamFoxInIdeal.τ).loc Cert.AdamFoxInIdeal.main_arg0) = m ((c.tc : Thread Cert.AdamFoxInIdeal.nD Cert.AdamFoxInIdeal.τ).loc Cert.AdamFoxInIdeal.main_arg0)
          ∧ r.2.mem ((c.tc : Thread Cert.AdamFoxInIdeal.nD Cert.AdamFoxInIdeal.τ).loc Cert.AdamFoxInIdeal.main_arg1) = m ((c.tc : Thread Cert.AdamFoxInIdeal.nD Cert.AdamFoxInIdeal.τ).loc Cert.AdamFoxInIdeal.main_arg1)
          ∧ r.2.mem ((c.tc : Thread Cert.AdamFoxInIdeal.nD Cert.AdamFoxInIdeal.τ).loc Cert.AdamFoxInIdeal.main_arg2) = m ((c.tc : Thread Cert.AdamFoxInIdeal.nD Cert.AdamFoxInIdeal.τ).loc Cert.AdamFoxInIdeal.main_arg2)
          ∧ r.2.mem ((c.tc : Thread Cert.AdamFoxInIdeal.nD Cert.AdamFoxInIdeal.τ).loc Cert.AdamFoxInIdeal.main_arg3) = m ((c.tc : Thread Cert.AdamFoxInIdeal.nD Cert.AdamFoxInIdeal.τ).loc Cert.AdamFoxInIdeal.main_arg3))
      ∧ θ_run (Cert.RefAdamFoxInIdeal.defs (F := Ideal)) (onTc (τ := Cert.RefAdamFoxInIdeal.τ) (Cert.RefAdamFoxInIdeal.main (F := Ideal))) ⟨m', fun _ => 0, g'⟩ (fun r => ∀ c : Dev Cert.RefAdamFoxInIdeal.nD,
          r.2.mem ((c.tc : Thread Cert.RefAdamFoxInIdeal.nD Cert.RefAdamFoxInIdeal.τ).loc Cert.RefAdamFoxInIdeal.main_arg3) = v0 c
          ∧ r.2.mem ((c.tc : Thread Cert.RefAdamFoxInIdeal.nD Cert.RefAdamFoxInIdeal.τ).loc Cert.RefAdamFoxInIdeal.main_v23) = v1 c
          ∧ r.2.mem ((c.tc : Thread Cert.RefAdamFoxInIdeal.nD Cert.RefAdamFoxInIdeal.τ).loc Cert.RefAdamFoxInIdeal.main_v4) = v2 c
          ∧ r.2.mem ((c.tc : Thread Cert.RefAdamFoxInIdeal.nD Cert.RefAdamFoxInIdeal.τ).loc Cert.RefAdamFoxInIdeal.main_v10) = v3 c
          ∧ r.2.mem ((c.tc : Thread Cert.RefAdamFoxInIdeal.nD Cert.RefAdamFoxInIdeal.τ).loc Cert.RefAdamFoxInIdeal.main_arg0) = m' ((c.tc : Thread Cert.RefAdamFoxInIdeal.nD Cert.RefAdamFoxInIdeal.τ).loc Cert.RefAdamFoxInIdeal.main_arg0)
          ∧ r.2.mem ((c.tc : Thread Cert.RefAdamFoxInIdeal.nD Cert.RefAdamFoxInIdeal.τ).loc Cert.RefAdamFoxInIdeal.main_arg1) = m' ((c.tc : Thread Cert.RefAdamFoxInIdeal.nD Cert.RefAdamFoxInIdeal.τ).loc Cert.RefAdamFoxInIdeal.main_arg1)
          ∧ r.2.mem ((c.tc : Thread Cert.RefAdamFoxInIdeal.nD Cert.RefAdamFoxInIdeal.τ).loc Cert.RefAdamFoxInIdeal.main_arg2) = m' ((c.tc : Thread Cert.RefAdamFoxInIdeal.nD Cert.RefAdamFoxInIdeal.τ).loc Cert.RefAdamFoxInIdeal.main_arg2)
          ∧ r.2.mem ((c.tc : Thread Cert.RefAdamFoxInIdeal.nD Cert.RefAdamFoxInIdeal.τ).loc Cert.RefAdamFoxInIdeal.main_arg3) = m' ((c.tc : Thread Cert.RefAdamFoxInIdeal.nD Cert.RefAdamFoxInIdeal.τ).loc Cert.RefAdamFoxInIdeal.main_arg3))

def preserves_AdamFoxOut_AdamFoxOutIdeal : Prop :=
  True

def algebraic_AdamFoxOutIdeal_RefAdamFoxOutIdeal [hAdamFoxOutIdeal : Cert.AdamFoxOutIdeal.Facts] [hRefAdamFoxOutIdeal : Cert.RefAdamFoxOutIdeal.Facts] : Prop :=
  ∀ (m : (ℓ : Loc Cert.AdamFoxOutIdeal.nD Cert.AdamFoxOutIdeal.τ Cert.AdamFoxOutIdeal.sig) → Buf (Elt Ideal) ℓ) (g : Dev Cert.AdamFoxOutIdeal.nD → PrngReg)
    (m' : (ℓ : Loc Cert.RefAdamFoxOutIdeal.nD Cert.RefAdamFoxOutIdeal.τ Cert.RefAdamFoxOutIdeal.sig) → Buf (Elt Ideal) ℓ) (g' : Dev Cert.RefAdamFoxOutIdeal.nD → PrngReg), Pre_AdamFoxOutIdeal m →
    (∀ c : Dev Cert.AdamFoxOutIdeal.nD,
      m' ((c.tc : Thread Cert.RefAdamFoxOutIdeal.nD Cert.RefAdamFoxOutIdeal.τ).loc Cert.RefAdamFoxOutIdeal.main_arg0) = m ((c.tc : Thread Cert.AdamFoxOutIdeal.nD Cert.AdamFoxOutIdeal.τ).loc Cert.AdamFoxOutIdeal.main_arg0)
      ∧ m' ((c.tc : Thread Cert.RefAdamFoxOutIdeal.nD Cert.RefAdamFoxOutIdeal.τ).loc Cert.RefAdamFoxOutIdeal.main_arg1) = m ((c.tc : Thread Cert.AdamFoxOutIdeal.nD Cert.AdamFoxOutIdeal.τ).loc Cert.AdamFoxOutIdeal.main_arg1)
      ∧ m' ((c.tc : Thread Cert.RefAdamFoxOutIdeal.nD Cert.RefAdamFoxOutIdeal.τ).loc Cert.RefAdamFoxOutIdeal.main_arg2) = m ((c.tc : Thread Cert.AdamFoxOutIdeal.nD Cert.AdamFoxOutIdeal.τ).loc Cert.AdamFoxOutIdeal.main_arg2)
      ∧ m' ((c.tc : Thread Cert.RefAdamFoxOutIdeal.nD Cert.RefAdamFoxOutIdeal.τ).loc Cert.RefAdamFoxOutIdeal.main_arg3) = m ((c.tc : Thread Cert.AdamFoxOutIdeal.nD Cert.AdamFoxOutIdeal.τ).loc Cert.AdamFoxOutIdeal.main_arg3)) →
    ∃ (v0 : (c : Dev Cert.AdamFoxOutIdeal.nD) → Buf (Elt Ideal) ((c.tc : Thread Cert.AdamFoxOutIdeal.nD Cert.AdamFoxOutIdeal.τ).loc Cert.AdamFoxOutIdeal.main_v0_0)) (v1 : (c : Dev Cert.AdamFoxOutIdeal.nD) → Buf (Elt Ideal) ((c.tc : Thread Cert.AdamFoxOutIdeal.nD Cert.AdamFoxOutIdeal.τ).loc Cert.AdamFoxOutIdeal.main_v0_1)) (v2 : (c : Dev Cert.AdamFoxOutIdeal.nD) → Buf (Elt Ideal) ((c.tc : Thread Cert.AdamFoxOutIdeal.nD Cert.AdamFoxOutIdeal.τ).loc Cert.AdamFoxOutIdeal.main_v0_2)) (v3 : (c : Dev Cert.AdamFoxOutIdeal.nD) → Buf (Elt Ideal) ((c.tc : Thread Cert.AdamFoxOutIdeal.nD Cert.AdamFoxOutIdeal.τ).loc Cert.AdamFoxOutIdeal.main_v0_3)),
      θ_run (Cert.AdamFoxOutIdeal.defs (F := Ideal)) (onTc (τ := Cert.AdamFoxOutIdeal.τ) (Cert.AdamFoxOutIdeal.main (F := Ideal))) ⟨m, fun _ => 0, g⟩ (fun r => ∀ c : Dev Cert.AdamFoxOutIdeal.nD,
          r.2.mem ((c.tc : Thread Cert.AdamFoxOutIdeal.nD Cert.AdamFoxOutIdeal.τ).loc Cert.AdamFoxOutIdeal.main_v0_0) = v0 c
          ∧ r.2.mem ((c.tc : Thread Cert.AdamFoxOutIdeal.nD Cert.AdamFoxOutIdeal.τ).loc Cert.AdamFoxOutIdeal.main_v0_1) = v1 c
          ∧ r.2.mem ((c.tc : Thread Cert.AdamFoxOutIdeal.nD Cert.AdamFoxOutIdeal.τ).loc Cert.AdamFoxOutIdeal.main_v0_2) = v2 c
          ∧ r.2.mem ((c.tc : Thread Cert.AdamFoxOutIdeal.nD Cert.AdamFoxOutIdeal.τ).loc Cert.AdamFoxOutIdeal.main_v0_3) = v3 c
          ∧ r.2.mem ((c.tc : Thread Cert.AdamFoxOutIdeal.nD Cert.AdamFoxOutIdeal.τ).loc Cert.AdamFoxOutIdeal.main_arg0) = m ((c.tc : Thread Cert.AdamFoxOutIdeal.nD Cert.AdamFoxOutIdeal.τ).loc Cert.AdamFoxOutIdeal.main_arg0)
          ∧ r.2.mem ((c.tc : Thread Cert.AdamFoxOutIdeal.nD Cert.AdamFoxOutIdeal.τ).loc Cert.AdamFoxOutIdeal.main_arg1) = m ((c.tc : Thread Cert.AdamFoxOutIdeal.nD Cert.AdamFoxOutIdeal.τ).loc Cert.AdamFoxOutIdeal.main_arg1)
          ∧ r.2.mem ((c.tc : Thread Cert.AdamFoxOutIdeal.nD Cert.AdamFoxOutIdeal.τ).loc Cert.AdamFoxOutIdeal.main_arg2) = m ((c.tc : Thread Cert.AdamFoxOutIdeal.nD Cert.AdamFoxOutIdeal.τ).loc Cert.AdamFoxOutIdeal.main_arg2)
          ∧ r.2.mem ((c.tc : Thread Cert.AdamFoxOutIdeal.nD Cert.AdamFoxOutIdeal.τ).loc Cert.AdamFoxOutIdeal.main_arg3) = m ((c.tc : Thread Cert.AdamFoxOutIdeal.nD Cert.AdamFoxOutIdeal.τ).loc Cert.AdamFoxOutIdeal.main_arg3))
      ∧ θ_run (Cert.RefAdamFoxOutIdeal.defs (F := Ideal)) (onTc (τ := Cert.RefAdamFoxOutIdeal.τ) (Cert.RefAdamFoxOutIdeal.main (F := Ideal))) ⟨m', fun _ => 0, g'⟩ (fun r => ∀ c : Dev Cert.RefAdamFoxOutIdeal.nD,
          r.2.mem ((c.tc : Thread Cert.RefAdamFoxOutIdeal.nD Cert.RefAdamFoxOutIdeal.τ).loc Cert.RefAdamFoxOutIdeal.main_arg3) = v0 c
          ∧ r.2.mem ((c.tc : Thread Cert.RefAdamFoxOutIdeal.nD Cert.RefAdamFoxOutIdeal.τ).loc Cert.RefAdamFoxOutIdeal.main_v23) = v1 c
          ∧ r.2.mem ((c.tc : Thread Cert.RefAdamFoxOutIdeal.nD Cert.RefAdamFoxOutIdeal.τ).loc Cert.RefAdamFoxOutIdeal.main_v4) = v2 c
          ∧ r.2.mem ((c.tc : Thread Cert.RefAdamFoxOutIdeal.nD Cert.RefAdamFoxOutIdeal.τ).loc Cert.RefAdamFoxOutIdeal.main_v10) = v3 c
          ∧ r.2.mem ((c.tc : Thread Cert.RefAdamFoxOutIdeal.nD Cert.RefAdamFoxOutIdeal.τ).loc Cert.RefAdamFoxOutIdeal.main_arg0) = m' ((c.tc : Thread Cert.RefAdamFoxOutIdeal.nD Cert.RefAdamFoxOutIdeal.τ).loc Cert.RefAdamFoxOutIdeal.main_arg0)
          ∧ r.2.mem ((c.tc : Thread Cert.RefAdamFoxOutIdeal.nD Cert.RefAdamFoxOutIdeal.τ).loc Cert.RefAdamFoxOutIdeal.main_arg1) = m' ((c.tc : Thread Cert.RefAdamFoxOutIdeal.nD Cert.RefAdamFoxOutIdeal.τ).loc Cert.RefAdamFoxOutIdeal.main_arg1)
          ∧ r.2.mem ((c.tc : Thread Cert.RefAdamFoxOutIdeal.nD Cert.RefAdamFoxOutIdeal.τ).loc Cert.RefAdamFoxOutIdeal.main_arg2) = m' ((c.tc : Thread Cert.RefAdamFoxOutIdeal.nD Cert.RefAdamFoxOutIdeal.τ).loc Cert.RefAdamFoxOutIdeal.main_arg2)
          ∧ r.2.mem ((c.tc : Thread Cert.RefAdamFoxOutIdeal.nD Cert.RefAdamFoxOutIdeal.τ).loc Cert.RefAdamFoxOutIdeal.main_arg3) = m' ((c.tc : Thread Cert.RefAdamFoxOutIdeal.nD Cert.RefAdamFoxOutIdeal.τ).loc Cert.RefAdamFoxOutIdeal.main_arg3))

def preserves_AdamKv_AdamKvIdeal : Prop :=
  True

def algebraic_AdamKvIdeal_RefAdamKvIdeal [hAdamKvIdeal : Cert.AdamKvIdeal.Facts] [hRefAdamKvIdeal : Cert.RefAdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.RefAdamKvIdeal.nD Cert.RefAdamKvIdeal.τ Cert.RefAdamKvIdeal.sig) → Buf (Elt Ideal) ℓ) (g' : Dev Cert.RefAdamKvIdeal.nD → PrngReg), Pre_AdamKvIdeal m →
    (∀ c : Dev Cert.AdamKvIdeal.nD,
      m' ((c.tc : Thread Cert.RefAdamKvIdeal.nD Cert.RefAdamKvIdeal.τ).loc Cert.RefAdamKvIdeal.main_arg0) = m ((c.tc : Thread Cert.AdamKvIdeal.nD Cert.AdamKvIdeal.τ).loc Cert.AdamKvIdeal.main_arg0)
      ∧ m' ((c.tc : Thread Cert.RefAdamKvIdeal.nD Cert.RefAdamKvIdeal.τ).loc Cert.RefAdamKvIdeal.main_arg1) = m ((c.tc : Thread Cert.AdamKvIdeal.nD Cert.AdamKvIdeal.τ).loc Cert.AdamKvIdeal.main_arg1)
      ∧ m' ((c.tc : Thread Cert.RefAdamKvIdeal.nD Cert.RefAdamKvIdeal.τ).loc Cert.RefAdamKvIdeal.main_arg2) = m ((c.tc : Thread Cert.AdamKvIdeal.nD Cert.AdamKvIdeal.τ).loc Cert.AdamKvIdeal.main_arg2)
      ∧ m' ((c.tc : Thread Cert.RefAdamKvIdeal.nD Cert.RefAdamKvIdeal.τ).loc Cert.RefAdamKvIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.RefAdamKvIdeal.defs (F := Ideal)) (onTc (τ := Cert.RefAdamKvIdeal.τ) (Cert.RefAdamKvIdeal.main (F := Ideal))) ⟨m', fun _ => 0, g'⟩ (fun r => ∀ c : Dev Cert.RefAdamKvIdeal.nD,
          r.2.mem ((c.tc : Thread Cert.RefAdamKvIdeal.nD Cert.RefAdamKvIdeal.τ).loc Cert.RefAdamKvIdeal.main_arg3) = v0 c
          ∧ r.2.mem ((c.tc : Thread Cert.RefAdamKvIdeal.nD Cert.RefAdamKvIdeal.τ).loc Cert.RefAdamKvIdeal.main_v23) = v1 c
          ∧ r.2.mem ((c.tc : Thread Cert.RefAdamKvIdeal.nD Cert.RefAdamKvIdeal.τ).loc Cert.RefAdamKvIdeal.main_v4) = v2 c
          ∧ r.2.mem ((c.tc : Thread Cert.RefAdamKvIdeal.nD Cert.RefAdamKvIdeal.τ).loc Cert.RefAdamKvIdeal.main_v10) = v3 c
          ∧ r.2.mem ((c.tc : Thread Cert.RefAdamKvIdeal.nD Cert.RefAdamKvIdeal.τ).loc Cert.RefAdamKvIdeal.main_arg0) = m' ((c.tc : Thread Cert.RefAdamKvIdeal.nD Cert.RefAdamKvIdeal.τ).loc Cert.RefAdamKvIdeal.main_arg0)
          ∧ r.2.mem ((c.tc : Thread Cert.RefAdamKvIdeal.nD Cert.RefAdamKvIdeal.τ).loc Cert.RefAdamKvIdeal.main_arg1) = m' ((c.tc : Thread Cert.RefAdamKvIdeal.nD Cert.RefAdamKvIdeal.τ).loc Cert.RefAdamKvIdeal.main_arg1)
          ∧ r.2.mem ((c.tc : Thread Cert.RefAdamKvIdeal.nD Cert.RefAdamKvIdeal.τ).loc Cert.RefAdamKvIdeal.main_arg2) = m' ((c.tc : Thread Cert.RefAdamKvIdeal.nD Cert.RefAdamKvIdeal.τ).loc Cert.RefAdamKvIdeal.main_arg2)
          ∧ r.2.mem ((c.tc : Thread Cert.RefAdamKvIdeal.nD Cert.RefAdamKvIdeal.τ).loc Cert.RefAdamKvIdeal.main_arg3) = m' ((c.tc : Thread Cert.RefAdamKvIdeal.nD Cert.RefAdamKvIdeal.τ).loc Cert.RefAdamKvIdeal.main_arg3))

def preserves_AdamGlaIn_AdamGlaInIdeal : Prop :=
  True

def algebraic_AdamGlaInIdeal_RefAdamGlaInIdeal [hAdamGlaInIdeal : Cert.AdamGlaInIdeal.Facts] [hRefAdamGlaInIdeal : Cert.RefAdamGlaInIdeal.Facts] : Prop :=
  ∀ (m : (ℓ : Loc Cert.AdamGlaInIdeal.nD Cert.AdamGlaInIdeal.τ Cert.AdamGlaInIdeal.sig) → Buf (Elt Ideal) ℓ) (g : Dev Cert.AdamGlaInIdeal.nD → PrngReg)
    (m' : (ℓ : Loc Cert.RefAdamGlaInIdeal.nD Cert.RefAdamGlaInIdeal.τ Cert.RefAdamGlaInIdeal.sig) → Buf (Elt Ideal) ℓ) (g' : Dev Cert.RefAdamGlaInIdeal.nD → PrngReg), Pre_AdamGlaInIdeal m →
    (∀ c : Dev Cert.AdamGlaInIdeal.nD,
      m' ((c.tc : Thread Cert.RefAdamGlaInIdeal.nD Cert.RefAdamGlaInIdeal.τ).loc Cert.RefAdamGlaInIdeal.main_arg0) = m ((c.tc : Thread Cert.AdamGlaInIdeal.nD Cert.AdamGlaInIdeal.τ).loc Cert.AdamGlaInIdeal.main_arg0)
      ∧ m' ((c.tc : Thread Cert.RefAdamGlaInIdeal.nD Cert.RefAdamGlaInIdeal.τ).loc Cert.RefAdamGlaInIdeal.main_arg1) = m ((c.tc : Thread Cert.AdamGlaInIdeal.nD Cert.AdamGlaInIdeal.τ).loc Cert.AdamGlaInIdeal.main_arg1)
      ∧ m' ((c.tc : Thread Cert.RefAdamGlaInIdeal.nD Cert.RefAdamGlaInIdeal.τ).loc Cert.RefAdamGlaInIdeal.main_arg2) = m ((c.tc : Thread Cert.AdamGlaInIdeal.nD Cert.AdamGlaInIdeal.τ).loc Cert.AdamGlaInIdeal.main_arg2)
      ∧ m' ((c.tc : Thread Cert.RefAdamGlaInIdeal.nD Cert.RefAdamGlaInIdeal.τ).loc Cert.RefAdamGlaInIdeal.main_arg3) = m ((c.tc : Thread Cert.AdamGlaInIdeal.nD Cert.AdamGlaInIdeal.τ).loc Cert.AdamGlaInIdeal.main_arg3)
      ∧ m' ((c.tc : Thread Cert.RefAdamGlaInIdeal.nD Cert.RefAdamGlaInIdeal.τ).loc Cert.RefAdamGlaInIdeal.main_arg4) = m ((c.tc : Thread Cert.AdamGlaInIdeal.nD Cert.AdamGlaInIdeal.τ).loc Cert.AdamGlaInIdeal.main_arg4)) →
    ∃ (v0 : (c : Dev Cert.AdamGlaInIdeal.nD) → Buf (Elt Ideal) ((c.tc : Thread Cert.AdamGlaInIdeal.nD Cert.AdamGlaInIdeal.τ).loc Cert.AdamGlaInIdeal.main_v0_0)) (v1 : (c : Dev Cert.AdamGlaInIdeal.nD) → Buf (Elt Ideal) ((c.tc : Thread Cert.AdamGlaInIdeal.nD Cert.AdamGlaInIdeal.τ).loc Cert.AdamGlaInIdeal.main_v0_1)) (v2 : (c : Dev Cert.AdamGlaInIdeal.nD) → Buf (Elt Ideal) ((c.tc : Thread Cert.AdamGlaInIdeal.nD Cert.AdamGlaInIdeal.τ).loc Cert.AdamGlaInIdeal.main_v0_2)) (v3 : (c : Dev Cert.AdamGlaInIdeal.nD) → Buf (Elt Ideal) ((c.tc : Thread Cert.AdamGlaInIdeal.nD Cert.AdamGlaInIdeal.τ).loc Cert.AdamGlaInIdeal.main_v0_3)),
      θ_run (Cert.AdamGlaInIdeal.defs (F := Ideal)) (onTc (τ := Cert.AdamGlaInIdeal.τ) (Cert.AdamGlaInIdeal.main (F := Ideal))) ⟨m, fun _ => 0, g⟩ (fun r => ∀ c : Dev Cert.AdamGlaInIdeal.nD,
          r.2.mem ((c.tc : Thread Cert.AdamGlaInIdeal.nD Cert.AdamGlaInIdeal.τ).loc Cert.AdamGlaInIdeal.main_v0_0) = v0 c
          ∧ r.2.mem ((c.tc : Thread Cert.AdamGlaInIdeal.nD Cert.AdamGlaInIdeal.τ).loc Cert.AdamGlaInIdeal.main_v0_1) = v1 c
          ∧ r.2.mem ((c.tc : Thread Cert.AdamGlaInIdeal.nD Cert.AdamGlaInIdeal.τ).loc Cert.AdamGlaInIdeal.main_v0_2) = v2 c
          ∧ r.2.mem ((c.tc : Thread Cert.AdamGlaInIdeal.nD Cert.AdamGlaInIdeal.τ).loc Cert.AdamGlaInIdeal.main_v0_3) = v3 c
          ∧ r.2.mem ((c.tc : Thread Cert.AdamGlaInIdeal.nD Cert.AdamGlaInIdeal.τ).loc Cert.AdamGlaInIdeal.main_arg0) = m ((c.tc : Thread Cert.AdamGlaInIdeal.nD Cert.AdamGlaInIdeal.τ).loc Cert.AdamGlaInIdeal.main_arg0)
          ∧ r.2.mem ((c.tc : Thread Cert.AdamGlaInIdeal.nD Cert.AdamGlaInIdeal.τ).loc Cert.AdamGlaInIdeal.main_arg1) = m ((c.tc : Thread Cert.AdamGlaInIdeal.nD Cert.AdamGlaInIdeal.τ).loc Cert.AdamGlaInIdeal.main_arg1)
          ∧ r.2.mem ((c.tc : Thread Cert.AdamGlaInIdeal.nD Cert.AdamGlaInIdeal.τ).loc Cert.AdamGlaInIdeal.main_arg2) = m ((c.tc : Thread Cert.AdamGlaInIdeal.nD Cert.AdamGlaInIdeal.τ).loc Cert.AdamGlaInIdeal.main_arg2)
          ∧ r.2.mem ((c.tc : Thread Cert.AdamGlaInIdeal.nD Cert.AdamGlaInIdeal.τ).loc Cert.AdamGlaInIdeal.main_arg3) = m ((c.tc : Thread Cert.AdamGlaInIdeal.nD Cert.AdamGlaInIdeal.τ).loc Cert.AdamGlaInIdeal.main_arg3)
          ∧ r.2.mem ((c.tc : Thread Cert.AdamGlaInIdeal.nD Cert.AdamGlaInIdeal.τ).loc Cert.AdamGlaInIdeal.main_arg4) = m ((c.tc : Thread Cert.AdamGlaInIdeal.nD Cert.AdamGlaInIdeal.τ).loc Cert.AdamGlaInIdeal.main_arg4))
      ∧ θ_run (Cert.RefAdamGlaInIdeal.defs (F := Ideal)) (onTc (τ := Cert.RefAdamGlaInIdeal.τ) (Cert.RefAdamGlaInIdeal.main (F := Ideal))) ⟨m', fun _ => 0, g'⟩ (fun r => ∀ c : Dev Cert.RefAdamGlaInIdeal.nD,
          r.2.mem ((c.tc : Thread Cert.RefAdamGlaInIdeal.nD Cert.RefAdamGlaInIdeal.τ).loc Cert.RefAdamGlaInIdeal.main_v0) = v0 c
          ∧ r.2.mem ((c.tc : Thread Cert.RefAdamGlaInIdeal.nD Cert.RefAdamGlaInIdeal.τ).loc Cert.RefAdamGlaInIdeal.main_v24) = v1 c
          ∧ r.2.mem ((c.tc : Thread Cert.RefAdamGlaInIdeal.nD Cert.RefAdamGlaInIdeal.τ).loc Cert.RefAdamGlaInIdeal.main_v5) = v2 c
          ∧ r.2.mem ((c.tc : Thread Cert.RefAdamGlaInIdeal.nD Cert.RefAdamGlaInIdeal.τ).loc Cert.RefAdamGlaInIdeal.main_v11) = v3 c
          ∧ r.2.mem ((c.tc : Thread Cert.RefAdamGlaInIdeal.nD Cert.RefAdamGlaInIdeal.τ).loc Cert.RefAdamGlaInIdeal.main_arg0) = m' ((c.tc : Thread Cert.RefAdamGlaInIdeal.nD Cert.RefAdamGlaInIdeal.τ).loc Cert.RefAdamGlaInIdeal.main_arg0)
          ∧ r.2.mem ((c.tc : Thread Cert.RefAdamGlaInIdeal.nD Cert.RefAdamGlaInIdeal.τ).loc Cert.RefAdamGlaInIdeal.main_arg1) = m' ((c.tc : Thread Cert.RefAdamGlaInIdeal.nD Cert.RefAdamGlaInIdeal.τ).loc Cert.RefAdamGlaInIdeal.main_arg1)
          ∧ r.2.mem ((c.tc : Thread Cert.RefAdamGlaInIdeal.nD Cert.RefAdamGlaInIdeal.τ).loc Cert.RefAdamGlaInIdeal.main_arg2) = m' ((c.tc : Thread Cert.RefAdamGlaInIdeal.nD Cert.RefAdamGlaInIdeal.τ).loc Cert.RefAdamGlaInIdeal.main_arg2)
          ∧ r.2.mem ((c.tc : Thread Cert.RefAdamGlaInIdeal.nD Cert.RefAdamGlaInIdeal.τ).loc Cert.RefAdamGlaInIdeal.main_arg3) = m' ((c.tc : Thread Cert.RefAdamGlaInIdeal.nD Cert.RefAdamGlaInIdeal.τ).loc Cert.RefAdamGlaInIdeal.main_arg3)
          ∧ r.2.mem ((c.tc : Thread Cert.RefAdamGlaInIdeal.nD Cert.RefAdamGlaInIdeal.τ).loc Cert.RefAdamGlaInIdeal.main_arg4) = m' ((c.tc : Thread Cert.RefAdamGlaInIdeal.nD Cert.RefAdamGlaInIdeal.τ).loc Cert.RefAdamGlaInIdeal.main_arg4))

def preserves_AdamGlaOut_AdamGlaOutIdeal : Prop :=
  True

def algebraic_AdamGlaOutIdeal_RefAdamGlaOutIdeal [hAdamGlaOutIdeal : Cert.AdamGlaOutIdeal.Facts] [hRefAdamGlaOutIdeal : Cert.RefAdamGlaOutIdeal.Facts] : Prop :=
  ∀ (m : (ℓ : Loc Cert.AdamGlaOutIdeal.nD Cert.AdamGlaOutIdeal.τ Cert.AdamGlaOutIdeal.sig) → Buf (Elt Ideal) ℓ) (g : Dev Cert.AdamGlaOutIdeal.nD → PrngReg)
    (m' : (ℓ : Loc Cert.RefAdamGlaOutIdeal.nD Cert.RefAdamGlaOutIdeal.τ Cert.RefAdamGlaOutIdeal.sig) → Buf (Elt Ideal) ℓ) (g' : Dev Cert.RefAdamGlaOutIdeal.nD → PrngReg), Pre_AdamGlaOutIdeal m →
    (∀ c : Dev Cert.AdamGlaOutIdeal.nD,
      m' ((c.tc : Thread Cert.RefAdamGlaOutIdeal.nD Cert.RefAdamGlaOutIdeal.τ).loc Cert.RefAdamGlaOutIdeal.main_arg0) = m ((c.tc : Thread Cert.AdamGlaOutIdeal.nD Cert.AdamGlaOutIdeal.τ).loc Cert.AdamGlaOutIdeal.main_arg0)
      ∧ m' ((c.tc : Thread Cert.RefAdamGlaOutIdeal.nD Cert.RefAdamGlaOutIdeal.τ).loc Cert.RefAdamGlaOutIdeal.main_arg1) = m ((c.tc : Thread Cert.AdamGlaOutIdeal.nD Cert.AdamGlaOutIdeal.τ).loc Cert.AdamGlaOutIdeal.main_arg1)
      ∧ m' ((c.tc : Thread Cert.RefAdamGlaOutIdeal.nD Cert.RefAdamGlaOutIdeal.τ).loc Cert.RefAdamGlaOutIdeal.main_arg2) = m ((c.tc : Thread Cert.AdamGlaOutIdeal.nD Cert.AdamGlaOutIdeal.τ).loc Cert.AdamGlaOutIdeal.main_arg2)
      ∧ m' ((c.tc : Thread Cert.RefAdamGlaOutIdeal.nD Cert.RefAdamGlaOutIdeal.τ).loc Cert.RefAdamGlaOutIdeal.main_arg3) = m ((c.tc : Thread Cert.AdamGlaOutIdeal.nD Cert.AdamGlaOutIdeal.τ).loc Cert.AdamGlaOutIdeal.main_arg3)
      ∧ m' ((c.tc : Thread Cert.RefAdamGlaOutIdeal.nD Cert.RefAdamGlaOutIdeal.τ).loc Cert.RefAdamGlaOutIdeal.main_arg4) = m ((c.tc : Thread Cert.AdamGlaOutIdeal.nD Cert.AdamGlaOutIdeal.τ).loc Cert.AdamGlaOutIdeal.main_arg4)) →
    ∃ (v0 : (c : Dev Cert.AdamGlaOutIdeal.nD) → Buf (Elt Ideal) ((c.tc : Thread Cert.AdamGlaOutIdeal.nD Cert.AdamGlaOutIdeal.τ).loc Cert.AdamGlaOutIdeal.main_v0_0)) (v1 : (c : Dev Cert.AdamGlaOutIdeal.nD) → Buf (Elt Ideal) ((c.tc : Thread Cert.AdamGlaOutIdeal.nD Cert.AdamGlaOutIdeal.τ).loc Cert.AdamGlaOutIdeal.main_v0_1)) (v2 : (c : Dev Cert.AdamGlaOutIdeal.nD) → Buf (Elt Ideal) ((c.tc : Thread Cert.AdamGlaOutIdeal.nD Cert.AdamGlaOutIdeal.τ).loc Cert.AdamGlaOutIdeal.main_v0_2)) (v3 : (c : Dev Cert.AdamGlaOutIdeal.nD) → Buf (Elt Ideal) ((c.tc : Thread Cert.AdamGlaOutIdeal.nD Cert.AdamGlaOutIdeal.τ).loc Cert.AdamGlaOutIdeal.main_v0_3)),
      θ_run (Cert.AdamGlaOutIdeal.defs (F := Ideal)) (onTc (τ := Cert.AdamGlaOutIdeal.τ) (Cert.AdamGlaOutIdeal.main (F := Ideal))) ⟨m, fun _ => 0, g⟩ (fun r => ∀ c : Dev Cert.AdamGlaOutIdeal.nD,
          r.2.mem ((c.tc : Thread Cert.AdamGlaOutIdeal.nD Cert.AdamGlaOutIdeal.τ).loc Cert.AdamGlaOutIdeal.main_v0_0) = v0 c
          ∧ r.2.mem ((c.tc : Thread Cert.AdamGlaOutIdeal.nD Cert.AdamGlaOutIdeal.τ).loc Cert.AdamGlaOutIdeal.main_v0_1) = v1 c
          ∧ r.2.mem ((c.tc : Thread Cert.AdamGlaOutIdeal.nD Cert.AdamGlaOutIdeal.τ).loc Cert.AdamGlaOutIdeal.main_v0_2) = v2 c
          ∧ r.2.mem ((c.tc : Thread Cert.AdamGlaOutIdeal.nD Cert.AdamGlaOutIdeal.τ).loc Cert.AdamGlaOutIdeal.main_v0_3) = v3 c
          ∧ r.2.mem ((c.tc : Thread Cert.AdamGlaOutIdeal.nD Cert.AdamGlaOutIdeal.τ).loc Cert.AdamGlaOutIdeal.main_arg0) = m ((c.tc : Thread Cert.AdamGlaOutIdeal.nD Cert.AdamGlaOutIdeal.τ).loc Cert.AdamGlaOutIdeal.main_arg0)
          ∧ r.2.mem ((c.tc : Thread Cert.AdamGlaOutIdeal.nD Cert.AdamGlaOutIdeal.τ).loc Cert.AdamGlaOutIdeal.main_arg1) = m ((c.tc : Thread Cert.AdamGlaOutIdeal.nD Cert.AdamGlaOutIdeal.τ).loc Cert.AdamGlaOutIdeal.main_arg1)
          ∧ r.2.mem ((c.tc : Thread Cert.AdamGlaOutIdeal.nD Cert.AdamGlaOutIdeal.τ).loc Cert.AdamGlaOutIdeal.main_arg2) = m ((c.tc : Thread Cert.AdamGlaOutIdeal.nD Cert.AdamGlaOutIdeal.τ).loc Cert.AdamGlaOutIdeal.main_arg2)
          ∧ r.2.mem ((c.tc : Thread Cert.AdamGlaOutIdeal.nD Cert.AdamGlaOutIdeal.τ).loc Cert.AdamGlaOutIdeal.main_arg3) = m ((c.tc : Thread Cert.AdamGlaOutIdeal.nD Cert.AdamGlaOutIdeal.τ).loc Cert.AdamGlaOutIdeal.main_arg3)
          ∧ r.2.mem ((c.tc : Thread Cert.AdamGlaOutIdeal.nD Cert.AdamGlaOutIdeal.τ).loc Cert.AdamGlaOutIdeal.main_arg4) = m ((c.tc : Thread Cert.AdamGlaOutIdeal.nD Cert.AdamGlaOutIdeal.τ).loc Cert.AdamGlaOutIdeal.main_arg4))
      ∧ θ_run (Cert.RefAdamGlaOutIdeal.defs (F := Ideal)) (onTc (τ := Cert.RefAdamGlaOutIdeal.τ) (Cert.RefAdamGlaOutIdeal.main (F := Ideal))) ⟨m', fun _ => 0, g'⟩ (fun r => ∀ c : Dev Cert.RefAdamGlaOutIdeal.nD,
          r.2.mem ((c.tc : Thread Cert.RefAdamGlaOutIdeal.nD Cert.RefAdamGlaOutIdeal.τ).loc Cert.RefAdamGlaOutIdeal.main_v0) = v0 c
          ∧ r.2.mem ((c.tc : Thread Cert.RefAdamGlaOutIdeal.nD Cert.RefAdamGlaOutIdeal.τ).loc Cert.RefAdamGlaOutIdeal.main_v24) = v1 c
          ∧ r.2.mem ((c.tc : Thread Cert.RefAdamGlaOutIdeal.nD Cert.RefAdamGlaOutIdeal.τ).loc Cert.RefAdamGlaOutIdeal.main_v5) = v2 c
          ∧ r.2.mem ((c.tc : Thread Cert.RefAdamGlaOutIdeal.nD Cert.RefAdamGlaOutIdeal.τ).loc Cert.RefAdamGlaOutIdeal.main_v11) = v3 c
          ∧ r.2.mem ((c.tc : Thread Cert.RefAdamGlaOutIdeal.nD Cert.RefAdamGlaOutIdeal.τ).loc Cert.RefAdamGlaOutIdeal.main_arg0) = m' ((c.tc : Thread Cert.RefAdamGlaOutIdeal.nD Cert.RefAdamGlaOutIdeal.τ).loc Cert.RefAdamGlaOutIdeal.main_arg0)
          ∧ r.2.mem ((c.tc : Thread Cert.RefAdamGlaOutIdeal.nD Cert.RefAdamGlaOutIdeal.τ).loc Cert.RefAdamGlaOutIdeal.main_arg1) = m' ((c.tc : Thread Cert.RefAdamGlaOutIdeal.nD Cert.RefAdamGlaOutIdeal.τ).loc Cert.RefAdamGlaOutIdeal.main_arg1)
          ∧ r.2.mem ((c.tc : Thread Cert.RefAdamGlaOutIdeal.nD Cert.RefAdamGlaOutIdeal.τ).loc Cert.RefAdamGlaOutIdeal.main_arg2) = m' ((c.tc : Thread Cert.RefAdamGlaOutIdeal.nD Cert.RefAdamGlaOutIdeal.τ).loc Cert.RefAdamGlaOutIdeal.main_arg2)
          ∧ r.2.mem ((c.tc : Thread Cert.RefAdamGlaOutIdeal.nD Cert.RefAdamGlaOutIdeal.τ).loc Cert.RefAdamGlaOutIdeal.main_arg3) = m' ((c.tc : Thread Cert.RefAdamGlaOutIdeal.nD Cert.RefAdamGlaOutIdeal.τ).loc Cert.RefAdamGlaOutIdeal.main_arg3)
          ∧ r.2.mem ((c.tc : Thread Cert.RefAdamGlaOutIdeal.nD Cert.RefAdamGlaOutIdeal.τ).loc Cert.RefAdamGlaOutIdeal.main_arg4) = m' ((c.tc : Thread Cert.RefAdamGlaOutIdeal.nD Cert.RefAdamGlaOutIdeal.τ).loc Cert.RefAdamGlaOutIdeal.main_arg4))

def preserves_AdamUp_AdamUpIdeal : Prop :=
  True

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)
      ∧ m' ((c.tc : Thread Cert.RefAdamUpIdeal.nD Cert.RefAdamUpIdeal.τ).loc Cert.RefAdamUpIdeal.main_arg4) = m ((c.tc : Thread Cert.AdamUpIdeal.nD Cert.AdamUpIdeal.τ).loc Cert.AdamUpIdeal.main_arg4)
      ∧ m' ((c.tc : Thread Cert.RefAdamUpIdeal.nD Cert.RefAdamUpIdeal.τ).loc Cert.RefAdamUpIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v0) = v0 c
          ∧ r.2.mem ((c.tc : Thread Cert.RefAdamUpIdeal.nD Cert.RefAdamUpIdeal.τ).loc Cert.RefAdamUpIdeal.main_v24) = v1 c
          ∧ r.2.mem ((c.tc : Thread Cert.RefAdamUpIdeal.nD Cert.RefAdamUpIdeal.τ).loc Cert.RefAdamUpIdeal.main_v5) = v2 c
          ∧ r.2.mem ((c.tc : Thread Cert.RefAdamUpIdeal.nD Cert.RefAdamUpIdeal.τ).loc Cert.RefAdamUpIdeal.main_v11) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3)
          ∧ r.2.mem ((c.tc : Thread Cert.RefAdamUpIdeal.nD Cert.RefAdamUpIdeal.τ).loc Cert.RefAdamUpIdeal.main_arg4) = m' ((c.tc : Thread Cert.RefAdamUpIdeal.nD Cert.RefAdamUpIdeal.τ).loc Cert.RefAdamUpIdeal.main_arg4)
          ∧ r.2.mem ((c.tc : Thread Cert.RefAdamUpIdeal.nD Cert.RefAdamUpIdeal.τ).loc Cert.RefAdamUpIdeal.main_arg5) = m' ((c.tc : Thread Cert.RefAdamUpIdeal.nD Cert.RefAdamUpIdeal.τ).loc Cert.RefAdamUpIdeal.main_arg5))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)
      ∧ m' ((c.tc : Thread Cert.RefAdamDownIdeal.nD Cert.RefAdamDownIdeal.τ).loc Cert.RefAdamDownIdeal.main_arg4) = m ((c.tc : Thread Cert.AdamDownIdeal.nD Cert.AdamDownIdeal.τ).loc Cert.AdamDownIdeal.main_arg4)
      ∧ m' ((c.tc : Thread Cert.RefAdamDownIdeal.nD Cert.RefAdamDownIdeal.τ).loc Cert.RefAdamDownIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v0) = v0 c
          ∧ r.2.mem ((c.tc : Thread Cert.RefAdamDownIdeal.nD Cert.RefAdamDownIdeal.τ).loc Cert.RefAdamDownIdeal.main_v24) = v1 c
          ∧ r.2.mem ((c.tc : Thread Cert.RefAdamDownIdeal.nD Cert.RefAdamDownIdeal.τ).loc Cert.RefAdamDownIdeal.main_v5) = v2 c
          ∧ r.2.mem ((c.tc : Thread Cert.RefAdamDownIdeal.nD Cert.RefAdamDownIdeal.τ).loc Cert.RefAdamDownIdeal.main_v11) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3)
          ∧ r.2.mem ((c.tc : Thread Cert.RefAdamDownIdeal.nD Cert.RefAdamDownIdeal.τ).loc Cert.RefAdamDownIdeal.main_arg4) = m' ((c.tc : Thread Cert.RefAdamDownIdeal.nD Cert.RefAdamDownIdeal.τ).loc Cert.RefAdamDownIdeal.main_arg4)
          ∧ r.2.mem ((c.tc : Thread Cert.RefAdamDownIdeal.nD Cert.RefAdamDownIdeal.τ).loc Cert.RefAdamDownIdeal.main_arg5) = m' ((c.tc : Thread Cert.RefAdamDownIdeal.nD Cert.RefAdamDownIdeal.τ).loc Cert.RefAdamDownIdeal.main_arg5))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_arg3) = v0 c
          ∧ r.2.mem ((c.tc : Thread Cert.RefAdamSmallIdeal.nD Cert.RefAdamSmallIdeal.τ).loc Cert.RefAdamSmallIdeal.main_v23) = v1 c
          ∧ r.2.mem ((c.tc : Thread Cert.RefAdamSmallIdeal.nD Cert.RefAdamSmallIdeal.τ).loc Cert.RefAdamSmallIdeal.main_v4) = v2 c
          ∧ r.2.mem ((c.tc : Thread Cert.RefAdamSmallIdeal.nD Cert.RefAdamSmallIdeal.τ).loc Cert.RefAdamSmallIdeal.main_v10) = v3 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_SumSmall_SumSmallIdeal : Prop :=
  True

def algebraic_SumSmallIdeal_RefSumSmallIdeal [hSumSmallIdeal : Cert.SumSmallIdeal.Facts] [hRefSumSmallIdeal : Cert.RefSumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.RefSumSmallIdeal.nD Cert.RefSumSmallIdeal.τ Cert.RefSumSmallIdeal.sig) → Buf (Elt Ideal) ℓ) (g' : Dev Cert.RefSumSmallIdeal.nD → PrngReg), Pre_SumSmallIdeal m →
    (∀ c : Dev Cert.SumSmallIdeal.nD,
      m' ((c.tc : Thread Cert.RefSumSmallIdeal.nD Cert.RefSumSmallIdeal.τ).loc Cert.RefSumSmallIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.RefSumSmallIdeal.defs (F := Ideal)) (onTc (τ := Cert.RefSumSmallIdeal.τ) (Cert.RefSumSmallIdeal.main (F := Ideal))) ⟨m', fun _ => 0, g'⟩ (fun r => ∀ c : Dev Cert.RefSumSmallIdeal.nD,
          r.2.mem ((c.tc : Thread Cert.RefSumSmallIdeal.nD Cert.RefSumSmallIdeal.τ).loc Cert.RefSumSmallIdeal.main_v0) = v0 c
          ∧ r.2.mem ((c.tc : Thread Cert.RefSumSmallIdeal.nD Cert.RefSumSmallIdeal.τ).loc Cert.RefSumSmallIdeal.main_arg0) = m' ((c.tc : Thread Cert.RefSumSmallIdeal.nD Cert.RefSumSmallIdeal.τ).loc Cert.RefSumSmallIdeal.main_arg0))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hUpDw : Cert.UpDw.Facts) (hUpDwIdeal : Cert.UpDwIdeal.Facts) (hRefUpDwIdeal : Cert.RefUpDwIdeal.Facts) (hUpDx : Cert.UpDx.Facts) (hUpDxIdeal : Cert.UpDxIdeal.Facts) (hRefUpDxIdeal : Cert.RefUpDxIdeal.Facts) (hUpDxG : Cert.UpDxG.Facts) (hUpDxGIdeal : Cert.UpDxGIdeal.Facts) (hRefUpDxGIdeal : Cert.RefUpDxGIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hOut : Cert.Out.Facts) (hOutIdeal : Cert.OutIdeal.Facts) (hRefOutIdeal : Cert.RefOutIdeal.Facts) (hOutDx : Cert.OutDx.Facts) (hOutDxIdeal : Cert.OutDxIdeal.Facts) (hRefOutDxIdeal : Cert.RefOutDxIdeal.Facts) (hOutDw : Cert.OutDw.Facts) (hOutDwIdeal : Cert.OutDwIdeal.Facts) (hRefOutDwIdeal : Cert.RefOutDwIdeal.Facts) (hFoxIn : Cert.FoxIn.Facts) (hFoxInIdeal : Cert.FoxInIdeal.Facts) (hRefFoxInIdeal : Cert.RefFoxInIdeal.Facts) (hFoxInDw : Cert.FoxInDw.Facts) (hFoxInDwIdeal : Cert.FoxInDwIdeal.Facts) (hRefFoxInDwIdeal : Cert.RefFoxInDwIdeal.Facts) (hFoxInDx : Cert.FoxInDx.Facts) (hFoxInDxIdeal : Cert.FoxInDxIdeal.Facts) (hRefFoxInDxIdeal : Cert.RefFoxInDxIdeal.Facts) (hGlaIn : Cert.GlaIn.Facts) (hGlaInIdeal : Cert.GlaInIdeal.Facts) (hRefGlaInIdeal : Cert.RefGlaInIdeal.Facts) (hGlaInDw : Cert.GlaInDw.Facts) (hGlaInDwIdeal : Cert.GlaInDwIdeal.Facts) (hRefGlaInDwIdeal : Cert.RefGlaInDwIdeal.Facts) (hGlaInDx : Cert.GlaInDx.Facts) (hGlaInDxIdeal : Cert.GlaInDxIdeal.Facts) (hRefGlaInDxIdeal : Cert.RefGlaInDxIdeal.Facts) (hKvProj : Cert.KvProj.Facts) (hKvProjIdeal : Cert.KvProjIdeal.Facts) (hRefKvProjIdeal : Cert.RefKvProjIdeal.Facts) (hKvGate : Cert.KvGate.Facts) (hKvGateIdeal : Cert.KvGateIdeal.Facts) (hRefKvGateIdeal : Cert.RefKvGateIdeal.Facts) (hKvDw : Cert.KvDw.Facts) (hKvDwIdeal : Cert.KvDwIdeal.Facts) (hRefKvDwIdeal : Cert.RefKvDwIdeal.Facts) (hKvDx : Cert.KvDx.Facts) (hKvDxIdeal : Cert.KvDxIdeal.Facts) (hRefKvDxIdeal : Cert.RefKvDxIdeal.Facts) (hAdamFoxIn : Cert.AdamFoxIn.Facts) (hAdamFoxInIdeal : Cert.AdamFoxInIdeal.Facts) (hRefAdamFoxInIdeal : Cert.RefAdamFoxInIdeal.Facts) (hAdamFoxOut : Cert.AdamFoxOut.Facts) (hAdamFoxOutIdeal : Cert.AdamFoxOutIdeal.Facts) (hRefAdamFoxOutIdeal : Cert.RefAdamFoxOutIdeal.Facts) (hAdamKv : Cert.AdamKv.Facts) (hAdamKvIdeal : Cert.AdamKvIdeal.Facts) (hRefAdamKvIdeal : Cert.RefAdamKvIdeal.Facts) (hAdamGlaIn : Cert.AdamGlaIn.Facts) (hAdamGlaInIdeal : Cert.AdamGlaInIdeal.Facts) (hRefAdamGlaInIdeal : Cert.RefAdamGlaInIdeal.Facts) (hAdamGlaOut : Cert.AdamGlaOut.Facts) (hAdamGlaOutIdeal : Cert.AdamGlaOutIdeal.Facts) (hRefAdamGlaOutIdeal : Cert.RefAdamGlaOutIdeal.Facts) (hAdamUp : Cert.AdamUp.Facts) (hAdamUpIdeal : Cert.AdamUpIdeal.Facts) (hRefAdamUpIdeal : Cert.RefAdamUpIdeal.Facts) (hAdamDown : Cert.AdamDown.Facts) (hAdamDownIdeal : Cert.AdamDownIdeal.Facts) (hRefAdamDownIdeal : Cert.RefAdamDownIdeal.Facts) (hAdamSmall : Cert.AdamSmall.Facts) (hAdamSmallIdeal : Cert.AdamSmallIdeal.Facts) (hRefAdamSmallIdeal : Cert.RefAdamSmallIdeal.Facts) (hSumSmall : Cert.SumSmall.Facts) (hSumSmallIdeal : Cert.SumSmallIdeal.Facts) (hRefSumSmallIdeal : Cert.RefSumSmallIdeal.Facts) (hPre_finite_inert : Cert.Pre_finite_inert.Facts),
    quiescent_Kernel (hKernel := hKernel)
    ∧ quiescent_KernelIdeal (hKernelIdeal := hKernelIdeal)
    ∧ quiescent_KernelIdeal_pre_finite_inert (hKernelIdeal := hKernelIdeal) (hPre_finite_inert := hPre_finite_inert)
    ∧ quiescent_ReferenceIdeal (hReferenceIdeal := hReferenceIdeal)
    ∧ quiescent_ReferenceIdeal_pre_finite_inert (hReferenceIdeal := hReferenceIdeal) (hPre_finite_inert := hPre_finite_inert)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_UpDxG (hUpDxG := hUpDxG)
    ∧ quiescent_UpDxGIdeal (hUpDxGIdeal := hUpDxGIdeal)
    ∧ quiescent_RefUpDxGIdeal (hRefUpDxGIdeal := hRefUpDxGIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_Out (hOut := hOut)
    ∧ quiescent_OutIdeal (hOutIdeal := hOutIdeal)
    ∧ quiescent_RefOutIdeal (hRefOutIdeal := hRefOutIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_FoxIn (hFoxIn := hFoxIn)
    ∧ quiescent_FoxInIdeal (hFoxInIdeal := hFoxInIdeal)
    ∧ quiescent_RefFoxInIdeal (hRefFoxInIdeal := hRefFoxInIdeal)
    ∧ quiescent_FoxInDw (hFoxInDw := hFoxInDw)
    ∧ quiescent_FoxInDwIdeal (hFoxInDwIdeal := hFoxInDwIdeal)
    ∧ quiescent_RefFoxInDwIdeal (hRefFoxInDwIdeal := hRefFoxInDwIdeal)
    ∧ quiescent_FoxInDx (hFoxInDx := hFoxInDx)
    ∧ quiescent_FoxInDxIdeal (hFoxInDxIdeal := hFoxInDxIdeal)
    ∧ quiescent_RefFoxInDxIdeal (hRefFoxInDxIdeal := hRefFoxInDxIdeal)
    ∧ quiescent_GlaIn (hGlaIn := hGlaIn)
    ∧ quiescent_GlaInIdeal (hGlaInIdeal := hGlaInIdeal)
    ∧ quiescent_RefGlaInIdeal (hRefGlaInIdeal := hRefGlaInIdeal)
    ∧ quiescent_GlaInDw (hGlaInDw := hGlaInDw)
    ∧ quiescent_GlaInDwIdeal (hGlaInDwIdeal := hGlaInDwIdeal)
    ∧ quiescent_RefGlaInDwIdeal (hRefGlaInDwIdeal := hRefGlaInDwIdeal)
    ∧ quiescent_GlaInDx (hGlaInDx := hGlaInDx)
    ∧ quiescent_GlaInDxIdeal (hGlaInDxIdeal := hGlaInDxIdeal)
    ∧ quiescent_RefGlaInDxIdeal (hRefGlaInDxIdeal := hRefGlaInDxIdeal)
    ∧ quiescent_KvProj (hKvProj := hKvProj)
    ∧ quiescent_KvProjIdeal (hKvProjIdeal := hKvProjIdeal)
    ∧ quiescent_RefKvProjIdeal (hRefKvProjIdeal := hRefKvProjIdeal)
    ∧ quiescent_KvGate (hKvGate := hKvGate)
    ∧ quiescent_KvGateIdeal (hKvGateIdeal := hKvGateIdeal)
    ∧ quiescent_RefKvGateIdeal (hRefKvGateIdeal := hRefKvGateIdeal)
    ∧ quiescent_KvDw (hKvDw := hKvDw)
    ∧ quiescent_KvDwIdeal (hKvDwIdeal := hKvDwIdeal)
    ∧ quiescent_RefKvDwIdeal (hRefKvDwIdeal := hRefKvDwIdeal)
    ∧ quiescent_KvDx (hKvDx := hKvDx)
    ∧ quiescent_KvDxIdeal (hKvDxIdeal := hKvDxIdeal)
    ∧ quiescent_RefKvDxIdeal (hRefKvDxIdeal := hRefKvDxIdeal)
    ∧ quiescent_AdamFoxIn (hAdamFoxIn := hAdamFoxIn)
    ∧ quiescent_AdamFoxInIdeal (hAdamFoxInIdeal := hAdamFoxInIdeal)
    ∧ quiescent_RefAdamFoxInIdeal (hRefAdamFoxInIdeal := hRefAdamFoxInIdeal)
    ∧ quiescent_AdamFoxOut (hAdamFoxOut := hAdamFoxOut)
    ∧ quiescent_AdamFoxOutIdeal (hAdamFoxOutIdeal := hAdamFoxOutIdeal)
    ∧ quiescent_RefAdamFoxOutIdeal (hRefAdamFoxOutIdeal := hRefAdamFoxOutIdeal)
    ∧ quiescent_AdamKv (hAdamKv := hAdamKv)
    ∧ quiescent_AdamKvIdeal (hAdamKvIdeal := hAdamKvIdeal)
    ∧ quiescent_RefAdamKvIdeal (hRefAdamKvIdeal := hRefAdamKvIdeal)
    ∧ quiescent_AdamGlaIn (hAdamGlaIn := hAdamGlaIn)
    ∧ quiescent_AdamGlaInIdeal (hAdamGlaInIdeal := hAdamGlaInIdeal)
    ∧ quiescent_RefAdamGlaInIdeal (hRefAdamGlaInIdeal := hRefAdamGlaInIdeal)
    ∧ quiescent_AdamGlaOut (hAdamGlaOut := hAdamGlaOut)
    ∧ quiescent_AdamGlaOutIdeal (hAdamGlaOutIdeal := hAdamGlaOutIdeal)
    ∧ quiescent_RefAdamGlaOutIdeal (hRefAdamGlaOutIdeal := hRefAdamGlaOutIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_SumSmall (hSumSmall := hSumSmall)
    ∧ quiescent_SumSmallIdeal (hSumSmallIdeal := hSumSmallIdeal)
    ∧ quiescent_RefSumSmallIdeal (hRefSumSmallIdeal := hRefSumSmallIdeal)
    ∧ preserves_Kernel_KernelIdeal
    ∧ algebraic_KernelIdeal_ReferenceIdeal_pre_finite_inert (hKernelIdeal := hKernelIdeal) (hReferenceIdeal := hReferenceIdeal) (hPre_finite_inert := hPre_finite_inert)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_UpDw_UpDwIdeal
    ∧ algebraic_UpDwIdeal_RefUpDwIdeal (hUpDwIdeal := hUpDwIdeal) (hRefUpDwIdeal := hRefUpDwIdeal)
    ∧ preserves_UpDx_UpDxIdeal
    ∧ algebraic_UpDxIdeal_RefUpDxIdeal (hUpDxIdeal := hUpDxIdeal) (hRefUpDxIdeal := hRefUpDxIdeal)
    ∧ preserves_UpDxG_UpDxGIdeal
    ∧ algebraic_UpDxGIdeal_RefUpDxGIdeal (hUpDxGIdeal := hUpDxGIdeal) (hRefUpDxGIdeal := hRefUpDxGIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_Out_OutIdeal
    ∧ algebraic_OutIdeal_RefOutIdeal (hOutIdeal := hOutIdeal) (hRefOutIdeal := hRefOutIdeal)
    ∧ preserves_OutDx_OutDxIdeal
    ∧ algebraic_OutDxIdeal_RefOutDxIdeal (hOutDxIdeal := hOutDxIdeal) (hRefOutDxIdeal := hRefOutDxIdeal)
    ∧ preserves_OutDw_OutDwIdeal
    ∧ algebraic_OutDwIdeal_RefOutDwIdeal (hOutDwIdeal := hOutDwIdeal) (hRefOutDwIdeal := hRefOutDwIdeal)
    ∧ preserves_FoxIn_FoxInIdeal
    ∧ algebraic_FoxInIdeal_RefFoxInIdeal (hFoxInIdeal := hFoxInIdeal) (hRefFoxInIdeal := hRefFoxInIdeal)
    ∧ preserves_FoxInDw_FoxInDwIdeal
    ∧ algebraic_FoxInDwIdeal_RefFoxInDwIdeal (hFoxInDwIdeal := hFoxInDwIdeal) (hRefFoxInDwIdeal := hRefFoxInDwIdeal)
    ∧ preserves_FoxInDx_FoxInDxIdeal
    ∧ algebraic_FoxInDxIdeal_RefFoxInDxIdeal (hFoxInDxIdeal := hFoxInDxIdeal) (hRefFoxInDxIdeal := hRefFoxInDxIdeal)
    ∧ preserves_GlaIn_GlaInIdeal
    ∧ algebraic_GlaInIdeal_RefGlaInIdeal (hGlaInIdeal := hGlaInIdeal) (hRefGlaInIdeal := hRefGlaInIdeal)
    ∧ preserves_GlaInDw_GlaInDwIdeal
    ∧ algebraic_GlaInDwIdeal_RefGlaInDwIdeal (hGlaInDwIdeal := hGlaInDwIdeal) (hRefGlaInDwIdeal := hRefGlaInDwIdeal)
    ∧ preserves_GlaInDx_GlaInDxIdeal
    ∧ algebraic_GlaInDxIdeal_RefGlaInDxIdeal (hGlaInDxIdeal := hGlaInDxIdeal) (hRefGlaInDxIdeal := hRefGlaInDxIdeal)
    ∧ preserves_KvProj_KvProjIdeal
    ∧ algebraic_KvProjIdeal_RefKvProjIdeal (hKvProjIdeal := hKvProjIdeal) (hRefKvProjIdeal := hRefKvProjIdeal)
    ∧ preserves_KvGate_KvGateIdeal
    ∧ algebraic_KvGateIdeal_RefKvGateIdeal (hKvGateIdeal := hKvGateIdeal) (hRefKvGateIdeal := hRefKvGateIdeal)
    ∧ preserves_KvDw_KvDwIdeal
    ∧ algebraic_KvDwIdeal_RefKvDwIdeal (hKvDwIdeal := hKvDwIdeal) (hRefKvDwIdeal := hRefKvDwIdeal)
    ∧ preserves_KvDx_KvDxIdeal
    ∧ algebraic_KvDxIdeal_RefKvDxIdeal (hKvDxIdeal := hKvDxIdeal) (hRefKvDxIdeal := hRefKvDxIdeal)
    ∧ preserves_AdamFoxIn_AdamFoxInIdeal
    ∧ algebraic_AdamFoxInIdeal_RefAdamFoxInIdeal (hAdamFoxInIdeal := hAdamFoxInIdeal) (hRefAdamFoxInIdeal := hRefAdamFoxInIdeal)
    ∧ preserves_AdamFoxOut_AdamFoxOutIdeal
    ∧ algebraic_AdamFoxOutIdeal_RefAdamFoxOutIdeal (hAdamFoxOutIdeal := hAdamFoxOutIdeal) (hRefAdamFoxOutIdeal := hRefAdamFoxOutIdeal)
    ∧ preserves_AdamKv_AdamKvIdeal
    ∧ algebraic_AdamKvIdeal_RefAdamKvIdeal (hAdamKvIdeal := hAdamKvIdeal) (hRefAdamKvIdeal := hRefAdamKvIdeal)
    ∧ preserves_AdamGlaIn_AdamGlaInIdeal
    ∧ algebraic_AdamGlaInIdeal_RefAdamGlaInIdeal (hAdamGlaInIdeal := hAdamGlaInIdeal) (hRefAdamGlaInIdeal := hRefAdamGlaInIdeal)
    ∧ preserves_AdamGlaOut_AdamGlaOutIdeal
    ∧ algebraic_AdamGlaOutIdeal_RefAdamGlaOutIdeal (hAdamGlaOutIdeal := hAdamGlaOutIdeal) (hRefAdamGlaOutIdeal := hRefAdamGlaOutIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamDown_AdamDownIdeal
    ∧ algebraic_AdamDownIdeal_RefAdamDownIdeal (hAdamDownIdeal := hAdamDownIdeal) (hRefAdamDownIdeal := hRefAdamDownIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_SumSmall_SumSmallIdeal
    ∧ algebraic_SumSmallIdeal_RefSumSmallIdeal (hSumSmallIdeal := hSumSmallIdeal) (hRefSumSmallIdeal := hRefSumSmallIdeal)
-- ==== Pre_finite_inert.lean ====
abbrev S8320x2048 : Shape := ⟨2, ![8320, 2048]⟩
abbrev S8320x16 : Shape := ⟨2, ![8320, 16]⟩
abbrev S8320 : Shape := ⟨1, ![8320]⟩
abbrev S_ : Shape := ⟨0, ![]⟩
abbrev S8320x1 : Shape := ⟨2, ![8320, 1]⟩

class Facts : Prop where
  bcast_S_S8320 : S_.BroadcastsInDim S8320 (![] : Fin 0 → Fin S8320.rank)
  bcast_S8320_S8320x1_0 : S8320.BroadcastsInDim S8320x1 (![0] : Fin 1 → Fin S8320x1.rank)
  bcast_S_S8320x2048 : S_.BroadcastsInDim S8320x2048 (![] : Fin 0 → Fin S8320x2048.rank)
  bcast_S8320x1_S8320x2048_0_1 : S8320x1.BroadcastsInDim S8320x2048 (![0, 1] : Fin 2 → Fin S8320x2048.rank)
  reducesTo_S8320x2048_S_d0_1 : S8320x2048.ReducesTo [0, 1] S_
  h_S_ : 0 < S_.numel
  bcast_S_S8320x16 : S_.BroadcastsInDim S8320x16 (![] : Fin 0 → Fin S8320x16.rank)
  reducesTo_S8320x16_S_d0_1 : S8320x16.ReducesTo [0, 1] S_

variable [Facts]

def fn_part1 {F : FTy → Type} [FloatOps F] (main_arg2 : FVec F S8320x2048 .f32) (main_arg3 : FVec F S8320x16 .f32) (main_arg4 : FVec F S8320x2048 .f32) (main_v8 : IVec S_ 1) (main_v12 : IVec S_ 1) (main_v16 : IVec S_ 1) : IVec S_ 1 :=
  let main_v17 : IVec S_ 1 := andi main_v12 main_v16
  let main_v18 : FVec F S8320x2048 .f32 := Host.absf main_arg2
  let main_cst_5 : FVec F S_ .f32 := constant S_ .f32 0x7F800000#32
  let main_v19 : FVec F S8320x2048 .f32 := broadcastInDim S8320x2048 ![] bcast_S_S8320x2048 main_cst_5
  let main_v20 : IVec S8320x2048 1 := cmpf .olt main_v18 main_v19
  let main_c_6 : IVec S_ 1 := constantI S_ 1 1#1
  let main_v21 : IVec S_ 1 := (fun x v => Host.reduce IntOp.andi x v reducesTo_S8320x2048_S_d0_1 h_S_) main_v20 main_c_6
  let main_v22 : IVec S_ 1 := andi main_v17 main_v21
  let main_v23 : FVec F S8320x16 .f32 := Host.absf main_arg3
  let main_cst_7 : FVec F S_ .f32 := constant S_ .f32 0x7F800000#32
  let main_v24 : FVec F S8320x16 .f32 := broadcastInDim S8320x16 ![] bcast_S_S8320x16 main_cst_7
  let main_v25 : IVec S8320x16 1 := cmpf .olt main_v23 main_v24
  let main_c_8 : IVec S_ 1 := constantI S_ 1 1#1
  let main_v26 : IVec S_ 1 := (fun x v => Host.reduce IntOp.andi x v reducesTo_S8320x16_S_d0_1 h_S_) main_v25 main_c_8
  let main_v27 : IVec S_ 1 := andi main_v22 main_v26
  let main_v28 : FVec F S8320x2048 .f32 := Host.absf main_arg4
  let main_cst_9 : FVec F S_ .f32 := constant S_ .f32 0x7F800000#32
  let main_v29 : FVec F S8320x2048 .f32 := broadcastInDim S8320x2048 ![] bcast_S_S8320x2048 main_cst_9
  let main_v30 : IVec S8320x2048 1 := cmpf .olt main_v28 main_v29
  let main_c_10 : IVec S_ 1 := constantI S_ 1 1#1
  let main_v31 : IVec S_ 1 := (fun x v => Host.reduce IntOp.andi x v reducesTo_S8320x2048_S_d0_1 h_S_) main_v30 main_c_10
  let main_v32 : IVec S_ 1 := andi main_v27 main_v31
  let main_v33 : IVec S_ 1 := andi main_v32 main_v8
  main_v33

def fn {F : FTy → Type} [FloatOps F] (main_arg0 : FVec F S8320x2048 .f32) (main_arg1 : FVec F S8320x2048 .f32) (main_arg2 : FVec F S8320x2048 .f32) (main_arg3 : FVec F S8320x16 .f32) (main_arg4 : FVec F S8320x2048 .f32) (main_arg5 : FVec F S8320x2048 .f32) (main_arg6 : FVec F S8320x2048 .f32) (main_arg7 : FVec F S8320x16 .f32) : IVec S_ 1 :=
  let main_v0 : IVec S8320 32 := iotaInDim S8320 32 0
  let main_c : IVec S_ 32 := constantI S_ 32 112#32
  let main_v1 : IVec S8320 32 := broadcastInDim S8320 ![] bcast_S_S8320 main_c
  let main_v2 : IVec S8320 1 := cmpi .sge main_v0 main_v1
  let main_v3 : IVec S8320x1 1 := broadcastInDim S8320x1 ![0] bcast_S8320_S8320x1_0 main_v2
  let main_cst : FVec F S_ .f32 := constant S_ .f32 0x00000000#32
  let main_v4 : FVec F S8320x2048 .f32 := broadcastInDim S8320x2048 ![] bcast_S_S8320x2048 main_cst
  let main_v5 : IVec S8320x2048 1 := cmpf .oeq main_arg4 main_v4
  let main_v6 : IVec S8320x2048 1 := broadcastInDim S8320x2048 ![0, 1] bcast_S8320x1_S8320x2048_0_1 main_v3
  let main_v7 : IVec S8320x2048 1 := ori main_v6 main_v5
  let main_c_0 : IVec S_ 1 := constantI S_ 1 1#1
  let main_v8 : IVec S_ 1 := (fun x v => Host.reduce IntOp.andi x v reducesTo_S8320x2048_S_d0_1 h_S_) main_v7 main_c_0
  let main_v9 : FVec F S8320x2048 .f32 := Host.absf main_arg0
  let main_cst_1 : FVec F S_ .f32 := constant S_ .f32 0x7F800000#32
  let main_v10 : FVec F S8320x2048 .f32 := broadcastInDim S8320x2048 ![] bcast_S_S8320x2048 main_cst_1
  let main_v11 : IVec S8320x2048 1 := cmpf .olt main_v9 main_v10
  let main_c_2 : IVec S_ 1 := constantI S_ 1 1#1
  let main_v12 : IVec S_ 1 := (fun x v => Host.reduce IntOp.andi x v reducesTo_S8320x2048_S_d0_1 h_S_) main_v11 main_c_2
  let main_v13 : FVec F S8320x2048 .f32 := Host.absf main_arg1
  let main_cst_3 : FVec F S_ .f32 := constant S_ .f32 0x7F800000#32
  let main_v14 : FVec F S8320x2048 .f32 := broadcastInDim S8320x2048 ![] bcast_S_S8320x2048 main_cst_3
  let main_v15 : IVec S8320x2048 1 := cmpf .olt main_v13 main_v14
  let main_c_4 : IVec S_ 1 := constantI S_ 1 1#1
  let main_v16 : IVec S_ 1 := (fun x v => Host.reduce IntOp.andi x v reducesTo_S8320x2048_S_d0_1 h_S_) main_v15 main_c_4
  fn_part1 (F := F) main_arg2 main_arg3 main_arg4 main_v8 main_v12 main_v16
-- ==== Kernel.lean ====
abbrev S8320x2048 : Shape := ⟨2, ![8320, 2048]⟩
abbrev S8320x16 : Shape := ⟨2, ![8320, 16]⟩
abbrev S8320x16x128 : Shape := ⟨3, ![8320, 16, 128]⟩
abbrev S16x8320x128 : Shape := ⟨3, ![16, 8320, 128]⟩
abbrev S_ : Shape := ⟨0, ![]⟩
abbrev S16x8320 : Shape := ⟨2, ![16, 8320]⟩
abbrev S16x8320x8320 : Shape := ⟨3, ![16, 8320, 8320]⟩
abbrev S16x8320x1 : Shape := ⟨3, ![16, 8320, 1]⟩
abbrev S16x1x8320 : Shape := ⟨3, ![16, 1, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8320x16x1 : Shape := ⟨3, ![8320, 16, 1]⟩
abbrev S8320x1x1 : Shape := ⟨3, ![8320, 1, 1]⟩
abbrev S8320x16x122 : Shape := ⟨3, ![8320, 16, 122]⟩
abbrev S8320x16x256 : Shape := ⟨3, ![8320, 16, 256]⟩
abbrev S8320x4096 : Shape := ⟨2, ![8320, 4096]⟩
abbrev S8320x16x125 : Shape := ⟨3, ![8320, 16, 125]⟩
abbrev S8320x16x124 : Shape := ⟨3, ![8320, 16, 124]⟩
abbrev S640x256 : Shape := ⟨2, ![640, 256]⟩
abbrev S1x640x1 : Shape := ⟨3, ![1, 640, 1]⟩
abbrev S8320x256 : Shape := ⟨2, ![8320, 256]⟩
abbrev S640x640 : Shape := ⟨2, ![640, 640]⟩
abbrev S640x1 : Shape := ⟨2, ![640, 1]⟩

abbrev nBuf : Space → Nat
  | .hbm => 172
  | .vmem => 20
  | .smem => 0
  | _ => 0

abbrev hbmTy0_0 (i : Nat) : BufTy := match i % 128 with
  | 0 => ⟨S8320x2048, .f32⟩
  | 1 => ⟨S8320x2048, .f32⟩
  | 2 => ⟨S8320x2048, .f32⟩
  | 3 => ⟨S8320x16, .f32⟩
  | 4 => ⟨S8320x2048, .f32⟩
  | 5 => ⟨S8320x2048, .f32⟩
  | 6 => ⟨S8320x2048, .f32⟩
  | 7 => ⟨S8320x16, .f32⟩
  | 8 => ⟨S8320x16x128, .f32⟩
  | 9 => ⟨S16x8320x128, .f32⟩
  | 10 => ⟨S_, .f32⟩
  | 11 => ⟨S16x8320x128, .f32⟩
  | 12 => ⟨S16x8320x128, .f32⟩
  | 13 => ⟨S16x8320, .f32⟩
  | 14 => ⟨S8320x16x128, .f32⟩
  | 15 => ⟨S16x8320x128, .f32⟩
  | 16 => ⟨S16x8320x8320, .f32⟩
  | 17 => ⟨S16x8320x1, .f32⟩
  | 18 => ⟨S16x8320x8320, .f32⟩
  | 19 => ⟨S16x8320x8320, .f32⟩
  | 20 => ⟨S16x1x8320, .f32⟩
  | 21 => ⟨S16x8320x8320, .f32⟩
  | 22 => ⟨S16x8320x8320, .f32⟩
  | 23 => ⟨S8320, .i32⟩
  | 24 => ⟨S_, .i32⟩
  | 25 => ⟨S8320, .i32⟩
  | 26 => ⟨S8320, .i1⟩
  | 27 => ⟨S1x8320, .i32⟩
  | 28 => ⟨S8320x1, .i32⟩
  | 29 => ⟨S8320x8320, .i32⟩
  | 30 => ⟨S8320x8320, .i32⟩
  | 31 => ⟨S8320x8320, .i1⟩
  | 32 => ⟨S1x8320, .i1⟩
  | 33 => ⟨S1x8320, .i32⟩
  | 34 => ⟨S8320x1, .i32⟩
  | 35 => ⟨S8320x8320, .i32⟩
  | 36 => ⟨S8320x8320, .i32⟩
  | 37 => ⟨S8320x8320, .i1⟩
  | 38 => ⟨S8320x8320, .i1⟩
  | 39 => ⟨S8320x8320, .i1⟩
  | 40 => ⟨S8320x8320, .i1⟩
  | 41 => ⟨S_, .f32⟩
  | 42 => ⟨S_, .f32⟩
  | 43 => ⟨S16x8320x8320, .i1⟩
  | 44 => ⟨S16x8320x8320, .f32⟩
  | 45 => ⟨S16x8320x8320, .f32⟩
  | 46 => ⟨S_, .f32⟩
  | 47 => ⟨S16x8320, .f32⟩
  | 48 => ⟨S16x8320x1, .f32⟩
  | 49 => ⟨S16x8320x8320, .f32⟩
  | 50 => ⟨S16x8320x8320, .f32⟩
  | 51 => ⟨S16x8320x8320, .f32⟩
  | 52 => ⟨S_, .f32⟩
  | 53 => ⟨S16x8320, .f32⟩
  | 54 => ⟨S16x8320x1, .f32⟩
  | 55 => ⟨S16x8320x1, .f32⟩
  | 56 => ⟨S16x8320x1, .f32⟩
  | 57 => ⟨S16x8320x8320, .f32⟩
  | 58 => ⟨S16x8320x8320, .f32⟩
  | 59 => ⟨S8320x16x128, .f32⟩
  | 60 => ⟨S16x8320x128, .f32⟩
  | 61 => ⟨S16x8320x128, .f32⟩
  | 62 => ⟨S8320x16x128, .f32⟩
  | 63 => ⟨S8320x16x1, .f32⟩
  | 64 => ⟨S8320x16x1, .bf16⟩
  | 65 => ⟨S8320x16x1, .f32⟩
  | 66 => ⟨S8320x16x1, .f32⟩
  | 67 => ⟨S8320x16x1, .bf16⟩
  | 68 => ⟨S8320x16x1, .f32⟩
  | 69 => ⟨S8320x16x1, .f32⟩
  | 70 => ⟨S8320x16x1, .bf16⟩
  | 71 => ⟨S8320x16x1, .f32⟩
  | 72 => ⟨S_, .f32⟩
  | 73 => ⟨S8320x16x1, .f32⟩
  | 74 => ⟨S_, .f32⟩
  | 75 => ⟨S8320x16x1, .f32⟩
  | 76 => ⟨S8320, .i32⟩
  | 77 => ⟨S_, .i32⟩
  | 78 => ⟨S8320, .i32⟩
  | 79 => ⟨S8320, .i1⟩
  | 80 => ⟨S8320x1x1, .i1⟩
  | 81 => ⟨S8320x16x128, .f32⟩
  | 82 => ⟨S_, .f32⟩
  | 83 => ⟨S8320x16x128, .f32⟩
  | 84 => ⟨S8320x16x128, .f32⟩
  | 85 => ⟨S_, .f32⟩
  | 86 => ⟨S8320x16x122, .f32⟩
  | 87 => ⟨S8320x16x256, .f32⟩
  | 88 => ⟨S8320x4096, .f32⟩
  | 89 => ⟨S8320x4096, .bf16⟩
  | 90 => ⟨S8320x16x128, .f32⟩
  | 91 => ⟨S8320x16x1, .f32⟩
  | 92 => ⟨S_, .f32⟩
  | 93 => ⟨S_, .f32⟩
  | 94 => ⟨S8320x16x1, .i1⟩
  | 95 => ⟨S8320x16x1, .f32⟩
  | 96 => ⟨S8320x16x1, .f32⟩
  | 97 => ⟨S8320x16x1, .f32⟩
  | 98 => ⟨S_, .f32⟩
  | 99 => ⟨S_, .f32⟩
  | 100 => ⟨S8320x16x1, .i1⟩
  | 101 => ⟨S8320x16x1, .f32⟩
  | 102 => ⟨S8320x16x1, .f32⟩
  | 103 => ⟨S8320x16x1, .f32⟩
  | 104 => ⟨S_, .f32⟩
  | 105 => ⟨S_, .f32⟩
  | 106 => ⟨S8320x16x1, .i1⟩
  | 107 => ⟨S8320x16x1, .f32⟩
  | 108 => ⟨S8320x16x1, .f32⟩
  | 109 => ⟨S_, .f32⟩
  | 110 => ⟨S8320x16x122, .f32⟩
  | 111 => ⟨S8320x16x256, .f32⟩
  | 112 => ⟨S8320x4096, .f32⟩
  | 113 => ⟨S8320x4096, .bf16⟩
  | 114 => ⟨S8320x16x128, .f32⟩
  | 115 => ⟨S_, .f32⟩
  | 116 => ⟨S8320x16x128, .f32⟩
  | 117 => ⟨S8320x16x256, .f32⟩
  | 118 => ⟨S8320x4096, .f32⟩
  | 119 => ⟨S8320x4096, .bf16⟩
  | 120 => ⟨S8320x16x128, .f32⟩
  | 121 => ⟨S8320x16x128, .f32⟩
  | 122 => ⟨S_, .f32⟩
  | 123 => ⟨S8320x16, .f32⟩
  | 124 => ⟨S8320x16x1, .f32⟩
  | 125 => ⟨S8320x16x1, .f32⟩
  | 126 => ⟨S8320x16x1, .bf16⟩
  | 127 => ⟨S8320x16x1, .f32⟩
  | _ => ⟨S8320x2048, .f32⟩

abbrev hbmTy0_1 (i : Nat) : BufTy := match i % 128 with
  | 0 => ⟨S8320x16x1, .f32⟩
  | 1 => ⟨S8320x16x1, .bf16⟩
  | 2 => ⟨S8320x16x1, .f32⟩
  | 3 => ⟨S8320x16x1, .f32⟩
  | 4 => ⟨S8320x16x1, .bf16⟩
  | 5 => ⟨S8320x16x1, .f32⟩
  | 6 => ⟨S8320x16x128, .f32⟩
  | 7 => ⟨S_, .f32⟩
  | 8 => ⟨S8320x16x125, .f32⟩
  | 9 => ⟨S8320x16x256, .f32⟩
  | 10 => ⟨S8320x4096, .f32⟩
  | 11 => ⟨S8320x4096, .bf16⟩
  | 12 => ⟨S8320x16x128, .f32⟩
  | 13 => ⟨S8320x16x1, .f32⟩
  | 14 => ⟨S8320x16x1, .f32⟩
  | 15 => ⟨S_, .f32⟩
  | 16 => ⟨S8320x16x124, .f32⟩
  | 17 => ⟨S8320x16x256, .f32⟩
  | 18 => ⟨S8320x4096, .f32⟩
  | 19 => ⟨S8320x16x128, .f32⟩
  | 20 => ⟨S_, .f32⟩
  | 21 => ⟨S8320x16x128, .f32⟩
  | 22 => ⟨S8320x16x256, .f32⟩
  | 23 => ⟨S8320x4096, .f32⟩
  | 24 => ⟨S8320x4096, .f32⟩
  | 25 => ⟨S8320x4096, .f32⟩
  | 26 => ⟨S8320x4096, .f32⟩
  | 27 => ⟨S8320x16x256, .f32⟩
  | 28 => ⟨S8320x16x256, .f32⟩
  | 29 => ⟨S8320x16x256, .f32⟩
  | 30 => ⟨S8320x16x128, .f32⟩
  | 31 => ⟨S_, .f32⟩
  | 32 => ⟨S8320x16x128, .f32⟩
  | 33 => ⟨S8320x16x128, .f32⟩
  | 34 => ⟨S8320x2048, .f32⟩
  | 35 => ⟨S8320x16x1, .f32⟩
  | 36 => ⟨S8320x16, .f32⟩
  | 37 => ⟨S8320x16x1, .f32⟩
  | 38 => ⟨S8320x16, .f32⟩
  | 39 => ⟨S8320x16, .f32⟩
  | 40 => ⟨S8320x16x128, .f32⟩
  | 41 => ⟨S8320x2048, .f32⟩
  | 42 => ⟨S8320x16x128, .f32⟩
  | 43 => ⟨S8320x2048, .f32⟩
  | _ => ⟨S8320x2048, .f32⟩

abbrev hbmTy (i : Nat) : BufTy := match i / 128 with
  | 0 => hbmTy0_0 i
  | 1 => hbmTy0_1 i
  | _ => ⟨S8320x2048, .f32⟩

abbrev bufTy : (tb : Table) → Fin (tcTables nBuf tb) → BufTy
  | .hbm, ⟨i, _⟩ => hbmTy i
  | .local _ .vmem, ⟨0, _⟩ => ⟨S640x256, .bf16⟩
  | .local _ .vmem, ⟨1, _⟩ => ⟨S640x256, .bf16⟩
  | .local _ .vmem, ⟨2, _⟩ => ⟨S640x256, .bf16⟩
  | .local _ .vmem, ⟨3, _⟩ => ⟨S640x256, .bf16⟩
  | .local _ .vmem, ⟨4, _⟩ => ⟨S640x256, .bf16⟩
  | .local _ .vmem, ⟨5, _⟩ => ⟨S640x256, .bf16⟩
  | .local _ .vmem, ⟨6, _⟩ => ⟨S640x256, .bf16⟩
  | .local _ .vmem, ⟨7, _⟩ => ⟨S640x256, .bf16⟩
  | .local _ .vmem, ⟨8, _⟩ => ⟨S1x640x1, .f32⟩
  | .local _ .vmem, ⟨9, _⟩ => ⟨S1x640x1, .f32⟩
  | .local _ .vmem, ⟨10, _⟩ => ⟨S640x256, .f32⟩
  | .local _ .vmem, ⟨11, _⟩ => ⟨S640x256, .f32⟩
  | .local _ .vmem, ⟨12, _⟩ => ⟨S640x256, .f32⟩
  | .local _ .vmem, ⟨13, _⟩ => ⟨S640x256, .f32⟩
  | .local _ .vmem, ⟨14, _⟩ => ⟨S8320x256, .f32⟩
  | .local _ .vmem, ⟨15, _⟩ => ⟨S8320x256, .f32⟩
  | .local _ .vmem, ⟨16, _⟩ => ⟨S640x256, .f32⟩
  | .local _ .vmem, ⟨17, _⟩ => ⟨S640x256, .f32⟩
  | .local _ .vmem, ⟨18, _⟩ => ⟨S640x256, .f32⟩
  | .local _ .vmem, ⟨19, _⟩ => ⟨S640x256, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_c_5 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_13 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_14 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_15 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_16 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113_0 : Ref sig .tc := ⟨.hbm, 152, rfl⟩
abbrev main_v113_1 : Ref sig .tc := ⟨.hbm, 153, rfl⟩
abbrev main_v113_2 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_17 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 13, 13], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c640_i32 : BitVec 32 := 640#32
  let v42 : BitVec 32 := Scalar.muli arg2 c640_i32
  v42
def k0_off1 (i : grid0.Coords) : Fin 2 → Nat :=
  let arg2 : BitVec 32 := BitVec.ofNat 32 (i 2).val
  let c640_i32 : BitVec 32 := 640#32
  let v42 : BitVec 32 := Scalar.muli arg2 c640_i32
  let v43 : BitVec 32 := v42
  let v44 : Index := Scalar.indexCast v43
  let c0_27 : Index := 0#32
  ![v44.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c640_i32_29 : BitVec 32 := 640#32
  let v58 : BitVec 32 := Scalar.muli arg2 c640_i32_29
  v58
def k0_off2 (i : grid0.Coords) : Fin 2 → Nat :=
  let arg2 : BitVec 32 := BitVec.ofNat 32 (i 2).val
  let c640_i32_29 : BitVec 32 := 640#32
  let v58 : BitVec 32 := Scalar.muli arg2 c640_i32_29
  let v59 : BitVec 32 := v58
  let v60 : Index := Scalar.indexCast v59
  let c0_30 : Index := 0#32
  ![v60.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x640x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S640x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8320x2048 : Shape := ⟨2, ![8320, 2048]⟩
abbrev S8320x16 : Shape := ⟨2, ![8320, 16]⟩
abbrev S8320x16x128 : Shape := ⟨3, ![8320, 16, 128]⟩
abbrev S16x8320x128 : Shape := ⟨3, ![16, 8320, 128]⟩
abbrev S_ : Shape := ⟨0, ![]⟩
abbrev S16x8320 : Shape := ⟨2, ![16, 8320]⟩
abbrev S16x8320x8320 : Shape := ⟨3, ![16, 8320, 8320]⟩
abbrev S16x8320x1 : Shape := ⟨3, ![16, 8320, 1]⟩
abbrev S16x1x8320 : Shape := ⟨3, ![16, 1, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S16x128x8320 : Shape := ⟨3, ![16, 128, 8320]⟩

abbrev nBuf : Space → Nat
  | .hbm => 140
  | .vmem => 0
  | .smem => 0
  | _ => 0

abbrev hbmTy0_0 (i : Nat) : BufTy := match i % 128 with
  | 0 => ⟨S8320x2048, .f32⟩
  | 1 => ⟨S8320x2048, .f32⟩
  | 2 => ⟨S8320x2048, .f32⟩
  | 3 => ⟨S8320x16, .f32⟩
  | 4 => ⟨S8320x2048, .f32⟩
  | 5 => ⟨S8320x2048, .f32⟩
  | 6 => ⟨S8320x2048, .f32⟩
  | 7 => ⟨S8320x16, .f32⟩
  | 8 => ⟨S8320x16x128, .f32⟩
  | 9 => ⟨S16x8320x128, .f32⟩
  | 10 => ⟨S_, .f32⟩
  | 11 => ⟨S16x8320x128, .f32⟩
  | 12 => ⟨S16x8320x128, .f32⟩
  | 13 => ⟨S16x8320, .f32⟩
  | 14 => ⟨S8320x16x128, .f32⟩
  | 15 => ⟨S16x8320x128, .f32⟩
  | 16 => ⟨S16x8320x8320, .f32⟩
  | 17 => ⟨S16x8320x1, .f32⟩
  | 18 => ⟨S16x8320x8320, .f32⟩
  | 19 => ⟨S16x8320x8320, .f32⟩
  | 20 => ⟨S16x1x8320, .f32⟩
  | 21 => ⟨S16x8320x8320, .f32⟩
  | 22 => ⟨S16x8320x8320, .f32⟩
  | 23 => ⟨S8320, .i32⟩
  | 24 => ⟨S_, .i32⟩
  | 25 => ⟨S8320, .i32⟩
  | 26 => ⟨S8320, .i1⟩
  | 27 => ⟨S1x8320, .i32⟩
  | 28 => ⟨S8320x1, .i32⟩
  | 29 => ⟨S8320x8320, .i32⟩
  | 30 => ⟨S8320x8320, .i32⟩
  | 31 => ⟨S8320x8320, .i1⟩
  | 32 => ⟨S1x8320, .i1⟩
  | 33 => ⟨S1x8320, .i32⟩
  | 34 => ⟨S8320x1, .i32⟩
  | 35 => ⟨S8320x8320, .i32⟩
  | 36 => ⟨S8320x8320, .i32⟩
  | 37 => ⟨S8320x8320, .i1⟩
  | 38 => ⟨S8320x8320, .i1⟩
  | 39 => ⟨S8320x8320, .i1⟩
  | 40 => ⟨S8320x8320, .i1⟩
  | 41 => ⟨S_, .f32⟩
  | 42 => ⟨S_, .f32⟩
  | 43 => ⟨S16x8320x8320, .i1⟩
  | 44 => ⟨S16x8320x8320, .f32⟩
  | 45 => ⟨S16x8320x8320, .f32⟩
  | 46 => ⟨S_, .f32⟩
  | 47 => ⟨S16x8320x8320, .f32⟩
  | 48 => ⟨S_, .f32⟩
  | 49 => ⟨S16x8320, .f32⟩
  | 50 => ⟨S16x8320x1, .f32⟩
  | 51 => ⟨S16x8320x8320, .f32⟩
  | 52 => ⟨S16x8320x8320, .i1⟩
  | 53 => ⟨S16x8320x8320, .f32⟩
  | 54 => ⟨S_, .f32⟩
  | 55 => ⟨S16x8320, .f32⟩
  | 56 => ⟨S_, .f32⟩
  | 57 => ⟨S16x8320, .f32⟩
  | 58 => ⟨S16x8320, .f32⟩
  | 59 => ⟨S_, .f32⟩
  | 60 => ⟨S16x8320, .f32⟩
  | 61 => ⟨S16x8320, .i1⟩
  | 62 => ⟨S_, .f32⟩
  | 63 => ⟨S16x8320, .f32⟩
  | 64 => ⟨S16x8320, .i1⟩
  | 65 => ⟨S_, .f32⟩
  | 66 => ⟨S16x8320, .f32⟩
  | 67 => ⟨S_, .f32⟩
  | 68 => ⟨S16x8320, .f32⟩
  | 69 => ⟨S_, .f32⟩
  | 70 => ⟨S16x8320, .f32⟩
  | 71 => ⟨S16x8320, .f32⟩
  | 72 => ⟨S16x8320, .f32⟩
  | 73 => ⟨S16x8320x1, .f32⟩
  | 74 => ⟨S16x8320x8320, .f32⟩
  | 75 => ⟨S16x8320x8320, .f32⟩
  | 76 => ⟨S16x8320x8320, .f32⟩
  | 77 => ⟨S_, .f32⟩
  | 78 => ⟨S16x8320, .f32⟩
  | 79 => ⟨S16x8320x1, .f32⟩
  | 80 => ⟨S16x8320x8320, .f32⟩
  | 81 => ⟨S16x8320x8320, .f32⟩
  | 82 => ⟨S16x8320x1, .f32⟩
  | 83 => ⟨S_, .f32⟩
  | 84 => ⟨S16x8320x1, .f32⟩
  | 85 => ⟨S16x8320x1, .f32⟩
  | 86 => ⟨S8320x16x128, .f32⟩
  | 87 => ⟨S16x8320x128, .f32⟩
  | 88 => ⟨S16x8320x128, .f32⟩
  | 89 => ⟨S8320x16x128, .f32⟩
  | 90 => ⟨S8320x2048, .f32⟩
  | 91 => ⟨S8320x16x128, .f32⟩
  | 92 => ⟨S16x8320x128, .f32⟩
  | 93 => ⟨S16x128x8320, .f32⟩
  | 94 => ⟨S16x8320x128, .f32⟩
  | 95 => ⟨S16x8320x8320, .f32⟩
  | 96 => ⟨S8320x16x128, .f32⟩
  | 97 => ⟨S8320x2048, .f32⟩
  | 98 => ⟨S16x8320x8320, .f32⟩
  | 99 => ⟨S16x8320x8320, .f32⟩
  | 100 => ⟨S16x8320x8320, .f32⟩
  | 101 => ⟨S_, .f32⟩
  | 102 => ⟨S16x8320, .f32⟩
  | 103 => ⟨S16x8320x1, .f32⟩
  | 104 => ⟨S16x8320x1, .f32⟩
  | 105 => ⟨S16x8320x8320, .f32⟩
  | 106 => ⟨S16x8320x8320, .f32⟩
  | 107 => ⟨S_, .f32⟩
  | 108 => ⟨S16x8320, .f32⟩
  | 109 => ⟨S16x8320x8320, .f32⟩
  | 110 => ⟨S16x8320x8320, .f32⟩
  | 111 => ⟨S16x8320x8320, .f32⟩
  | 112 => ⟨S_, .f32⟩
  | 113 => ⟨S16x8320x8320, .f32⟩
  | 114 => ⟨S16x8320x8320, .f32⟩
  | 115 => ⟨S16x8320x8320, .f32⟩
  | 116 => ⟨S_, .f32⟩
  | 117 => ⟨S16x8320, .f32⟩
  | 118 => ⟨S16x1x8320, .f32⟩
  | 119 => ⟨S_, .f32⟩
  | 120 => ⟨S16x8320, .f32⟩
  | 121 => ⟨S_, .f32⟩
  | 122 => ⟨S16x8320, .f32⟩
  | 123 => ⟨S16x8320x1, .f32⟩
  | 124 => ⟨S_, .f32⟩
  | 125 => ⟨S16x8320, .f32⟩
  | 126 => ⟨S16x8320, .f32⟩
  | 127 => ⟨S16x8320x128, .f32⟩
  | _ => ⟨S8320x2048, .f32⟩

abbrev hbmTy0_1 (i : Nat) : BufTy := match i % 128 with
  | 0 => ⟨S16x8320x128, .f32⟩
  | 1 => ⟨S8320x16x128, .f32⟩
  | 2 => ⟨S8320x2048, .f32⟩
  | 3 => ⟨S8320x16, .f32⟩
  | 4 => ⟨S_, .f32⟩
  | 5 => ⟨S16x8320x128, .f32⟩
  | 6 => ⟨S16x8320x128, .f32⟩
  | 7 => ⟨S8320x16x128, .f32⟩
  | 8 => ⟨S8320x2048, .f32⟩
  | 9 => ⟨S8320x2048, .f32⟩
  | 10 => ⟨S8320x2048, .f32⟩
  | 11 => ⟨S8320x16, .f32⟩
  | _ => ⟨S8320x2048, .f32⟩

abbrev hbmTy (i : Nat) : BufTy := match i / 128 with
  | 0 => hbmTy0_0 i
  | 1 => hbmTy0_1 i
  | _ => ⟨S8320x2048, .f32⟩

abbrev bufTy : (tb : Table) → Fin (tcTables nBuf tb) → BufTy
  | .hbm, ⟨i, _⟩ => hbmTy i
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_call0_v0 : Ref sig .tc := ⟨.hbm, 42, rfl⟩
abbrev main_v31_1 : Ref sig .tc := ⟨.hbm, 43, rfl⟩
abbrev main_call0_v2 : Ref sig .tc := ⟨.hbm, 44, rfl⟩
abbrev main_v31_0 : Ref sig .tc := ⟨.hbm, 45, rfl⟩
abbrev main_call0_cst : Ref sig .tc := ⟨.hbm, 46, rfl⟩
abbrev main_v31_2 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== DownDx.lean ====
abbrev S8320x2048 : Shape := ⟨2, ![8320, 2048]⟩
abbrev S5632x2048 : Shape := ⟨2, ![5632, 2048]⟩
abbrev S8320x5632 : Shape := ⟨2, ![8320, 5632]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S5632x2048, .bf16⟩
  | .hbm, ⟨2, _⟩ => ⟨S8320x5632, .f32⟩
  | .local _ .vmem, ⟨0, _⟩ => ⟨S1040x2048, .bf16⟩
  | .local _ .vmem, ⟨1, _⟩ => ⟨S1040x2048, .bf16⟩
  | .local _ .vmem, ⟨2, _⟩ => ⟨S512x2048, .bf16⟩
  | .local _ .vmem, ⟨3, _⟩ => ⟨S512x2048, .bf16⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDxIdeal.lean ====
abbrev S8320x2048 : Shape := ⟨2, ![8320, 2048]⟩
abbrev S5632x2048 : Shape := ⟨2, ![5632, 2048]⟩
abbrev S_ : Shape := ⟨0, ![]⟩
abbrev S8320x5632 : Shape := ⟨2, ![8320, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S5632x2048, .bf16⟩
  | .hbm, ⟨2, _⟩ => ⟨S_, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S8320x2048, .f32⟩
  | .hbm, ⟨7, _⟩ => ⟨S8320x5632, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8320x5632 : Shape := ⟨2, ![8320, 5632]⟩
abbrev S8320x2048 : Shape := ⟨2, ![8320, 2048]⟩
abbrev S5632x2048 : Shape := ⟨2, ![5632, 2048]⟩
abbrev S1664x512 : Shape := ⟨2, ![1664, 512]⟩
abbrev S1664x1024 : Shape := ⟨2, ![1664, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S5632x2048, .bf16⟩
  | .local _ .vmem, ⟨0, _⟩ => ⟨S1664x512, .bf16⟩
  | .local _ .vmem, ⟨1, _⟩ => ⟨S1664x512, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S8320x5632 : Shape := ⟨2, ![8320, 5632]⟩
abbrev S8320x2048 : Shape := ⟨2, ![8320, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S_, .f32⟩
  | .hbm, ⟨3, _⟩ => ⟨S5632x2048, .f32⟩
  | .hbm, ⟨4, _⟩ => ⟨S8320x5632, .f32⟩
  | .hbm, ⟨5, _⟩ => ⟨S8320x2048, .f32⟩
  | .hbm, ⟨6, _⟩ => ⟨S8320x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S8320x2048 : Shape := ⟨2, ![8320, 2048]⟩
abbrev S8320x5632 : Shape := ⟨2, ![8320, 5632]⟩
abbrev S2048x5632 : Shape := ⟨2, ![2048, 5632]⟩
abbrev S1664x1024 : Shape := ⟨2, ![1664, 1024]⟩
abbrev S1664x512 : Shape := ⟨2, ![1664, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x5632, .bf16⟩
  | .hbm, ⟨2, _⟩ => ⟨S2048x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1664x512, .bf16⟩
  | .local _ .vmem, ⟨3, _⟩ => ⟨S1664x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDwIdeal.lean ====
abbrev S8320x2048 : Shape := ⟨2, ![8320, 2048]⟩
abbrev S8320x5632 : Shape := ⟨2, ![8320, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x5632, .bf16⟩
  | .hbm, ⟨2, _⟩ => ⟨S_, .f32⟩
  | .hbm, ⟨3, _⟩ => ⟨S2048x5632, .f32⟩
  | .hbm, ⟨4, _⟩ => ⟨S8320x2048, .f32⟩
  | .hbm, ⟨5, _⟩ => ⟨S8320x5632, .f32⟩
  | .hbm, ⟨6, _⟩ => ⟨S8320x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8320x5632 : Shape := ⟨2, ![8320, 5632]⟩
abbrev S2048x5632 : Shape := ⟨2, ![2048, 5632]⟩
abbrev S8320x2048 : Shape := ⟨2, ![8320, 2048]⟩
abbrev S1040x1408 : Shape := ⟨2, ![1040, 1408]⟩
abbrev S1024x1408 : Shape := ⟨2, ![1024, 1408]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S2048x5632, .bf16⟩
  | .hbm, ⟨2, _⟩ => ⟨S8320x2048, .f32⟩
  | .hbm, ⟨3, _⟩ => ⟨S8320x2048, .f32⟩
  | .local _ .vmem, ⟨0, _⟩ => ⟨S1040x1408, .bf16⟩
  | .local _ .vmem, ⟨1, _⟩ => ⟨S1040x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUpDxIdeal.lean ====
abbrev S8320x5632 : Shape := ⟨2, ![8320, 5632]⟩
abbrev S2048x5632 : Shape := ⟨2, ![2048, 5632]⟩
abbrev S8320x2048 : Shape := ⟨2, ![8320, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2048x5632, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S8320x2048, .f32⟩
  | .hbm, ⟨6, _⟩ => ⟨S_, .f32⟩
  | .hbm, ⟨7, _⟩ => ⟨S8320x2048, .f32⟩
  | .hbm, ⟨8, _⟩ => ⟨S2048x5632, .f32⟩
  | .hbm, ⟨9, _⟩ => ⟨S8320x5632, .f32⟩
  | .hbm, ⟨10, _⟩ => ⟨S8320x5632, .f32⟩
  | .hbm, ⟨11, _⟩ => ⟨S8320x2048, .f32⟩
  | .hbm, ⟨12, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDxG.lean ====
abbrev S8320x5632 : Shape := ⟨2, ![8320, 5632]⟩
abbrev S2048x5632 : Shape := ⟨2, ![2048, 5632]⟩
abbrev S8320x2048 : Shape := ⟨2, ![8320, 2048]⟩
abbrev S1040x1408 : Shape := ⟨2, ![1040, 1408]⟩
abbrev S1024x1408 : Shape := ⟨2, ![1024, 1408]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S2048x5632, .bf16⟩
  | .hbm, ⟨2, _⟩ => ⟨S8320x2048, .f32⟩
  | .hbm, ⟨3, _⟩ => ⟨S8320x2048, .f32⟩
  | .local _ .vmem, ⟨0, _⟩ => ⟨S1040x1408, .bf16⟩
  | .local _ .vmem, ⟨1, _⟩ => ⟨S1040x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUpDxGIdeal.lean ====
abbrev S8320x5632 : Shape := ⟨2, ![8320, 5632]⟩
abbrev S2048x5632 : Shape := ⟨2, ![2048, 5632]⟩
abbrev S8320x2048 : Shape := ⟨2, ![8320, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2048x5632, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S2048x5632, .f32⟩
  | .hbm, ⟨6, _⟩ => ⟨S8320x5632, .f32⟩
  | .hbm, ⟨7, _⟩ => ⟨S8320x5632, .f32⟩
  | .hbm, ⟨8, _⟩ => ⟨S8320x2048, .f32⟩
  | .hbm, ⟨9, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Up.lean ====
abbrev S8320x2048 : Shape := ⟨2, ![8320, 2048]⟩
abbrev S2048x5632 : Shape := ⟨2, ![2048, 5632]⟩
abbrev S8320x5632 : Shape := ⟨2, ![8320, 5632]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .bf16⟩
  | .hbm, ⟨2, _⟩ => ⟨S8320x5632, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .bf16⟩
  | .local _ .vmem, ⟨3, _⟩ => ⟨S2048x512, .bf16⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpIdeal.lean ====
abbrev S8320x2048 : Shape := ⟨2, ![8320, 2048]⟩
abbrev S2048x5632 : Shape := ⟨2, ![2048, 5632]⟩
abbrev S8320x5632 : Shape := ⟨2, ![8320, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .bf16⟩
  | .hbm, ⟨2, _⟩ => ⟨S8320x2048, .f32⟩
  | .hbm, ⟨3, _⟩ => ⟨S2048x5632, .f32⟩
  | .hbm, ⟨4, _⟩ => ⟨S8320x5632, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8320x5632 : Shape := ⟨2, ![8320, 5632]⟩
abbrev S5632x2048 : Shape := ⟨2, ![5632, 2048]⟩
abbrev S8320x2048 : Shape := ⟨2, ![8320, 2048]⟩
abbrev S1040x1408 : Shape := ⟨2, ![1040, 1408]⟩
abbrev S1408x1024 : Shape := ⟨2, ![1408, 1024]⟩
abbrev S1040x1024 : Shape := ⟨2, ![1040, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .local _ .vmem, ⟨0, _⟩ => ⟨S1040x1408, .bf16⟩
  | .local _ .vmem, ⟨1, _⟩ => ⟨S1040x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x5632, .f32⟩
  | .hbm, ⟨3, _⟩ => ⟨S5632x2048, .f32⟩
  | .hbm, ⟨4, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8320x2048 : Shape := ⟨2, ![8320, 2048]⟩
abbrev S2048x2048 : Shape := ⟨2, ![2048, 2048]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutIdeal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S2048x2048, .f32⟩
  | .hbm, ⟨4, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDx.lean ====
abbrev S8320x2048 : Shape := ⟨2, ![8320, 2048]⟩
abbrev S2048x2048 : Shape := ⟨2, ![2048, 2048]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1040x1024, .f32⟩
  | .local _ .vmem, ⟨5, _⟩ => ⟨S1040x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDxIdeal.lean ====
abbrev S8320x2048 : Shape := ⟨2, ![8320, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S_, .f32⟩
  | .hbm, ⟨3, _⟩ => ⟨S8320x2048, .f32⟩
  | .hbm, ⟨4, _⟩ => ⟨S2048x2048, .f32⟩
  | .hbm, ⟨5, _⟩ => ⟨S8320x2048, .f32⟩
  | .hbm, ⟨6, _⟩ => ⟨S8320x2048, .f32⟩
  | .hbm, ⟨7, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8320x2048 : Shape := ⟨2, ![8320, 2048]⟩
abbrev S2048x2048 : Shape := ⟨2, ![2048, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDwIdeal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S_, .f32⟩
  | .hbm, ⟨3, _⟩ => ⟨S2048x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FoxIn.lean ====
abbrev S8320x2048 : Shape := ⟨2, ![8320, 2048]⟩
abbrev S2048x4096 : Shape := ⟨2, ![2048, 4096]⟩
abbrev S8320x4096 : Shape := ⟨2, ![8320, 4096]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFoxInIdeal.lean ====
abbrev S8320x2048 : Shape := ⟨2, ![8320, 2048]⟩
abbrev S2048x4096 : Shape := ⟨2, ![2048, 4096]⟩
abbrev S8320x4096 : Shape := ⟨2, ![8320, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x2048, .f32⟩
  | .hbm, ⟨3, _⟩ => ⟨S2048x4096, .f32⟩
  | .hbm, ⟨4, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FoxInDw.lean ====
abbrev S8320x2048 : Shape := ⟨2, ![8320, 2048]⟩
abbrev S8320x4096 : Shape := ⟨2, ![8320, 4096]⟩
abbrev S2048x4096 : Shape := ⟨2, ![2048, 4096]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S2048x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFoxInDwIdeal.lean ====
abbrev S8320x2048 : Shape := ⟨2, ![8320, 2048]⟩
abbrev S8320x4096 : Shape := ⟨2, ![8320, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S_, .f32⟩
  | .hbm, ⟨3, _⟩ => ⟨S2048x4096, .f32⟩
  | .hbm, ⟨4, _⟩ => ⟨S8320x2048, .f32⟩
  | .hbm, ⟨5, _⟩ => ⟨S8320x4096, .f32⟩
  | .hbm, ⟨6, _⟩ => ⟨S8320x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FoxInDx.lean ====
abbrev S8320x4096 : Shape := ⟨2, ![8320, 4096]⟩
abbrev S2048x4096 : Shape := ⟨2, ![2048, 4096]⟩
abbrev S8320x2048 : Shape := ⟨2, ![8320, 2048]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S2048x4096, .bf16⟩
  | .hbm, ⟨2, _⟩ => ⟨S8320x2048, .f32⟩
  | .hbm, ⟨3, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefFoxInDxIdeal.lean ====
abbrev S8320x4096 : Shape := ⟨2, ![8320, 4096]⟩
abbrev S2048x4096 : Shape := ⟨2, ![2048, 4096]⟩
abbrev S8320x2048 : Shape := ⟨2, ![8320, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2048x4096, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S8320x2048, .f32⟩
  | .hbm, ⟨6, _⟩ => ⟨S_, .f32⟩
  | .hbm, ⟨7, _⟩ => ⟨S8320x2048, .f32⟩
  | .hbm, ⟨8, _⟩ => ⟨S2048x4096, .f32⟩
  | .hbm, ⟨9, _⟩ => ⟨S8320x4096, .f32⟩
  | .hbm, ⟨10, _⟩ => ⟨S8320x4096, .f32⟩
  | .hbm, ⟨11, _⟩ => ⟨S8320x2048, .f32⟩
  | .hbm, ⟨12, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== GlaIn.lean ====
abbrev S8320x2048 : Shape := ⟨2, ![8320, 2048]⟩
abbrev S2048x6272 : Shape := ⟨2, ![2048, 6272]⟩
abbrev S8320x6272 : Shape := ⟨2, ![8320, 6272]⟩
abbrev S1040x2048 : Shape := ⟨2, ![1040, 2048]⟩
abbrev S2048x896 : Shape := ⟨2, ![2048, 896]⟩
abbrev S1040x896 : Shape := ⟨2, ![1040, 896]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x6272, .bf16⟩
  | .hbm, ⟨2, _⟩ => ⟨S8320x6272, .f32⟩
  | .local _ .vmem, ⟨0, _⟩ => ⟨S1040x2048, .bf16⟩
  | .local _ .vmem, ⟨1, _⟩ => ⟨S1040x2048, .bf16⟩
  | .local _ .vmem, ⟨2, _⟩ => ⟨S2048x896, .bf16⟩
  | .local _ .vmem, ⟨3, _⟩ => ⟨S2048x896, .bf16⟩
  | .local _ .vmem, ⟨4, _⟩ => ⟨S1040x896, .f32⟩
  | .local _ .vmem, ⟨5, _⟩ => ⟨S1040x896, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGlaInIdeal.lean ====
abbrev S8320x2048 : Shape := ⟨2, ![8320, 2048]⟩
abbrev S2048x6272 : Shape := ⟨2, ![2048, 6272]⟩
abbrev S8320x6272 : Shape := ⟨2, ![8320, 6272]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x6272, .bf16⟩
  | .hbm, ⟨2, _⟩ => ⟨S8320x2048, .f32⟩
  | .hbm, ⟨3, _⟩ => ⟨S2048x6272, .f32⟩
  | .hbm, ⟨4, _⟩ => ⟨S8320x6272, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaInDw.lean ====
abbrev S8320x2048 : Shape := ⟨2, ![8320, 2048]⟩
abbrev S8320x6272 : Shape := ⟨2, ![8320, 6272]⟩
abbrev S2048x6272 : Shape := ⟨2, ![2048, 6272]⟩
abbrev S1664x1024 : Shape := ⟨2, ![1664, 1024]⟩
abbrev S1664x896 : Shape := ⟨2, ![1664, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x6272, .bf16⟩
  | .hbm, ⟨2, _⟩ => ⟨S2048x6272, .bf16⟩
  | .local _ .vmem, ⟨0, _⟩ => ⟨S1664x1024, .bf16⟩
  | .local _ .vmem, ⟨1, _⟩ => ⟨S1664x1024, .bf16⟩
  | .local _ .vmem, ⟨2, _⟩ => ⟨S1664x896, .bf16⟩
  | .local _ .vmem, ⟨3, _⟩ => ⟨S1664x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGlaInDwIdeal.lean ====
abbrev S8320x2048 : Shape := ⟨2, ![8320, 2048]⟩
abbrev S8320x6272 : Shape := ⟨2, ![8320, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x6272, .bf16⟩
  | .hbm, ⟨2, _⟩ => ⟨S_, .f32⟩
  | .hbm, ⟨3, _⟩ => ⟨S2048x6272, .f32⟩
  | .hbm, ⟨4, _⟩ => ⟨S8320x2048, .f32⟩
  | .hbm, ⟨5, _⟩ => ⟨S8320x6272, .f32⟩
  | .hbm, ⟨6, _⟩ => ⟨S8320x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaInDx.lean ====
abbrev S8320x6272 : Shape := ⟨2, ![8320, 6272]⟩
abbrev S2048x6272 : Shape := ⟨2, ![2048, 6272]⟩
abbrev S8320x2048 : Shape := ⟨2, ![8320, 2048]⟩
abbrev S1040x896 : Shape := ⟨2, ![1040, 896]⟩
abbrev S1024x896 : Shape := ⟨2, ![1024, 896]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x6272, .bf16⟩
  | .hbm, ⟨1, _⟩ => ⟨S2048x6272, .bf16⟩
  | .hbm, ⟨2, _⟩ => ⟨S8320x2048, .f32⟩
  | .hbm, ⟨3, _⟩ => ⟨S8320x2048, .f32⟩
  | .local _ .vmem, ⟨0, _⟩ => ⟨S1040x896, .bf16⟩
  | .local _ .vmem, ⟨1, _⟩ => ⟨S1040x896, .bf16⟩
  | .local _ .vmem, ⟨2, _⟩ => ⟨S1024x896, .bf16⟩
  | .local _ .vmem, ⟨3, _⟩ => ⟨S1024x896, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefGlaInDxIdeal.lean ====
abbrev S8320x6272 : Shape := ⟨2, ![8320, 6272]⟩
abbrev S2048x6272 : Shape := ⟨2, ![2048, 6272]⟩
abbrev S8320x2048 : Shape := ⟨2, ![8320, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x6272, .bf16⟩
  | .hbm, ⟨1, _⟩ => ⟨S2048x6272, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S8320x2048, .f32⟩
  | .hbm, ⟨6, _⟩ => ⟨S_, .f32⟩
  | .hbm, ⟨7, _⟩ => ⟨S8320x2048, .f32⟩
  | .hbm, ⟨8, _⟩ => ⟨S2048x6272, .f32⟩
  | .hbm, ⟨9, _⟩ => ⟨S8320x6272, .f32⟩
  | .hbm, ⟨10, _⟩ => ⟨S8320x6272, .f32⟩
  | .hbm, ⟨11, _⟩ => ⟨S8320x2048, .f32⟩
  | .hbm, ⟨12, _⟩ => ⟨S8320x2048, .f32⟩
  | _, _ => ⟨S8320x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KvProj.lean ====
abbrev S8320x2048 : Shape := ⟨2, ![8320, 2048]⟩
abbrev S2048x4096 : Shape := ⟨2, ![2048, 4096]⟩
abbrev S8320x4096 : Shape := ⟨2, ![8320, 4096]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x4096, .bf16⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .bf16⟩
  | .local _ .vmem, ⟨5, _⟩ => ⟨S1040x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvProjIdeal.lean ====
abbrev S8320x2048 : Shape := ⟨2, ![8320, 2048]⟩
abbrev S2048x4096 : Shape := ⟨2, ![2048, 4096]⟩
abbrev S8320x4096 : Shape := ⟨2, ![8320, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x2048, .f32⟩
  | .hbm, ⟨3, _⟩ => ⟨S2048x4096, .f32⟩
  | .hbm, ⟨4, _⟩ => ⟨S8320x4096, .f32⟩
  | .hbm, ⟨5, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvGate.lean ====
abbrev S8320x2048 : Shape := ⟨2, ![8320, 2048]⟩
abbrev S2048x128 : Shape := ⟨2, ![2048, 128]⟩
abbrev S8320x128 : Shape := ⟨2, ![8320, 128]⟩
abbrev S1040x2048 : Shape := ⟨2, ![1040, 2048]⟩
abbrev S1040x128 : Shape := ⟨2, ![1040, 128]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x128, .bf16⟩
  | .hbm, ⟨2, _⟩ => ⟨S8320x128, .f32⟩
  | .local _ .vmem, ⟨0, _⟩ => ⟨S1040x2048, .bf16⟩
  | .local _ .vmem, ⟨1, _⟩ => ⟨S1040x2048, .bf16⟩
  | .local _ .vmem, ⟨2, _⟩ => ⟨S2048x128, .bf16⟩
  | .local _ .vmem, ⟨3, _⟩ => ⟨S1040x128, .f32⟩
  | .local _ .vmem, ⟨4, _⟩ => ⟨S1040x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvGateIdeal.lean ====
abbrev S8320x2048 : Shape := ⟨2, ![8320, 2048]⟩
abbrev S2048x128 : Shape := ⟨2, ![2048, 128]⟩
abbrev S8320x128 : Shape := ⟨2, ![8320, 128]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x128, .bf16⟩
  | .hbm, ⟨2, _⟩ => ⟨S8320x2048, .f32⟩
  | .hbm, ⟨3, _⟩ => ⟨S2048x128, .f32⟩
  | .hbm, ⟨4, _⟩ => ⟨S8320x128, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvDw.lean ====
abbrev S8320x2048 : Shape := ⟨2, ![8320, 2048]⟩
abbrev S8320x4224 : Shape := ⟨2, ![8320, 4224]⟩
abbrev S2048x4224 : Shape := ⟨2, ![2048, 4224]⟩
abbrev S1664x1024 : Shape := ⟨2, ![1664, 1024]⟩
abbrev S1664x384 : Shape := ⟨2, ![1664, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x4224, .bf16⟩
  | .hbm, ⟨2, _⟩ => ⟨S2048x4224, .bf16⟩
  | .local _ .vmem, ⟨0, _⟩ => ⟨S1664x1024, .bf16⟩
  | .local _ .vmem, ⟨1, _⟩ => ⟨S1664x1024, .bf16⟩
  | .local _ .vmem, ⟨2, _⟩ => ⟨S1664x384, .bf16⟩
  | .local _ .vmem, ⟨3, _⟩ => ⟨S1664x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvDwIdeal.lean ====
abbrev S8320x2048 : Shape := ⟨2, ![8320, 2048]⟩
abbrev S8320x4224 : Shape := ⟨2, ![8320, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x4224, .bf16⟩
  | .hbm, ⟨2, _⟩ => ⟨S_, .f32⟩
  | .hbm, ⟨3, _⟩ => ⟨S2048x4224, .f32⟩
  | .hbm, ⟨4, _⟩ => ⟨S8320x2048, .f32⟩
  | .hbm, ⟨5, _⟩ => ⟨S8320x4224, .f32⟩
  | .hbm, ⟨6, _⟩ => ⟨S8320x4224, .f32⟩
  | .hbm, ⟨7, _⟩ => ⟨S4224x2048, .f32⟩
  | .hbm, ⟨8, _⟩ => ⟨S2048x4224, .f32⟩
  | .hbm, ⟨9, _⟩ => ⟨S2048x4224, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDx.lean ====
abbrev S8320x4224 : Shape := ⟨2, ![8320, 4224]⟩
abbrev S2048x4224 : Shape := ⟨2, ![2048, 4224]⟩
abbrev S8320x2048 : Shape := ⟨2, ![8320, 2048]⟩
abbrev S1040x1408 : Shape := ⟨2, ![1040, 1408]⟩
abbrev S1024x1408 : Shape := ⟨2, ![1024, 1408]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x4224, .bf16⟩
  | .hbm, ⟨1, _⟩ => ⟨S2048x4224, .bf16⟩
  | .hbm, ⟨2, _⟩ => ⟨S8320x2048, .f32⟩
  | .hbm, ⟨3, _⟩ => ⟨S8320x2048, .f32⟩
  | .local _ .vmem, ⟨0, _⟩ => ⟨S1040x1408, .bf16⟩
  | .local _ .vmem, ⟨1, _⟩ => ⟨S1040x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefKvDxIdeal.lean ====
abbrev S8320x4224 : Shape := ⟨2, ![8320, 4224]⟩
abbrev S2048x4224 : Shape := ⟨2, ![2048, 4224]⟩
abbrev S8320x2048 : Shape := ⟨2, ![8320, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x4224, .bf16⟩
  | .hbm, ⟨1, _⟩ => ⟨S2048x4224, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S2048x4224, .f32⟩
  | .hbm, ⟨6, _⟩ => ⟨S8320x4224, .f32⟩
  | .hbm, ⟨7, _⟩ => ⟨S8320x4224, .f32⟩
  | .hbm, ⟨8, _⟩ => ⟨S8320x2048, .f32⟩
  | .hbm, ⟨9, _⟩ => ⟨S8320x2048, .f32⟩
  | _, _ => ⟨S8320x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamFoxIn.lean ====
abbrev S4096x1024 : Shape := ⟨2, ![4096, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamFoxInIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFoxOut.lean ====
abbrev S1024x2048 : Shape := ⟨2, ![1024, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamFoxOutIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x1028 : Shape := ⟨2, ![2048, 1028]⟩
abbrev S512x1028 : Shape := ⟨2, ![512, 1028]⟩

abbrev nBuf : Space → Nat
  | .hbm => 8
  | .vmem => 16
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .local _ .vmem, ⟨0, _⟩ => ⟨S512x1028, .f32⟩
  | .local _ .vmem, ⟨1, _⟩ => ⟨S512x1028, .f32⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | .local _ .vmem, ⟨14, _⟩ => ⟨S512x1028, .f32⟩
  | .local _ .vmem, ⟨15, _⟩ => ⟨S512x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamKvIdeal.lean ====
abbrev S2048x1028 : Shape := ⟨2, ![2048, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S2048x1028, .f32⟩
  | .hbm, ⟨6, _⟩ => ⟨S2048x1028, .f32⟩
  | .hbm, ⟨7, _⟩ => ⟨S_, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S_, .f32⟩
  | .hbm, ⟨12, _⟩ => ⟨S2048x1028, .f32⟩
  | .hbm, ⟨13, _⟩ => ⟨S2048x1028, .f32⟩
  | .hbm, ⟨14, _⟩ => ⟨S2048x1028, .f32⟩
  | .hbm, ⟨15, _⟩ => ⟨S_, .f32⟩
  | .hbm, ⟨16, _⟩ => ⟨S2048x1028, .f32⟩
  | .hbm, ⟨17, _⟩ => ⟨S2048x1028, .f32⟩
  | .hbm, ⟨18, _⟩ => ⟨S2048x1028, .f32⟩
  | .hbm, ⟨19, _⟩ => ⟨S_, .f32⟩
  | .hbm, ⟨20, _⟩ => ⟨S2048x1028, .f32⟩
  | .hbm, ⟨21, _⟩ => ⟨S2048x1028, .f32⟩
  | .hbm, ⟨22, _⟩ => ⟨S_, .f32⟩
  | .hbm, ⟨23, _⟩ => ⟨S2048x1028, .f32⟩
  | .hbm, ⟨24, _⟩ => ⟨S2048x1028, .f32⟩
  | .hbm, ⟨25, _⟩ => ⟨S2048x1028, .f32⟩
  | .hbm, ⟨26, _⟩ => ⟨S_, .f32⟩
  | .hbm, ⟨27, _⟩ => ⟨S2048x1028, .f32⟩
  | .hbm, ⟨28, _⟩ => ⟨S2048x1028, .f32⟩
  | .hbm, ⟨29, _⟩ => ⟨S2048x1028, .f32⟩
  | .hbm, ⟨30, _⟩ => ⟨S_, .f32⟩
  | .hbm, ⟨31, _⟩ => ⟨S2048x1028, .f32⟩
  | .hbm, ⟨32, _⟩ => ⟨S2048x1028, .f32⟩
  | .hbm, ⟨33, _⟩ => ⟨S2048x1028, .f32⟩
  | .hbm, ⟨34, _⟩ => ⟨S_, .f32⟩
  | .hbm, ⟨35, _⟩ => ⟨S2048x1028, .f32⟩
  | .hbm, ⟨36, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlaIn.lean ====
abbrev S4096x1540 : Shape := ⟨2, ![4096, 1540]⟩
abbrev S2048x1540 : Shape := ⟨2, ![2048, 1540]⟩
abbrev S256x1540 : Shape := ⟨2, ![256, 1540]⟩

abbrev nBuf : Space → Nat
  | .hbm => 9
  | .vmem => 18
  | .smem => 0
  | _ => 0

abbrev bufTy : (tb : Table) → Fin (tcTables nBuf tb) → BufTy
  | .hbm, ⟨0, _⟩ => ⟨S4096x1540, .f32⟩
  | .hbm, ⟨1, _⟩ => ⟨S4096x1540, .f32⟩
  | .hbm, ⟨2, _⟩ => ⟨S4096x1540, .f32⟩
  | .hbm, ⟨3, _⟩ => ⟨S2048x1540, .f32⟩
  | .hbm, ⟨4, _⟩ => ⟨S2048x1540, .f32⟩
  | .hbm, ⟨5, _⟩ => ⟨S4096x1540, .f32⟩
  | .hbm, ⟨6, _⟩ => ⟨S4096x1540, .f32⟩
  | .hbm, ⟨7, _⟩ => ⟨S4096x1540, .f32⟩
  | .hbm, ⟨8, _⟩ => ⟨S4096x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | .local _ .vmem, ⟨16, _⟩ => ⟨S256x1540, .f32⟩
  | .local _ .vmem, ⟨17, _⟩ => ⟨S256x1540, .f32⟩
  | _, _ => ⟨S4096x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1540 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamGlaInIdeal.lean ====
abbrev S4096x1540 : Shape := ⟨2, ![4096, 1540]⟩
abbrev S2048x1540 : Shape := ⟨2, ![2048, 1540]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1540, .f32⟩
  | .hbm, ⟨1, _⟩ => ⟨S4096x1540, .f32⟩
  | .hbm, ⟨2, _⟩ => ⟨S4096x1540, .f32⟩
  | .hbm, ⟨3, _⟩ => ⟨S2048x1540, .f32⟩
  | .hbm, ⟨4, _⟩ => ⟨S2048x1540, .f32⟩
  | .hbm, ⟨5, _⟩ => ⟨S4096x1540, .f32⟩
  | .hbm, ⟨6, _⟩ => ⟨S_, .f32⟩
  | .hbm, ⟨7, _⟩ => ⟨S4096x1540, .f32⟩
  | .hbm, ⟨8, _⟩ => ⟨S4096x1540, .f32⟩
  | .hbm, ⟨9, _⟩ => ⟨S_, .f32⟩
  | .hbm, ⟨10, _⟩ => ⟨S4096x1540, .f32⟩
  | .hbm, ⟨11, _⟩ => ⟨S4096x1540, .f32⟩
  | .hbm, ⟨12, _⟩ => ⟨S4096x1540, .f32⟩
  | .hbm, ⟨13, _⟩ => ⟨S_, .f32⟩
  | .hbm, ⟨14, _⟩ => ⟨S4096x1540, .f32⟩
  | .hbm, ⟨15, _⟩ => ⟨S4096x1540, .f32⟩
  | .hbm, ⟨16, _⟩ => ⟨S4096x1540, .f32⟩
  | .hbm, ⟨17, _⟩ => ⟨S_, .f32⟩
  | .hbm, ⟨18, _⟩ => ⟨S4096x1540, .f32⟩
  | .hbm, ⟨19, _⟩ => ⟨S4096x1540, .f32⟩
  | .hbm, ⟨20, _⟩ => ⟨S4096x1540, .f32⟩
  | .hbm, ⟨21, _⟩ => ⟨S_, .f32⟩
  | .hbm, ⟨22, _⟩ => ⟨S4096x1540, .f32⟩
  | .hbm, ⟨23, _⟩ => ⟨S4096x1540, .f32⟩
  | .hbm, ⟨24, _⟩ => ⟨S_, .f32⟩
  | .hbm, ⟨25, _⟩ => ⟨S4096x1540, .f32⟩
  | .hbm, ⟨26, _⟩ => ⟨S4096x1540, .f32⟩
  | .hbm, ⟨27, _⟩ => ⟨S4096x1540, .f32⟩
  | .hbm, ⟨28, _⟩ => ⟨S_, .f32⟩
  | .hbm, ⟨29, _⟩ => ⟨S4096x1540, .f32⟩
  | .hbm, ⟨30, _⟩ => ⟨S4096x1540, .f32⟩
  | .hbm, ⟨31, _⟩ => ⟨S4096x1540, .f32⟩
  | .hbm, ⟨32, _⟩ => ⟨S_, .f32⟩
  | .hbm, ⟨33, _⟩ => ⟨S4096x1540, .f32⟩
  | .hbm, ⟨34, _⟩ => ⟨S4096x1540, .f32⟩
  | .hbm, ⟨35, _⟩ => ⟨S4096x1540, .f32⟩
  | .hbm, ⟨36, _⟩ => ⟨S_, .f32⟩
  | .hbm, ⟨37, _⟩ => ⟨S4096x1540, .f32⟩
  | .hbm, ⟨38, _⟩ => ⟨S4096x1540, .f32⟩
  | _, _ => ⟨S4096x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGlaOut.lean ====
abbrev S1024x2048 : Shape := ⟨2, ![1024, 2048]⟩
abbrev S512x2048 : Shape := ⟨2, ![512, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S512x2048, .f32⟩
  | .hbm, ⟨4, _⟩ => ⟨S512x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamGlaOutIdeal.lean ====
abbrev S1024x2048 : Shape := ⟨2, ![1024, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S512x2048, .f32⟩
  | .hbm, ⟨4, _⟩ => ⟨S512x2048, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S8192x2816 : Shape := ⟨2, ![8192, 2816]⟩
abbrev S2048x2816 : Shape := ⟨2, ![2048, 2816]⟩
abbrev S4096x2816 : Shape := ⟨2, ![4096, 2816]⟩
abbrev S128x2816 : Shape := ⟨2, ![128, 2816]⟩

abbrev nBuf : Space → Nat
  | .hbm => 10
  | .vmem => 20
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S2048x2816, .f32⟩
  | .hbm, ⟨4, _⟩ => ⟨S2048x2816, .f32⟩
  | .hbm, ⟨5, _⟩ => ⟨S4096x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .vmem, ⟨18, _⟩ => ⟨S128x2816, .f32⟩
  | .local _ .vmem, ⟨19, _⟩ => ⟨S128x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefAdamUpIdeal.lean ====
abbrev S8192x2816 : Shape := ⟨2, ![8192, 2816]⟩
abbrev S2048x2816 : Shape := ⟨2, ![2048, 2816]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S2048x2816, .f32⟩
  | .hbm, ⟨4, _⟩ => ⟨S2048x2816, .f32⟩
  | .hbm, ⟨5, _⟩ => ⟨S4096x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamDown.lean ====
abbrev S5632x2048 : Shape := ⟨2, ![5632, 2048]⟩
abbrev S1408x2048 : Shape := ⟨2, ![1408, 2048]⟩
abbrev S2816x2048 : Shape := ⟨2, ![2816, 2048]⟩
abbrev S176x2048 : Shape := ⟨2, ![176, 2048]⟩

abbrev nBuf : Space → Nat
  | .hbm => 10
  | .vmem => 20
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S1408x2048, .f32⟩
  | .hbm, ⟨4, _⟩ => ⟨S1408x2048, .f32⟩
  | .hbm, ⟨5, _⟩ => ⟨S2816x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .vmem, ⟨18, _⟩ => ⟨S176x2048, .f32⟩
  | .local _ .vmem, ⟨19, _⟩ => ⟨S176x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefAdamDownIdeal.lean ====
abbrev S5632x2048 : Shape := ⟨2, ![5632, 2048]⟩
abbrev S1408x2048 : Shape := ⟨2, ![1408, 2048]⟩
abbrev S2816x2048 : Shape := ⟨2, ![2816, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S1408x2048, .f32⟩
  | .hbm, ⟨4, _⟩ => ⟨S1408x2048, .f32⟩
  | .hbm, ⟨5, _⟩ => ⟨S2816x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S_, .f32⟩
  | .hbm, ⟨11, _⟩ => ⟨S5632x2048, .f32⟩
  | .hbm, ⟨12, _⟩ => ⟨S5632x2048, .f32⟩
  | .hbm, ⟨13, _⟩ => ⟨S5632x2048, .f32⟩
  | .hbm, ⟨14, _⟩ => ⟨S_, .f32⟩
  | .hbm, ⟨15, _⟩ => ⟨S5632x2048, .f32⟩
  | .hbm, ⟨16, _⟩ => ⟨S5632x2048, .f32⟩
  | .hbm, ⟨17, _⟩ => ⟨S5632x2048, .f32⟩
  | .hbm, ⟨18, _⟩ => ⟨S_, .f32⟩
  | .hbm, ⟨19, _⟩ => ⟨S5632x2048, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S_, .f32⟩
  | .hbm, ⟨26, _⟩ => ⟨S5632x2048, .f32⟩
  | .hbm, ⟨27, _⟩ => ⟨S5632x2048, .f32⟩
  | .hbm, ⟨28, _⟩ => ⟨S5632x2048, .f32⟩
  | .hbm, ⟨29, _⟩ => ⟨S_, .f32⟩
  | .hbm, ⟨30, _⟩ => ⟨S5632x2048, .f32⟩
  | .hbm, ⟨31, _⟩ => ⟨S5632x2048, .f32⟩
  | .hbm, ⟨32, _⟩ => ⟨S5632x2048, .f32⟩
  | .hbm, ⟨33, _⟩ => ⟨S_, .f32⟩
  | .hbm, ⟨34, _⟩ => ⟨S5632x2048, .f32⟩
  | .hbm, ⟨35, _⟩ => ⟨S5632x2048, .f32⟩
  | .hbm, ⟨36, _⟩ => ⟨S5632x2048, .f32⟩
  | .hbm, ⟨37, _⟩ => ⟨S_, .f32⟩
  | .hbm, ⟨38, _⟩ => ⟨S5632x2048, .f32⟩
  | .hbm, ⟨39, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamSmall.lean ====
abbrev S816x128 : Shape := ⟨2, ![816, 128]⟩

abbrev nBuf : Space → Nat
  | .hbm => 8
  | .vmem => 8
  | .smem => 0
  | _ => 0

abbrev bufTy : (tb : Table) → Fin (tcTables nBuf tb) → BufTy
  | .hbm, ⟨0, _⟩ => ⟨S816x128, .f32⟩
  | .hbm, ⟨1, _⟩ => ⟨S816x128, .f32⟩
  | .hbm, ⟨2, _⟩ => ⟨S816x128, .f32⟩
  | .hbm, ⟨3, _⟩ => ⟨S816x128, .f32⟩
  | .hbm, ⟨4, _⟩ => ⟨S816x128, .f32⟩
  | .hbm, ⟨5, _⟩ => ⟨S816x128, .f32⟩
  | .hbm, ⟨6, _⟩ => ⟨S816x128, .f32⟩
  | .hbm, ⟨7, _⟩ => ⟨S816x128, .f32⟩
  | .local _ .vmem, ⟨0, _⟩ => ⟨S816x128, .f32⟩
  | .local _ .vmem, ⟨1, _⟩ => ⟨S816x128, .f32⟩
  | .local _ .vmem, ⟨2, _⟩ => ⟨S816x128, .f32⟩
  | .local _ .vmem, ⟨3, _⟩ => ⟨S816x128, .f32⟩
  | .local _ .vmem, ⟨4, _⟩ => ⟨S816x128, .f32⟩
  | .local _ .vmem, ⟨5, _⟩ => ⟨S816x128, .f32⟩
  | .local _ .vmem, ⟨6, _⟩ => ⟨S816x128, .f32⟩
  | .local _ .vmem, ⟨7, _⟩ => ⟨S816x128, .f32⟩
  | _, _ => ⟨S816x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S816x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S816x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S816x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S816x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S816x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S816x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S816x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S816x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamSmallIdeal.lean ====
abbrev S816x128 : Shape := ⟨2, ![816, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S816x128, .f32⟩
  | .hbm, ⟨1, _⟩ => ⟨S816x128, .f32⟩
  | .hbm, ⟨2, _⟩ => ⟨S816x128, .f32⟩
  | .hbm, ⟨3, _⟩ => ⟨S816x128, .f32⟩
  | .hbm, ⟨4, _⟩ => ⟨S_, .f32⟩
  | .hbm, ⟨5, _⟩ => ⟨S816x128, .f32⟩
  | .hbm, ⟨6, _⟩ => ⟨S816x128, .f32⟩
  | .hbm, ⟨7, _⟩ => ⟨S_, .f32⟩
  | .hbm, ⟨8, _⟩ => ⟨S816x128, .f32⟩
  | .hbm, ⟨9, _⟩ => ⟨S816x128, .f32⟩
  | .hbm, ⟨10, _⟩ => ⟨S816x128, .f32⟩
  | .hbm, ⟨11, _⟩ => ⟨S_, .f32⟩
  | .hbm, ⟨12, _⟩ => ⟨S816x128, .f32⟩
  | .hbm, ⟨13, _⟩ => ⟨S816x128, .f32⟩
  | .hbm, ⟨14, _⟩ => ⟨S816x128, .f32⟩
  | .hbm, ⟨15, _⟩ => ⟨S_, .f32⟩
  | .hbm, ⟨16, _⟩ => ⟨S816x128, .f32⟩
  | .hbm, ⟨17, _⟩ => ⟨S816x128, .f32⟩
  | .hbm, ⟨18, _⟩ => ⟨S816x128, .f32⟩
  | .hbm, ⟨19, _⟩ => ⟨S_, .f32⟩
  | .hbm, ⟨20, _⟩ => ⟨S816x128, .f32⟩
  | .hbm, ⟨21, _⟩ => ⟨S816x128, .f32⟩
  | .hbm, ⟨22, _⟩ => ⟨S_, .f32⟩
  | .hbm, ⟨23, _⟩ => ⟨S816x128, .f32⟩
  | .hbm, ⟨24, _⟩ => ⟨S816x128, .f32⟩
  | .hbm, ⟨25, _⟩ => ⟨S816x128, .f32⟩
  | .hbm, ⟨26, _⟩ => ⟨S_, .f32⟩
  | .hbm, ⟨27, _⟩ => ⟨S816x128, .f32⟩
  | .hbm, ⟨28, _⟩ => ⟨S816x128, .f32⟩
  | .hbm, ⟨29, _⟩ => ⟨S816x128, .f32⟩
  | .hbm, ⟨30, _⟩ => ⟨S_, .f32⟩
  | .hbm, ⟨31, _⟩ => ⟨S816x128, .f32⟩
  | .hbm, ⟨32, _⟩ => ⟨S816x128, .f32⟩
  | .hbm, ⟨33, _⟩ => ⟨S816x128, .f32⟩
  | .hbm, ⟨34, _⟩ => ⟨S_, .f32⟩
  | .hbm, ⟨35, _⟩ => ⟨S816x128, .f32⟩
  | .hbm, ⟨36, _⟩ => ⟨S816x128, .f32⟩
  | _, _ => ⟨S816x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x2208x128 : Shape := ⟨3, ![8, 2208, 128]⟩
abbrev S2208x128 : Shape := ⟨2, ![2208, 128]⟩
abbrev S1x2208x128 : Shape := ⟨3, ![1, 2208, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2208x128, .f32⟩
  | .hbm, ⟨1, _⟩ => ⟨S2208x128, .f32⟩
  | .local _ .vmem, ⟨0, _⟩ => ⟨S8x2208x128, .f32⟩
  | .local _ .vmem, ⟨1, _⟩ => ⟨S2208x128, .f32⟩
  | _, _ => ⟨S8x2208x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RefSumSmallIdeal.lean ====
abbrev S8x2208x128 : Shape := ⟨3, ![8, 2208, 128]⟩
abbrev S_ : Shape := ⟨0, ![]⟩
abbrev S2208x128 : Shape := ⟨2, ![2208, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2208x128, .f32⟩
  | .hbm, ⟨1, _⟩ => ⟨S_, .f32⟩
  | .hbm, ⟨2, _⟩ => ⟨S2208x128, .f32⟩
  | _, _ => ⟨S8x2208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
  What a step of the body leaves in each of its three results, case by case, as the body's values.
-/
module

public import proofs.«01_k».proof.Proof.Gen.KernelIdeal.Frame
public import Idealize.ShloMosaic.Lib.Pipeline.Value
public import Idealize.ShloMosaic.Lib.WritesUnit
public import Idealize.ShloMosaic.Lib.ValueIdx
public import Idealize.ShloMosaic.Lib.Tactic

@[expose] public section

noncomputable section

namespace Cert.KernelIdeal.Val

open Cert.KernelIdeal Cert.KernelIdeal.Gen Idealize.ShloMosaic Idealize.ShloMosaic.ValueIdx Idealize.ShloMosaic.Tactic

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S640x256 .bf16) (harg3 : arg3.IsWhole) (arg4 : Memref sig .tc .vmem S640x256 .bf16) (harg4 : arg4.IsWhole)
  (arg5 : Memref sig .tc .vmem S640x256 .bf16) (harg5 : arg5.IsWhole) (arg6 : Memref sig .tc .vmem S640x256 .bf16) (harg6 : arg6.IsWhole)
  (arg7 : Memref sig .tc .vmem S1x640x1 .f32) (harg7 : arg7.IsWhole) (arg8 : Memref sig .tc .vmem S640x256 .f32) (harg8 : arg8.IsWhole)
  (arg9 : Memref sig .tc .vmem S640x256 .f32) (harg9 : arg9.IsWhole) (arg10 : Memref sig .tc .vmem S8320x256 .f32) (harg10 : arg10.IsWhole)
  (arg11 : Memref sig .tc .vmem S640x256 .f32) (harg11 : arg11.IsWhole) (arg12 : Memref sig .tc .vmem S640x256 .f32) (harg12 : arg12.IsWhole)
  (x0 x1 x2 x3 : Vec F S640x256 .bf16) (x4 : Vec F S1x640x1 .f32) (x5 x6 : Vec F S640x256 .f32)
  (xo7 : Vec F S8320x256 .f32) (xo8 xo9 : Vec F S640x256 .f32)

/-- The row of the array that row `r` of query block `n` is. -/
def brow (n : Fin 13) (r : Fin 640) : Fin 8320 := ⟨n.val * 640 + r.val, by have := n.isLt; have := r.isLt; omega⟩

/-- The rows of query block `n` of an array. -/
def brows (n : Fin 13) (x : Vec F S8320x256 .f32) : Vec F S640x256 .f32 :=
  fun y => x (ix2 (brow n ⟨(y 0).val, (y 0).isLt⟩) ⟨(y 1).val, (y 1).isLt⟩)

theorem word_off (n : Fin 13) : (Scalar.indexCast (Scalar.muli (BitVec.ofNat 32 n.val) 640#32)).toNat = n.val * 640 := by
  fin_cases n <;> rfl

/-- The first row a step touches is its query block's. -/
theorem off1_eq (i : grid0.Coords) : k0_off1 i = ![(i 2).val * 640, 0] :=
  congrArg (fun a => (![a, 0] : Fin 2 → ℕ)) (word_off (i 2))

theorem off2_eq (i : grid0.Coords) : k0_off2 i = ![(i 2).val * 640, 0] :=
  congrArg (fun a => (![a, 0] : Fin 2 → ℕ)) (word_off (i 2))

theorem ld_rows {off : Fin 2 → ℕ} {n : Fin 13} (hoff : off = ![n.val * 640, 0]) (inb) (x : Vec F S8320x256 .f32) :
    View.ld x (Rect.unit (s := S8320x256) off S640x256.size inb) = brows n x := by
  subst hoff
  funext y
  refine congrArg x (funext fun a => ?_)
  fin_cases a
  · exact Fin.ext (congrArg (n.val * 640 + ·) (Nat.one_mul _))
  · exact Fin.ext ((congrArg (0 + ·) (Nat.one_mul _)).trans (Nat.zero_add _))

theorem cover_zero (inb) (w : S8320x256.Idx → F .f32) (y : S8320x256.Idx) :
    ∃ p ∈ [(⟨Rect.unit (s := S8320x256) ![0, 0] S8320x256.size inb, w⟩ : View.Piece (Elt F) S8320x256 .f32)], y ∈ p.1.set :=
  ⟨_, List.mem_singleton_self _, View.mem_set_unit_zero (S := S8320x256) hz inb y⟩

theorem pay2_eq (x : Vec F S640x256 .f32) : k0_pay2 x = x := by unfold k0_pay2; exact shapeCast_self ..

theorem pay3_eq (x : Vec F S640x256 .f32) : k0_pay3 x = x := by unfold k0_pay3; exact shapeCast_self ..

theorem out_B_9 (hc0 : ¬cond0_0 i) (hc1 : ¬cond0_1 i) (hc2 : cond0_2 i) (hc3 : ¬cond0_3 i) :
    out0_B_9 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 = k0_pay12 x0 x1 x3 x4 xo9 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9)]
  unfold kernelRun0_B
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_B_8 (hc0 : ¬cond0_0 i) (hc1 : ¬cond0_1 i) (hc2 : cond0_2 i) (hc3 : ¬cond0_3 i) :
    out0_B_8 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 = k0_pay13 x0 x1 x3 x4 x2 xo8 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9)]
  unfold kernelRun0_B
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_C_8 (hc0 : ¬cond0_0 i) (hc1 : cond0_1 i) (hc2 : ¬cond0_2 i) (hc3 : ¬cond0_3 i) :
    out0_C_8 c i arg3 harg3 arg4 harg4 arg5 harg5 arg6 harg6 arg7 harg7 arg8 harg8 arg9 harg9 arg10 harg10 arg11 harg11 arg12 harg12 hc0 hc1 hc2 hc3 x0 x1 x2 x3 x4 x5 x6 = x5 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_C
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_C_9 (hc0 : ¬cond0_0 i) (hc1 : cond0_1 i) (hc2 : ¬cond0_2 i) (hc3 : ¬cond0_3 i) :
    out0_C_9 c i arg3 harg3 arg4 harg4 arg5 harg5 arg6 harg6 arg7 harg7 arg8 harg8 arg9 harg9 arg10 harg10 arg11 harg11 arg12 harg12 hc0 hc1 hc2 hc3 x0 x1 x2 x3 x4 x5 x6 = x6 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_C
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_D_9 (hc0 : ¬cond0_0 i) (hc1 : ¬cond0_1 i) (hc2 : ¬cond0_2 i) (hc3 : cond0_3 i) :
    out0_D_9 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 = k0_pay20 (BitVec.ofNat 32 (i 1).val) (BitVec.ofNat 32 (i 2).val) x0 x1 x3 x4 xo9 := by
  unfold out0_D_9
  rw [View.read_writes_eq_canon _ _ _ (cover0_D_9 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9)]
  unfold kernelRun0_D
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_D_8 (hc0 : ¬cond0_0 i) (hc1 : ¬cond0_1 i) (hc2 : ¬cond0_2 i) (hc3 : cond0_3 i) :
    out0_D_8 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 = k0_pay5 (k0_pay15 x0) (k0_pay19 (BitVec.ofNat 32 (i 1).val) (BitVec.ofNat 32 (i 2).val) x0 x1 x3 x4 x2) xo8 := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9)]
  unfold kernelRun0_D
  dsimp only
  sl_unfold_words
  rw [View.canon_unit_zero (S := S640x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_A_9 (hc0 : cond0_0 i) (hc1 : cond0_1 i) (hc2 : ¬cond0_2 i) (hc3 : cond0_3 i) :
    out0_A_9 c i arg3 harg3 arg4 harg4 arg5 harg5 arg6 harg6 arg7 harg7 arg8 harg8 arg9 harg9 arg10 harg10 arg11 harg11 arg12 harg12 hc0 hc1 hc2 hc3 x0 x1 x2 x3 x4 x5 x6 = k0_pay20 (BitVec.ofNat 32 (i 1).val) (BitVec.ofNat 32 (i 2).val) x0 x1 x3 x4 x6 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_cons_unit_zero (S := S640x256) hz, View.readCov_unit_zero (S := S640x256) _ hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_A_8 (hc0 : cond0_0 i) (hc1 : cond0_1 i) (hc2 : ¬cond0_2 i) (hc3 : cond0_3 i) :
    out0_A_8 c i arg3 harg3 arg4 harg4 arg5 harg5 arg6 harg6 arg7 harg7 arg8 harg8 arg9 harg9 arg10 harg10 arg11 harg11 arg12 harg12 hc0 hc1 hc2 hc3 x0 x1 x2 x3 x4 x5 x6 = k0_pay5 (k0_pay15 x0) (k0_pay19 (BitVec.ofNat 32 (i 1).val) (BitVec.ofNat 32 (i 2).val) x0 x1 x3 x4 x2) x5 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_cons_unit_zero (S := S640x256) hz, View.readCov_unit_zero (S := S640x256) _ hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]

theorem out_B_7_hit (hc0 : ¬cond0_0 i) (hc1 : ¬cond0_1 i) (hc2 : cond0_2 i) (hc3 : ¬cond0_3 i) (r : Fin 640) (l : Fin 256) :
    out0_B_7 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 (ix2 (brow (i 2) r) l) = (k0_pay4 (k0_pay8 x1) (k0_pay11 x0 x1 x3 x4 x2) (k0_pay14 (brows (i 2) xo7)) : Vec F S640x256 .f32) (ix2 r l) := by
  unfold out0_B_7 kernelRun0_B
  dsimp only
  sl_unfold_words
  refine (View.read_writes_cons_rows_of_mem _ _ _ _ _ (ix2 (brow (i 2) r) l) (ix2 r l) (off1_eq i) rfl rfl).trans ?_
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]
  exact congrArg (fun b : Vec F S640x256 .f32 => (k0_pay4 (k0_pay8 x1) (k0_pay11 x0 x1 x3 x4 x2) (k0_pay14 b) : Vec F S640x256 .f32) (ix2 r l)) (ld_rows (off1_eq i) _ xo7)

theorem out_B_7_miss (hc0 : ¬cond0_0 i) (hc1 : ¬cond0_1 i) (hc2 : cond0_2 i) (hc3 : ¬cond0_3 i) (a : Fin 8320) (l : Fin 256) (ha : a.val < (i 2).val * 640 ∨ (i 2).val * 640 + 640 ≤ a.val) :
    out0_B_7 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 (ix2 a l) = xo7 (ix2 a l) := by
  unfold out0_B_7 kernelRun0_B
  dsimp only
  sl_unfold_words
  refine (View.read_writes_cons_rows_of_not_mem (W := 640) _ _ _ _ _ (ix2 a l) (off1_eq i) rfl ha).trans ?_
  rw [View.writes_nil, harg10.read_unread]

theorem out_D_7_hit (hc0 : ¬cond0_0 i) (hc1 : ¬cond0_1 i) (hc2 : ¬cond0_2 i) (hc3 : cond0_3 i) (r : Fin 640) (l : Fin 256) :
    out0_D_7 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 (ix2 (brow (i 2) r) l) = (k0_pay6 (k0_pay16 x1) (k0_pay19 (BitVec.ofNat 32 (i 1).val) (BitVec.ofNat 32 (i 2).val) x0 x1 x3 x4 x2) (brows (i 2) xo7) : Vec F S640x256 .f32) (ix2 r l) := by
  unfold out0_D_7 kernelRun0_D
  dsimp only
  sl_unfold_words
  refine (View.read_writes_cons_rows_of_mem _ _ _ _ _ (ix2 (brow (i 2) r) l) (ix2 r l) (off2_eq i) rfl rfl).trans ?_
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]
  exact congrArg (fun b : Vec F S640x256 .f32 => (k0_pay6 (k0_pay16 x1) (k0_pay19 (BitVec.ofNat 32 (i 1).val) (BitVec.ofNat 32 (i 2).val) x0 x1 x3 x4 x2) b : Vec F S640x256 .f32) (ix2 r l)) (ld_rows (off2_eq i) _ xo7)

theorem out_D_7_miss (hc0 : ¬cond0_0 i) (hc1 : ¬cond0_1 i) (hc2 : ¬cond0_2 i) (hc3 : cond0_3 i) (a : Fin 8320) (l : Fin 256) (ha : a.val < (i 2).val * 640 ∨ (i 2).val * 640 + 640 ≤ a.val) :
    out0_D_7 c i arg3 harg3 arg4 harg4 arg5 harg5 arg6 harg6 arg7 harg7 arg8 harg8 arg9 harg9 arg10 harg10 arg11 harg11 arg12 harg12 hc0 hc1 hc2 hc3 x0 x1 x2 x3 x4 x5 x6 xo7 xo8 xo9 (ix2 a l) = xo7 (ix2 a l) := by
  unfold out0_D_7 kernelRun0_D
  dsimp only
  sl_unfold_words
  refine (View.read_writes_cons_rows_of_not_mem (W := 640) _ _ _ _ _ (ix2 a l) (off2_eq i) rfl ha).trans ?_
  rw [View.writes_nil, harg10.read_unread]

theorem out_A_7_hit (hc0 : cond0_0 i) (hc1 : cond0_1 i) (hc2 : ¬cond0_2 i) (hc3 : cond0_3 i) (r : Fin 640) (l : Fin 256) :
    out0_A_7 c i arg3 harg3 arg4 harg4 arg5 harg5 arg6 harg6 arg7 harg7 arg8 harg8 arg9 harg9 arg10 harg10 arg11 harg11 arg12 harg12 hc0 hc1 hc2 hc3 x0 x1 x2 x3 x4 x5 x6 (ix2 (brow (i 2) r) l) = (k0_pay6 (k0_pay16 x1) (k0_pay19 (BitVec.ofNat 32 (i 1).val) (BitVec.ofNat 32 (i 2).val) x0 x1 x3 x4 x2) (brows (i 2) k0_pay1) : Vec F S640x256 .f32) (ix2 r l) := by
  unfold out0_A_7 kernelRun0_A
  dsimp only
  sl_unfold_words
  refine (View.read_writes_cons_rows_of_mem _ _ _ _ _ (ix2 (brow (i 2) r) l) (ix2 r l) (off2_eq i) rfl rfl).trans ?_
  rw [View.readAt_eq_ld _ (arg10.view.writes _ _ _),
    View.read_writes_eq_canon _ _ _ (cover_zero _ _),
    View.canon_unit_zero (S := S8320x256) hz]
  simp only [View.readAt_eq_ld, harg3.read_unread, harg4.read_unread, harg5.read_unread, harg6.read_unread, harg7.read_unread, harg8.read_unread, harg9.read_unread, harg10.read_unread, harg11.read_unread, harg12.read_unread, View.ld_unit_zero (S := S640x256) hz, View.ld_unit_zero (S := S1x640x1) hz3, pay2_eq, pay3_eq, shapeCast_self]
  exact congrArg (fun b : Vec F S640x256 .f32 => (k0_pay6 (k0_pay16 x1) (k0_pay19 (BitVec.ofNat 32 (i 1).val) (BitVec.ofNat 32 (i 2).val) x0 x1 x3 x4 x2) b : Vec F S640x256 .f32) (ix2 r l)) (ld_rows (off2_eq i) _ k0_pay1)

theorem out_A_7_miss (hc0 : cond0_0 i) (hc1 : cond0_1 i) (hc2 : ¬cond0_2 i) (hc3 : cond0_3 i) (a : Fin 8320) (l : Fin 256) (ha : a.val < (i 2).val * 640 ∨ (i 2).val * 640 + 640 ≤ a.val) :
    out0_A_7 c i arg3 harg3 arg4 harg4 arg5 harg5 arg6 harg6 arg7 harg7 arg8 harg8 arg9 harg9 arg10 harg10 arg11 harg11 arg12 harg12 hc0 hc1 hc2 hc3 x0 x1 x2 x3 x4 x5 x6 (ix2 a l) = (k0_pay1 : Vec F S8320x256 .f32) (ix2 a l) := by
  unfold out0_A_7 kernelRun0_A
  dsimp only
  sl_unfold_words
  refine (View.read_writes_cons_rows_of_not_mem (W := 640) _ _ _ _ _ (ix2 a l) (off2_eq i) rfl ha).trans ?_
  rw [View.read_writes_eq_canon _ _ _ (cover_zero _ _),
    View.canon_unit_zero (S := S8320x256) hz]

end Cert.KernelIdeal.Val
-- ==== Proof.Math.lean ====
/-
  The mathematics of one row of the attention and of its gradient, over the reals: the row's weights, their
  normaliser, and the two forms of the gradient of a logit.
-/
module

public import Idealize.ShloMosaic.Lib.IdealHost

@[expose] public section

noncomputable section

namespace Cert.Fox

open Idealize.ShloMosaic
open scoped BigOperators

/-- The number of positions of the sequence. -/
abbrev Pos := Fin 8320

/-- Key position `b` may be read from query position `a`: it is not later, and it is not a front row unless it is `a`. -/
def Keep (a b : ℕ) : Prop := b ≤ a ∧ (112 ≤ b ∨ b = a)

instance (a b : ℕ) : Decidable (Keep a b) := by unfold Keep; infer_instance

theorem keep_self (a : ℕ) : Keep a a := ⟨le_refl a, Or.inr rfl⟩

/-- The mask's word is one where the key position is kept. -/
theorem keep_word {A B : BitVec 32} {a b : ℕ} (hA : A.toInt = (a : ℤ)) (hB : B.toInt = (b : ℤ)) :
    IntOp.andi (IntOp.cmpi .sle B A) (IntOp.ori (IntOp.cmpi .sge B 112#32) (IntOp.cmpi .eq B A)) = 1#1 ↔ Keep a b := by
  have h1 : B.sle A = decide (b ≤ a) := by rw [BitVec.sle, hA, hB]; exact decide_eq_decide.mpr Int.ofNat_le
  have h2 : (112#32).sle B = decide (112 ≤ b) := by
    rw [BitVec.sle, hB]; exact decide_eq_decide.mpr (by rw [show (112#32).toInt = ((112 : ℕ) : ℤ) from rfl]; exact Int.ofNat_le)
  have h3 : (B == A) = decide (b = a) := by
    rw [show (B == A) = decide (B = A) from rfl, decide_eq_decide, ← BitVec.toInt_inj, hA, hB]; exact Int.ofNat_inj
  unfold IntOp.andi IntOp.ori IntOp.cmpi Keep
  dsimp only
  rw [h1, h2, h3]
  rw [show (b ≤ a ∧ (112 ≤ b ∨ b = a)) ↔ (decide (b ≤ a) && (decide (112 ≤ b) || decide (b = a))) = true from by
    rw [Bool.and_eq_true, Bool.or_eq_true, decide_eq_true_iff, decide_eq_true_iff, decide_eq_true_iff]]
  generalize decide (b ≤ a) = x
  generalize decide (112 ≤ b) = y
  generalize decide (b = a) = w
  cases x <;> cases y <;> cases w <;> decide

/-- A real sum, as an extended real. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A quotient of reals with a divisor that is not zero. -/
theorem coe_div {y : ℝ} (x : ℝ) (hy : y ≠ 0) : Ideal.div (x : EReal) (y : EReal) = ((x / y : ℝ) : EReal) := by
  rw [Ideal.div_coe hy, ← EReal.coe_mul, mul_one_div]

section Row

variable {J : Type*} [Fintype J] (M : J → Prop) [DecidablePred M] (s dp : J → ℝ) (m : ℝ)

/-- The weight of a key: the exponential of its logit less the row's shift, zero where the key is not read. -/
def wt (j : J) : ℝ := if M j then Real.exp (s j - m) else 0

/-- The row's normaliser. -/
def nrm : ℝ := ∑ j, wt M s m j

/-- The probability of a key. -/
def prb (j : J) : ℝ := wt M s m j / nrm M s m

/-- The gradient of a logit: the probability times what the value's product has over the row's mean. -/
def dlg (j : J) : ℝ := prb M s m j * (dp j - ∑ i, prb M s m i * dp i)

theorem wt_nonneg (j : J) : 0 ≤ wt M s m j := by
  unfold wt; split
  · exact (Real.exp_pos _).le
  · exact le_refl 0

theorem nrm_pos {j : J} (h : M j) : 0 < nrm M s m := by
  refine Finset.sum_pos' (fun i _ => wt_nonneg M s m i) ⟨j, Finset.mem_univ j, ?_⟩
  unfold wt; rw [if_pos h]; exact Real.exp_pos _

/-- The probability from the row's log-sum. -/
theorem prb_eq_exp (hn : 0 < nrm M s m) (j : J) :
    prb M s m j = if M j then Real.exp (s j - (m + Real.log (nrm M s m))) else 0 := by
  unfold prb wt
  by_cases h : M j
  · rw [if_pos h, if_pos h, ← sub_sub, Real.exp_sub _ (Real.log _), Real.exp_log hn]
  · rw [if_neg h, if_neg h, zero_div]

/-- The gradient of a logit as differentiating the weights and the normaliser one after the other gives it. -/
theorem dlg_eq (j : J) :
    (dp j / nrm M s m + -(∑ i, dp i * (1 / (nrm M s m * nrm M s m)) * wt M s m i)) * wt M s m j = dlg M s dp m j := by
  have h : ∑ i, dp i * (1 / (nrm M s m * nrm M s m)) * wt M s m i = (∑ i, prb M s m i * dp i) / nrm M s m := by
    rw [Finset.sum_div]
    refine Finset.sum_congr rfl fun i _ => ?_
    unfold prb; simp only [div_eq_mul_inv, mul_inv, one_mul]; ring
  unfold dlg
  rw [h]; unfold prb; simp only [div_eq_mul_inv]; ring

theorem dlg_eq_zero {j : J} (h : ¬ M j) : dlg M s dp m j = 0 := by
  unfold dlg prb wt; rw [if_neg h, zero_div, zero_mul]

end Row

/-- What the attention of all the heads is computed from: queries, keys, values, cumulative gates and the gradient of
    the output, with the scale of the logits and a shift of every row's logits. -/
structure Data where
  q : Pos → Fin 16 → Fin 128 → ℝ
  k : Pos → Fin 16 → Fin 128 → ℝ
  v : Pos → Fin 16 → Fin 128 → ℝ
  c : Pos → Fin 16 → ℝ
  g : Pos → Fin 16 → Fin 128 → ℝ
  sc : ℝ
  mx : Fin 16 → Pos → ℝ

namespace Data

variable (D : Data)

/-- The logit of query position `i` and key position `j` in head `h`. -/
def logit (h : Fin 16) (i j : Pos) : ℝ := (∑ d, D.q i h d * D.sc * D.k j h d) + D.c i h - D.c j h

/-- The keys read from position `i`. -/
abbrev Row (i j : Pos) : Prop := Keep i.val j.val

def w (h : Fin 16) (i j : Pos) : ℝ := wt (Row i) (D.logit h i) (D.mx h i) j

def n (h : Fin 16) (i : Pos) : ℝ := nrm (Row i) (D.logit h i) (D.mx h i)

def p (h : Fin 16) (i j : Pos) : ℝ := prb (Row i) (D.logit h i) (D.mx h i) j

/-- The gradient of the output against a value row. -/
def dp (h : Fin 16) (i j : Pos) : ℝ := ∑ d, D.g i h d * D.v j h d

def ds (h : Fin 16) (i j : Pos) : ℝ := dlg (Row i) (D.logit h i) (D.dp h i) (D.mx h i) j

/-- The output of the attention. -/
def o (h : Fin 16) (i : Pos) (d : Fin 128) : ℝ := ∑ j, D.p h i j * D.v j h d

/-- The output's gradient against the output. -/
def go (h : Fin 16) (i : Pos) : ℝ := ∑ d, D.g i h d * D.o h i d

/-- The log-sum of a row. -/
def lse (h : Fin 16) (i : Pos) : ℝ := D.mx h i + Real.log (D.n h i)

/-- The gradients of the queries, keys, values and cumulative gates. -/
def dQ (h : Fin 16) (i : Pos) (d : Fin 128) : ℝ := (∑ j, D.ds h i j * D.k j h d) * D.sc
def dK (h : Fin 16) (j : Pos) (d : Fin 128) : ℝ := ∑ i, D.ds h i j * (D.q i h d * D.sc)
def dV (h : Fin 16) (j : Pos) (d : Fin 128) : ℝ := ∑ i, D.p h i j * D.g i h d
def dC (h : Fin 16) (i : Pos) : ℝ := -(∑ a, D.ds h a i) + ∑ j, D.ds h i j

theorem n_pos (h : Fin 16) (i : Pos) : 0 < D.n h i := nrm_pos _ _ _ (j := i) (keep_self _)

theorem p_eq (h : Fin 16) (i j : Pos) :
    D.p h i j = if Keep i.val j.val then Real.exp (D.logit h i j - D.lse h i) else 0 :=
  prb_eq_exp _ _ _ (D.n_pos h i) j

theorem go_eq (h : Fin 16) (i : Pos) : D.go h i = ∑ j, D.p h i j * D.dp h i j := by
  unfold go o dp
  simp only [Finset.mul_sum]
  rw [Finset.sum_comm]
  exact Finset.sum_congr rfl fun j _ => Finset.sum_congr rfl fun d _ => by ring

theorem ds_eq (h : Fin 16) (i j : Pos) : D.ds h i j = D.p h i j * (D.dp h i j - D.go h i) := by
  rw [D.go_eq]; rfl

/-- Where the output's gradient is zero so are the gradients of the row's logits. -/
theorem ds_zero (h : Fin 16) (i j : Pos) (hg : ∀ d, D.g i h d = 0) : D.ds h i j = 0 := by
  have hp : ∀ j, D.dp h i j = 0 := fun j => Finset.sum_eq_zero fun d _ => by rw [hg, zero_mul]
  have hz : D.go h i = 0 := Finset.sum_eq_zero fun d _ => by rw [hg, zero_mul]
  rw [D.ds_eq, hp, hz, sub_zero, mul_zero]

end Data

end Cert.Fox
-- ==== Proof.Entries.lean ====
/-
  The body's values read at an entry, over the extended reals: the probability of a query row and a key row, the
  gradient of a logit, and what a step adds to the gradients of the values, the keys and the queries.
-/
module

public import proofs.«01_k».proof.Proof.Gen.KernelIdeal.Skeleton
public import Idealize.ShloMosaic.Lib.Pipeline.Value
public import Idealize.ShloMosaic.Lib.MatmulPlain
public import Idealize.ShloMosaic.Lib.ValueIdx
public import Idealize.ShloMosaic.Lib.IdealHost
public import proofs.«01_k».proof.Proof.Math

@[expose] public section

noncomputable section

namespace Cert.KernelIdeal.Val

open Cert.Fox Cert.KernelIdeal Cert.KernelIdeal.Gen Idealize.ShloMosaic Idealize.ShloMosaic.ValueIdx
open scoped BigOperators

/-- A block of rows of an array of 256 columns per head. -/
abbrev Blk (φ : FTy) := FVec Ideal S640x256 φ

/-- The probability of query row `r` and key row `s`: the exponential of their product less the row's log-sum. -/
def prob (q k : Blk .bf16) (z : FVec Ideal S1x640x1 .f32) (r s : Fin 640) : EReal :=
  Ideal.exp ((∑ l : Fin 256, q (ix2 r l) * k (ix2 s l)) - z (ix3 0 r 0))

/-- The masked probability in the block of query rows `640 qi …` and key rows `640 kj …`. -/
def probM (kj qi : ℕ) (q k : Blk .bf16) (z : FVec Ideal S1x640x1 .f32) (r s : Fin 640) : EReal :=
  if Keep (qi * 640 + r.val) (kj * 640 + s.val) then prob q k z r s else 0

/-- The gradient of a logit from the probability: times the product of the output's gradient and the value row. -/
def dlogit (p : Fin 640 → Fin 640 → EReal) (d v : Blk .bf16) (r s : Fin 640) : EReal :=
  p r s * ∑ l : Fin 256, d (ix2 r l) * v (ix2 s l)

/-- The contraction over both operands' rows, read at an entry. -/
theorem matmul_rows_apply {φ₁ φ₂ : FTy} (a : FVec Ideal S640x640 φ₁) (b : FVec Ideal S640x256 φ₂)
    (acc : FVec Ideal S640x256 .f32) (s : Fin 640) (l : Fin 256) :
    matmul dot_S640x640_S640x256_S640x256_0_0_1_1_n_n none a b acc (ix2 s l)
      = acc (ix2 s l) + ∑ r : Fin 640, a (ix2 r s) * b (ix2 r l) := by
  have hr : dot_S640x640_S640x256_S640x256_0_0_1_1_n_n.contr.rank = 1 := rfl
  have hs : dot_S640x640_S640x256_S640x256_0_0_1_1_n_n.contr.size ⟨0, by rw [hr]; exact Nat.one_pos⟩ = 640 := rfl
  refine (Ideal.matmul_apply _ _ _ _ _ _).trans ?_
  rw [← Equiv.sum_comp (contrEquiv1 _ 640 hr hs).symm]
  refine congrArg (acc (ix2 s l) + ·) (Finset.sum_congr rfl fun r _ => ?_)
  have hk := contrEquiv1_symm_val _ 640 hr hs r
  have el : dot_S640x640_S640x256_S640x256_0_0_1_1_n_n.lhsIdx (ix2 s l) ((contrEquiv1 _ 640 hr hs).symm r) = ix2 r s := by
    funext x; apply Fin.ext
    match x with
    | ⟨0, _⟩ => exact hk
    | ⟨1, _⟩ => rfl
  have er : dot_S640x640_S640x256_S640x256_0_0_1_1_n_n.rhsIdx (ix2 s l) ((contrEquiv1 _ 640 hr hs).symm r) = ix2 r l := by
    funext x; apply Fin.ext
    match x with
    | ⟨0, _⟩ => exact hk
    | ⟨1, _⟩ => rfl
  rw [el, er]

/-- The product of a block's rows with another's rows, from zero. -/
theorem matmul_cols_apply {φ₁ φ₂ : FTy} (a : FVec Ideal S640x256 φ₁) (b : FVec Ideal S640x256 φ₂) (r s : Fin 640) :
    matmul dot_S640x256_S640x256_S640x640_1_1_0_0_n_n none a b (constant S640x640 .f32 0x00000000#32) (ix2 r s)
      = ∑ l : Fin 256, a (ix2 r l) * b (ix2 s l) :=
  (Ideal.matmul_transposedRhs_apply none a b _ r s).trans (by rw [constant_apply, Ideal.ofBits_zero_f32, zero_add])

/-- The plain product of a square block with a block of rows. -/
theorem matmul_plain_apply {φ₁ φ₂ : FTy} (a : FVec Ideal S640x640 φ₁) (b : FVec Ideal S640x256 φ₂)
    (acc : FVec Ideal S640x256 .f32) (r : Fin 640) (l : Fin 256) :
    matmul dot_S640x640_S640x256_S640x256_1_0_0_1_n_n none a b acc (ix2 r l)
      = acc (ix2 r l) + ∑ s : Fin 640, a (ix2 r s) * b (ix2 s l) :=
  Ideal.matmul_plain_apply none a b acc r l

/-- The row's log-sum, spread over the columns. -/
theorem spread_apply (z : FVec Ideal S1x640x1 .f32) (r s : Fin 640) :
    broadcastTo S640x640 (shapeCast S640x1 z shapeCasts_S1x640x1_S640x1) broadcasts_S640x1_S640x640 (ix2 r s)
      = z (ix3 0 r 0) := by
  rw [broadcastTo_apply (shapeCast S640x1 z shapeCasts_S1x640x1_S640x1) broadcasts_S640x1_S640x640 (ix2 r s) (ix2 r 0)
    (fun a => match a with
      | ⟨0, _⟩ => rfl
      | ⟨1, _⟩ => rfl)]
  exact shapeCast_apply z shapeCasts_S1x640x1_S640x1 (ix2 r 0) (ix3 0 r 0)
    (by rw [Shape.rowMajor_val_two, Shape.rowMajor_val_three]; show (0 * 640 + r.val) * 1 + 0 = r.val * 1 + 0; omega)

/-- The unmasked step's probability. -/
theorem pay10_apply (q k : Blk .bf16) (z : FVec Ideal S1x640x1 .f32) (r s : Fin 640) :
    k0_pay10 (F := Ideal) q k z (ix2 r s) = prob q k z r s := by
  unfold k0_pay10 k0_pay7 k0_pay8 prob
  simp only [shapeCast_self]
  show Ideal.exp (matmul (F := Ideal) _ none q k _ (ix2 r s) - _) = _
  rw [matmul_cols_apply, spread_apply]

/-- A square block of products, read at an entry. -/
theorem dlogit_apply (p : FVec Ideal S640x640 .f32) (d v : Blk .bf16) (r s : Fin 640) :
    mulf p (matmul dot_S640x256_S640x256_S640x640_1_1_0_0_n_n none d v (constant S640x640 .f32 0x00000000#32)) (ix2 r s)
      = dlogit (fun r s => p (ix2 r s)) d v r s := by
  rw [mulf_apply, matmul_cols_apply, dlogit]

/-- The unmasked step's gradient of a logit. -/
theorem pay11_apply (q k d v : Blk .bf16) (z : FVec Ideal S1x640x1 .f32) (r s : Fin 640) :
    k0_pay11 (F := Ideal) q k d z v (ix2 r s) = dlogit (prob q k z) d v r s := by
  unfold k0_pay11 k0_pay9
  simp only [shapeCast_self]
  rw [truncf_apply, dlogit_apply]
  simp only [pay10_apply]

/-- The unmasked step's gradient of the values: the running block plus the probabilities' product. -/
theorem pay12_apply (q k d : Blk .bf16) (z : FVec Ideal S1x640x1 .f32) (acc : Blk .f32) (s : Fin 640) (l : Fin 256) :
    k0_pay12 (F := Ideal) q k d z acc (ix2 s l) = acc (ix2 s l) + ∑ r : Fin 640, prob q k z r s * d (ix2 r l) := by
  unfold k0_pay12 k0_pay9
  simp only [shapeCast_self]
  rw [addf_apply, matmul_rows_apply, constant_apply, Ideal.ofBits_zero_f32, zero_add]
  simp only [truncf_apply, pay10_apply]

/-- The unmasked step's gradient of the keys. -/
theorem pay13_apply (q k d v : Blk .bf16) (z : FVec Ideal S1x640x1 .f32) (acc : Blk .f32) (s : Fin 640) (l : Fin 256) :
    k0_pay13 (F := Ideal) q k d z v acc (ix2 s l)
      = acc (ix2 s l) + ∑ r : Fin 640, dlogit (prob q k z) d v r s * q (ix2 r l) := by
  unfold k0_pay13 k0_pay7
  simp only [shapeCast_self]
  rw [addf_apply, matmul_rows_apply, constant_apply, Ideal.ofBits_zero_f32, zero_add]
  simp only [pay11_apply]

/-- The rows of the gradient of the queries after an unmasked step. -/
theorem pay4_apply (q k d v : Blk .bf16) (z : FVec Ideal S1x640x1 .f32) (acc : Blk .f32) (r : Fin 640) (l : Fin 256) :
    k0_pay4 (F := Ideal) (k0_pay8 k) (k0_pay11 q k d z v) (k0_pay14 acc) (ix2 r l)
      = acc (ix2 r l) + ∑ s : Fin 640, dlogit (prob q k z) d v r s * k (ix2 s l) := by
  unfold k0_pay4 k0_pay8 k0_pay14
  simp only [shapeCast_self]
  rw [addf_apply, matmul_plain_apply, constant_apply, Ideal.ofBits_zero_f32, zero_add]
  simp only [pay11_apply]

/-- A position of a block as a word. -/
theorem pos_word (b : ℕ) (r : Fin 640) (hb : b < 13) :
    (BitVec.ofNat 32 b * 640#32 + BitVec.ofNat 32 r.val).toInt = ((b * 640 + r.val : ℕ) : ℤ) := by
  have h := r.isLt
  rw [show BitVec.ofNat 32 b * 640#32 + BitVec.ofNat 32 r.val = BitVec.ofNat 32 (b * 640 + r.val) from by
    rw [BitVec.ofNat_add, BitVec.ofNat_mul]]
  have e : (BitVec.ofNat 32 (b * 640 + r.val)).toNat = b * 640 + r.val := by
    rw [BitVec.toNat_ofNat]; exact Nat.mod_eq_of_lt (by omega)
  rw [BitVec.toInt_eq_toNat_of_lt (by rw [e]; omega), e]

/-- The masked step's probability. -/
theorem pay18_apply (kj qi : ℕ) (hk : kj < 13) (hq : qi < 13) (q k : Blk .bf16) (z : FVec Ideal S1x640x1 .f32)
    (r s : Fin 640) :
    k0_pay18 (F := Ideal) (BitVec.ofNat 32 kj) (BitVec.ofNat 32 qi) q k z (ix2 r s) = probM kj qi q k z r s := by
  unfold k0_pay18 k0_pay15 k0_pay16 probM prob
  simp only [shapeCast_self]
  rw [← matmul_cols_apply q k r s, ← spread_apply z r s]
  refine Eq.trans ?_ (if_congr (keep_word (pos_word qi r hq) (pos_word kj s hk)) rfl rfl)
  show Scalar.select _ _ _ = _
  unfold Scalar.select
  refine if_congr (Iff.of_eq (congrArg (· = 1#1) ?_)) rfl Ideal.ofBits_zero_f32
  show IntOp.andi (IntOp.cmpi _ (_ + iota Kind.tc S640x640 32 [1] iota_S640x640_d1_w32 (ix2 r s))
    (_ + iota Kind.tc S640x640 32 [0] iota_S640x640_d0_w32 (ix2 r s))) (IntOp.ori
      (IntOp.cmpi _ (_ + iota Kind.tc S640x640 32 [1] iota_S640x640_d1_w32 (ix2 r s)) _)
      (IntOp.cmpi _ (_ + iota Kind.tc S640x640 32 [1] iota_S640x640_d1_w32 (ix2 r s))
        (_ + iota Kind.tc S640x640 32 [0] iota_S640x640_d0_w32 (ix2 r s)))) = _
  rw [iota_single_apply, iota_single_apply]
  rfl

/-- The masked step's gradient of a logit. -/
theorem pay19_apply (kj qi : ℕ) (hk : kj < 13) (hq : qi < 13) (q k d v : Blk .bf16) (z : FVec Ideal S1x640x1 .f32)
    (r s : Fin 640) :
    k0_pay19 (F := Ideal) (BitVec.ofNat 32 kj) (BitVec.ofNat 32 qi) q k d z v (ix2 r s)
      = dlogit (probM kj qi q k z) d v r s := by
  unfold k0_pay19 k0_pay17
  simp only [shapeCast_self]
  rw [truncf_apply, dlogit_apply]
  simp only [pay18_apply kj qi hk hq]

/-- The masked step's gradient of the values. -/
theorem pay20_apply (kj qi : ℕ) (hk : kj < 13) (hq : qi < 13) (q k d : Blk .bf16) (z : FVec Ideal S1x640x1 .f32)
    (acc : Blk .f32) (s : Fin 640) (l : Fin 256) :
    k0_pay20 (F := Ideal) (BitVec.ofNat 32 kj) (BitVec.ofNat 32 qi) q k d z acc (ix2 s l)
      = acc (ix2 s l) + ∑ r : Fin 640, probM kj qi q k z r s * d (ix2 r l) := by
  unfold k0_pay20 k0_pay17
  simp only [shapeCast_self]
  rw [addf_apply, matmul_rows_apply, constant_apply, Ideal.ofBits_zero_f32, zero_add]
  simp only [truncf_apply, pay18_apply kj qi hk hq]

/-- The masked step's gradient of the keys, from the gradient of a logit. -/
theorem pay5_apply (q : Blk .bf16) (g : FVec Ideal S640x640 .bf16) (acc : Blk .f32) (s : Fin 640) (l : Fin 256) :
    k0_pay5 (F := Ideal) (k0_pay15 q) g acc (ix2 s l) = acc (ix2 s l) + ∑ r : Fin 640, g (ix2 r s) * q (ix2 r l) := by
  unfold k0_pay5 k0_pay15
  simp only [shapeCast_self]
  rw [addf_apply, matmul_rows_apply, constant_apply, Ideal.ofBits_zero_f32, zero_add]

/-- The rows of the gradient of the queries after a masked step. -/
theorem pay6_apply (k : Blk .bf16) (g : FVec Ideal S640x640 .bf16) (acc : Blk .f32) (r : Fin 640) (l : Fin 256) :
    k0_pay6 (F := Ideal) (k0_pay16 k) g acc (ix2 r l) = acc (ix2 r l) + ∑ s : Fin 640, g (ix2 r s) * k (ix2 s l) := by
  unfold k0_pay6 k0_pay16
  simp only [shapeCast_self]
  rw [addf_apply, matmul_plain_apply, constant_apply, Ideal.ofBits_zero_f32, zero_add]

/-- The head's zeroed gradient of the queries. -/
theorem pay1_apply (i : S8320x256.Idx) : k0_pay1 (F := Ideal) i = 0 := Ideal.ofBits_zero_f32

end Cert.KernelIdeal.Val

end
-- ==== Proof.Walk.lean ====
/-
  One step of the grid, at an entry of each of the three results: what the step before left (or the block the walk
  starts from), plus the step's products.
-/
module

public import proofs.«01_k».proof.Proof.Steps
public import proofs.«01_k».proof.Proof.Entries

@[expose] public section

noncomputable section

namespace Cert.KernelIdeal.Val

open Cert.KernelIdeal Cert.KernelIdeal.Gen Cert.Fox Idealize.ShloMosaic Idealize.ShloMosaic.ValueIdx

variable (m : (ℓ : Loc nD τ sig) → Buf (Elt Ideal) ℓ) (c : Dev nD)

/-- The key block of a step. -/
def kjOf (t : Fin cfg0.N) : Fin 13 := grid0.coords t 1
/-- The query block of a step. -/
def qiOf (t : Fin cfg0.N) : Fin 13 := grid0.coords t 2

theorem kjOf_val (t : Fin cfg0.N) : (kjOf t).val = t.val / 13 % 13 :=
  Pipeline.Grid.coords_val t 1 (by decide) rfl

theorem qiOf_val (t : Fin cfg0.N) : (qiOf t).val = t.val % 13 :=
  (Pipeline.Grid.coords_val t 2 (S := 1) (B := 13) (by decide) rfl).trans (by rw [Nat.div_one])

/-- The blocks a step reads: the query lanes, the key lanes, the value lanes, the output gradient's lanes, the row
    normalisers, and the blocks the two key-side results start from. -/
def bq (t : Fin cfg0.N) : Blk .bf16 := iblk m c 0 t
def bk (t : Fin cfg0.N) : Blk .bf16 := iblk m c 1 t
def bv (t : Fin cfg0.N) : Blk .bf16 := iblk m c 2 t
def bd (t : Fin cfg0.N) : Blk .bf16 := iblk m c 3 t
def bz (t : Fin cfg0.N) : FVec Ideal S1x640x1 .f32 := iblk m c 4 t
def bk0 (t : Fin cfg0.N) : Blk .f32 := iblk m c 5 t
def bv0 (t : Fin cfg0.N) : Blk .f32 := iblk m c 6 t

/-- The weight of a step's query row on its key row: none above the diagonal block, the masked one in it. -/
def wgt (t : Fin cfg0.N) (r s : Fin 640) : EReal :=
  if (kjOf t).val = (qiOf t).val then probM (kjOf t).val (qiOf t).val (bq m c t) (bk m c t) (bz m c t) r s
  else if (kjOf t).val < (qiOf t).val then prob (bq m c t) (bk m c t) (bz m c t) r s else 0

/-- The gradient of a step's logit. -/
def grd (t : Fin cfg0.N) (r s : Fin 640) : EReal := dlogit (wgt m c t) (bd m c t) (bv m c t) r s

variable {m c}

theorem wgt_diag {t : Fin cfg0.N} (h : (kjOf t).val = (qiOf t).val) :
    wgt m c t = probM (kjOf t).val (qiOf t).val (bq m c t) (bk m c t) (bz m c t) :=
  funext fun r => funext fun s => if_pos h

theorem wgt_low {t : Fin cfg0.N} (h : (kjOf t).val < (qiOf t).val) :
    wgt m c t = prob (bq m c t) (bk m c t) (bz m c t) :=
  funext fun r => funext fun s => (if_neg (by omega)).trans (if_pos h)

theorem wgt_high {t : Fin cfg0.N} (h : (qiOf t).val < (kjOf t).val) (r s : Fin 640) : wgt m c t r s = 0 :=
  (if_neg (by omega)).trans (if_neg (by omega))

theorem grd_high {t : Fin cfg0.N} (h : (qiOf t).val < (kjOf t).val) (r s : Fin 640) : grd m c t r s = 0 := by
  unfold grd dlogit; rw [wgt_high h, zero_mul]

variable (m c)

/-- What the three results' buffers hold after a step. -/
abbrev aft (n : ℕ) (h : n < cfg0.N) : Vec Ideal S8320x256 .f32 × Vec Ideal S640x256 .f32 × Vec Ideal S640x256 .f32 :=
  outsAt0 m c n h

/-- and before it. -/
abbrev bef (t : Fin cfg0.N) : Vec Ideal S8320x256 .f32 × Vec Ideal S640x256 .f32 × Vec Ideal S640x256 .f32 :=
  outsAt0 m c (t.val - 1) (Nat.lt_of_le_of_lt (Nat.sub_le _ _) t.isLt)

theorem fst3 {α β γ : Type} {x : α × β × γ} {a : α} {b : β} {d : γ} (h : x = (a, b, d)) : x.1 = a := by rw [h]
theorem mid3 {α β γ : Type} {x : α × β × γ} {a : α} {b : β} {d : γ} (h : x = (a, b, d)) : x.2.1 = b := by rw [h]
theorem last3 {α β γ : Type} {x : α × β × γ} {a : α} {b : β} {d : γ} (h : x = (a, b, d)) : x.2.2 = d := by rw [h]

/-- One step of the keys' gradient. -/
theorem dk_step (t : Fin cfg0.N) (s : Fin 640) (l : Fin 256) :
    (aft m c t.val t.isLt).2.1 (ix2 s l)
      = (if t.val % 13 = 0 then bk0 m c t (ix2 s l) else (bef m c t).2.1 (ix2 s l))
        + ∑ r : Fin 640, grd m c t r s * bq m c t (ix2 r l) := by
  have ek := kjOf_val t
  have eq := qiOf_val t
  have hk := (kjOf t).isLt
  have hq := (qiOf t).isLt
  by_cases h0 : t.val % 169 = 0
  · have h1 : t.val % 13 = 0 := by omega
    have h3 : t.val / 13 % 13 = t.val % 13 := by omega
    refine (congrFun (mid3 (outsAt0_A m c t h0 h1 (by omega) h3)) _).trans ?_
    refine (congrFun (out_A_8 (F := Ideal) ..) _).trans ?_
    refine (pay5_apply ..).trans ?_
    rw [if_pos h1]
    refine congrArg (bk0 m c t (ix2 s l) + ·) (Finset.sum_congr rfl fun r _ => ?_)
    refine congrArg (· * bq m c t (ix2 r l)) ?_
    refine (pay19_apply _ _ hk hq ..).trans ?_
    unfold grd
    rw [wgt_diag (by omega)]
    rfl
  by_cases h1 : t.val % 13 = 0
  · refine (congrFun (mid3 (outsAt0_C m c t h0 h1 (by omega) (by omega))) _).trans ?_
    refine (congrFun (out_C_8 (F := Ideal) ..) _).trans ?_
    rw [if_pos h1, Finset.sum_eq_zero fun r _ => by rw [grd_high (by omega), zero_mul], add_zero]
    rfl
  rw [if_neg h1]
  by_cases h3 : t.val / 13 % 13 = t.val % 13
  · refine (congrFun (mid3 (outsAt0_D m c t h0 h1 (by omega) h3)) _).trans ?_
    refine (congrFun (out_D_8 (F := Ideal) ..) _).trans ?_
    refine (pay5_apply ..).trans ?_
    refine congrArg ((bef m c t).2.1 (ix2 s l) + ·) (Finset.sum_congr rfl fun r _ => ?_)
    refine congrArg (· * bq m c t (ix2 r l)) ?_
    refine (pay19_apply _ _ hk hq ..).trans ?_
    unfold grd
    rw [wgt_diag (by omega)]
    rfl
  by_cases h2 : t.val / 13 % 13 + 1 ≤ t.val % 13
  · refine (congrFun (mid3 (outsAt0_B m c t h0 h1 h2 h3)) _).trans ?_
    refine (congrFun (out_B_8 (F := Ideal) ..) _).trans ?_
    refine (pay13_apply ..).trans ?_
    unfold grd
    rw [wgt_low (by omega)]
    rfl
  · refine (congrFun (mid3 (outsAt0_E m c t h0 h1 h2 h3)) _).trans ?_
    rw [Finset.sum_eq_zero fun r _ => by rw [grd_high (by omega), zero_mul], add_zero]
    rfl

/-- One step of the values' gradient. -/
theorem dv_step (t : Fin cfg0.N) (s : Fin 640) (l : Fin 256) :
    (aft m c t.val t.isLt).2.2 (ix2 s l)
      = (if t.val % 13 = 0 then bv0 m c t (ix2 s l) else (bef m c t).2.2 (ix2 s l))
        + ∑ r : Fin 640, wgt m c t r s * bd m c t (ix2 r l) := by
  have ek := kjOf_val t
  have eq := qiOf_val t
  have hk := (kjOf t).isLt
  have hq := (qiOf t).isLt
  by_cases h0 : t.val % 169 = 0
  · have h1 : t.val % 13 = 0 := by omega
    have h3 : t.val / 13 % 13 = t.val % 13 := by omega
    refine (congrFun (last3 (outsAt0_A m c t h0 h1 (by omega) h3)) _).trans ?_
    refine (congrFun (out_A_9 (F := Ideal) ..) _).trans ?_
    refine (pay20_apply _ _ hk hq ..).trans ?_
    rw [if_pos h1, wgt_diag (by omega)]
    rfl
  by_cases h1 : t.val % 13 = 0
  · refine (congrFun (last3 (outsAt0_C m c t h0 h1 (by omega) (by omega))) _).trans ?_
    refine (congrFun (out_C_9 (F := Ideal) ..) _).trans ?_
    rw [if_pos h1, Finset.sum_eq_zero fun r _ => by rw [wgt_high (by omega), zero_mul], add_zero]
    rfl
  rw [if_neg h1]
  by_cases h3 : t.val / 13 % 13 = t.val % 13
  · refine (congrFun (last3 (outsAt0_D m c t h0 h1 (by omega) h3)) _).trans ?_
    refine (congrFun (out_D_9 (F := Ideal) ..) _).trans ?_
    refine (pay20_apply _ _ hk hq ..).trans ?_
    rw [wgt_diag (by omega)]
    rfl
  by_cases h2 : t.val / 13 % 13 + 1 ≤ t.val % 13
  · refine (congrFun (last3 (outsAt0_B m c t h0 h1 h2 h3)) _).trans ?_
    refine (congrFun (out_B_9 (F := Ideal) ..) _).trans ?_
    refine (pay12_apply ..).trans ?_
    rw [wgt_low (by omega)]
    rfl
  · refine (congrFun (last3 (outsAt0_E m c t h0 h1 h2 h3)) _).trans ?_
    rw [Finset.sum_eq_zero fun r _ => by rw [wgt_high (by omega), zero_mul], add_zero]
    rfl

/-- One step of the queries' gradient, at a row of the step's query block. -/
theorem dq_hit (t : Fin cfg0.N) (r : Fin 640) (l : Fin 256) :
    (aft m c t.val t.isLt).1 (ix2 (brow (qiOf t) r) l)
      = (if t.val % 169 = 0 then 0 else (bef m c t).1 (ix2 (brow (qiOf t) r) l))
        + ∑ s : Fin 640, grd m c t r s * bk m c t (ix2 s l) := by
  have ek := kjOf_val t
  have eq := qiOf_val t
  have hk := (kjOf t).isLt
  have hq := (qiOf t).isLt
  by_cases h0 : t.val % 169 = 0
  · have h1 : t.val % 13 = 0 := by omega
    have h3 : t.val / 13 % 13 = t.val % 13 := by omega
    refine (congrFun (fst3 (outsAt0_A m c t h0 h1 (by omega) h3)) _).trans ?_
    refine (out_A_7_hit (F := Ideal) ..).trans ?_
    refine (pay6_apply ..).trans ?_
    rw [if_pos h0]
    refine congrArg₂ (· + ·) (pay1_apply _) (Finset.sum_congr rfl fun s _ => ?_)
    refine congrArg (· * bk m c t (ix2 s l)) ?_
    refine (pay19_apply _ _ hk hq ..).trans ?_
    unfold grd
    rw [wgt_diag (by omega)]
    rfl
  rw [if_neg h0]
  by_cases h1 : t.val % 13 = 0
  · refine (congrFun (fst3 (outsAt0_C m c t h0 h1 (by omega) (by omega))) _).trans ?_
    rw [Finset.sum_eq_zero fun s _ => by rw [grd_high (by omega), zero_mul], add_zero]
    rfl
  by_cases h3 : t.val / 13 % 13 = t.val % 13
  · refine (congrFun (fst3 (outsAt0_D m c t h0 h1 (by omega) h3)) _).trans ?_
    refine (out_D_7_hit (F := Ideal) ..).trans ?_
    refine (pay6_apply ..).trans ?_
    refine congrArg₂ (· + ·) rfl (Finset.sum_congr rfl fun s _ => ?_)
    refine congrArg (· * bk m c t (ix2 s l)) ?_
    refine (pay19_apply _ _ hk hq ..).trans ?_
    unfold grd
    rw [wgt_diag (by omega)]
    rfl
  by_cases h2 : t.val / 13 % 13 + 1 ≤ t.val % 13
  · refine (congrFun (fst3 (outsAt0_B m c t h0 h1 h2 h3)) _).trans ?_
    refine (out_B_7_hit (F := Ideal) ..).trans ?_
    refine (pay4_apply ..).trans ?_
    unfold grd
    rw [wgt_low (by omega)]
    rfl
  · refine (congrFun (fst3 (outsAt0_E m c t h0 h1 h2 h3)) _).trans ?_
    rw [Finset.sum_eq_zero fun s _ => by rw [grd_high (by omega), zero_mul], add_zero]
    rfl

/-- One step of the queries' gradient, at a row of another block. -/
theorem dq_miss (t : Fin cfg0.N) (a : Fin 8320) (l : Fin 256)
    (ha : a.val < (qiOf t).val * 640 ∨ (qiOf t).val * 640 + 640 ≤ a.val) :
    (aft m c t.val t.isLt).1 (ix2 a l) = if t.val % 169 = 0 then 0 else (bef m c t).1 (ix2 a l) := by
  have ek := kjOf_val t
  have eq := qiOf_val t
  by_cases h0 : t.val % 169 = 0
  · have h1 : t.val % 13 = 0 := by omega
    have h3 : t.val / 13 % 13 = t.val % 13 := by omega
    refine (congrFun (fst3 (outsAt0_A m c t h0 h1 (by omega) h3)) _).trans ?_
    refine (out_A_7_miss (F := Ideal) (a := a) (l := l) (ha := ha) ..).trans ?_
    rw [if_pos h0]
    exact pay1_apply _
  rw [if_neg h0]
  by_cases h1 : t.val % 13 = 0
  · exact congrFun (fst3 (outsAt0_C m c t h0 h1 (by omega) (by omega))) _
  by_cases h3 : t.val / 13 % 13 = t.val % 13
  · refine (congrFun (fst3 (outsAt0_D m c t h0 h1 (by omega) h3)) _).trans ?_
    exact out_D_7_miss (F := Ideal) (a := a) (l := l) (ha := ha) ..
  by_cases h2 : t.val / 13 % 13 + 1 ≤ t.val % 13
  · refine (congrFun (fst3 (outsAt0_B m c t h0 h1 h2 h3)) _).trans ?_
    exact out_B_7_miss (F := Ideal) (a := a) (l := l) (ha := ha) ..
  · exact congrFun (fst3 (outsAt0_E m c t h0 h1 h2 h3)) _

end Cert.KernelIdeal.Val

end
-- ==== Proof.Blocks.lean ====
/-
  Where a step's blocks sit in the arrays the kernel reads, and a step's weights over the arrays.
-/
module

public import proofs.«01_k».proof.Proof.Walk

@[expose] public section

noncomputable section

namespace Cert.KernelIdeal.Val

open Cert.KernelIdeal Cert.KernelIdeal.Gen Cert.Fox Idealize.ShloMosaic Idealize.ShloMosaic.TcCoe Idealize.ShloMosaic.ValueIdx

variable (m : (ℓ : Loc nD τ sig) → Buf (Elt Ideal) ℓ) (c : Dev nD)

/-- The head of a step. -/
def hOf (t : Fin cfg0.N) : Fin 16 := grid0.coords t 0

theorem hOf_val (t : Fin cfg0.N) : (hOf t).val = t.val / 169 := by
  have e : (hOf t).val = t.val / 169 % 16 := Pipeline.Grid.coords_val t 0 (S := 169) (B := 16) (by decide) rfl
  have : t.val < 2704 := t.isLt
  omega

/-- Lane `l` of head `h`. -/
def lane (h : Fin 16) (l : Fin 256) : Fin 4096 := ⟨h.val * 256 + l.val, by have := h.isLt; have := l.isLt; omega⟩

/-- The arrays the kernel reads. -/
def QA : FVec Ideal S8320x4096 .bf16 := V m c main_v68
def KA : FVec Ideal S8320x4096 .bf16 := V m c main_v79
def VA : FVec Ideal S8320x4096 .bf16 := V m c main_v84
def DA : FVec Ideal S8320x4096 .bf16 := V m c main_v102
def ZA : FVec Ideal S16x8320x1 .f32 := V m c main_v40
def K0 : FVec Ideal S8320x4096 .f32 := V m c main_v108
def V0A : FVec Ideal S8320x4096 .f32 := V m c main_v112

/-- The larger of a step's two block indices. -/
def mxOf (t : Fin cfg0.N) : Fin 13 := if (qiOf t).val < (kjOf t).val then kjOf t else qiOf t

theorem word_max (a b : Fin 13) : (Scalar.maxsi (BitVec.ofNat 32 a.val) (BitVec.ofNat 32 b.val)).toNat
    = (if a.val < b.val then b else a).val := by revert a b; decide

theorem word_13 (a : Fin 13) : (BitVec.ofNat 32 a.val).toNat = a.val := by revert a; decide
theorem word_16 (a : Fin 16) : (BitVec.ofNat 32 a.val).toNat = a.val := by revert a; decide

theorem bq_at (t : Fin cfg0.N) (r : Fin 640) (l : Fin 256) :
    bq m c t (ix2 r l) = QA m c (ix2 (brow (mxOf t) r) (lane (hOf t) l)) := by
  unfold bq iblk
  rw [View.read_apply]
  refine congrArg (V m c main_v68) (funext fun a => Fin.ext ?_)
  refine (win0_0.rect_emb_val t (ix2 r l) a).trans ?_
  fin_cases a
  · exact congrArg (fun n => n * 640 + r.val) (word_max (qiOf t) (kjOf t))
  · exact congrArg (fun n => n * 256 + l.val) (word_16 (hOf t))

theorem bk_at (t : Fin cfg0.N) (r : Fin 640) (l : Fin 256) :
    bk m c t (ix2 r l) = KA m c (ix2 (brow (kjOf t) r) (lane (hOf t) l)) := by
  unfold bk iblk
  rw [View.read_apply]
  refine congrArg (V m c main_v79) (funext fun a => Fin.ext ?_)
  refine (win0_1.rect_emb_val t (ix2 r l) a).trans ?_
  fin_cases a
  · exact congrArg (fun n => n * 640 + r.val) (word_13 (kjOf t))
  · exact congrArg (fun n => n * 256 + l.val) (word_16 (hOf t))

theorem bv_at (t : Fin cfg0.N) (r : Fin 640) (l : Fin 256) :
    bv m c t (ix2 r l) = VA m c (ix2 (brow (kjOf t) r) (lane (hOf t) l)) := by
  unfold bv iblk
  rw [View.read_apply]
  refine congrArg (V m c main_v84) (funext fun a => Fin.ext ?_)
  refine (win0_2.rect_emb_val t (ix2 r l) a).trans ?_
  fin_cases a
  · exact congrArg (fun n => n * 640 + r.val) (word_13 (kjOf t))
  · exact congrArg (fun n => n * 256 + l.val) (word_16 (hOf t))

theorem bd_at (t : Fin cfg0.N) (r : Fin 640) (l : Fin 256) :
    bd m c t (ix2 r l) = DA m c (ix2 (brow (mxOf t) r) (lane (hOf t) l)) := by
  unfold bd iblk
  rw [View.read_apply]
  refine congrArg (V m c main_v102) (funext fun a => Fin.ext ?_)
  refine (win0_3.rect_emb_val t (ix2 r l) a).trans ?_
  fin_cases a
  · exact congrArg (fun n => n * 640 + r.val) (word_max (qiOf t) (kjOf t))
  · exact congrArg (fun n => n * 256 + l.val) (word_16 (hOf t))

theorem iblk_heq (w : Fin cfg0.W) (t : Fin cfg0.N) (y : ((cfg0.win w).xblock (cfg0.grid.coords t)).Idx) :
    HEq (iblk m c w t y) (V m c (Pipeline.arrRef spec0 w) (((cfg0.win w).blk t).view.emb y)) := by
  unfold iblk
  rw [View.read_apply]
  exact cast_heq _ _

theorem bz_rd (t : Fin cfg0.N) (y : S1x640x1.Idx) :
    bz m c t y = ZA m c (((cfg0.win 4).blk t).view.emb y) := eq_of_heq (iblk_heq m c 4 t y)

theorem bz_at (t : Fin cfg0.N) (r : Fin 640) :
    bz m c t (ix3 0 r 0) = ZA m c (ix3 (hOf t) (brow (mxOf t) r) 0) := by
  refine (bz_rd m c t _).trans (congrArg (ZA m c) (funext fun a => Fin.ext ?_))
  refine (win0_4.rect_emb_val t (ix3 0 r 0) a).trans ?_
  fin_cases a
  · exact (Nat.mul_one (win0_4.index t 0)).trans (word_16 (hOf t))
  · exact congrArg (fun n => n * 640 + r.val) (word_max (qiOf t) (kjOf t))
  · exact (Nat.mul_one (win0_4.index t 2)).trans (word_13 0)

theorem bk0_at (t : Fin cfg0.N) (r : Fin 640) (l : Fin 256) :
    bk0 m c t (ix2 r l) = K0 m c (ix2 (brow (kjOf t) r) (lane (hOf t) l)) := by
  unfold bk0 iblk
  rw [View.read_apply]
  refine congrArg (V m c main_v108) (funext fun a => Fin.ext ?_)
  refine (win0_5.rect_emb_val t (ix2 r l) a).trans ?_
  fin_cases a
  · exact congrArg (fun n => n * 640 + r.val) (word_13 (kjOf t))
  · exact congrArg (fun n => n * 256 + l.val) (word_16 (hOf t))

theorem bv0_at (t : Fin cfg0.N) (r : Fin 640) (l : Fin 256) :
    bv0 m c t (ix2 r l) = V0A m c (ix2 (brow (kjOf t) r) (lane (hOf t) l)) := by
  unfold bv0 iblk
  rw [View.read_apply]
  refine congrArg (V m c main_v112) (funext fun a => Fin.ext ?_)
  refine (win0_6.rect_emb_val t (ix2 r l) a).trans ?_
  fin_cases a
  · exact congrArg (fun n => n * 640 + r.val) (word_13 (kjOf t))
  · exact congrArg (fun n => n * 256 + l.val) (word_16 (hOf t))

/-- The exponential of a pair's logit less the row's normaliser. -/
def eOf (h : Fin 16) (i j : Fin 8320) : EReal :=
  Ideal.exp ((∑ l : Fin 256, QA m c (ix2 i (lane h l)) * KA m c (ix2 j (lane h l))) - ZA m c (ix3 h i 0))

/-- The weight of query row `i` on key row `j`, as the blocks decide it: masked in the diagonal blocks, none above. -/
def pOf (h : Fin 16) (i j : Fin 8320) : EReal :=
  if j.val / 640 = i.val / 640 then (if Keep i.val j.val then eOf m c h i j else 0)
  else if j.val / 640 < i.val / 640 then eOf m c h i j else 0

/-- The gradient of the pair's logit. -/
def gOf (h : Fin 16) (i j : Fin 8320) : EReal :=
  pOf m c h i j * ∑ l : Fin 256, DA m c (ix2 i (lane h l)) * VA m c (ix2 j (lane h l))

theorem brow_div (n : Fin 13) (r : Fin 640) : (brow n r).val / 640 = n.val := by
  have := r.isLt
  show (n.val * 640 + r.val) / 640 = n.val
  omega

theorem mxOf_le {t : Fin cfg0.N} (h : (kjOf t).val ≤ (qiOf t).val) : mxOf t = qiOf t := if_neg (by omega)

theorem wgt_at (t : Fin cfg0.N) (r s : Fin 640) :
    wgt m c t r s = pOf m c (hOf t) (brow (qiOf t) r) (brow (kjOf t) s) := by
  unfold wgt pOf
  rw [brow_div, brow_div]
  have e : (kjOf t).val ≤ (qiOf t).val → prob (bq m c t) (bk m c t) (bz m c t) r s
      = eOf m c (hOf t) (brow (qiOf t) r) (brow (kjOf t) s) := fun h => by
    unfold prob eOf
    simp only [bq_at, bk_at, bz_at, mxOf_le h]
  by_cases h1 : (kjOf t).val = (qiOf t).val
  · rw [if_pos h1, if_pos h1]
    unfold probM
    rw [e (by omega)]
    rfl
  · rw [if_neg h1, if_neg h1]
    by_cases h2 : (kjOf t).val < (qiOf t).val
    · rw [if_pos h2, if_pos h2, e (by omega)]
    · rw [if_neg h2, if_neg h2]

theorem pOf_high {h : Fin 16} {i j : Fin 8320} (hij : i.val / 640 < j.val / 640) : pOf m c h i j = 0 := by
  unfold pOf
  rw [if_neg (by omega), if_neg (by omega)]

theorem gOf_high {h : Fin 16} {i j : Fin 8320} (hij : i.val / 640 < j.val / 640) : gOf m c h i j = 0 := by
  unfold gOf
  rw [pOf_high m c hij, zero_mul]

theorem grd_at (t : Fin cfg0.N) (r s : Fin 640) :
    grd m c t r s = gOf m c (hOf t) (brow (qiOf t) r) (brow (kjOf t) s) := by
  by_cases h : (kjOf t).val ≤ (qiOf t).val
  · unfold grd dlogit gOf
    rw [wgt_at]
    simp only [bd_at, bv_at, mxOf_le h]
  · rw [grd_high (by omega), gOf_high]
    rw [brow_div, brow_div]; omega

/-- A step's share of the keys' gradient, over the arrays. -/
theorem dk_term (t : Fin cfg0.N) (s : Fin 640) (l : Fin 256) :
    ∑ r : Fin 640, grd m c t r s * bq m c t (ix2 r l)
      = ∑ r : Fin 640, gOf m c (hOf t) (brow (qiOf t) r) (brow (kjOf t) s) * QA m c (ix2 (brow (qiOf t) r) (lane (hOf t) l)) := by
  refine Finset.sum_congr rfl fun r _ => ?_
  by_cases h : (kjOf t).val ≤ (qiOf t).val
  · rw [grd_at, bq_at, mxOf_le h]
  · rw [grd_high (by omega), gOf_high _ _ (by rw [brow_div, brow_div]; omega), zero_mul, zero_mul]

/-- A step's share of the values' gradient, over the arrays. -/
theorem dv_term (t : Fin cfg0.N) (s : Fin 640) (l : Fin 256) :
    ∑ r : Fin 640, wgt m c t r s * bd m c t (ix2 r l)
      = ∑ r : Fin 640, pOf m c (hOf t) (brow (qiOf t) r) (brow (kjOf t) s) * DA m c (ix2 (brow (qiOf t) r) (lane (hOf t) l)) := by
  refine Finset.sum_congr rfl fun r _ => ?_
  by_cases h : (kjOf t).val ≤ (qiOf t).val
  · rw [wgt_at, bd_at, mxOf_le h]
  · rw [wgt_high (by omega), pOf_high _ _ (by rw [brow_div, brow_div]; omega), zero_mul, zero_mul]

/-- A step's share of the queries' gradient, over the arrays. -/
theorem dq_term (t : Fin cfg0.N) (r : Fin 640) (l : Fin 256) :
    ∑ s : Fin 640, grd m c t r s * bk m c t (ix2 s l)
      = ∑ s : Fin 640, gOf m c (hOf t) (brow (qiOf t) r) (brow (kjOf t) s) * KA m c (ix2 (brow (kjOf t) s) (lane (hOf t) l)) := by
  refine Finset.sum_congr rfl fun s _ => ?_
  rw [grd_at, bk_at]

end Cert.KernelIdeal.Val

end
-- ==== Proof.Fold.lean ====
/-
  The walk over the grid: what the three results' buffers hold after every step, as sums over the blocks passed.
-/
module

public import proofs.«01_k».proof.Proof.Blocks
public import Mathlib.Logic.Equiv.Fin.Basic

@[expose] public section

noncomputable section

namespace Cert.KernelIdeal.Val

open Cert.KernelIdeal Cert.KernelIdeal.Gen Cert.Fox Idealize.ShloMosaic Idealize.ShloMosaic.ValueIdx

/-- A sum over the blocks passed gains the block a step passes. -/
theorem sum_passed (T : Fin 13 → EReal) (P Q : Fin 13 → Prop) [DecidablePred P] [DecidablePred Q] (k : Fin 13)
    (hP : ¬P k) (hQ : ∀ b, Q b ↔ P b ∨ b = k) :
    (∑ b : Fin 13, if Q b then T b else 0) = (∑ b : Fin 13, if P b then T b else 0) + T k := by
  rw [← Finset.sum_ite_eq' Finset.univ k T |>.trans (if_pos (Finset.mem_univ k)), ← Finset.sum_add_distrib]
  refine Finset.sum_congr rfl fun b _ => ?_
  by_cases h : b = k
  · subst h
    rw [if_pos ((hQ b).2 (.inr rfl)), if_neg hP, if_pos rfl, zero_add]
  · by_cases h' : P b
    · rw [if_pos ((hQ b).2 (.inl h')), if_pos h', if_neg h, add_zero]
    · rw [if_neg (fun q => ((hQ b).1 q).elim h' h), if_neg h', if_neg h, add_zero]

/-- A sum over all rows, block by block. -/
theorem sum_rows (f : Fin 8320 → EReal) : ∑ a : Fin 13, ∑ r : Fin 640, f (brow a r) = ∑ i : Fin 8320, f i := by
  rw [← Finset.sum_product', Finset.univ_product_univ]
  exact Fintype.sum_equiv finProdFinEquiv _ _ fun x => congrArg f (Fin.ext (by
    show x.1.val * 640 + x.2.val = x.2.val + 640 * x.1.val
    omega))

variable (m : (ℓ : Loc nD τ sig) → Buf (Elt Ideal) ℓ) (c : Dev nD)

theorem pt_lt {h : Fin 16} {n : ℕ} (hn : n < 169) : h.val * 169 + n < cfg0.N := by
  have := h.isLt
  show _ < 2704
  omega

/-- Step `n` of head `h`. -/
def pt (h : Fin 16) (n : ℕ) (hn : n < 169) : Fin cfg0.N := ⟨h.val * 169 + n, pt_lt hn⟩

theorem hOf_pt (h : Fin 16) (n : ℕ) (hn : n < 169) : hOf (pt h n hn) = h :=
  Fin.ext (by rw [hOf_val]; show (h.val * 169 + n) / 169 = h.val; omega)

theorem kjOf_pt (h : Fin 16) (n : ℕ) (hn : n < 169) : (kjOf (pt h n hn)).val = n / 13 := by
  rw [kjOf_val]; show (h.val * 169 + n) / 13 % 13 = n / 13; omega

theorem qiOf_pt (h : Fin 16) (n : ℕ) (hn : n < 169) : (qiOf (pt h n hn)).val = n % 13 := by
  rw [qiOf_val]; show (h.val * 169 + n) % 13 = n % 13; omega

/-- Block `a`'s share of the keys' gradient at a key row. -/
def dkT (h : Fin 16) (j : Fin 8320) (l : Fin 256) (a : Fin 13) : EReal :=
  ∑ r : Fin 640, gOf m c h (brow a r) j * QA m c (ix2 (brow a r) (lane h l))

/-- Block `a`'s share of the values' gradient at a key row. -/
def dvT (h : Fin 16) (j : Fin 8320) (l : Fin 256) (a : Fin 13) : EReal :=
  ∑ r : Fin 640, pOf m c h (brow a r) j * DA m c (ix2 (brow a r) (lane h l))

/-- Block `b`'s share of the queries' gradient at a query row. -/
def dqT (h : Fin 16) (i : Fin 8320) (l : Fin 256) (b : Fin 13) : EReal :=
  ∑ s : Fin 640, gOf m c h i (brow b s) * KA m c (ix2 (brow b s) (lane h l))

theorem kq_lt (kj : Fin 13) {n : ℕ} (hn : n < 13) : kj.val * 13 + n < 169 := by have := kj.isLt; omega

theorem key_pt (h : Fin 16) (kj : Fin 13) (n : ℕ) (hn : n < 13) :
    kjOf (pt h (kj.val * 13 + n) (kq_lt kj hn)) = kj ∧ qiOf (pt h (kj.val * 13 + n) (kq_lt kj hn)) = ⟨n, hn⟩ :=
  ⟨Fin.ext (by rw [kjOf_pt]; omega), Fin.ext (by rw [qiOf_pt]; show _ = n; omega)⟩

theorem first_le (T : Fin 13 → EReal) : (∑ a : Fin 13, if a.val ≤ 0 then T a else 0) = T 0 := by
  rw [sum_passed T (fun _ => False) (fun a => a.val ≤ 0) 0 (fun h => h) (fun b => by
    rw [false_or, Fin.ext_iff]; exact Nat.le_zero)]
  simp

/-- The keys' gradient after the first `n + 1` query blocks. -/
theorem dk_fold (h : Fin 16) (kj : Fin 13) (s : Fin 640) (l : Fin 256) : ∀ (n : ℕ) (hn : n < 13),
    (aft m c (pt h (kj.val * 13 + n) (kq_lt kj hn)).val (pt h (kj.val * 13 + n) (kq_lt kj hn)).isLt).2.1 (ix2 s l)
      = K0 m c (ix2 (brow kj s) (lane h l)) + ∑ a : Fin 13, if a.val ≤ n then dkT m c h (brow kj s) l a else 0
  | 0, hn => by
    obtain ⟨ek, eq⟩ := key_pt h kj 0 hn
    rw [dk_step, dk_term, bk0_at, hOf_pt, ek, eq, first_le, if_pos]
    · rfl
    · show (h.val * 169 + (kj.val * 13 + 0)) % 13 = 0
      omega
  | n + 1, hn => by
    obtain ⟨ek, eq⟩ := key_pt h kj (n + 1) hn
    rw [dk_step, dk_term, hOf_pt, ek, eq, if_neg, sum_passed _ (fun a => a.val ≤ n) _ ⟨n + 1, hn⟩ (by dsimp only; omega)
      (fun b => by rw [Fin.ext_iff]; dsimp only; omega)]
    · refine Eq.trans ?_ (add_assoc _ _ _)
      exact congrArg (· + _) (dk_fold h kj s l n (by omega))
    · show ¬(h.val * 169 + (kj.val * 13 + (n + 1))) % 13 = 0
      omega

/-- The values' gradient after the first `n + 1` query blocks. -/
theorem dv_fold (h : Fin 16) (kj : Fin 13) (s : Fin 640) (l : Fin 256) : ∀ (n : ℕ) (hn : n < 13),
    (aft m c (pt h (kj.val * 13 + n) (kq_lt kj hn)).val (pt h (kj.val * 13 + n) (kq_lt kj hn)).isLt).2.2 (ix2 s l)
      = V0A m c (ix2 (brow kj s) (lane h l)) + ∑ a : Fin 13, if a.val ≤ n then dvT m c h (brow kj s) l a else 0
  | 0, hn => by
    obtain ⟨ek, eq⟩ := key_pt h kj 0 hn
    rw [dv_step, dv_term, bv0_at, hOf_pt, ek, eq, first_le, if_pos]
    · rfl
    · show (h.val * 169 + (kj.val * 13 + 0)) % 13 = 0
      omega
  | n + 1, hn => by
    obtain ⟨ek, eq⟩ := key_pt h kj (n + 1) hn
    rw [dv_step, dv_term, hOf_pt, ek, eq, if_neg, sum_passed _ (fun a => a.val ≤ n) _ ⟨n + 1, hn⟩ (by dsimp only; omega)
      (fun b => by rw [Fin.ext_iff]; dsimp only; omega)]
    · refine Eq.trans ?_ (add_assoc _ _ _)
      exact congrArg (· + _) (dv_fold h kj s l n (by omega))
    · show ¬(h.val * 169 + (kj.val * 13 + (n + 1))) % 13 = 0
      omega

/-- The queries' gradient after `n + 1` steps of a head: the pairs of blocks passed. -/
theorem dq_fold (h : Fin 16) (a : Fin 13) (r : Fin 640) (l : Fin 256) : ∀ (n : ℕ) (hn : n < 169),
    (aft m c (pt h n hn).val (pt h n hn).isLt).1 (ix2 (brow a r) l)
      = ∑ b : Fin 13, if b.val * 13 + a.val ≤ n then dqT m c h (brow a r) l b else 0
  | 0, hn => by
    have h0 : (pt h 0 hn).val % 169 = 0 := by show (h.val * 169 + 0) % 169 = 0; omega
    have ek : kjOf (pt h 0 hn) = 0 := Fin.ext (by rw [kjOf_pt]; rfl)
    have eq : qiOf (pt h 0 hn) = 0 := Fin.ext (by rw [qiOf_pt]; rfl)
    by_cases ha : a = 0
    · subst ha
      have hs := dq_hit m c (pt h 0 hn) r l
      rw [dq_term, eq, hOf_pt, ek, if_pos h0, zero_add] at hs
      rw [hs, sum_passed _ (fun _ => False) _ 0 (fun h => h) (fun b => by
        rw [false_or, Fin.ext_iff]; show b.val * 13 + 0 ≤ 0 ↔ b.val = 0; omega)]
      simp only [if_false, Finset.sum_const_zero, zero_add]
      rfl
    · have ha' : a.val ≠ 0 := fun e => ha (Fin.ext e)
      rw [dq_miss m c (pt h 0 hn) (brow a r) l (.inr (by
        rw [eq]; show 0 * 640 + 640 ≤ a.val * 640 + r.val; omega)), if_pos h0]
      exact (Finset.sum_eq_zero fun b _ => if_neg (by omega)).symm
  | n + 1, hn => by
    have h0 : ¬(pt h (n + 1) hn).val % 169 = 0 := by show ¬(h.val * 169 + (n + 1)) % 169 = 0; omega
    have ek := kjOf_pt h (n + 1) hn
    have eq := qiOf_pt h (n + 1) hn
    have hr := r.isLt
    have ih := dq_fold h a r l n (by omega)
    by_cases ha : a = qiOf (pt h (n + 1) hn)
    · have hs := dq_hit m c (pt h (n + 1) hn) r l
      rw [dq_term, hOf_pt, if_neg h0, ← ha] at hs
      rw [hs, sum_passed _ (fun b => b.val * 13 + a.val ≤ n) _ (kjOf (pt h (n + 1) hn)) (by rw [ha]; omega) (fun b => by
        rw [Fin.ext_iff, ha]; omega)]
      exact congrArg (· + _) ih
    · have ha' : a.val ≠ (qiOf (pt h (n + 1) hn)).val := fun e => ha (Fin.ext e)
      rw [dq_miss m c (pt h (n + 1) hn) (brow a r) l (by
        show a.val * 640 + r.val < _ ∨ _ ≤ a.val * 640 + r.val; omega), if_neg h0]
      refine Eq.trans ih (Finset.sum_congr rfl fun b _ => if_congr ?_ rfl rfl)
      omega

end Cert.KernelIdeal.Val

end
-- ==== Proof.Final.lean ====
/-
  The three arrays the kernel leaves, at an index: sums over all query rows, or all key rows.
-/
module

public import proofs.«01_k».proof.Proof.Fold
public import Idealize.ShloMosaic.Lib.Pipeline.Value

@[expose] public section

noncomputable section

namespace Cert.KernelIdeal.Val

open Cert.KernelIdeal Cert.KernelIdeal.Gen Cert.Fox Idealize.ShloMosaic Idealize.ShloMosaic.TcCoe Idealize.ShloMosaic.ValueIdx

variable (m : (ℓ : Loc nD τ sig) → Buf (Elt Ideal) ℓ) (c : Dev nD)

/-- The head and the lane of a column. -/
def headOf (x : Fin 4096) : Fin 16 := ⟨x.val / 256, by have := x.isLt; omega⟩
def laneOf (x : Fin 4096) : Fin 256 := ⟨x.val % 256, Nat.mod_lt _ (by decide)⟩

theorem lane_split (x : Fin 4096) : lane (headOf x) (laneOf x) = x :=
  Fin.ext (by show x.val / 256 * 256 + x.val % 256 = x.val; omega)
theorem headOf_lane (h : Fin 16) (l : Fin 256) : headOf (lane h l) = h :=
  Fin.ext (by have := l.isLt; show (h.val * 256 + l.val) / 256 = h.val; omega)
theorem laneOf_lane (h : Fin 16) (l : Fin 256) : laneOf (lane h l) = l :=
  Fin.ext (by have := l.isLt; show (h.val * 256 + l.val) % 256 = l.val; omega)

/-- The block and the row within it of a row. -/
def blkOf (x : Fin 8320) : Fin 13 := ⟨x.val / 640, by have := x.isLt; omega⟩
def rowOf (x : Fin 8320) : Fin 640 := ⟨x.val % 640, Nat.mod_lt _ (by decide)⟩
theorem brow_split (x : Fin 8320) : brow (blkOf x) (rowOf x) = x :=
  Fin.ext (by show x.val / 640 * 640 + x.val % 640 = x.val; omega)

/-- The gradients over the padded lanes. -/
def dqF (h : Fin 16) (i : Fin 8320) (l : Fin 256) : EReal :=
  ∑ j : Fin 8320, gOf m c h i j * KA m c (ix2 j (lane h l))
def dkF (h : Fin 16) (j : Fin 8320) (l : Fin 256) : EReal :=
  K0 m c (ix2 j (lane h l)) + ∑ i : Fin 8320, gOf m c h i j * QA m c (ix2 i (lane h l))
def dvF (h : Fin 16) (j : Fin 8320) (l : Fin 256) : EReal :=
  V0A m c (ix2 j (lane h l)) + ∑ i : Fin 8320, pOf m c h i j * DA m c (ix2 i (lane h l))

theorem all_le (T : Fin 13 → EReal) : (∑ a : Fin 13, if a.val ≤ 12 then T a else 0) = ∑ a : Fin 13, T a :=
  Finset.sum_congr rfl fun a _ => if_pos (by have := a.isLt; omega)

theorem dk_last (h : Fin 16) (kj : Fin 13) (s : Fin 640) (l : Fin 256) :
    (aft m c (pt h (kj.val * 13 + 12) (kq_lt kj (by decide))).val (pt h (kj.val * 13 + 12) (kq_lt kj (by decide))).isLt).2.1 (ix2 s l)
      = dkF m c h (brow kj s) l := by
  rw [dk_fold m c h kj s l 12 (by decide), all_le]
  exact congrArg (_ + ·) (sum_rows fun i => gOf m c h i (brow kj s) * QA m c (ix2 i (lane h l)))

theorem dv_last (h : Fin 16) (kj : Fin 13) (s : Fin 640) (l : Fin 256) :
    (aft m c (pt h (kj.val * 13 + 12) (kq_lt kj (by decide))).val (pt h (kj.val * 13 + 12) (kq_lt kj (by decide))).isLt).2.2 (ix2 s l)
      = dvF m c h (brow kj s) l := by
  rw [dv_fold m c h kj s l 12 (by decide), all_le]
  exact congrArg (_ + ·) (sum_rows fun i => pOf m c h i (brow kj s) * DA m c (ix2 i (lane h l)))

theorem dq_last (h : Fin 16) (i : Fin 8320) (l : Fin 256) :
    (aft m c (pt h 168 (by decide)).val (pt h 168 (by decide)).isLt).1 (ix2 i l) = dqF m c h i l := by
  rw [← brow_split i, dq_fold m c h (blkOf i) (rowOf i) l 168 (by decide)]
  refine Eq.trans (Finset.sum_congr rfl fun b _ => if_pos (by
    have := b.isLt; have := (blkOf i).isLt; omega)) ?_
  exact sum_rows fun j => gOf m c h (brow (blkOf i) (rowOf i)) j * KA m c (ix2 j (lane h l))

theorem emb_row7 (t : Fin cfg0.N) (i : Fin 8320) (l : Fin 256) :
    (win0_7.rect t).emb (ix2 i l) = (ix2 i (lane (hOf t) l) : S8320x4096.Idx) := by
  refine funext fun a => Fin.ext ((win0_7.rect_emb_val t (ix2 i l) a).trans ?_)
  fin_cases a
  · exact (congrArg (· + i.val) (Nat.zero_mul 8320)).trans (Nat.zero_add _)
  · exact congrArg (fun n => n * 256 + l.val) (word_16 (hOf t))

theorem emb_row8 (t : Fin cfg0.N) (s : Fin 640) (l : Fin 256) :
    (win0_8.rect t).emb (ix2 s l) = (ix2 (brow (kjOf t) s) (lane (hOf t) l) : S8320x4096.Idx) := by
  refine funext fun a => Fin.ext ((win0_8.rect_emb_val t (ix2 s l) a).trans ?_)
  fin_cases a
  · exact congrArg (fun n => n * 640 + s.val) (word_13 (kjOf t))
  · exact congrArg (fun n => n * 256 + l.val) (word_16 (hOf t))

theorem emb_row9 (t : Fin cfg0.N) (s : Fin 640) (l : Fin 256) :
    (win0_9.rect t).emb (ix2 s l) = (ix2 (brow (kjOf t) s) (lane (hOf t) l) : S8320x4096.Idx) := by
  refine funext fun a => Fin.ext ((win0_9.rect_emb_val t (ix2 s l) a).trans ?_)
  fin_cases a
  · exact congrArg (fun n => n * 640 + s.val) (word_13 (kjOf t))
  · exact congrArg (fun n => n * 256 + l.val) (word_16 (hOf t))

/-- The arrays. -/
def dqArr : FVec Ideal S8320x4096 .f32 := fun x => dqF m c (headOf (x 1)) (x 0) (laneOf (x 1))
def dkArr : FVec Ideal S8320x4096 .f32 := fun x => dkF m c (headOf (x 1)) (x 0) (laneOf (x 1))
def dvArr : FVec Ideal S8320x4096 .f32 := fun x => dvF m c (headOf (x 1)) (x 0) (laneOf (x 1))

theorem dqArr_at (h : Fin 16) (i : Fin 8320) (l : Fin 256) : dqArr m c (ix2 i (lane h l)) = dqF m c h i l := by
  show dqF m c (headOf (lane h l)) i (laneOf (lane h l)) = _
  rw [headOf_lane, laneOf_lane]
theorem dkArr_at (h : Fin 16) (i : Fin 8320) (l : Fin 256) : dkArr m c (ix2 i (lane h l)) = dkF m c h i l := by
  show dkF m c (headOf (lane h l)) i (laneOf (lane h l)) = _
  rw [headOf_lane, laneOf_lane]
theorem dvArr_at (h : Fin 16) (i : Fin 8320) (l : Fin 256) : dvArr m c (ix2 i (lane h l)) = dvF m c h i l := by
  show dvF m c (headOf (lane h l)) i (laneOf (lane h l)) = _
  rw [headOf_lane, laneOf_lane]

/-- A step that writes the queries' block back is a head's last, -/
theorem pt_7 {t : Fin cfg0.N} (hf : (cfg0.win 7).flush t = true) : t = pt (hOf t) 168 (by decide) := by
  have h := (flush0_7 t).mp hf
  refine Fin.ext ?_
  show t.val = (hOf t).val * 169 + 168
  rw [hOf_val]; omega

/-- and one that writes a key block back its last query block. -/
theorem pt_89 {t : Fin cfg0.N} (h : t.val % 13 = 12) :
    t = pt (hOf t) ((kjOf t).val * 13 + 12) (kq_lt (kjOf t) (by decide)) := by
  refine Fin.ext ?_
  show t.val = (hOf t).val * 169 + ((kjOf t).val * 13 + 12)
  rw [hOf_val, kjOf_val]; omega

set_option maxRecDepth 16384 in
theorem flushed7 (t : Fin cfg0.N) (hf : (cfg0.win 7).flush t = true) :
    (dats m 0 c).flushed 7 t = ((cfg0.win 7).blk t).view.read (Elt Ideal) (dqArr m c) := by
  show (cfg0.win 7).cut (grid0.coords t) ((dats m 0 c).after 7 t) = _
  rw [after0_7]
  funext y
  rw [View.read_apply]
  obtain ⟨i, l, rfl⟩ : ∃ (i : Fin 8320) (l : Fin 256), y = ix2 i l := ⟨y 0, y 1, by
    funext a; fin_cases a <;> rfl⟩
  have e7 : dqArr m c ((win0_7.rect t).emb (ix2 i l)) = dqF m c (hOf t) i l := by rw [emb_row7, dqArr_at]
  have e := pt_7 hf
  have := dq_last m c (hOf t) i l
  rw [← e] at this
  exact this.trans e7.symm

theorem flushed8 (t : Fin cfg0.N) (hf : (cfg0.win 8).flush t = true) :
    (dats m 0 c).flushed 8 t = ((cfg0.win 8).blk t).view.read (Elt Ideal) (dkArr m c) := by
  show (cfg0.win 8).cut (grid0.coords t) ((dats m 0 c).after 8 t) = _
  rw [after0_8]
  funext y
  rw [View.read_apply]
  obtain ⟨s, l, rfl⟩ : ∃ (s : Fin 640) (l : Fin 256), y = ix2 s l := ⟨y 0, y 1, by
    funext a; fin_cases a <;> rfl⟩
  refine Eq.trans ?_ (congrArg (dkArr m c) (emb_row8 t s l)).symm
  rw [dkArr_at]
  have e := pt_89 ((flush0_8 t).mp hf)
  have := dk_last m c (hOf t) (kjOf t) s l
  rw [← e] at this
  exact this

theorem flushed9 (t : Fin cfg0.N) (hf : (cfg0.win 9).flush t = true) :
    (dats m 0 c).flushed 9 t = ((cfg0.win 9).blk t).view.read (Elt Ideal) (dvArr m c) := by
  show (cfg0.win 9).cut (grid0.coords t) ((dats m 0 c).after 9 t) = _
  rw [after0_9]
  funext y
  rw [View.read_apply]
  obtain ⟨s, l, rfl⟩ : ∃ (s : Fin 640) (l : Fin 256), y = ix2 s l := ⟨y 0, y 1, by
    funext a; fin_cases a <;> rfl⟩
  refine Eq.trans ?_ (congrArg (dvArr m c) (emb_row9 t s l)).symm
  rw [dvArr_at]
  have e := pt_89 ((flush0_9 t).mp hf)
  have := dv_last m c (hOf t) (kjOf t) s l
  rw [← e] at this
  exact this

theorem split_arr (x : S8320x4096.Idx) : ∃ (i : Fin 8320) (k : Fin 4096), x = ix2 i k :=
  ⟨x 0, x 1, funext fun a => by fin_cases a <;> rfl⟩

theorem last_lt (x : Fin 8320) : (blkOf x).val * 13 + 12 < 169 := kq_lt _ (by decide)

/-- The step that writes an element's block back. -/
def pt7 (k : Fin 4096) : Fin cfg0.N := pt (headOf k) 168 (by decide)
def pt8 (i : Fin 8320) (k : Fin 4096) : Fin cfg0.N := pt (headOf k) ((blkOf i).val * 13 + 12) (last_lt i)

theorem pt7_mod (k : Fin 4096) : (pt7 k).val % 169 = 168 := by
  show ((headOf k).val * 169 + 168) % 169 = 168; omega
theorem pt8_mod (i : Fin 8320) (k : Fin 4096) : (pt8 i k).val % 13 = 12 := by
  show ((headOf k).val * 169 + ((blkOf i).val * 13 + 12)) % 13 = 12; omega

theorem hOf_pt7 (k : Fin 4096) : hOf (pt7 k) = headOf k := hOf_pt _ _ _
theorem hOf_pt8 (i : Fin 8320) (k : Fin 4096) : hOf (pt8 i k) = headOf k := hOf_pt _ _ _
theorem kjOf_pt8 (i : Fin 8320) (k : Fin 4096) : kjOf (pt8 i k) = blkOf i := (key_pt _ _ 12 (by decide)).1

theorem emb7 (i : Fin 8320) (k : Fin 4096) : (win0_7.rect (pt7 k)).emb (ix2 i (laneOf k)) = (ix2 i k : S8320x4096.Idx) := by
  rw [emb_row7, hOf_pt7, lane_split]
theorem emb8 (i : Fin 8320) (k : Fin 4096) :
    (win0_8.rect (pt8 i k)).emb (ix2 (rowOf i) (laneOf k)) = (ix2 i k : S8320x4096.Idx) := by
  rw [emb_row8, hOf_pt8, kjOf_pt8, lane_split, brow_split]
theorem emb9 (i : Fin 8320) (k : Fin 4096) :
    (win0_9.rect (pt8 i k)).emb (ix2 (rowOf i) (laneOf k)) = (ix2 i k : S8320x4096.Idx) := by
  rw [emb_row9, hOf_pt8, kjOf_pt8, lane_split, brow_split]

theorem mem_of_emb {κ : Kind} {sp : Space} {s : Shape} {e : EltTy} (v : View sig κ sp s e) {y : s.Idx} {x : v.ty.Idx}
    (h : v.emb y = x) : x ∈ v.set := h ▸ v.emb_mem_set y

theorem final7 : (dats m 0 c).arrAt 7 cfg0.N = dqArr m c :=
  (dats m 0 c).arrAt_eq_of_cover 7 (dqArr m c) (flushed7 m c) fun (x : S8320x4096.Idx) => by
    obtain ⟨i, k, rfl⟩ := split_arr x
    exact ⟨pt7 k, (flush0_7 _).mpr (pt7_mod k), mem_of_emb _ (emb7 i k)⟩

theorem final8 : (dats m 0 c).arrAt 8 cfg0.N = dkArr m c :=
  (dats m 0 c).arrAt_eq_of_cover 8 (dkArr m c) (flushed8 m c) fun (x : S8320x4096.Idx) => by
    obtain ⟨i, k, rfl⟩ := split_arr x
    exact ⟨pt8 i k, (flush0_8 _).mpr (pt8_mod i k), mem_of_emb _ (emb8 i k)⟩

theorem final9 : (dats m 0 c).arrAt 9 cfg0.N = dvArr m c :=
  (dats m 0 c).arrAt_eq_of_cover 9 (dvArr m c) (flushed9 m c) fun (x : S8320x4096.Idx) => by
    obtain ⟨i, k, rfl⟩ := split_arr x
    exact ⟨pt8 i k, (flush0_9 _).mpr (pt8_mod i k), mem_of_emb _ (emb9 i k)⟩

end Cert.KernelIdeal.Val

end
-- ==== Proof.Names.lean ====
/-
  The arrays the host prepares for the kernel, by name.
-/
module

public import proofs.«01_k».proof.Proof.Final

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic

variable (m : (ℓ : Loc nD τ sig) → Buf (Elt Ideal) ℓ) (c : Dev nD)

/-- The program's arguments. -/
@[irreducible] def X0 : FVec Ideal S8320x2048 .f32 := m (c.tc.loc main_arg0)
@[irreducible] def X1 : FVec Ideal S8320x2048 .f32 := m (c.tc.loc main_arg1)
@[irreducible] def X2 : FVec Ideal S8320x2048 .f32 := m (c.tc.loc main_arg2)
@[irreducible] def X3 : FVec Ideal S8320x16 .f32 := m (c.tc.loc main_arg3)
@[irreducible] def X4 : FVec Ideal S8320x2048 .f32 := m (c.tc.loc main_arg4)
@[irreducible] def X5 : FVec Ideal S8320x2048 .f32 := m (c.tc.loc main_arg5)
@[irreducible] def X6 : FVec Ideal S8320x2048 .f32 := m (c.tc.loc main_arg6)
@[irreducible] def X7 : FVec Ideal S8320x16 .f32 := m (c.tc.loc main_arg7)

/-- What the host lines leave in their buffers. -/
@[irreducible] def T31 : FVec Ideal S16x8320x8320 .f32 := V m c main_v31
@[irreducible] def T32 : FVec Ideal S16x8320 .f32 := V m c main_v32
@[irreducible] def T33 : FVec Ideal S16x8320x1 .f32 := V m c main_v33
@[irreducible] def T34 : FVec Ideal S16x8320x8320 .f32 := V m c main_v34
@[irreducible] def T35 : FVec Ideal S16x8320x8320 .f32 := V m c main_v35
@[irreducible] def T36 : FVec Ideal S16x8320x8320 .f32 := V m c main_v36
@[irreducible] def T37 : FVec Ideal S16x8320 .f32 := V m c main_v37
@[irreducible] def T38 : FVec Ideal S16x8320x1 .f32 := V m c main_v38
@[irreducible] def T39 : FVec Ideal S16x8320x1 .f32 := V m c main_v39
@[irreducible] def T40 : FVec Ideal S16x8320x1 .f32 := V m c main_v40
@[irreducible] def T41 : FVec Ideal S16x8320x8320 .f32 := V m c main_v41
@[irreducible] def T42 : FVec Ideal S16x8320x8320 .f32 := V m c main_v42
@[irreducible] def T43 : FVec Ideal S8320x16x128 .f32 := V m c main_v43
@[irreducible] def T44 : FVec Ideal S16x8320x128 .f32 := V m c main_v44
@[irreducible] def T45 : FVec Ideal S16x8320x128 .f32 := V m c main_v45
@[irreducible] def T46 : FVec Ideal S8320x16x128 .f32 := V m c main_v46
@[irreducible] def T47 : FVec Ideal S8320x16x1 .f32 := V m c main_v47
@[irreducible] def T48 : FVec Ideal S8320x16x1 .bf16 := V m c main_v48
@[irreducible] def T49 : FVec Ideal S8320x16x1 .f32 := V m c main_v49
@[irreducible] def T50 : FVec Ideal S8320x16x1 .f32 := V m c main_v50
@[irreducible] def T51 : FVec Ideal S8320x16x1 .bf16 := V m c main_v51
@[irreducible] def T52 : FVec Ideal S8320x16x1 .f32 := V m c main_v52
@[irreducible] def T53 : FVec Ideal S8320x16x1 .f32 := V m c main_v53
@[irreducible] def T54 : FVec Ideal S8320x16x1 .bf16 := V m c main_v54
@[irreducible] def T55 : FVec Ideal S8320x16x1 .f32 := V m c main_v55
@[irreducible] def T60 : IVec S8320 1 := V m c main_v60
@[irreducible] def T61 : IVec S8320x1x1 1 := V m c main_v61
@[irreducible] def T62 : FVec Ideal S8320x16x128 .f32 := V m c main_v62
@[irreducible] def T64 : FVec Ideal S8320x16x128 .f32 := V m c main_v64
@[irreducible] def T66 : FVec Ideal S8320x16x256 .f32 := V m c main_v66
@[irreducible] def T67 : FVec Ideal S8320x4096 .f32 := V m c main_v67
@[irreducible] def T68 : FVec Ideal S8320x4096 .bf16 := V m c main_v68
@[irreducible] def T69 : FVec Ideal S8320x16x128 .f32 := V m c main_v69
@[irreducible] def T70 : FVec Ideal S8320x16x1 .f32 := V m c main_v70
@[irreducible] def T71 : FVec Ideal S8320x16x1 .f32 := V m c main_v71
@[irreducible] def T72 : FVec Ideal S8320x16x1 .f32 := V m c main_v72
@[irreducible] def T73 : FVec Ideal S8320x16x1 .f32 := V m c main_v73
@[irreducible] def T74 : FVec Ideal S8320x16x1 .f32 := V m c main_v74
@[irreducible] def T75 : FVec Ideal S8320x16x1 .f32 := V m c main_v75
@[irreducible] def T77 : FVec Ideal S8320x16x256 .f32 := V m c main_v77
@[irreducible] def T78 : FVec Ideal S8320x4096 .f32 := V m c main_v78
@[irreducible] def T79 : FVec Ideal S8320x4096 .bf16 := V m c main_v79
@[irreducible] def T80 : FVec Ideal S8320x16x128 .f32 := V m c main_v80
@[irreducible] def T82 : FVec Ideal S8320x16x256 .f32 := V m c main_v82
@[irreducible] def T83 : FVec Ideal S8320x4096 .f32 := V m c main_v83
@[irreducible] def T84 : FVec Ideal S8320x4096 .bf16 := V m c main_v84
@[irreducible] def T85 : FVec Ideal S8320x16x128 .f32 := V m c main_v85
@[irreducible] def T86 : FVec Ideal S8320x16x128 .f32 := V m c main_v86
@[irreducible] def T87 : FVec Ideal S8320x16 .f32 := V m c main_v87
@[irreducible] def T88 : FVec Ideal S8320x16x1 .f32 := V m c main_v88
@[irreducible] def T89 : FVec Ideal S8320x16x1 .f32 := V m c main_v89
@[irreducible] def T90 : FVec Ideal S8320x16x1 .bf16 := V m c main_v90
@[irreducible] def T91 : FVec Ideal S8320x16x1 .f32 := V m c main_v91
@[irreducible] def T92 : FVec Ideal S8320x16x1 .f32 := V m c main_v92
@[irreducible] def T93 : FVec Ideal S8320x16x1 .bf16 := V m c main_v93
@[irreducible] def T94 : FVec Ideal S8320x16x1 .f32 := V m c main_v94
@[irreducible] def T95 : FVec Ideal S8320x16x1 .f32 := V m c main_v95
@[irreducible] def T96 : FVec Ideal S8320x16x1 .bf16 := V m c main_v96
@[irreducible] def T97 : FVec Ideal S8320x16x1 .f32 := V m c main_v97
@[irreducible] def T98 : FVec Ideal S8320x16x128 .f32 := V m c main_v98
@[irreducible] def T100 : FVec Ideal S8320x16x256 .f32 := V m c main_v100
@[irreducible] def T101 : FVec Ideal S8320x4096 .f32 := V m c main_v101
@[irreducible] def T102 : FVec Ideal S8320x4096 .bf16 := V m c main_v102
@[irreducible] def T103 : FVec Ideal S8320x16x128 .f32 := V m c main_v103
@[irreducible] def T104 : FVec Ideal S8320x16x1 .f32 := V m c main_v104
@[irreducible] def T105 : FVec Ideal S8320x16x1 .f32 := V m c main_v105
@[irreducible] def T107 : FVec Ideal S8320x16x256 .f32 := V m c main_v107
@[irreducible] def T108 : FVec Ideal S8320x4096 .f32 := V m c main_v108
@[irreducible] def T109 : FVec Ideal S8320x16x128 .f32 := V m c main_v109
@[irreducible] def T111 : FVec Ideal S8320x16x256 .f32 := V m c main_v111
@[irreducible] def T112 : FVec Ideal S8320x4096 .f32 := V m c main_v112

end Cert.KernelIdeal.Val

end
-- ==== Proof.LinesA.lean ====
/-
  The host lines of the softmax, its log-sum and the split of the gates, one equation per line.
-/
module

public import proofs.«01_k».proof.Proof.Names
import Idealize.ShloMosaic.Lib.StableHlo.RunRead
import Idealize.ShloMosaic.Lib.StableHlo.ReadAt

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic

variable (m : (ℓ : Loc nD τ sig) → Buf (Elt Ideal) ℓ) (c : Dev nD)

theorem T32_eq : T32 m c = Host.reduce FloatOps.maximumf (T31 m c) (constant S_ .f32 0xFF800000#32) reducesTo_S16x8320x8320_S16x8320_d2 h_S_ := by
  unfold T32 T31 V V0
  unfold_abbrev_sides
  after_reads_simp

theorem T33_eq : T33 m c = broadcastInDim S16x8320x1 ![0, 1] bcast_S16x8320_S16x8320x1_0_1 (T32 m c) := by
  unfold T33 T32 V V0
  unfold_abbrev_sides
  after_reads_simp

theorem T34_eq : T34 m c = broadcastInDim S16x8320x8320 ![0, 1, 2] bcast_S16x8320x1_S16x8320x8320_0_1_2 (T33 m c) := by
  unfold T34 T33 V V0
  unfold_abbrev_sides
  after_reads_simp

theorem T35_eq : T35 m c = subf (T31 m c) (T34 m c) := by
  unfold T35 T31 T34 V V0
  unfold_abbrev_sides
  after_reads_simp

theorem T36_eq : T36 m c = Host.exp (T35 m c) := by
  unfold T36 T35 V V0
  unfold_abbrev_sides
  after_reads_simp

theorem T37_eq : T37 m c = Host.reduceAdd (T36 m c) (constant S_ .f32 0x00000000#32) reducesTo_S16x8320x8320_S16x8320_d2 h_S_ := by
  unfold T37 T36 V V0
  unfold_abbrev_sides
  after_reads_simp

theorem T38_eq : T38 m c = broadcastInDim S16x8320x1 ![0, 1] bcast_S16x8320_S16x8320x1_0_1 (T37 m c) := by
  unfold T38 T37 V V0
  unfold_abbrev_sides
  after_reads_simp

theorem T39_eq : T39 m c = Host.log (T38 m c) := by
  unfold T39 T38 V V0
  unfold_abbrev_sides
  after_reads_simp

theorem T40_eq : T40 m c = addf (T33 m c) (T39 m c) := by
  unfold T40 T33 T39 V V0
  unfold_abbrev_sides
  after_reads_simp

theorem T41_eq : T41 m c = broadcastInDim S16x8320x8320 ![0, 1, 2] bcast_S16x8320x1_S16x8320x8320_0_1_2 (T38 m c) := by
  unfold T41 T38 V V0
  unfold_abbrev_sides
  after_reads_simp

theorem T42_eq : T42 m c = Host.divf (T36 m c) (T41 m c) := by
  unfold T42 T36 T41 V V0
  unfold_abbrev_sides
  after_reads_simp

theorem T43_eq : T43 m c = shapeCast S8320x16x128 (X2 m c) shapeCasts_S8320x2048_S8320x16x128 := by
  unfold T43 X2 V V0
  unfold_abbrev_sides
  after_reads_simp
  rfl

theorem T44_eq : T44 m c = transpose S16x8320x128 [1, 0, 2] (T43 m c) transposes_S8320x16x128_S16x8320x128_1_0_2 := by
  unfold T44 T43 V V0
  unfold_abbrev_sides
  after_reads_simp

theorem T45_eq : T45 m c = Host.dotGeneral dot_S16x8320x8320_S16x8320x128_S16x8320x128_2_1_1_2_0_0 none (T42 m c) (T44 m c) := by
  unfold T45 T42 T44 V V0
  unfold_abbrev_sides
  after_reads_simp
  rfl

theorem T46_eq : T46 m c = transpose S8320x16x128 [1, 0, 2] (T45 m c) transposes_S16x8320x128_S8320x16x128_1_0_2 := by
  unfold T46 T45 V V0
  unfold_abbrev_sides
  after_reads_simp

theorem T47_eq : T47 m c = broadcastInDim S8320x16x1 ![0, 1] bcast_S8320x16_S8320x16x1_0_1 (X3 m c) := by
  unfold T47 X3 V V0
  unfold_abbrev_sides
  after_reads_simp

theorem T48_eq : T48 m c = truncf .bf16 (T47 m c) bitsLt_bf16_f32 := by
  unfold T48 T47 V V0
  unfold_abbrev_sides
  after_reads_simp

theorem T49_eq : T49 m c = extf .f32 (T48 m c) bitsLt_bf16_f32 := by
  unfold T49 T48 V V0
  unfold_abbrev_sides
  after_reads_simp

theorem T50_eq : T50 m c = subf (T47 m c) (T49 m c) := by
  unfold T50 T47 T49 V V0
  unfold_abbrev_sides
  after_reads_simp

theorem T51_eq : T51 m c = truncf .bf16 (T50 m c) bitsLt_bf16_f32 := by
  unfold T51 T50 V V0
  unfold_abbrev_sides
  after_reads_simp

theorem T52_eq : T52 m c = extf .f32 (T51 m c) bitsLt_bf16_f32 := by
  unfold T52 T51 V V0
  unfold_abbrev_sides
  after_reads_simp

theorem T53_eq : T53 m c = subf (T50 m c) (T52 m c) := by
  unfold T53 T50 T52 V V0
  unfold_abbrev_sides
  after_reads_simp

theorem T54_eq : T54 m c = truncf .bf16 (T53 m c) bitsLt_bf16_f32 := by
  unfold T54 T53 V V0
  unfold_abbrev_sides
  after_reads_simp

theorem T55_eq : T55 m c = extf .f32 (T54 m c) bitsLt_bf16_f32 := by
  unfold T55 T54 V V0
  unfold_abbrev_sides
  after_reads_simp

theorem T60_eq : T60 m c = cmpi .slt (iotaInDim S8320 32 0) (broadcastInDim S8320 ![] bcast_S_S8320 (constantI S_ 32 112#32)) := by
  unfold T60 V V0
  unfold_abbrev_sides
  after_reads_simp

theorem T61_eq : T61 m c = broadcastInDim S8320x1x1 ![0] bcast_S8320_S8320x1x1_0 (T60 m c) := by
  unfold T61 T60 V V0
  unfold_abbrev_sides
  after_reads_simp

end Cert.KernelIdeal.Val

end
-- ==== Proof.LinesB.lean ====
/-
  The host lines that lay out q, k and v in lanes, one equation per line.
-/
module

public import proofs.«01_k».proof.Proof.Names
import Idealize.ShloMosaic.Lib.StableHlo.RunRead
import Idealize.ShloMosaic.Lib.StableHlo.ReadAt

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic

variable (m : (ℓ : Loc nD τ sig) → Buf (Elt Ideal) ℓ) (c : Dev nD)

theorem T62_eq : T62 m c = shapeCast S8320x16x128 (X0 m c) shapeCasts_S8320x2048_S8320x16x128 := by
  unfold T62 X0 V V0
  unfold_abbrev_sides
  after_reads_simp
  rfl

theorem T64_eq : T64 m c = mulf (T62 m c) (broadcastInDim S8320x16x128 ![] bcast_S_S8320x16x128 (constant S_ .f32 0x3DB504F3#32)) := by
  unfold T64 T62 V V0
  unfold_abbrev_sides
  after_reads_simp

/-- Joining equal pieces. -/
theorem T66_congr {a0 b0 : FVec Ideal S8320x16x128 .f32} {a1 b1 : FVec Ideal S8320x16x1 .f32} {a2 b2 : FVec Ideal S8320x16x1 .f32} {a3 b3 : FVec Ideal S8320x16x1 .f32} {a4 b4 : FVec Ideal S8320x16x1 .f32} {a5 b5 : FVec Ideal S8320x16x1 .f32} {a6 b6 : FVec Ideal S8320x16x1 .f32} {a7 b7 : FVec Ideal S8320x16x122 .f32} (h0 : a0 = b0) (h1 : a1 = b1) (h2 : a2 = b2) (h3 : a3 = b3) (h4 : a4 = b4) (h5 : a5 = b5) (h6 : a6 = b6) (h7 : a7 = b7) :
    concatenate S8320x16x256 2 [⟨S8320x16x128, a0⟩, ⟨S8320x16x1, a1⟩, ⟨S8320x16x1, a2⟩, ⟨S8320x16x1, a3⟩, ⟨S8320x16x1, a4⟩, ⟨S8320x16x1, a5⟩, ⟨S8320x16x1, a6⟩, ⟨S8320x16x122, a7⟩] concatenates_S8320x16x128_S8320x16x1_S8320x16x1_S8320x16x1_S8320x16x1_S8320x16x1_S8320x16x1_S8320x16x122_S8320x16x256_d2
    = concatenate S8320x16x256 2 [⟨S8320x16x128, b0⟩, ⟨S8320x16x1, b1⟩, ⟨S8320x16x1, b2⟩, ⟨S8320x16x1, b3⟩, ⟨S8320x16x1, b4⟩, ⟨S8320x16x1, b5⟩, ⟨S8320x16x1, b6⟩, ⟨S8320x16x122, b7⟩] concatenates_S8320x16x128_S8320x16x1_S8320x16x1_S8320x16x1_S8320x16x1_S8320x16x1_S8320x16x1_S8320x16x122_S8320x16x256_d2 := by
  rw [h0, h1, h2, h3, h4, h5, h6, h7]

theorem T66_eq : T66 m c = concatenate S8320x16x256 2 [⟨S8320x16x128, (T64 m c)⟩, ⟨S8320x16x1, (T49 m c)⟩, ⟨S8320x16x1, (T52 m c)⟩, ⟨S8320x16x1, (T55 m c)⟩, ⟨S8320x16x1, (broadcastInDim S8320x16x1 ![] bcast_S_S8320x16x1 (constant S_ .f32 0x3F800000#32))⟩, ⟨S8320x16x1, (broadcastInDim S8320x16x1 ![] bcast_S_S8320x16x1 (constant S_ .f32 0x3F800000#32))⟩, ⟨S8320x16x1, (broadcastInDim S8320x16x1 ![] bcast_S_S8320x16x1 (constant S_ .f32 0x3F800000#32))⟩, ⟨S8320x16x122, (broadcastInDim S8320x16x122 ![] bcast_S_S8320x16x122 (constant S_ .f32 0x00000000#32))⟩] concatenates_S8320x16x128_S8320x16x1_S8320x16x1_S8320x16x1_S8320x16x1_S8320x16x1_S8320x16x1_S8320x16x122_S8320x16x256_d2 := by
  unfold T66 T64 T49 T52 T55 V V0
  unfold_abbrev_sides
  after_reads_simp
  refine T66_congr ?_ ?_ ?_ ?_ ?_ ?_ ?_ ?_
  all_goals (simp only [Matrix.cons_val]; after_reads_simp)

theorem T67_eq : T67 m c = shapeCast S8320x4096 (T66 m c) shapeCasts_S8320x16x256_S8320x4096 := by
  unfold T67 T66 V V0
  unfold_abbrev_sides
  after_reads_simp
  rfl

theorem T68_eq : T68 m c = truncf .bf16 (T67 m c) bitsLt_bf16_f32 := by
  unfold T68 T67 V V0
  unfold_abbrev_sides
  after_reads_simp

theorem T69_eq : T69 m c = shapeCast S8320x16x128 (X1 m c) shapeCasts_S8320x2048_S8320x16x128 := by
  unfold T69 X1 V V0
  unfold_abbrev_sides
  after_reads_simp
  rfl

theorem T70_eq : T70 m c = Host.negf (T49 m c) := by
  unfold T70 T49 V V0
  unfold_abbrev_sides
  after_reads_simp

theorem T71_eq : T71 m c = select (broadcastInDim S8320x16x1 ![0, 1, 2] bcast_S8320x1x1_S8320x16x1_0_1_2 (T61 m c)) (broadcastInDim S8320x16x1 ![] bcast_S_S8320x16x1 (constant S_ .f32 0xFF800000#32)) (T70 m c) := by
  unfold T71 T61 T70 V V0
  unfold_abbrev_sides
  funext x
  after_reads_at
  rfl

theorem T72_eq : T72 m c = Host.negf (T52 m c) := by
  unfold T72 T52 V V0
  unfold_abbrev_sides
  after_reads_simp

theorem T73_eq : T73 m c = select (broadcastInDim S8320x16x1 ![0, 1, 2] bcast_S8320x1x1_S8320x16x1_0_1_2 (T61 m c)) (broadcastInDim S8320x16x1 ![] bcast_S_S8320x16x1 (constant S_ .f32 0x00000000#32)) (T72 m c) := by
  unfold T73 T61 T72 V V0
  unfold_abbrev_sides
  funext x
  after_reads_at
  rfl

theorem T74_eq : T74 m c = Host.negf (T55 m c) := by
  unfold T74 T55 V V0
  unfold_abbrev_sides
  after_reads_simp

theorem T75_eq : T75 m c = select (broadcastInDim S8320x16x1 ![0, 1, 2] bcast_S8320x1x1_S8320x16x1_0_1_2 (T61 m c)) (broadcastInDim S8320x16x1 ![] bcast_S_S8320x16x1 (constant S_ .f32 0x00000000#32)) (T74 m c) := by
  unfold T75 T61 T74 V V0
  unfold_abbrev_sides
  funext x
  after_reads_at
  rfl

/-- Joining equal pieces. -/
theorem T77_congr {a0 b0 : FVec Ideal S8320x16x128 .f32} {a1 b1 : FVec Ideal S8320x16x1 .f32} {a2 b2 : FVec Ideal S8320x16x1 .f32} {a3 b3 : FVec Ideal S8320x16x1 .f32} {a4 b4 : FVec Ideal S8320x16x1 .f32} {a5 b5 : FVec Ideal S8320x16x1 .f32} {a6 b6 : FVec Ideal S8320x16x1 .f32} {a7 b7 : FVec Ideal S8320x16x122 .f32} (h0 : a0 = b0) (h1 : a1 = b1) (h2 : a2 = b2) (h3 : a3 = b3) (h4 : a4 = b4) (h5 : a5 = b5) (h6 : a6 = b6) (h7 : a7 = b7) :
    concatenate S8320x16x256 2 [⟨S8320x16x128, a0⟩, ⟨S8320x16x1, a1⟩, ⟨S8320x16x1, a2⟩, ⟨S8320x16x1, a3⟩, ⟨S8320x16x1, a4⟩, ⟨S8320x16x1, a5⟩, ⟨S8320x16x1, a6⟩, ⟨S8320x16x122, a7⟩] concatenates_S8320x16x128_S8320x16x1_S8320x16x1_S8320x16x1_S8320x16x1_S8320x16x1_S8320x16x1_S8320x16x122_S8320x16x256_d2
    = concatenate S8320x16x256 2 [⟨S8320x16x128, b0⟩, ⟨S8320x16x1, b1⟩, ⟨S8320x16x1, b2⟩, ⟨S8320x16x1, b3⟩, ⟨S8320x16x1, b4⟩, ⟨S8320x16x1, b5⟩, ⟨S8320x16x1, b6⟩, ⟨S8320x16x122, b7⟩] concatenates_S8320x16x128_S8320x16x1_S8320x16x1_S8320x16x1_S8320x16x1_S8320x16x1_S8320x16x1_S8320x16x122_S8320x16x256_d2 := by
  rw [h0, h1, h2, h3, h4, h5, h6, h7]

theorem T77_eq : T77 m c = concatenate S8320x16x256 2 [⟨S8320x16x128, (T69 m c)⟩, ⟨S8320x16x1, (broadcastInDim S8320x16x1 ![] bcast_S_S8320x16x1 (constant S_ .f32 0x3F800000#32))⟩, ⟨S8320x16x1, (broadcastInDim S8320x16x1 ![] bcast_S_S8320x16x1 (constant S_ .f32 0x3F800000#32))⟩, ⟨S8320x16x1, (broadcastInDim S8320x16x1 ![] bcast_S_S8320x16x1 (constant S_ .f32 0x3F800000#32))⟩, ⟨S8320x16x1, (T71 m c)⟩, ⟨S8320x16x1, (T73 m c)⟩, ⟨S8320x16x1, (T75 m c)⟩, ⟨S8320x16x122, (broadcastInDim S8320x16x122 ![] bcast_S_S8320x16x122 (constant S_ .f32 0x00000000#32))⟩] concatenates_S8320x16x128_S8320x16x1_S8320x16x1_S8320x16x1_S8320x16x1_S8320x16x1_S8320x16x1_S8320x16x122_S8320x16x256_d2 := by
  unfold T77 T69 T71 T73 T75 V V0
  unfold_abbrev_sides
  after_reads_simp
  refine T77_congr ?_ ?_ ?_ ?_ ?_ ?_ ?_ ?_
  all_goals (simp only [Matrix.cons_val]; after_reads_simp)

theorem T78_eq : T78 m c = shapeCast S8320x4096 (T77 m c) shapeCasts_S8320x16x256_S8320x4096 := by
  unfold T78 T77 V V0
  unfold_abbrev_sides
  after_reads_simp
  rfl

theorem T79_eq : T79 m c = truncf .bf16 (T78 m c) bitsLt_bf16_f32 := by
  unfold T79 T78 V V0
  unfold_abbrev_sides
  after_reads_simp

theorem T80_eq : T80 m c = shapeCast S8320x16x128 (X2 m c) shapeCasts_S8320x2048_S8320x16x128 := by
  unfold T80 X2 V V0
  unfold_abbrev_sides
  after_reads_simp
  rfl

/-- Joining equal pieces. -/
theorem T82_congr {a0 b0 : FVec Ideal S8320x16x128 .f32} {a1 b1 : FVec Ideal S8320x16x128 .f32} (h0 : a0 = b0) (h1 : a1 = b1) :
    concatenate S8320x16x256 2 [⟨S8320x16x128, a0⟩, ⟨S8320x16x128, a1⟩] concatenates_S8320x16x128_S8320x16x128_S8320x16x256_d2
    = concatenate S8320x16x256 2 [⟨S8320x16x128, b0⟩, ⟨S8320x16x128, b1⟩] concatenates_S8320x16x128_S8320x16x128_S8320x16x256_d2 := by
  rw [h0, h1]

theorem T82_eq : T82 m c = concatenate S8320x16x256 2 [⟨S8320x16x128, (T80 m c)⟩, ⟨S8320x16x128, (broadcastInDim S8320x16x128 ![] bcast_S_S8320x16x128 (constant S_ .f32 0x3F800000#32))⟩] concatenates_S8320x16x128_S8320x16x128_S8320x16x256_d2 := by
  unfold T82 T80 V V0
  unfold_abbrev_sides
  after_reads_simp
  refine T82_congr ?_ ?_
  all_goals (after_reads_simp)

theorem T83_eq : T83 m c = shapeCast S8320x4096 (T82 m c) shapeCasts_S8320x16x256_S8320x4096 := by
  unfold T83 T82 V V0
  unfold_abbrev_sides
  after_reads_simp
  rfl

theorem T84_eq : T84 m c = truncf .bf16 (T83 m c) bitsLt_bf16_f32 := by
  unfold T84 T83 V V0
  unfold_abbrev_sides
  after_reads_simp

end Cert.KernelIdeal.Val

end
-- ==== Proof.LinesC.lean ====
/-
  The host lines that lay out the output gradient and the accumulators, one equation per line.
-/
module

public import proofs.«01_k».proof.Proof.Names
import Idealize.ShloMosaic.Lib.StableHlo.RunRead
import Idealize.ShloMosaic.Lib.StableHlo.ReadAt

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic

variable (m : (ℓ : Loc nD τ sig) → Buf (Elt Ideal) ℓ) (c : Dev nD)

theorem T85_eq : T85 m c = shapeCast S8320x16x128 (X4 m c) shapeCasts_S8320x2048_S8320x16x128 := by
  unfold T85 X4 V V0
  unfold_abbrev_sides
  after_reads_simp
  rfl

theorem T86_eq : T86 m c = mulf (T85 m c) (T46 m c) := by
  unfold T86 T85 T46 V V0
  unfold_abbrev_sides
  after_reads_simp

theorem T87_eq : T87 m c = Host.reduceAdd (T86 m c) (constant S_ .f32 0x00000000#32) reducesTo_S8320x16x128_S8320x16_d2 h_S_ := by
  unfold T87 T86 V V0
  unfold_abbrev_sides
  after_reads_simp

theorem T88_eq : T88 m c = broadcastInDim S8320x16x1 ![0, 1] bcast_S8320x16_S8320x16x1_0_1 (T87 m c) := by
  unfold T88 T87 V V0
  unfold_abbrev_sides
  after_reads_simp

theorem T89_eq : T89 m c = Host.negf (T88 m c) := by
  unfold T89 T88 V V0
  unfold_abbrev_sides
  after_reads_simp

theorem T90_eq : T90 m c = truncf .bf16 (T89 m c) bitsLt_bf16_f32 := by
  unfold T90 T89 V V0
  unfold_abbrev_sides
  after_reads_simp

theorem T91_eq : T91 m c = extf .f32 (T90 m c) bitsLt_bf16_f32 := by
  unfold T91 T90 V V0
  unfold_abbrev_sides
  after_reads_simp

theorem T92_eq : T92 m c = subf (T89 m c) (T91 m c) := by
  unfold T92 T89 T91 V V0
  unfold_abbrev_sides
  after_reads_simp

theorem T93_eq : T93 m c = truncf .bf16 (T92 m c) bitsLt_bf16_f32 := by
  unfold T93 T92 V V0
  unfold_abbrev_sides
  after_reads_simp

theorem T94_eq : T94 m c = extf .f32 (T93 m c) bitsLt_bf16_f32 := by
  unfold T94 T93 V V0
  unfold_abbrev_sides
  after_reads_simp

theorem T95_eq : T95 m c = subf (T92 m c) (T94 m c) := by
  unfold T95 T92 T94 V V0
  unfold_abbrev_sides
  after_reads_simp

theorem T96_eq : T96 m c = truncf .bf16 (T95 m c) bitsLt_bf16_f32 := by
  unfold T96 T95 V V0
  unfold_abbrev_sides
  after_reads_simp

theorem T97_eq : T97 m c = extf .f32 (T96 m c) bitsLt_bf16_f32 := by
  unfold T97 T96 V V0
  unfold_abbrev_sides
  after_reads_simp

theorem T98_eq : T98 m c = shapeCast S8320x16x128 (X4 m c) shapeCasts_S8320x2048_S8320x16x128 := by
  unfold T98 X4 V V0
  unfold_abbrev_sides
  after_reads_simp
  rfl

/-- Joining equal pieces. -/
theorem T100_congr {a0 b0 : FVec Ideal S8320x16x128 .f32} {a1 b1 : FVec Ideal S8320x16x1 .f32} {a2 b2 : FVec Ideal S8320x16x1 .f32} {a3 b3 : FVec Ideal S8320x16x1 .f32} {a4 b4 : FVec Ideal S8320x16x125 .f32} (h0 : a0 = b0) (h1 : a1 = b1) (h2 : a2 = b2) (h3 : a3 = b3) (h4 : a4 = b4) :
    concatenate S8320x16x256 2 [⟨S8320x16x128, a0⟩, ⟨S8320x16x1, a1⟩, ⟨S8320x16x1, a2⟩, ⟨S8320x16x1, a3⟩, ⟨S8320x16x125, a4⟩] concatenates_S8320x16x128_S8320x16x1_S8320x16x1_S8320x16x1_S8320x16x125_S8320x16x256_d2
    = concatenate S8320x16x256 2 [⟨S8320x16x128, b0⟩, ⟨S8320x16x1, b1⟩, ⟨S8320x16x1, b2⟩, ⟨S8320x16x1, b3⟩, ⟨S8320x16x125, b4⟩] concatenates_S8320x16x128_S8320x16x1_S8320x16x1_S8320x16x1_S8320x16x125_S8320x16x256_d2 := by
  rw [h0, h1, h2, h3, h4]

theorem T100_eq : T100 m c = concatenate S8320x16x256 2 [⟨S8320x16x128, (T98 m c)⟩, ⟨S8320x16x1, (T91 m c)⟩, ⟨S8320x16x1, (T94 m c)⟩, ⟨S8320x16x1, (T97 m c)⟩, ⟨S8320x16x125, (broadcastInDim S8320x16x125 ![] bcast_S_S8320x16x125 (constant S_ .f32 0x00000000#32))⟩] concatenates_S8320x16x128_S8320x16x1_S8320x16x1_S8320x16x1_S8320x16x125_S8320x16x256_d2 := by
  unfold T100 T98 T91 T94 T97 V V0
  unfold_abbrev_sides
  after_reads_simp
  refine T100_congr ?_ ?_ ?_ ?_ ?_
  all_goals (simp only [Matrix.cons_val]; after_reads_simp)

theorem T101_eq : T101 m c = shapeCast S8320x4096 (T100 m c) shapeCasts_S8320x16x256_S8320x4096 := by
  unfold T101 T100 V V0
  unfold_abbrev_sides
  after_reads_simp
  rfl

theorem T102_eq : T102 m c = truncf .bf16 (T101 m c) bitsLt_bf16_f32 := by
  unfold T102 T101 V V0
  unfold_abbrev_sides
  after_reads_simp

theorem T103_eq : T103 m c = shapeCast S8320x16x128 (X5 m c) shapeCasts_S8320x2048_S8320x16x128 := by
  unfold T103 X5 V V0
  unfold_abbrev_sides
  after_reads_simp
  rfl

theorem T104_eq : T104 m c = broadcastInDim S8320x16x1 ![0, 1] bcast_S8320x16_S8320x16x1_0_1 (X7 m c) := by
  unfold T104 X7 V V0
  unfold_abbrev_sides
  after_reads_simp

theorem T105_eq : T105 m c = Host.negf (T104 m c) := by
  unfold T105 T104 V V0
  unfold_abbrev_sides
  after_reads_simp

/-- Joining equal pieces. -/
theorem T107_congr {a0 b0 : FVec Ideal S8320x16x128 .f32} {a1 b1 : FVec Ideal S8320x16x1 .f32} {a2 b2 : FVec Ideal S8320x16x1 .f32} {a3 b3 : FVec Ideal S8320x16x1 .f32} {a4 b4 : FVec Ideal S8320x16x1 .f32} {a5 b5 : FVec Ideal S8320x16x124 .f32} (h0 : a0 = b0) (h1 : a1 = b1) (h2 : a2 = b2) (h3 : a3 = b3) (h4 : a4 = b4) (h5 : a5 = b5) :
    concatenate S8320x16x256 2 [⟨S8320x16x128, a0⟩, ⟨S8320x16x1, a1⟩, ⟨S8320x16x1, a2⟩, ⟨S8320x16x1, a3⟩, ⟨S8320x16x1, a4⟩, ⟨S8320x16x124, a5⟩] concatenates_S8320x16x128_S8320x16x1_S8320x16x1_S8320x16x1_S8320x16x1_S8320x16x124_S8320x16x256_d2
    = concatenate S8320x16x256 2 [⟨S8320x16x128, b0⟩, ⟨S8320x16x1, b1⟩, ⟨S8320x16x1, b2⟩, ⟨S8320x16x1, b3⟩, ⟨S8320x16x1, b4⟩, ⟨S8320x16x124, b5⟩] concatenates_S8320x16x128_S8320x16x1_S8320x16x1_S8320x16x1_S8320x16x1_S8320x16x124_S8320x16x256_d2 := by
  rw [h0, h1, h2, h3, h4, h5]

theorem T107_eq : T107 m c = concatenate S8320x16x256 2 [⟨S8320x16x128, (T103 m c)⟩, ⟨S8320x16x1, (broadcastInDim S8320x16x1 ![] bcast_S_S8320x16x1 (constant S_ .f32 0x00000000#32))⟩, ⟨S8320x16x1, (broadcastInDim S8320x16x1 ![] bcast_S_S8320x16x1 (constant S_ .f32 0x00000000#32))⟩, ⟨S8320x16x1, (broadcastInDim S8320x16x1 ![] bcast_S_S8320x16x1 (constant S_ .f32 0x00000000#32))⟩, ⟨S8320x16x1, (T105 m c)⟩, ⟨S8320x16x124, (broadcastInDim S8320x16x124 ![] bcast_S_S8320x16x124 (constant S_ .f32 0x00000000#32))⟩] concatenates_S8320x16x128_S8320x16x1_S8320x16x1_S8320x16x1_S8320x16x1_S8320x16x124_S8320x16x256_d2 := by
  unfold T107 T103 T105 V V0
  unfold_abbrev_sides
  after_reads_simp
  refine T107_congr ?_ ?_ ?_ ?_ ?_ ?_
  all_goals (simp only [Matrix.cons_val]; after_reads_simp)

theorem T108_eq : T108 m c = shapeCast S8320x4096 (T107 m c) shapeCasts_S8320x16x256_S8320x4096 := by
  unfold T108 T107 V V0
  unfold_abbrev_sides
  after_reads_simp
  rfl

theorem T109_eq : T109 m c = shapeCast S8320x16x128 (X6 m c) shapeCasts_S8320x2048_S8320x16x128 := by
  unfold T109 X6 V V0
  unfold_abbrev_sides
  after_reads_simp
  rfl

/-- Joining equal pieces. -/
theorem T111_congr {a0 b0 : FVec Ideal S8320x16x128 .f32} {a1 b1 : FVec Ideal S8320x16x128 .f32} (h0 : a0 = b0) (h1 : a1 = b1) :
    concatenate S8320x16x256 2 [⟨S8320x16x128, a0⟩, ⟨S8320x16x128, a1⟩] concatenates_S8320x16x128_S8320x16x128_S8320x16x256_d2
    = concatenate S8320x16x256 2 [⟨S8320x16x128, b0⟩, ⟨S8320x16x128, b1⟩] concatenates_S8320x16x128_S8320x16x128_S8320x16x256_d2 := by
  rw [h0, h1]

theorem T111_eq : T111 m c = concatenate S8320x16x256 2 [⟨S8320x16x128, (T109 m c)⟩, ⟨S8320x16x128, (broadcastInDim S8320x16x128 ![] bcast_S_S8320x16x128 (constant S_ .f32 0x00000000#32))⟩] concatenates_S8320x16x128_S8320x16x128_S8320x16x256_d2 := by
  unfold T111 T109 V V0
  unfold_abbrev_sides
  after_reads_simp
  refine T111_congr ?_ ?_
  all_goals (after_reads_simp)

theorem T112_eq : T112 m c = shapeCast S8320x4096 (T111 m c) shapeCasts_S8320x16x256_S8320x4096 := by
  unfold T112 T111 V V0
  unfold_abbrev_sides
  after_reads_simp
  rfl

end Cert.KernelIdeal.Val

end
-- ==== Proof.RefValue.lean ====
/-
  The stages of the reference read at an index, as real numbers: the logits, the weights, the probabilities and the
  gradients of the logits.
-/
module

public import proofs.«01_k».proof.Proof.Gen.ReferenceIdeal.Read
public import proofs.«01_k».proof.Proof.Math
public import Idealize.ShloMosaic.Lib.IdealHost

@[expose] public section

noncomputable section

namespace Cert.ReferenceIdeal.Val

open Cert.Fox Cert.ReferenceIdeal Cert.ReferenceIdeal.Gen Cert.ReferenceIdeal.Read Idealize.ShloMosaic Idealize.ShloMosaic.ValueIdx
open scoped BigOperators

abbrev Mat := (⟨S8320x2048, .f32⟩ : BufTy).Contents (Elt Ideal)
abbrev Gate := (⟨S8320x16, .f32⟩ : BufTy).Contents (Elt Ideal)

/-- Column `d` of head `h`. -/
def col (h : Fin 16) (d : Fin 128) : Fin 2048 := ⟨h.val * 128 + d.val, by have := h.isLt; have := d.isLt; omega⟩

/-- The five arrays hold the real data. -/
structure Reads (D : Data) (x0 x1 x2 x4 : Mat) (x3 : Gate) : Prop where
  q : ∀ i h d, x0 (ix2 i (col h d)) = (D.q i h d : EReal)
  k : ∀ i h d, x1 (ix2 i (col h d)) = (D.k i h d : EReal)
  v : ∀ i h d, x2 (ix2 i (col h d)) = (D.v i h d : EReal)
  g : ∀ i h d, x4 (ix2 i (col h d)) = (D.g i h d : EReal)
  c : ∀ i h, x3 (ix2 i h) = (D.c i h : EReal)
  sc : Ideal.ofBits .f32 0x3DB504F3#32 = (D.sc : EReal)

theorem ninf : Ideal.ofBits .f32 0xFF800000#32 = ⊥ := by simp [Ideal.ofBits, Ideal.ieee]

/-- An index of two axes from its coordinates' values. -/
theorem at2 {n0 n1 : ℕ} (j : (⟨2, ![n0, n1]⟩ : Shape).Idx) (a : Fin n0) (b : Fin n1) (h0 : (j 0).val = a.val)
    (h1 : (j 1).val = b.val) : j = ix2 a b :=
  (eq_ix2 j).trans (congrArg₂ ix2 (Fin.ext h0) (Fin.ext h1))

/-- An index of three axes from its coordinates' values. -/
theorem at3 {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  obtain rfl : j 0 = a := Fin.ext h0
  obtain rfl : j 1 = b := Fin.ext h1
  obtain rfl : j 2 = c := Fin.ext h2
  exact eq_ix3 j

/-- Splitting a matrix's columns into heads, at an index. -/
theorem split_idx (i : Pos) (h : Fin 16) (d : Fin 128) : idx_main_v0 (ix3 i h d) = ix2 i (col h d) := by
  have := i.isLt; have := h.isLt; have := d.isLt
  refine (eq_ix2 _).trans (congrArg₂ ix2 (Fin.ext ?_) (Fin.ext ?_))
  · show ((i.val * 16 + h.val) * 128 + d.val) / 2048 = i.val
    omega
  · show ((i.val * 16 + h.val) * 128 + d.val) % 2048 = h.val * 128 + d.val
    omega

variable {D : Data} {x0 x1 x2 x4 : Mat} {x3 : Gate} (H : Reads D x0 x1 x2 x4 x3)
include H

theorem v3_at (h : Fin 16) (i : Pos) (d : Fin 128) :
    val_main_v3 (F := Ideal) x0 (ix3 h i d) = ((D.q i h d * D.sc : ℝ) : EReal) := by
  rw [val_main_v3_apply, val_main_v1_apply, val_main_v2_apply, at3 (idx_main_v1 (ix3 h i d)) i h d rfl rfl rfl, val_main_v0_apply]
  refine (congrArg₂ (fun a b => a * b) ((congrArg x0 (split_idx i h d)).trans (H.q i h d)) H.sc).trans ?_
  exact (EReal.coe_mul _ _).symm

theorem v6_at (h : Fin 16) (i : Pos) (d : Fin 128) :
    val_main_v6 (F := Ideal) x1 (ix3 h i d) = (D.k i h d : EReal) := by
  rw [val_main_v6_apply, at3 (idx_main_v6 (ix3 h i d)) i h d rfl rfl rfl, val_main_v5_apply]
  exact (congrArg x1 (split_idx i h d)).trans (H.k i h d)

theorem v61_at (h : Fin 16) (i : Pos) (d : Fin 128) :
    val_main_v61 (F := Ideal) x2 (ix3 h i d) = (D.v i h d : EReal) := by
  rw [val_main_v61_apply, at3 (idx_main_v61 (ix3 h i d)) i h d rfl rfl rfl, val_main_v60_apply]
  exact (congrArg x2 (split_idx i h d)).trans (H.v i h d)

theorem v66_at (h : Fin 16) (i : Pos) (d : Fin 128) :
    val_main_v66 (F := Ideal) x4 (ix3 h i d) = (D.g i h d : EReal) := by
  rw [val_main_v66_apply, at3 (idx_main_v66 (ix3 h i d)) i h d rfl rfl rfl, val_main_v65_apply]
  exact (congrArg x4 (split_idx i h d)).trans (H.g i h d)

theorem v7_at (h : Fin 16) (i j : Pos) :
    val_main_v7 (F := Ideal) x0 x1 (ix3 h i j) = ((∑ d, D.q i h d * D.sc * D.k j h d : ℝ) : EReal) := by
  rw [val_main_v7_apply, coe_sum]
  refine Finset.sum_congr rfl fun d _ => ?_
  rw [at3 (lidx_main_v7 (ix3 h i j) d) h i d rfl rfl rfl, at3 (ridx_main_v7 (ix3 h i j) d) h j d rfl rfl rfl]
  exact (congrArg₂ (fun a b => a * b) (v3_at H h i d) (v6_at H h j d)).trans (EReal.coe_mul _ _).symm

theorem v4_at (h : Fin 16) (i : Pos) : val_main_v4 (F := Ideal) x3 (ix2 h i) = (D.c i h : EReal) := by
  rw [val_main_v4_apply, at2 (idx_main_v4 (ix2 h i)) i h rfl rfl]
  exact H.c i h

/-- A logit. -/
theorem v13_at (h : Fin 16) (i j : Pos) : val_main_v13 (F := Ideal) x0 x1 x3 (ix3 h i j) = (D.logit h i j : EReal) := by
  rw [val_main_v13_apply, val_main_v10_apply, val_main_v9_apply, val_main_v8_apply, val_main_v12_apply, val_main_v11_apply,
    v7_at H, at2 (idx_main_v8 (idx_main_v9 (ix3 h i j))) h i rfl rfl, at2 (idx_main_v11 (idx_main_v12 (ix3 h i j))) h j rfl rfl,
    v4_at H, v4_at H]
  unfold Data.logit
  rw [EReal.coe_sub, EReal.coe_add]
  rfl

omit H in
/-- A position as a word. -/
theorem word_toInt (i : Pos) : (BitVec.ofNat 32 i.val).toInt = (i.val : ℤ) := by
  have := i.isLt
  have e : (BitVec.ofNat 32 i.val).toNat = i.val := by rw [BitVec.toNat_ofNat]; exact Nat.mod_eq_of_lt (by omega)
  rw [BitVec.toInt_eq_toNat_of_lt (by rw [e]; omega), e]

omit H in
/-- The mask. -/
theorem v31_1_at (h : Fin 16) (i j : Pos) : val_main_v31_1 (F := Ideal) (ix3 h i j) = 1#1 ↔ Keep i.val j.val := by
  rw [val_main_v31_1_apply, val_main_v30_apply, val_main_v21_apply, val_main_v29_apply, val_main_v19_apply, val_main_v17_apply,
    val_main_v20_apply, val_main_v18_apply, val_main_v28_apply, val_main_v22_apply, val_main_v16_apply, val_main_v27_apply,
    val_main_v25_apply, val_main_v23_apply, val_main_v26_apply, val_main_v24_apply]
  exact keep_word (word_toInt i) (word_toInt j)

/-- A masked logit. -/
theorem v31_at (h : Fin 16) (i j : Pos) :
    val_main_v31_0 (F := Ideal) x0 x1 x3 (ix3 h i j) = if Keep i.val j.val then (D.logit h i j : EReal) else ⊥ := by
  rw [val_main_v31_0_apply, v13_at H, val_main_call0_v2_apply]
  exact if_congr (v31_1_at h i j) rfl ninf

/-- The row's greatest logit is a real number. -/
theorem v32_real (h : Fin 16) (i : Pos) : ∃ r : ℝ, val_main_v32 (F := Ideal) x0 x1 x3 (ix2 h i) = (r : EReal) := by
  have hf : val_main_v32 (F := Ideal) x0 x1 x3 (ix2 h i)
      = (Finset.univ.filter fun e => (reducesTo_S16x8320x8320_S16x8320_d2).drop e = ix2 h i).fold max
          (Ideal.ofBits .f32 0xFF800000#32) (val_main_v31_0 (F := Ideal) x0 x1 x3) := by
    unfold val_main_v32
    exact @Host.reduce_eq_fold S16x8320x8320 S16x8320 EReal [2] S_ max _ _ _ _ _ _ _
  generalize val_main_v32 (F := Ideal) x0 x1 x3 (ix2 h i) = y at hf ⊢
  have hl : (D.logit h i i : EReal) ≤ y := by
    rw [hf, Finset.le_fold_max]
    refine Or.inr ⟨ix3 h i i, Finset.mem_filter.mpr ⟨Finset.mem_univ _, ?_⟩, ?_⟩
    · funext a; match a with | ⟨0, _⟩ => rfl | ⟨1, _⟩ => rfl
    · rw [v31_at H, if_pos (keep_self _)]
  have hu : y < ⊤ := by
    rw [hf, Finset.fold_max_lt]
    refine ⟨by rw [ninf]; exact bot_lt_top, fun e _ => ?_⟩
    obtain ⟨a, b, c, rfl⟩ : ∃ (a : Fin 16) (b c : Pos), e = ix3 a b c := ⟨e 0, e 1, e 2, eq_ix3 e⟩
    rw [v31_at H]
    split
    · exact EReal.coe_lt_top _
    · exact bot_lt_top
  exact ⟨y.toReal, (EReal.coe_toReal hu.ne (fun hb => EReal.coe_ne_bot _ (le_bot_iff.mp (hb ▸ hl)))).symm⟩

variable (hm : ∀ h i, val_main_v32 (F := Ideal) x0 x1 x3 (ix2 h i) = (D.mx h i : EReal))
include hm

omit H in
theorem v39_at (h : Fin 16) (i : Pos) : val_main_v39 (F := Ideal) x0 x1 x3 (ix2 h i) = (D.mx h i : EReal) := by
  rw [val_main_v39_apply, hm, val_main_v38_apply]
  exact (congrArg (fun a : EReal => max a _) ninf).trans (max_eq_right bot_le)

omit H hm in
/-- The exponential of a masked logit less the row's shift. -/
theorem exp_at (h : Fin 16) (i j : Pos) :
    Ideal.exp ((if Keep i.val j.val then (D.logit h i j : EReal) else ⊥) - (D.mx h i : EReal)) = (D.w h i j : EReal) := by
  unfold Data.w wt
  split
  · rw [← EReal.coe_sub, Ideal.exp_coe]
  · rw [EReal.bot_sub, Ideal.exp_bot, EReal.coe_zero]

/-- A weight. -/
theorem v52_at (h : Fin 16) (i j : Pos) : val_main_v52 (F := Ideal) x0 x1 x3 (ix3 h i j) = (D.w h i j : EReal) := by
  rw [val_main_v52_apply, val_main_v51_apply, val_main_v50_apply, val_main_v49_apply, v31_at H,
    at2 (idx_main_v49 (idx_main_v50 (ix3 h i j))) h i rfl rfl, v39_at hm]
  exact exp_at h i j

/-- A row's normaliser. -/
theorem v54_at (h : Fin 16) (i : Pos) : val_main_v54 (F := Ideal) x0 x1 x3 (ix3 h i 0) = (D.n h i : EReal) := by
  rw [val_main_v54_apply, at2 (idx_main_v54 (ix3 h i 0)) h i rfl rfl, val_main_v53_apply]
  refine (congrArg (fun a : EReal => a + _) Ideal.ofBits_zero_f32).trans ((zero_add _).trans ?_)
  unfold Data.n nrm
  rw [coe_sum]
  refine Finset.sum_congr rfl fun j _ => ?_
  rw [at3 (idx_main_v53 (ix2 h i) j) h i j rfl rfl rfl, v52_at H hm]
  rfl

/-- A probability. -/
theorem v56_at (h : Fin 16) (i j : Pos) : val_main_v56 (F := Ideal) x0 x1 x3 (ix3 h i j) = (D.p h i j : EReal) := by
  rw [val_main_v56_apply, val_main_v55_apply, v52_at H hm, at3 (idx_main_v55 (ix3 h i j)) h i 0 rfl rfl rfl, v54_at H hm]
  exact coe_div _ (D.n_pos h i).ne'

omit hm in
/-- The output's gradient against a value row. -/
theorem v69_at (h : Fin 16) (i j : Pos) : val_main_v69 (F := Ideal) x2 x4 (ix3 h i j) = (D.dp h i j : EReal) := by
  rw [val_main_v69_apply]
  unfold Data.dp
  rw [coe_sum]
  refine Finset.sum_congr rfl fun d _ => ?_
  rw [at3 (lidx_main_v69 (ix3 h i j) d) h i d rfl rfl rfl, at3 (ridx_main_v69 (ix3 h i j) d) h j d rfl rfl rfl]
  exact (congrArg₂ (fun a b => a * b) (v66_at H h i d) (v61_at H h j d)).trans (EReal.coe_mul _ _).symm

/-- The reciprocal of a normaliser's square. -/
theorem v59_at (h : Fin 16) (i : Pos) :
    val_main_v59 (F := Ideal) x0 x1 x3 (ix3 h i 0) = ((1 / (D.n h i * D.n h i) : ℝ) : EReal) := by
  rw [val_main_v59_apply, val_main_v57_apply, v54_at H hm, val_main_v58_apply]
  refine (congrArg₂ Ideal.div Ideal.ofBits_one_f32 (EReal.coe_mul _ _).symm).trans ?_
  exact coe_div 1 (mul_pos (D.n_pos h i) (D.n_pos h i)).ne'

theorem v77_at (h : Fin 16) (i : Pos) : val_main_v77 (F := Ideal) x0 x1 x2 x3 x4 (ix3 h i 0)
    = ((-∑ j, D.dp h i j * (1 / (D.n h i * D.n h i)) * D.w h i j : ℝ) : EReal) := by
  rw [val_main_v77_apply, val_main_v76_apply, at2 (idx_main_v76 (ix3 h i 0)) h i
    (by show ((h.val * 8320 + i.val) * 1 + 0) / 8320 = h.val; have := i.isLt; omega)
    (by show ((h.val * 8320 + i.val) * 1 + 0) % 8320 = i.val; have := i.isLt; omega), val_main_v75_apply, EReal.coe_neg]
  refine congrArg (fun a : EReal => -a) ?_
  refine (congrArg (fun a : EReal => a + _) Ideal.ofBits_zero_f32).trans ((zero_add _).trans ?_)
  rw [coe_sum]
  refine Finset.sum_congr rfl fun j _ => ?_
  rw [at3 (idx_main_v75 (ix2 h i) j) h i j rfl rfl rfl, val_main_v74_apply, val_main_v73_apply, val_main_v72_apply, v69_at H,
    v52_at H hm, at3 (idx_main_v72 (ix3 h i j)) h i 0 rfl rfl rfl, v59_at H hm, EReal.coe_mul, EReal.coe_mul]
  rfl

/-- The gradient of a logit. -/
theorem v84_at (h : Fin 16) (i j : Pos) : val_main_v84 (F := Ideal) x0 x1 x2 x3 x4 (ix3 h i j) = (D.ds h i j : EReal) := by
  have h83 : val_main_v83 (F := Ideal) x0 x1 x2 x3 x4 (ix3 h i j) = (D.ds h i j : EReal) := by
    rw [val_main_v83_apply, val_main_v82_apply, val_main_v79_apply, val_main_v78_apply, val_main_v81_apply, v69_at H,
      v52_at H hm, at3 (idx_main_v78 (ix3 h i j)) h i 0 rfl rfl rfl, at2 (idx_main_v81 (ix3 h i j)) h i rfl rfl,
      val_main_v80_apply, Fin.sum_univ_one, at3 (idx_main_v80 (ix2 h i) 0) h i 0 rfl rfl rfl, v54_at H hm, v77_at H hm]
    refine (congrArg₂ (fun a b : EReal => (a + b) * _) (coe_div _ (D.n_pos h i).ne')
      ((congrArg (fun a : EReal => a + _) Ideal.ofBits_zero_f32).trans (zero_add _))).trans ?_
    rw [← EReal.coe_add, ← EReal.coe_mul]
    exact congrArg _ (dlg_eq (Data.Row i) (D.logit h i) (D.dp h i) (D.mx h i) j)
  rw [val_main_v84_apply, h83]
  refine (if_congr (v31_1_at h i j) rfl Ideal.ofBits_zero_f32).trans ?_
  split
  · rfl
  · next hk => exact (congrArg (fun r : ℝ => (r : EReal)) (dlg_eq_zero (Data.Row i) (D.logit h i) (D.dp h i) (D.mx h i) hk)).symm

end Cert.ReferenceIdeal.Val
-- ==== Proof.Layout.lean ====
/-
  The layouts of the host lines read at an index: broadcasts, the split of columns into heads, the joined lanes of a
  head and the sum over a head's lanes.
-/
module

public import proofs.«01_k».proof.Proof.Names
public import proofs.«01_k».proof.Proof.RefValue

@[expose] public section

noncomputable section

namespace Cert.KernelIdeal.Val

open Cert.KernelIdeal Cert.KernelIdeal.Gen Cert.Fox Idealize.ShloMosaic Idealize.ShloMosaic.TcCoe Idealize.ShloMosaic.ValueIdx
open Cert.ReferenceIdeal.Val (col at2 at3)
open scoped BigOperators

variable {α : Type}

section Points
variable {S : Shape} {φ ψ : FTy}
/-- The elementwise operations, at an index. -/
theorem add_pt (x y : FVec Ideal S φ) (i : S.Idx) : addf x y i = (x i + y i : EReal) := rfl
theorem sub_pt (x y : FVec Ideal S φ) (i : S.Idx) : subf x y i = (x i - y i : EReal) := rfl
theorem mul_pt (x y : FVec Ideal S φ) (i : S.Idx) : mulf x y i = (x i * y i : EReal) := rfl
theorem neg_pt (x : FVec Ideal S φ) (i : S.Idx) : Host.negf x i = (-(x i) : EReal) := rfl
theorem div_pt (x y : FVec Ideal S φ) (i : S.Idx) : Host.divf x y i = Ideal.div (x i) (y i) := rfl
theorem exp_pt (x : FVec Ideal S φ) (i : S.Idx) : Host.exp x i = Ideal.exp (x i) := rfl
theorem log_pt (x : FVec Ideal S φ) (i : S.Idx) : Host.log x i = Ideal.log (x i) := rfl
theorem narrow_pt (x : FVec Ideal S φ) (h : ψ.bits < φ.bits) (i : S.Idx) : truncf ψ x h i = x i := rfl
theorem widen_pt (x : FVec Ideal S φ) (h : φ.bits < ψ.bits) (i : S.Idx) : extf ψ x h i = x i := rfl
theorem const_pt {T : Shape} (h : S_.BroadcastsInDim T ![]) (w : BitVec φ.bits) (i : T.Idx) :
    broadcastInDim T ![] h (constant (F := Ideal) S_ φ w) i = Ideal.ofBits φ w := rfl
theorem select_pt (b : IVec S 1) (x y : FVec Ideal S φ) (i : S.Idx) : select b x y i = Scalar.select (b i) (x i) (y i) := rfl
end Points

/-- A new last axis of extent one. -/
theorem up2 {a b : ℕ} (x : (⟨2, ![a, b]⟩ : Shape).Idx → α)
    (h : (⟨2, ![a, b]⟩ : Shape).BroadcastsInDim ⟨3, ![a, b, 1]⟩ ![0, 1]) (i : Fin a) (j : Fin b) :
    broadcastInDim (⟨3, ![a, b, 1]⟩ : Shape) ![0, 1] h x (ix3 i j 0) = x (ix2 i j) :=
  broadcastInDim_apply _ h x _ _ fun k => match k with
    | ⟨0, _⟩ => by
      show i.val = if a = 1 then 0 else i.val
      split
      · have := i.isLt; omega
      · rfl
    | ⟨1, _⟩ => by
      show j.val = if b = 1 then 0 else j.val
      split
      · have := j.isLt; omega
      · rfl

/-- A last axis of extent one widened. -/
theorem up3 {a b n : ℕ} (x : (⟨3, ![a, b, 1]⟩ : Shape).Idx → α)
    (h : (⟨3, ![a, b, 1]⟩ : Shape).BroadcastsInDim ⟨3, ![a, b, n]⟩ ![0, 1, 2]) (i : Fin a) (j : Fin b) (k : Fin n) :
    broadcastInDim (⟨3, ![a, b, n]⟩ : Shape) ![0, 1, 2] h x (ix3 i j k) = x (ix3 i j 0) :=
  broadcastInDim_apply _ h x _ _ fun k => match k with
    | ⟨0, _⟩ => by
      show i.val = if a = 1 then 0 else i.val
      split
      · have := i.isLt; omega
      · rfl
    | ⟨1, _⟩ => by
      show j.val = if b = 1 then 0 else j.val
      split
      · have := j.isLt; omega
      · rfl
    | ⟨2, _⟩ => rfl

/-- The columns of a matrix split into heads. -/
theorem heads_at (x : S8320x2048.Idx → α) (h : S8320x2048.ShapeCasts S8320x16x128) (i : Fin 8320) (j : Fin 16) (d : Fin 128) :
    shapeCast S8320x16x128 x h (ix3 i j d) = x (ix2 i (col j d)) :=
  shapeCast_apply x h _ _ (by
    rw [Shape.rowMajor_val_two, Shape.rowMajor_val_three]
    show i.val * 2048 + (j.val * 128 + d.val) = (i.val * 16 + j.val) * 128 + d.val
    omega)

/-- The heads' columns joined again. -/
theorem cols_at (x : S8320x16x128.Idx → α) (h : S8320x16x128.ShapeCasts S8320x2048) (i : Fin 8320) (j : Fin 16) (d : Fin 128) :
    shapeCast S8320x2048 x h (ix2 i (col j d)) = x (ix3 i j d) :=
  shapeCast_apply x h _ _ (by
    rw [Shape.rowMajor_val_two, Shape.rowMajor_val_three]
    show (i.val * 16 + j.val) * 128 + d.val = i.val * 2048 + (j.val * 128 + d.val)
    omega)

/-- The heads' lanes joined into columns. -/
theorem flat_at (x : S8320x16x256.Idx → α) (h : S8320x16x256.ShapeCasts S8320x4096) (i : Fin 8320) (j : Fin 16) (l : Fin 256) :
    shapeCast S8320x4096 x h (ix2 i (lane j l)) = x (ix3 i j l) :=
  shapeCast_apply x h _ _ (by
    rw [Shape.rowMajor_val_two, Shape.rowMajor_val_three]
    show (i.val * 16 + j.val) * 256 + l.val = i.val * 4096 + (j.val * 256 + l.val)
    omega)

/-- The columns split into the heads' lanes. -/
theorem lanes_at (x : S8320x4096.Idx → α) (h : S8320x4096.ShapeCasts S8320x16x256) (i : Fin 8320) (j : Fin 16) (l : Fin 256) :
    shapeCast S8320x16x256 x h (ix3 i j l) = x (ix2 i (lane j l)) :=
  shapeCast_apply x h _ _ (by
    rw [Shape.rowMajor_val_two, Shape.rowMajor_val_three]
    show i.val * 4096 + (j.val * 256 + l.val) = (i.val * 16 + j.val) * 256 + l.val
    omega)

/-- A last axis of extent one dropped. -/
theorem gate_at (x : S8320x16x1.Idx → α) (h : S8320x16x1.ShapeCasts S8320x16) (i : Fin 8320) (j : Fin 16) :
    shapeCast S8320x16 x h (ix2 i j) = x (ix3 i j 0) :=
  shapeCast_apply x h _ _ (by
    rw [Shape.rowMajor_val_two, Shape.rowMajor_val_three]
    show (i.val * 16 + j.val) * 1 + 0 = i.val * 16 + j.val
    omega)

/-- The first two axes exchanged. -/
theorem swap_at {a b n : ℕ} (x : (⟨3, ![a, b, n]⟩ : Shape).Idx → α)
    (h : (⟨3, ![a, b, n]⟩ : Shape).Transposes [1, 0, 2] ⟨3, ![b, a, n]⟩) (i : Fin a) (j : Fin b) (k : Fin n) :
    transpose (⟨3, ![b, a, n]⟩ : Shape) [1, 0, 2] x h (ix3 j i k) = x (ix3 i j k) :=
  transpose_apply [1, 0, 2] x h _ _ fun b => match b with
    | ⟨0, _⟩ => rfl
    | ⟨1, _⟩ => rfl
    | ⟨2, _⟩ => rfl

/-- A head's joined lanes read in the piece that holds the lane. -/
theorem piece_at (xs : List ((s : Shape) × (s.Idx → α))) (h : Shape.Concatenates (xs.map (·.1)) S8320x16x256 2)
    {n : ℕ} (k : ℕ) (hk : k < xs.length) (x : (⟨3, ![8320, 16, n]⟩ : Shape).Idx → α) (hx : xs[k] = ⟨⟨3, ![8320, 16, n]⟩, x⟩)
    (pre : ℕ)
    (hpre : (((xs.take k).map (·.1)).map fun s => if h : s.rank = S8320x16x256.rank then s.size ((2 : Fin 3).cast h.symm) else 0).sum
      = pre)
    (i : Fin 8320) (j : Fin 16) (l : Fin 256) (e : Fin n) (he : pre + e.val = l.val) :
    concatenate S8320x16x256 2 xs h (ix3 i j l) = x (ix3 i j e) :=
  concatenate_apply_piece (2 : Fin S8320x16x256.rank) xs h (ix3 i j l) k hk _ x hx rfl pre hpre (ix3 i j e)
    (fun b hb => match b, hb with
      | ⟨0, _⟩, _ => rfl
      | ⟨1, _⟩, _ => rfl
      | ⟨2, _⟩, hb => absurd rfl hb)
    he

/-- Lane `d` of the first half of a head. -/
def lo (d : Fin 128) : Fin 256 := ⟨d.val, by have := d.isLt; omega⟩

/-- A sum over a head's lanes whose lanes from 134 on are zero. -/
theorem sum_lanes (f : Fin 256 → EReal) (hz : ∀ l : Fin 256, 134 ≤ l.val → f l = 0) :
    ∑ l, f l = (∑ d : Fin 128, f (lo d)) + (f 128 + f 129 + f 130 + f 131 + f 132 + f 133) := by
  have h : ∑ l : Fin (128 + (6 + 122)), f l
      = (∑ d : Fin 128, f (lo d)) + (∑ e : Fin 6, f ⟨128 + e.val, by have := e.isLt; omega⟩
        + ∑ e : Fin 122, f ⟨128 + (6 + e.val), by have := e.isLt; omega⟩) := by
    rw [Fin.sum_univ_add, Fin.sum_univ_add]
    rfl
  refine h.trans ?_
  rw [Finset.sum_eq_zero (s := (Finset.univ : Finset (Fin 122))) fun e _ => hz _ (by show 134 ≤ 128 + (6 + e.val); omega), add_zero,
    Fin.sum_univ_six]
  rfl

end Cert.KernelIdeal.Val

end
-- ==== Proof.Prep.lean ====
/-
  The arrays the kernel is given, read at an index: the scaled queries, the keys, the values, the gradient of the output,
  the gates' parts and the row normalisers, as real numbers.
-/
module

public import proofs.«01_k».proof.Proof.LinesA
public import proofs.«01_k».proof.Proof.LinesB
public import proofs.«01_k».proof.Proof.LinesC
public import proofs.«01_k».proof.Proof.Layout
import Idealize.ShloMosaic.Lib.StableHlo.RunRead

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic
open Cert.ReferenceIdeal.Val (col at2 at3 Reads ninf exp_at v31_at v39_at v52_at v54_at v56_at v61_at)
open Cert.ReferenceIdeal.Read (val_main_v31_0 val_main_v32 val_main_v52 val_main_v56 val_main_v61 val_main_v62 val_main_v62_apply)
open scoped BigOperators

variable (m : (ℓ : Loc nD τ sig) → Buf (Elt Ideal) ℓ) (c : Dev nD)

/-- The masked logits are those of the reference, line for line. -/
theorem T31_eq : T31 m c = val_main_v31_0 (F := Ideal) (X0 m c) (X1 m c) (X3 m c) := by
  unfold T31 X0 X1 X3 V V0
  unfold_abbrev_sides
  after_reads_simp
  rfl

/-- The values' heads are those of the reference. -/
theorem T44_ref : T44 m c = val_main_v61 (F := Ideal) (X2 m c) := by
  rw [T44_eq, T43_eq]
  rfl

variable {D : Data} (H : Reads D (X0 m c) (X1 m c) (X2 m c) (X4 m c) (X3 m c))
  (hm : ∀ h i, val_main_v32 (F := Ideal) (X0 m c) (X1 m c) (X3 m c) (ix2 h i) = (D.mx h i : EReal))
include H hm

theorem T32_at (h : Fin 16) (i : Pos) : T32 m c (ix2 h i) = (D.mx h i : EReal) := by
  rw [T32_eq, T31_eq]
  exact hm h i

theorem T33_at (h : Fin 16) (i : Pos) : T33 m c (ix3 h i 0) = (D.mx h i : EReal) := by
  rw [T33_eq]
  exact (up2 _ _ h i).trans (T32_at m c H hm h i)

theorem T36_at (h : Fin 16) (i j : Pos) : T36 m c (ix3 h i j) = (D.w h i j : EReal) := by
  have h34 : T34 m c (ix3 h i j) = (D.mx h i : EReal) := by
    rw [T34_eq]
    exact (up3 _ _ h i j).trans (T33_at m c H hm h i)
  have h31 : T31 m c (ix3 h i j) = _ := (congrFun (T31_eq m c) _).trans (v31_at H h i j)
  rw [T36_eq, T35_eq]
  rw [exp_pt, sub_pt]
  exact (congrArg₂ (fun a b : EReal => Ideal.exp (a - b)) h31 h34).trans (exp_at h i j)

omit H hm in
/-- A row's sum. -/
theorem row_sum (y : FVec Ideal S16x8320x8320 .f32) (h : Fin 16) (i : Pos) :
    Host.reduceAdd y (constant S_ .f32 0x00000000#32) reducesTo_S16x8320x8320_S16x8320_d2 h_S_ (ix2 h i) = ∑ j : Pos, y (ix3 h i j) := by
  simp only [Host.reduceAdd, Ideal.hostReduceAdd_def]
  rw [Ideal.hostReduceAdd_single reducesTo_S16x8320x8320_S16x8320_d2 (by decide)]
  refine (congrArg (fun a : EReal => a + _) Ideal.ofBits_zero_f32).trans ((zero_add _).trans ?_)
  exact Finset.sum_congr rfl fun j _ => congrArg y (at3 _ h i j rfl rfl rfl)

theorem T37_at (h : Fin 16) (i : Pos) : T37 m c (ix2 h i) = (D.n h i : EReal) := by
  rw [T37_eq]
  refine (row_sum (T36 m c) h i).trans ?_
  unfold Data.n nrm
  rw [coe_sum]
  exact Finset.sum_congr rfl fun j _ => T36_at m c H hm h i j

theorem T38_at (h : Fin 16) (i : Pos) : T38 m c (ix3 h i 0) = (D.n h i : EReal) := by
  rw [T38_eq]
  exact (up2 _ _ h i).trans (T37_at m c H hm h i)

/-- The row normaliser. -/
theorem T40_at (h : Fin 16) (i : Pos) : T40 m c (ix3 h i 0) = (D.lse h i : EReal) := by
  have h39 : T39 m c (ix3 h i 0) = ((Real.log (D.n h i) : ℝ) : EReal) := by
    rw [T39_eq]
    rw [log_pt, T38_at m c H hm, Ideal.log_coe, if_neg (not_le.2 (D.n_pos h i))]
  rw [T40_eq]
  rw [add_pt]
  exact (congrArg₂ (fun a b : EReal => a + b) (T33_at m c H hm h i) h39).trans (EReal.coe_add _ _).symm

theorem T42_at (h : Fin 16) (i j : Pos) : T42 m c (ix3 h i j) = (D.p h i j : EReal) := by
  have h41 : T41 m c (ix3 h i j) = (D.n h i : EReal) := by
    rw [T41_eq]
    exact (up3 _ _ h i j).trans (T38_at m c H hm h i)
  rw [T42_eq]
  rw [div_pt, T36_at m c H hm, h41]
  exact coe_div _ (D.n_pos h i).ne'

/-- The output of the attention. -/
theorem T46_at (i : Pos) (h : Fin 16) (d : Fin 128) : T46 m c (ix3 i h d) = (D.o h i d : EReal) := by
  have e : T42 m c = val_main_v56 (F := Ideal) (X0 m c) (X1 m c) (X3 m c) := by
    funext x
    obtain ⟨a, b, d, rfl⟩ : ∃ a b d, x = ix3 a b d := ⟨x 0, x 1, x 2, eq_ix3 x⟩
    exact (T42_at m c H hm a b d).trans (v56_at H hm a b d).symm
  have e45 : T45 m c = val_main_v62 (F := Ideal) (X0 m c) (X1 m c) (X2 m c) (X3 m c) := by
    rw [T45_eq, e, T44_ref]
    rfl
  rw [T46_eq, e45]
  refine (swap_at _ _ h i d).trans ?_
  rw [val_main_v62_apply]
  unfold Data.o
  rw [coe_sum]
  refine Finset.sum_congr rfl fun j _ => ?_
  rw [at3 (Cert.ReferenceIdeal.Read.lidx_main_v62 (ix3 h i d) j) h i j rfl rfl rfl,
    at3 (Cert.ReferenceIdeal.Read.ridx_main_v62 (ix3 h i d) j) h j d rfl rfl rfl, v56_at H hm]
  exact (congrArg (fun a => (D.p h i j : EReal) * a) (v61_at H h j d)).trans (EReal.coe_mul _ _).symm

omit hm in
/-- The gate, and the two parts a word of fewer bits leaves of it: none. -/
theorem T47_at (i : Pos) (h : Fin 16) : T47 m c (ix3 i h 0) = (D.c i h : EReal) := by
  rw [T47_eq]
  exact (up2 _ _ i h).trans (H.c i h)

omit hm in
theorem T49_at (i : Pos) (h : Fin 16) : T49 m c (ix3 i h 0) = (D.c i h : EReal) := by
  rw [T49_eq, T48_eq, widen_pt, narrow_pt]
  exact T47_at m c H i h

omit H hm in
/-- A finite number less itself. -/
theorem coe_sub_self (r : ℝ) : (r : EReal) - (r : EReal) = 0 := by
  rw [← EReal.coe_sub, sub_self, EReal.coe_zero]

omit hm in
theorem T50_at (i : Pos) (h : Fin 16) : T50 m c (ix3 i h 0) = 0 := by
  rw [T50_eq, sub_pt]
  exact (congrArg₂ (fun a b : EReal => a - b) (T47_at m c H i h) (T49_at m c H i h)).trans (coe_sub_self _)

omit hm in
theorem T52_at (i : Pos) (h : Fin 16) : T52 m c (ix3 i h 0) = 0 := by
  rw [T52_eq, T51_eq, widen_pt, narrow_pt]
  exact T50_at m c H i h

omit hm in
theorem T55_at (i : Pos) (h : Fin 16) : T55 m c (ix3 i h 0) = 0 := by
  rw [T55_eq, T54_eq, T53_eq, widen_pt, narrow_pt, sub_pt]
  exact (congrArg₂ (fun a b : EReal => a - b) (T50_at m c H i h) (T52_at m c H i h)).trans (sub_zero _)

omit H hm in
/-- The rows in front of the sequence. -/
theorem T61_at (j : Pos) : T61 m c (ix3 j 0 0) = 1#1 ↔ j.val < 112 := by
  have e : T61 m c (ix3 j 0 0) = IntOp.cmpi .slt (BitVec.ofNat 32 j.val) 112#32 := by
    rw [T61_eq, T60_eq]
    exact broadcastInDim_apply _ bcast_S8320_S8320x1x1_0 _ (ix3 j 0 0) (ix1 j) fun k => match k with | ⟨0, _⟩ => rfl
  rw [e]
  have hj := j.isLt
  have hn : (BitVec.ofNat 32 j.val).toInt = j.val := Cert.ReferenceIdeal.Val.word_toInt j
  show BitVec.ofBool (decide ((BitVec.ofNat 32 j.val).toInt < (112#32).toInt)) = 1#1 ↔ _
  rw [hn, show (112#32).toInt = 112 from rfl]
  by_cases h : j.val < 112
  · simp [h]
  · simp [h]

omit H hm in
theorem pad_at (j : Pos) (h : Fin 16) :
    broadcastInDim S8320x16x1 ![0, 1, 2] bcast_S8320x1x1_S8320x16x1_0_1_2 (T61 m c) (ix3 j h 0) = T61 m c (ix3 j 0 0) :=
  broadcastInDim_apply _ _ _ _ _ fun k => match k with
    | ⟨0, _⟩ => rfl
    | ⟨1, _⟩ => rfl
    | ⟨2, _⟩ => rfl

omit H hm in
/-- A choice by a bit. -/
theorem select_at (b : BitVec 1) {p : Prop} [Decidable p] (hb : b = 1#1 ↔ p) (x y : EReal) :
    Scalar.select b x y = if p then x else y := if_congr hb rfl rfl

omit hm in
theorem T71_at (j : Pos) (h : Fin 16) : T71 m c (ix3 j h 0) = if j.val < 112 then ⊥ else ((-(D.c j h) : ℝ) : EReal) := by
  rw [T71_eq, select_pt]
  refine (select_at _ (by rw [pad_at]; exact T61_at m c j) _ _).trans (if_congr Iff.rfl ninf ?_)
  rw [T70_eq, neg_pt]
  exact (congrArg (fun a : EReal => -a) (T49_at m c H j h)).trans (EReal.coe_neg _).symm

omit H hm in
theorem zero_either (b : BitVec 1) {x y : EReal} (hx : x = 0) (hy : y = 0) : Scalar.select b x y = 0 := by
  subst hx hy
  unfold Scalar.select
  split <;> rfl

omit hm in
theorem T73_at (j : Pos) (h : Fin 16) : T73 m c (ix3 j h 0) = 0 := by
  rw [T73_eq, select_pt]
  refine zero_either _ Ideal.ofBits_zero_f32 ?_
  rw [T72_eq, neg_pt]
  exact (congrArg (fun a : EReal => -a) (T52_at m c H j h)).trans neg_zero

omit hm in
theorem T75_at (j : Pos) (h : Fin 16) : T75 m c (ix3 j h 0) = 0 := by
  rw [T75_eq, select_pt]
  refine zero_either _ Ideal.ofBits_zero_f32 ?_
  rw [T74_eq, neg_pt]
  exact (congrArg (fun a : EReal => -a) (T55_at m c H j h)).trans neg_zero

omit hm in
theorem T64_at (i : Pos) (h : Fin 16) (d : Fin 128) : T64 m c (ix3 i h d) = ((D.q i h d * D.sc : ℝ) : EReal) := by
  rw [T64_eq, T62_eq, mul_pt]
  exact (congrArg₂ (fun a b : EReal => a * b) ((heads_at _ _ i h d).trans (H.q i h d)) H.sc).trans (EReal.coe_mul _ _).symm

omit hm in
theorem T69_at (i : Pos) (h : Fin 16) (d : Fin 128) : T69 m c (ix3 i h d) = (D.k i h d : EReal) := by
  rw [T69_eq]
  exact (heads_at _ _ i h d).trans (H.k i h d)

omit hm in
theorem T80_at (i : Pos) (h : Fin 16) (d : Fin 128) : T80 m c (ix3 i h d) = (D.v i h d : EReal) := by
  rw [T80_eq]
  exact (heads_at _ _ i h d).trans (H.v i h d)

omit hm in
theorem T85_at (i : Pos) (h : Fin 16) (d : Fin 128) : T85 m c (ix3 i h d) = (D.g i h d : EReal) := by
  rw [T85_eq]
  exact (heads_at _ _ i h d).trans (H.g i h d)

omit hm in
theorem T98_at (i : Pos) (h : Fin 16) (d : Fin 128) : T98 m c (ix3 i h d) = (D.g i h d : EReal) := by
  rw [T98_eq]
  exact (heads_at _ _ i h d).trans (H.g i h d)

omit H hm in
/-- A sum over a head's columns. -/
theorem head_sum (y : FVec Ideal S8320x16x128 .f32) (i : Pos) (h : Fin 16) :
    Host.reduceAdd y (constant S_ .f32 0x00000000#32) reducesTo_S8320x16x128_S8320x16_d2 h_S_ (ix2 i h) = ∑ d : Fin 128, y (ix3 i h d) := by
  simp only [Host.reduceAdd, Ideal.hostReduceAdd_def]
  rw [Ideal.hostReduceAdd_single reducesTo_S8320x16x128_S8320x16_d2 (by decide)]
  refine (congrArg (fun a : EReal => a + _) Ideal.ofBits_zero_f32).trans ((zero_add _).trans ?_)
  exact Finset.sum_congr rfl fun d _ => congrArg y (at3 _ i h d rfl rfl rfl)

/-- The output's gradient against the output, negated. -/
theorem T89_at (i : Pos) (h : Fin 16) : T89 m c (ix3 i h 0) = ((-(D.go h i) : ℝ) : EReal) := by
  have e : T87 m c (ix2 i h) = (D.go h i : EReal) := by
    rw [T87_eq]
    refine (head_sum (T86 m c) i h).trans ?_
    unfold Data.go
    rw [coe_sum]
    refine Finset.sum_congr rfl fun d _ => ?_
    rw [T86_eq, mul_pt, T85_at m c H, T46_at m c H hm]
    exact (EReal.coe_mul _ _).symm
  rw [T89_eq, T88_eq, neg_pt]
  exact (congrArg (fun a : EReal => -a) ((up2 _ _ i h).trans e)).trans (EReal.coe_neg _).symm

theorem T91_at (i : Pos) (h : Fin 16) : T91 m c (ix3 i h 0) = ((-(D.go h i) : ℝ) : EReal) := by
  rw [T91_eq, T90_eq, widen_pt, narrow_pt]
  exact T89_at m c H hm i h

theorem T92_at (i : Pos) (h : Fin 16) : T92 m c (ix3 i h 0) = 0 := by
  rw [T92_eq, sub_pt]
  exact (congrArg₂ (fun a b : EReal => a - b) (T89_at m c H hm i h) (T91_at m c H hm i h)).trans (coe_sub_self _)

theorem T94_at (i : Pos) (h : Fin 16) : T94 m c (ix3 i h 0) = 0 := by
  rw [T94_eq, T93_eq, widen_pt, narrow_pt]
  exact T92_at m c H hm i h

theorem T97_at (i : Pos) (h : Fin 16) : T97 m c (ix3 i h 0) = 0 := by
  rw [T97_eq, T96_eq, T95_eq, widen_pt, narrow_pt, sub_pt]
  exact (congrArg₂ (fun a b : EReal => a - b) (T92_at m c H hm i h) (T94_at m c H hm i h)).trans (sub_zero _)

end Cert.KernelIdeal.Val

end
-- ==== Proof.Lanes.lean ====
/-
  The lanes of the arrays the kernel is given: what each lane of a head holds.
-/
module

public import proofs.«01_k».proof.Proof.Prep

@[expose] public section

noncomputable section

namespace Cert.KernelIdeal.Val

open Cert.KernelIdeal Cert.KernelIdeal.Gen Cert.Fox Idealize.ShloMosaic Idealize.ShloMosaic.TcCoe Idealize.ShloMosaic.ValueIdx
open Cert.ReferenceIdeal.Val (col at2 at3 Reads ninf)
open Cert.ReferenceIdeal.Read (val_main_v32)
open scoped BigOperators

variable (m : (ℓ : Loc nD τ sig) → Buf (Elt Ideal) ℓ) (c : Dev nD)

theorem QA_lane (i : Pos) (h : Fin 16) (l : Fin 256) : QA m c (ix2 i (lane h l)) = T66 m c (ix3 i h l) := by
  have e : QA m c = T68 m c := by unfold QA T68; rfl
  rw [e, T68_eq, T67_eq, narrow_pt]
  exact flat_at _ _ i h l

theorem KA_lane (i : Pos) (h : Fin 16) (l : Fin 256) : KA m c (ix2 i (lane h l)) = T77 m c (ix3 i h l) := by
  have e : KA m c = T79 m c := by unfold KA T79; rfl
  rw [e, T79_eq, T78_eq, narrow_pt]
  exact flat_at _ _ i h l

theorem VA_lane (i : Pos) (h : Fin 16) (l : Fin 256) : VA m c (ix2 i (lane h l)) = T82 m c (ix3 i h l) := by
  have e : VA m c = T84 m c := by unfold VA T84; rfl
  rw [e, T84_eq, T83_eq, narrow_pt]
  exact flat_at _ _ i h l

theorem DA_lane (i : Pos) (h : Fin 16) (l : Fin 256) : DA m c (ix2 i (lane h l)) = T100 m c (ix3 i h l) := by
  have e : DA m c = T102 m c := by unfold DA T102; rfl
  rw [e, T102_eq, T101_eq, narrow_pt]
  exact flat_at _ _ i h l

theorem K0_lane (i : Pos) (h : Fin 16) (l : Fin 256) : K0 m c (ix2 i (lane h l)) = T107 m c (ix3 i h l) := by
  have e : K0 m c = T108 m c := by unfold K0 T108; rfl
  rw [e, T108_eq]
  exact flat_at _ _ i h l

theorem V0A_lane (i : Pos) (h : Fin 16) (l : Fin 256) : V0A m c (ix2 i (lane h l)) = T111 m c (ix3 i h l) := by
  have e : V0A m c = T112 m c := by unfold V0A T112; rfl
  rw [e, T112_eq]
  exact flat_at _ _ i h l

theorem ZA_eq : ZA m c = T40 m c := by unfold ZA T40; rfl

variable {D : Data} (H : Reads D (X0 m c) (X1 m c) (X2 m c) (X4 m c) (X3 m c))
  (hm : ∀ h i, val_main_v32 (F := Ideal) (X0 m c) (X1 m c) (X3 m c) (ix2 h i) = (D.mx h i : EReal))

include H

theorem QA_lo (i : Pos) (h : Fin 16) (d : Fin 128) : QA m c (ix2 i (lane h (lo d))) = ((D.q i h d * D.sc : ℝ) : EReal) := by
  rw [QA_lane, T66_eq]
  refine (piece_at _ _ (n := 128) 0 (by simp) (T64 m c) rfl 0 rfl i h (lo d) d (Nat.zero_add _)).trans ?_
  exact (T64_at m c H i h d)

theorem QA_128 (i : Pos) (h : Fin 16) : QA m c (ix2 i (lane h 128)) = (D.c i h : EReal) := by
  rw [QA_lane, T66_eq]
  refine (piece_at _ _ (n := 1) 1 (by simp) (T49 m c) rfl 128 rfl i h 128 0 rfl).trans ?_
  exact (T49_at m c H i h)

theorem QA_129 (i : Pos) (h : Fin 16) : QA m c (ix2 i (lane h 129)) = 0 := by
  rw [QA_lane, T66_eq]
  refine (piece_at _ _ (n := 1) 2 (by simp) (T52 m c) rfl 129 rfl i h 129 0 rfl).trans ?_
  exact (T52_at m c H i h)

theorem QA_130 (i : Pos) (h : Fin 16) : QA m c (ix2 i (lane h 130)) = 0 := by
  rw [QA_lane, T66_eq]
  refine (piece_at _ _ (n := 1) 3 (by simp) (T55 m c) rfl 130 rfl i h 130 0 rfl).trans ?_
  exact (T55_at m c H i h)

theorem KA_lo (i : Pos) (h : Fin 16) (d : Fin 128) : KA m c (ix2 i (lane h (lo d))) = (D.k i h d : EReal) := by
  rw [KA_lane, T77_eq]
  refine (piece_at _ _ (n := 128) 0 (by simp) (T69 m c) rfl 0 rfl i h (lo d) d (Nat.zero_add _)).trans ?_
  exact (T69_at m c H i h d)

theorem KA_131 (i : Pos) (h : Fin 16) : KA m c (ix2 i (lane h 131)) = if i.val < 112 then ⊥ else ((-(D.c i h) : ℝ) : EReal) := by
  rw [KA_lane, T77_eq]
  refine (piece_at _ _ (n := 1) 4 (by simp) (T71 m c) rfl 131 rfl i h 131 0 rfl).trans ?_
  exact (T71_at m c H i h)

theorem KA_132 (i : Pos) (h : Fin 16) : KA m c (ix2 i (lane h 132)) = 0 := by
  rw [KA_lane, T77_eq]
  refine (piece_at _ _ (n := 1) 5 (by simp) (T73 m c) rfl 132 rfl i h 132 0 rfl).trans ?_
  exact (T73_at m c H i h)

theorem KA_133 (i : Pos) (h : Fin 16) : KA m c (ix2 i (lane h 133)) = 0 := by
  rw [KA_lane, T77_eq]
  refine (piece_at _ _ (n := 1) 6 (by simp) (T75 m c) rfl 133 rfl i h 133 0 rfl).trans ?_
  exact (T75_at m c H i h)

theorem VA_lo (i : Pos) (h : Fin 16) (d : Fin 128) : VA m c (ix2 i (lane h (lo d))) = (D.v i h d : EReal) := by
  rw [VA_lane, T82_eq]
  refine (piece_at _ _ (n := 128) 0 (by simp) (T80 m c) rfl 0 rfl i h (lo d) d (Nat.zero_add _)).trans ?_
  exact (T80_at m c H i h d)

theorem DA_lo (i : Pos) (h : Fin 16) (d : Fin 128) : DA m c (ix2 i (lane h (lo d))) = (D.g i h d : EReal) := by
  rw [DA_lane, T100_eq]
  refine (piece_at _ _ (n := 128) 0 (by simp) (T98 m c) rfl 0 rfl i h (lo d) d (Nat.zero_add _)).trans ?_
  exact (T98_at m c H i h d)

omit H

theorem QA_131 (i : Pos) (h : Fin 16) : QA m c (ix2 i (lane h 131)) = 1 := by
  rw [QA_lane, T66_eq]
  refine (piece_at _ _ (n := 1) 4 (by simp) (broadcastInDim S8320x16x1 ![] bcast_S_S8320x16x1 (constant S_ .f32 0x3F800000#32)) rfl 131 rfl i h 131 0 rfl).trans ?_
  rw [const_pt, Ideal.ofBits_one_f32]

theorem QA_132 (i : Pos) (h : Fin 16) : QA m c (ix2 i (lane h 132)) = 1 := by
  rw [QA_lane, T66_eq]
  refine (piece_at _ _ (n := 1) 5 (by simp) (broadcastInDim S8320x16x1 ![] bcast_S_S8320x16x1 (constant S_ .f32 0x3F800000#32)) rfl 132 rfl i h 132 0 rfl).trans ?_
  rw [const_pt, Ideal.ofBits_one_f32]

theorem QA_133 (i : Pos) (h : Fin 16) : QA m c (ix2 i (lane h 133)) = 1 := by
  rw [QA_lane, T66_eq]
  refine (piece_at _ _ (n := 1) 6 (by simp) (broadcastInDim S8320x16x1 ![] bcast_S_S8320x16x1 (constant S_ .f32 0x3F800000#32)) rfl 133 rfl i h 133 0 rfl).trans ?_
  rw [const_pt, Ideal.ofBits_one_f32]

theorem QA_hi (i : Pos) (h : Fin 16) (l : Fin 256) (hl : 134 ≤ l.val) : QA m c (ix2 i (lane h l)) = 0 := by
  rw [QA_lane, T66_eq]
  refine (piece_at _ _ (n := 122) 7 (by simp) (broadcastInDim S8320x16x122 ![] bcast_S_S8320x16x122 (constant S_ .f32 0x00000000#32)) rfl 134 rfl i h l ⟨l.val - 134, by have := l.isLt; omega⟩ (by show 134 + (l.val - 134) = l.val; omega)).trans ?_
  rw [const_pt, Ideal.ofBits_zero_f32]

theorem KA_128 (i : Pos) (h : Fin 16) : KA m c (ix2 i (lane h 128)) = 1 := by
  rw [KA_lane, T77_eq]
  refine (piece_at _ _ (n := 1) 1 (by simp) (broadcastInDim S8320x16x1 ![] bcast_S_S8320x16x1 (constant S_ .f32 0x3F800000#32)) rfl 128 rfl i h 128 0 rfl).trans ?_
  rw [const_pt, Ideal.ofBits_one_f32]

theorem KA_129 (i : Pos) (h : Fin 16) : KA m c (ix2 i (lane h 129)) = 1 := by
  rw [KA_lane, T77_eq]
  refine (piece_at _ _ (n := 1) 2 (by simp) (broadcastInDim S8320x16x1 ![] bcast_S_S8320x16x1 (constant S_ .f32 0x3F800000#32)) rfl 129 rfl i h 129 0 rfl).trans ?_
  rw [const_pt, Ideal.ofBits_one_f32]

theorem KA_130 (i : Pos) (h : Fin 16) : KA m c (ix2 i (lane h 130)) = 1 := by
  rw [KA_lane, T77_eq]
  refine (piece_at _ _ (n := 1) 3 (by simp) (broadcastInDim S8320x16x1 ![] bcast_S_S8320x16x1 (constant S_ .f32 0x3F800000#32)) rfl 130 rfl i h 130 0 rfl).trans ?_
  rw [const_pt, Ideal.ofBits_one_f32]

theorem VA_up (i : Pos) (h : Fin 16) (l : Fin 256) (hl : 128 ≤ l.val) : VA m c (ix2 i (lane h l)) = 1 := by
  rw [VA_lane, T82_eq]
  refine (piece_at _ _ (n := 128) 1 (by simp) (broadcastInDim S8320x16x128 ![] bcast_S_S8320x16x128 (constant S_ .f32 0x3F800000#32)) rfl 128 rfl i h l ⟨l.val - 128, by have := l.isLt; omega⟩ (by show 128 + (l.val - 128) = l.val; omega)).trans ?_
  rw [const_pt, Ideal.ofBits_one_f32]

theorem DA_hi (i : Pos) (h : Fin 16) (l : Fin 256) (hl : 131 ≤ l.val) : DA m c (ix2 i (lane h l)) = 0 := by
  rw [DA_lane, T100_eq]
  refine (piece_at _ _ (n := 125) 4 (by simp) (broadcastInDim S8320x16x125 ![] bcast_S_S8320x16x125 (constant S_ .f32 0x00000000#32)) rfl 131 rfl i h l ⟨l.val - 131, by have := l.isLt; omega⟩ (by show 131 + (l.val - 131) = l.val; omega)).trans ?_
  rw [const_pt, Ideal.ofBits_zero_f32]

theorem K0_lo (i : Pos) (h : Fin 16) (d : Fin 128) : K0 m c (ix2 i (lane h (lo d))) = X5 m c (ix2 i (col h d)) := by
  rw [K0_lane, T107_eq]
  refine (piece_at _ _ (n := 128) 0 (by simp) (T103 m c) rfl 0 rfl i h (lo d) d (Nat.zero_add _)).trans ?_
  exact (by rw [T103_eq]; exact heads_at _ _ i h d)

theorem K0_131 (i : Pos) (h : Fin 16) : K0 m c (ix2 i (lane h 131)) = (-(X7 m c (ix2 i h)) : EReal) := by
  rw [K0_lane, T107_eq]
  refine (piece_at _ _ (n := 1) 4 (by simp) (T105 m c) rfl 131 rfl i h 131 0 rfl).trans ?_
  exact (by rw [T105_eq, T104_eq, neg_pt]; exact congrArg (fun a : EReal => -a) (up2 _ _ i h))

theorem V0A_lo (i : Pos) (h : Fin 16) (d : Fin 128) : V0A m c (ix2 i (lane h (lo d))) = X6 m c (ix2 i (col h d)) := by
  rw [V0A_lane, T111_eq]
  refine (piece_at _ _ (n := 128) 0 (by simp) (T109 m c) rfl 0 rfl i h (lo d) d (Nat.zero_add _)).trans ?_
  exact (by rw [T109_eq]; exact heads_at _ _ i h d)

include H hm

theorem DA_128 (i : Pos) (h : Fin 16) : DA m c (ix2 i (lane h 128)) = ((-(D.go h i) : ℝ) : EReal) := by
  rw [DA_lane, T100_eq]
  refine (piece_at _ _ (n := 1) 1 (by simp) (T91 m c) rfl 128 rfl i h 128 0 rfl).trans ?_
  exact (T91_at m c H hm i h)

theorem DA_129 (i : Pos) (h : Fin 16) : DA m c (ix2 i (lane h 129)) = 0 := by
  rw [DA_lane, T100_eq]
  refine (piece_at _ _ (n := 1) 2 (by simp) (T94 m c) rfl 129 rfl i h 129 0 rfl).trans ?_
  exact (T94_at m c H hm i h)

theorem DA_130 (i : Pos) (h : Fin 16) : DA m c (ix2 i (lane h 130)) = 0 := by
  rw [DA_lane, T100_eq]
  refine (piece_at _ _ (n := 1) 3 (by simp) (T97 m c) rfl 130 rfl i h 130 0 rfl).trans ?_
  exact (T97_at m c H hm i h)

end Cert.KernelIdeal.Val

end
-- ==== Proof.Equation.lean ====
/-
  The equation: what the kernel accumulates over the pairs of positions is the gradient of the reference.
-/
module

public import proofs.«01_k».proof.Proof.Lanes

@[expose] public section

noncomputable section

namespace Cert.KernelIdeal.Val

open Cert.KernelIdeal Cert.KernelIdeal.Gen Cert.Fox Idealize.ShloMosaic Idealize.ShloMosaic.TcCoe Idealize.ShloMosaic.ValueIdx
open Cert.ReferenceIdeal.Val (col Reads)
open Cert.ReferenceIdeal.Read (val_main_v32)
open scoped BigOperators

variable (m : (ℓ : Loc nD τ sig) → Buf (Elt Ideal) ℓ) (c : Dev nD)
variable {D : Data} (H : Reads D (X0 m c) (X1 m c) (X2 m c) (X4 m c) (X3 m c))
  (hm : ∀ h i, val_main_v32 (F := Ideal) (X0 m c) (X1 m c) (X3 m c) (ix2 h i) = (D.mx h i : EReal))
  (hz : ∀ (i : Pos) h d, i.val < 112 → D.g i h d = 0)
include H

/-- The lanes' products add up to the logit; a key in front of the sequence makes it −∞. -/
theorem logit_sum (h : Fin 16) (i j : Pos) :
    ∑ l : Fin 256, QA m c (ix2 i (lane h l)) * KA m c (ix2 j (lane h l)) = if j.val < 112 then ⊥ else (D.logit h i j : EReal) := by
  refine (sum_lanes (fun l => QA m c (ix2 i (lane h l)) * KA m c (ix2 j (lane h l))) fun l hl => ?_).trans ?_
  · show QA m c (ix2 i (lane h l)) * KA m c (ix2 j (lane h l)) = 0
    rw [QA_hi m c i h l hl]
    exact zero_mul _
  · beta_reduce
    have hs : ∑ d : Fin 128, QA m c (ix2 i (lane h (lo d))) * KA m c (ix2 j (lane h (lo d)))
        = ((∑ d, D.q i h d * D.sc * D.k j h d : ℝ) : EReal) := by
      rw [coe_sum]
      refine Finset.sum_congr rfl fun d _ => ?_
      rw [QA_lo m c H, KA_lo m c H]
      exact (EReal.coe_mul _ _).symm
    rw [hs, QA_128 m c H, QA_129 m c H, QA_130 m c H, QA_131, QA_132, QA_133, KA_128, KA_129, KA_130, KA_131 m c H, KA_132 m c H,
      KA_133 m c H]
    have e : ∀ a b x : EReal, a + (b * 1 + 0 * 1 + 0 * 1 + 1 * x + 1 * 0 + 1 * 0) = a + (b + x) := fun a b x => by
      simp only [mul_one, one_mul, zero_mul, mul_zero, add_zero]
    refine (e _ _ _).trans ?_
    split
    · rw [EReal.add_bot, EReal.add_bot]
    · rw [← EReal.coe_add, ← EReal.coe_add]
      unfold Data.logit
      exact congrArg _ (by ring)

include hm

theorem eOf_at (h : Fin 16) (i j : Pos) :
    eOf m c h i j = ((if j.val < 112 then 0 else Real.exp (D.logit h i j - D.lse h i) : ℝ) : EReal) := by
  unfold eOf
  rw [logit_sum m c H, ZA_eq, T40_at m c H hm]
  split
  · rw [EReal.bot_sub, Ideal.exp_bot, EReal.coe_zero]
  · rw [← EReal.coe_sub, Ideal.exp_coe]

/-- The kernel's weight: the reference's, but none on the keys in front of the sequence. -/
theorem pOf_at (h : Fin 16) (i j : Pos) : pOf m c h i j = ((if 112 ≤ j.val then D.p h i j else 0 : ℝ) : EReal) := by
  have hr : ∀ x : ℝ, Keep i.val j.val → (if j.val < 112 then 0 else Real.exp (D.logit h i j - D.lse h i))
      = if 112 ≤ j.val then D.p h i j else 0 := fun x hk => by
    rw [D.p_eq, if_pos hk]
    split <;> split <;> first | rfl | omega
  unfold pOf
  rw [eOf_at m c H hm]
  by_cases hk : Keep i.val j.val
  · rw [if_pos hk, hr 0 hk]
    split
    · rfl
    · rename_i hne
      rw [if_pos]
      have := hk.1
      have : j.val / 640 ≤ i.val / 640 := Nat.div_le_div_right this
      omega
  · have h0 : (if 112 ≤ j.val then D.p h i j else 0) = 0 := by
      rw [D.p_eq, if_neg hk]; split <;> rfl
    rw [if_neg hk, h0, EReal.coe_zero]
    split
    · rfl
    · split
      · rename_i hlt
        have hji : j.val ≤ i.val := by
          by_contra hc
          have : i.val / 640 ≤ j.val / 640 := Nat.div_le_div_right (by omega)
          omega
        have hj : j.val < 112 := by
          by_contra hc
          exact hk ⟨hji, Or.inl (by omega)⟩
        rw [if_pos hj, EReal.coe_zero]
      · rfl

/-- The lanes' products add up to the gradient against a value row less the row's own. -/
theorem grad_sum (h : Fin 16) (i j : Pos) :
    ∑ l : Fin 256, DA m c (ix2 i (lane h l)) * VA m c (ix2 j (lane h l)) = ((D.dp h i j - D.go h i : ℝ) : EReal) := by
  refine (sum_lanes (fun l => DA m c (ix2 i (lane h l)) * VA m c (ix2 j (lane h l))) fun l hl => ?_).trans ?_
  · show DA m c (ix2 i (lane h l)) * VA m c (ix2 j (lane h l)) = 0
    rw [DA_hi m c i h l (by omega)]
    exact zero_mul _
  · beta_reduce
    have hs : ∑ d : Fin 128, DA m c (ix2 i (lane h (lo d))) * VA m c (ix2 j (lane h (lo d))) = (D.dp h i j : EReal) := by
      unfold Data.dp
      rw [coe_sum]
      refine Finset.sum_congr rfl fun d _ => ?_
      rw [DA_lo m c H, VA_lo m c H]
      exact (EReal.coe_mul _ _).symm
    rw [hs, DA_128 m c H hm, DA_129 m c H hm, DA_130 m c H hm, DA_hi m c i h 131 (by decide), DA_hi m c i h 132 (by decide),
      DA_hi m c i h 133 (by decide), VA_up m c j h 128 (by decide), VA_up m c j h 129 (by decide), VA_up m c j h 130 (by decide),
      VA_up m c j h 131 (by decide), VA_up m c j h 132 (by decide), VA_up m c j h 133 (by decide)]
    have e : ∀ a b : EReal, a + (b * 1 + 0 * 1 + 0 * 1 + 0 * 1 + 0 * 1 + 0 * 1) = a + b := fun a b => by
      simp only [mul_one, zero_mul, add_zero]
    refine (e _ _).trans ?_
    rw [← EReal.coe_add, ← sub_eq_add_neg]

include hz

theorem gOf_at (h : Fin 16) (i j : Pos) : gOf m c h i j = (D.ds h i j : EReal) := by
  unfold gOf
  rw [pOf_at m c H hm, grad_sum m c H hm, ← EReal.coe_mul]
  refine congrArg (fun r : ℝ => (r : EReal)) ?_
  by_cases hj : 112 ≤ j.val
  · rw [if_pos hj, D.ds_eq]
  · rw [if_neg hj, zero_mul]
    by_cases hk : Keep i.val j.val
    · have hij : j.val = i.val := hk.2.resolve_left hj
      exact (D.ds_zero h i j fun d => hz i h d (by omega)).symm
    · rw [D.ds_eq, D.p_eq, if_neg hk, zero_mul]

theorem dqF_lo (h : Fin 16) (i : Pos) (d : Fin 128) :
    dqF m c h i (lo d) = ((∑ j, D.ds h i j * D.k j h d : ℝ) : EReal) := by
  unfold dqF
  rw [coe_sum]
  refine Finset.sum_congr rfl fun j _ => ?_
  rw [gOf_at m c H hm hz, KA_lo m c H]
  exact (EReal.coe_mul _ _).symm

theorem dqF_128 (h : Fin 16) (i : Pos) : dqF m c h i 128 = ((∑ j, D.ds h i j : ℝ) : EReal) := by
  unfold dqF
  rw [coe_sum]
  refine Finset.sum_congr rfl fun j _ => ?_
  rw [gOf_at m c H hm hz, KA_128]
  exact mul_one _

theorem dkF_lo (h : Fin 16) (j : Pos) (d : Fin 128) :
    dkF m c h j (lo d) = (X5 m c (ix2 j (col h d)) + (D.dK h j d : EReal) : EReal) := by
  unfold dkF Data.dK
  rw [K0_lo, coe_sum]
  refine congrArg (fun a : EReal => X5 m c (ix2 j (col h d)) + a) (Finset.sum_congr rfl fun i _ => ?_)
  rw [gOf_at m c H hm hz, QA_lo m c H]
  exact (EReal.coe_mul _ _).symm

theorem dkF_131 (h : Fin 16) (j : Pos) :
    dkF m c h j 131 = (-(X7 m c (ix2 j h)) + ((∑ i, D.ds h i j : ℝ) : EReal) : EReal) := by
  unfold dkF
  rw [K0_131, coe_sum]
  refine congrArg (fun a : EReal => -(X7 m c (ix2 j h)) + a) (Finset.sum_congr rfl fun i _ => ?_)
  rw [gOf_at m c H hm hz, QA_131]
  exact mul_one _

theorem dvF_lo (h : Fin 16) (j : Pos) (d : Fin 128) :
    dvF m c h j (lo d) = (X6 m c (ix2 j (col h d)) + (D.dV h j d : EReal) : EReal) := by
  unfold dvF Data.dV
  rw [V0A_lo, coe_sum]
  refine congrArg (fun a : EReal => X6 m c (ix2 j (col h d)) + a) (Finset.sum_congr rfl fun i _ => ?_)
  rw [pOf_at m c H hm, DA_lo m c H]
  refine (EReal.coe_mul _ _).symm.trans (congrArg (fun r : ℝ => (r : EReal)) ?_)
  by_cases hj : 112 ≤ j.val
  · rw [if_pos hj]
  · rw [if_neg hj, zero_mul]
    by_cases hk : Keep i.val j.val
    · have hij : j.val = i.val := hk.2.resolve_left hj
      rw [hz i h d (by omega), mul_zero]
    · rw [D.p_eq, if_neg hk, zero_mul]

omit H hm hz in
/-- Taking away what was accumulated on the negated start. -/
theorem sub_start (x : EReal) (a b : ℝ) : (a : EReal) - (-x + (b : EReal)) = x + ((-b + a : ℝ) : EReal) := by
  induction x with
  | bot =>
    rw [EReal.neg_bot, EReal.top_add_coe, sub_eq_add_neg, EReal.neg_top, EReal.add_bot, EReal.bot_add]
  | coe r =>
    rw [← EReal.coe_neg, ← EReal.coe_add, ← EReal.coe_sub, ← EReal.coe_add]
    exact congrArg _ (by ring)
  | top =>
    rw [EReal.neg_top, EReal.bot_add, EReal.coe_sub_bot, EReal.top_add_coe]

end Cert.KernelIdeal.Val

end
-- ==== Proof.Tail.lean ====
/-
  The lines after the kernel: the four results, cut out of the arrays the kernel wrote.
-/
module

public import proofs.«01_k».proof.Proof.Final
import Idealize.ShloMosaic.Lib.StableHlo.RunRead
import Idealize.ShloMosaic.Lib.StableHlo.ReadAt

@[expose] public section

noncomputable section

namespace Cert.KernelIdeal.Val

open Cert.KernelIdeal Cert.KernelIdeal.Gen Cert.Fox Idealize.ShloMosaic Idealize.ShloMosaic.TcCoe Idealize.ShloMosaic.ValueIdx Idealize.ShloMosaic.StableHlo Idealize.ShloMosaic.Tactic

section Lines
variable (W : Valuation τ sig (Elt Ideal))

@[irreducible] def W0 : FVec Ideal S8320x4096 .f32 := W (Proc.devRef .tc main_v113_0)
@[irreducible] def W1 : FVec Ideal S8320x4096 .f32 := W (Proc.devRef .tc main_v113_1)
@[irreducible] def W2 : FVec Ideal S8320x4096 .f32 := W (Proc.devRef .tc main_v113_2)
@[irreducible] def A120 : FVec Ideal S8320x2048 .f32 := StableHlo.after (hostOps1 (F := Ideal)) W (Proc.devRef .tc main_v120)
@[irreducible] def A125 : FVec Ideal S8320x16 .f32 := StableHlo.after (hostOps1 (F := Ideal)) W (Proc.devRef .tc main_v125)
@[irreducible] def A127 : FVec Ideal S8320x2048 .f32 := StableHlo.after (hostOps1 (F := Ideal)) W (Proc.devRef .tc main_v127)
@[irreducible] def A129 : FVec Ideal S8320x2048 .f32 := StableHlo.after (hostOps1 (F := Ideal)) W (Proc.devRef .tc main_v129)

theorem A120_eq : A120 W = shapeCast S8320x2048 (mulf (extractStridedSlice S8320x16x128 ![0, 0, 0]
      (shapeCast S8320x16x256 (W0 W) shapeCasts_S8320x4096_S8320x16x256) slices_S8320x16x256_S8320x16x128_0_0_0)
      (broadcastInDim S8320x16x128 ![] bcast_S_S8320x16x128 (constant S_ .f32 0x3DB504F3#32))) shapeCasts_S8320x16x128_S8320x2048 := by
  unfold A120 W0
  after_reads_simp
  rfl

theorem A125_eq : A125 W = subf (shapeCast S8320x16 (extractStridedSlice S8320x16x1 ![0, 0, 128]
      (shapeCast S8320x16x256 (W0 W) shapeCasts_S8320x4096_S8320x16x256) slices_S8320x16x256_S8320x16x1_0_0_128) shapeCasts_S8320x16x1_S8320x16)
      (shapeCast S8320x16 (extractStridedSlice S8320x16x1 ![0, 0, 131]
      (shapeCast S8320x16x256 (W1 W) shapeCasts_S8320x4096_S8320x16x256) slices_S8320x16x256_S8320x16x1_0_0_131) shapeCasts_S8320x16x1_S8320x16) := by
  unfold A125 W0 W1
  after_reads_simp
  rfl

theorem A127_eq : A127 W = shapeCast S8320x2048 (extractStridedSlice S8320x16x128 ![0, 0, 0]
      (shapeCast S8320x16x256 (W1 W) shapeCasts_S8320x4096_S8320x16x256) slices_S8320x16x256_S8320x16x128_0_0_0) shapeCasts_S8320x16x128_S8320x2048 := by
  unfold A127 W1
  after_reads_simp
  rfl

theorem A129_eq : A129 W = shapeCast S8320x2048 (extractStridedSlice S8320x16x128 ![0, 0, 0]
      (shapeCast S8320x16x256 (W2 W) shapeCasts_S8320x4096_S8320x16x256) slices_S8320x16x256_S8320x16x128_0_0_0) shapeCasts_S8320x16x128_S8320x2048 := by
  unfold A129 W2
  after_reads_simp
  rfl

end Lines
end Cert.KernelIdeal.Val

end
-- ==== Proof.Results.lean ====
/-
  The kernel's four results as real numbers.
-/
module

public import proofs.«01_k».proof.Proof.Equation
public import proofs.«01_k».proof.Proof.Tail

@[expose] public section

noncomputable section

namespace Cert.KernelIdeal.Val

open Cert.KernelIdeal Cert.KernelIdeal.Gen Cert.Fox Idealize.ShloMosaic Idealize.ShloMosaic.TcCoe Idealize.ShloMosaic.ValueIdx
open Cert.ReferenceIdeal.Val (col Reads)
open Cert.ReferenceIdeal.Read (val_main_v32)
open scoped BigOperators

/-- A head's own columns, cut out of its lanes. -/
theorem own_at (x : S8320x16x256.Idx → EReal) (h : S8320x16x256.Slices ![0, 0, 0] S8320x16x128) (i : Fin 8320) (j : Fin 16) (d : Fin 128) :
    extractStridedSlice S8320x16x128 ![0, 0, 0] x h (ix3 i j d) = x (ix3 i j (lo d)) :=
  extractStridedSlice_apply _ x h _ _ fun a => match a with
    | ⟨0, _⟩ => (Nat.zero_add _).symm
    | ⟨1, _⟩ => (Nat.zero_add _).symm
    | ⟨2, _⟩ => (Nat.zero_add _).symm

/-- One lane of a head, cut out. -/
theorem lane_cut (x : S8320x16x256.Idx → EReal) (n : ℕ) (h : S8320x16x256.Slices ![0, 0, n] S8320x16x1) (l : Fin 256) (hl : l.val = n)
    (i : Fin 8320) (j : Fin 16) :
    extractStridedSlice S8320x16x1 ![0, 0, n] x h (ix3 i j 0) = x (ix3 i j l) :=
  extractStridedSlice_apply _ x h _ _ fun a => match a with
    | ⟨0, _⟩ => (Nat.zero_add _).symm
    | ⟨1, _⟩ => (Nat.zero_add _).symm
    | ⟨2, _⟩ => hl

section Values
variable (m : (ℓ : Loc nD τ sig) → Buf (Elt Ideal) ℓ) (c : Dev nD)

/-- What the lines after the kernel start from: the arrays it wrote, over what the lines before it left. -/
def VT : Valuation τ sig (Elt Ideal) := Pipeline.withArrays (cfgs 0).spec c (V0 m c) fun w => (dats m 0 c).arrAt w (cfgs 0).N

theorem arr_inj : Function.Injective (Pipeline.arrRef spec0) := by decide

theorem VT0 : W0 (VT m c) = dqArr m c := by
  unfold W0
  exact (Pipeline.withArrays_arr spec0 arr_inj c (V0 m c) _ 7).trans (final7 m c)
theorem VT1 : W1 (VT m c) = dkArr m c := by
  unfold W1
  exact (Pipeline.withArrays_arr spec0 arr_inj c (V0 m c) _ 8).trans (final8 m c)
theorem VT2 : W2 (VT m c) = dvArr m c := by
  unfold W2
  exact (Pipeline.withArrays_arr spec0 arr_inj c (V0 m c) _ 9).trans (final9 m c)

variable {D : Data} (H : Reads D (X0 m c) (X1 m c) (X2 m c) (X4 m c) (X3 m c))
  (hm : ∀ h i, val_main_v32 (F := Ideal) (X0 m c) (X1 m c) (X3 m c) (ix2 h i) = (D.mx h i : EReal))
  (hz : ∀ (i : Pos) h d, i.val < 112 → D.g i h d = 0)
include H hm hz

/-- The gradient of the queries. -/
theorem R0_at (h : Fin 16) (i : Pos) (d : Fin 128) : A120 (VT m c) (ix2 i (col h d)) = (D.dQ h i d : EReal) := by
  rw [A120_eq]
  refine (cols_at _ _ i h d).trans ?_
  rw [mul_pt, const_pt]
  refine (congrArg₂ (fun a b : EReal => a * b) ((own_at _ _ i h d).trans (lanes_at _ _ i h (lo d))) H.sc).trans ?_
  beta_reduce
  rw [VT0, dqArr_at, dqF_lo m c H hm hz]
  exact (EReal.coe_mul _ _).symm

/-- The gradient of the keys, added to what was handed in. -/
theorem R1_at (h : Fin 16) (j : Pos) (d : Fin 128) :
    A127 (VT m c) (ix2 j (col h d)) = (X5 m c (ix2 j (col h d)) + (D.dK h j d : EReal) : EReal) := by
  rw [A127_eq]
  refine (cols_at _ _ j h d).trans ((own_at _ _ j h d).trans ((lanes_at _ _ j h (lo d)).trans ?_))
  rw [VT1, dkArr_at, dkF_lo m c H hm hz]

/-- The gradient of the values, added to what was handed in. -/
theorem R2_at (h : Fin 16) (j : Pos) (d : Fin 128) :
    A129 (VT m c) (ix2 j (col h d)) = (X6 m c (ix2 j (col h d)) + (D.dV h j d : EReal) : EReal) := by
  rw [A129_eq]
  refine (cols_at _ _ j h d).trans ((own_at _ _ j h d).trans ((lanes_at _ _ j h (lo d)).trans ?_))
  rw [VT2, dvArr_at, dvF_lo m c H hm hz]

/-- The gradient of the cumulative gates, added to what was handed in. -/
theorem R3_at (h : Fin 16) (i : Pos) :
    A125 (VT m c) (ix2 i h) = (X7 m c (ix2 i h) + (D.dC h i : EReal) : EReal) := by
  rw [A125_eq, sub_pt]
  refine (congrArg₂ (fun a b : EReal => a - b)
    ((gate_at _ _ i h).trans ((lane_cut _ 128 _ 128 rfl i h).trans (lanes_at _ _ i h 128)))
    ((gate_at _ _ i h).trans ((lane_cut _ 131 _ 131 rfl i h).trans (lanes_at _ _ i h 131)))).trans ?_
  beta_reduce
  rw [VT0, VT1, dqArr_at, dkArr_at, dqF_128 m c H hm hz, dkF_131 m c H hm hz]
  exact sub_start _ _ _

end Values
end Cert.KernelIdeal.Val

end
-- ==== Proof.RefResults.lean ====
/-
  The reference's four results read at an index: what was accumulated before, plus the gradient as a real number.
-/
module

public import proofs.«01_k».proof.Proof.RefValue

@[expose] public section

noncomputable section

namespace Cert.ReferenceIdeal.Val

open Cert.Fox Cert.ReferenceIdeal Cert.ReferenceIdeal.Gen Cert.ReferenceIdeal.Read Idealize.ShloMosaic Idealize.ShloMosaic.ValueIdx
open scoped BigOperators

/-- Joining the heads' columns into a matrix, at an index. -/
theorem join_idx (i : Pos) (h : Fin 16) (d : Fin 128) : idx_main_v71 (ix2 i (col h d)) = ix3 i h d := by
  have := i.isLt; have := h.isLt; have := d.isLt
  refine at3 _ _ _ _ ?_ ?_ ?_
  · show (i.val * 2048 + (h.val * 128 + d.val)) / 2048 = i.val
    omega
  · show (i.val * 2048 + (h.val * 128 + d.val)) / 128 % 16 = h.val
    omega
  · show (i.val * 2048 + (h.val * 128 + d.val)) % 128 = d.val
    omega

theorem zero_add_at (y : EReal) : Ideal.ofBits .f32 0x00000000#32 + y = y := by rw [Ideal.ofBits_zero_f32, zero_add]

variable {D : Data} {x0 x1 x2 x4 : Mat} {x3 : Gate} (H : Reads D x0 x1 x2 x4 x3)
  (hm : ∀ h i, val_main_v32 (F := Ideal) x0 x1 x3 (ix2 h i) = (D.mx h i : EReal))
include H hm

/-- The gradient of the values. -/
theorem v103_at (x6 : Mat) (h : Fin 16) (i : Pos) (d : Fin 128) :
    val_main_v103 (F := Ideal) x0 x1 x3 x4 x6 (ix2 i (col h d)) = x6 (ix2 i (col h d)) + (D.dV h i d : EReal) := by
  rw [val_main_v103_apply, val_main_v71_apply, join_idx, val_main_v70_apply, at3 (idx_main_v70 (ix3 i h d)) h i d rfl rfl rfl,
    val_main_v68_apply, at3 (idx_main_v68 (ix3 h i d)) h d i rfl rfl rfl, val_main_v67_apply]
  refine congrArg (fun a : EReal => _ + a) ?_
  unfold Data.dV
  rw [coe_sum]
  refine Finset.sum_congr rfl fun k _ => ?_
  rw [at3 (lidx_main_v67 (ix3 h d i) k) h k d rfl rfl rfl, at3 (ridx_main_v67 (ix3 h d i) k) h k i rfl rfl rfl, v66_at H,
    v56_at H hm, EReal.coe_mul, mul_comm]

/-- The gradient of the keys. -/
theorem v102_at (x5 : Mat) (h : Fin 16) (i : Pos) (d : Fin 128) :
    val_main_v102 (F := Ideal) x0 x1 x2 x3 x4 x5 (ix2 i (col h d)) = x5 (ix2 i (col h d)) + (D.dK h i d : EReal) := by
  rw [val_main_v102_apply, val_main_v96_apply, show idx_main_v96 (ix2 i (col h d)) = ix3 i h d from join_idx i h d,
    val_main_v95_apply, at3 (idx_main_v95 (ix3 i h d)) h i d rfl rfl rfl, val_main_v93_apply]
  refine congrArg (fun a : EReal => _ + a) ?_
  unfold Data.dK
  rw [coe_sum]
  refine Finset.sum_congr rfl fun k _ => ?_
  rw [at3 (lidx_main_v93 (ix3 h i d) k) h k i rfl rfl rfl, at3 (ridx_main_v93 (ix3 h i d) k) h k d rfl rfl rfl, v84_at H hm,
    v3_at H, ← EReal.coe_mul]

/-- The gradient of the queries. -/
theorem v101_at (h : Fin 16) (i : Pos) (d : Fin 128) :
    val_main_v101 (F := Ideal) x0 x1 x2 x3 x4 (ix2 i (col h d)) = (D.dQ h i d : EReal) := by
  rw [val_main_v101_apply, show idx_main_v101 (ix2 i (col h d)) = ix3 i h d from join_idx i h d, val_main_v100_apply,
    at3 (idx_main_v100 (ix3 i h d)) h i d rfl rfl rfl, val_main_v99_apply, val_main_v94_apply, val_main_v98_apply]
  unfold Data.dQ
  rw [EReal.coe_mul, coe_sum]
  refine congrArg₂ (fun a b : EReal => a * b) (Finset.sum_congr rfl fun k _ => ?_) H.sc
  rw [at3 (lidx_main_v94 (ix3 h i d) k) h i k rfl rfl rfl, at3 (ridx_main_v94 (ix3 h i d) k) h k d rfl rfl rfl, v84_at H hm,
    v6_at H, ← EReal.coe_mul]

/-- The gradient of the cumulative gates. -/
theorem v104_at (x7 : Gate) (h : Fin 16) (i : Pos) :
    val_main_v104 (F := Ideal) x0 x1 x2 x3 x4 x7 (ix2 i h) = x7 (ix2 i h) + (D.dC h i : EReal) := by
  have hi := i.isLt
  rw [val_main_v104_apply, val_main_v97_apply, at2 (idx_main_v97 (ix2 i h)) h i rfl rfl, val_main_v92_apply,
    val_main_v88_apply, val_main_v91_apply, Fin.sum_univ_one, Fin.sum_univ_one,
    at3 (idx_main_v88 (ix2 h i) 0) h 0 i rfl rfl rfl, at3 (idx_main_v91 (ix2 h i) 0) h i 0 rfl rfl rfl,
    val_main_v87_apply, val_main_v90_apply,
    at2 (idx_main_v87 (ix3 h 0 i)) h i
      (by show ((h.val * 1 + 0) * 8320 + i.val) / 8320 = h.val; omega)
      (by show ((h.val * 1 + 0) * 8320 + i.val) % 8320 = i.val; omega),
    at2 (idx_main_v90 (ix3 h i 0)) h i
      (by show ((h.val * 8320 + i.val) * 1 + 0) / 8320 = h.val; omega)
      (by show ((h.val * 8320 + i.val) * 1 + 0) % 8320 = i.val; omega), val_main_v86_apply, val_main_v89_apply]
  refine congrArg (fun a : EReal => _ + a) ?_
  unfold Data.dC
  rw [EReal.coe_add]
  refine congrArg₂ (fun a b : EReal => a + b) ?_ ?_
  · refine (zero_add_at _).trans ((zero_add_at _).trans ?_)
    rw [← Finset.sum_neg_distrib, coe_sum]
    refine Finset.sum_congr rfl fun k _ => ?_
    rw [at3 (idx_main_v86 (ix2 h i) k) h k i rfl rfl rfl, val_main_v85_apply, v84_at H hm, EReal.coe_neg]
    rfl
  · refine (zero_add_at _).trans ((zero_add_at _).trans ?_)
    rw [coe_sum]
    refine Finset.sum_congr rfl fun k _ => ?_
    rw [at3 (idx_main_v89 (ix2 h i) k) h i k rfl rfl rfl, v84_at H hm]

end Cert.ReferenceIdeal.Val
-- ==== Proof.Pre.lean ====
/-
  What the precondition says: the inputs are numbers, and no gradient comes into the rows in front of the sequence.
-/
module

public import proofs.«01_k».proof.Pre_finite_inert
public import Idealize.ShloMosaic.Lib.ReduceAll
public import Idealize.ShloMosaic.Lib.Pipeline.Value
public import Idealize.ShloMosaic.Lib.IdealHost

@[expose] public section

noncomputable section

namespace Cert.Pre_finite_inert.Val

open Cert.Pre_finite_inert Idealize.ShloMosaic Idealize.ShloMosaic.ValueIdx

theorem facts : Cert.Pre_finite_inert.Facts where
  bcast_S_S8320 := by decide
  bcast_S8320_S8320x1_0 := by decide
  bcast_S_S8320x2048 := by decide
  bcast_S8320x1_S8320x2048_0_1 := by decide
  reducesTo_S8320x2048_S_d0_1 := by decide
  h_S_ := by decide
  bcast_S_S8320x16 := by decide
  reducesTo_S8320x16_S_d0_1 := by decide

theorem pinf : Ideal.ofBits .f32 0x7F800000#32 = ⊤ := by simp [Ideal.ofBits, Ideal.ieee]

/-- A decided proposition whose bit is one holds. -/
theorem one_of {p : Prop} [Decidable p] (h : BitVec.ofBool (decide p) = 1#1) : p := by
  by_contra hp
  rw [decide_eq_false hp] at h
  exact absurd h (by decide)

/-- A number whose size is below +∞ is a real number. -/
theorem real_of {x : EReal} (h : Ideal.cmp .olt (max x (-x)) ⊤ = 1#1) : x = (x.toReal : EReal) := by
  have h' : max x (-x) < ⊤ := one_of h
  refine (EReal.coe_toReal ?_ ?_).symm
  · rintro rfl
    exact absurd h' (by simp)
  · rintro rfl
    exact absurd h' (by simp)

variable [Cert.Pre_finite_inert.Facts]
open Facts

/-- One array's conjunct: every element below +∞ in size. -/
theorem all_real {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .olt (Host.absf x) (broadcastInDim S ![] hb (constant (F := Ideal) S_ .f32 0x7F800000#32)))
      (constantI S_ 1 1#1) hr hu j = 1#1) (i : S.Idx) : x i = ((x i : EReal).toReal : EReal) := by
  haveI : Subsingleton S_.Idx := ⟨fun a b => funext fun k => k.elim0⟩
  have e := Host.reduce_andi_all _ _ _ _ j h i
  refine real_of ?_
  rw [← pinf]
  exact e

/-- The precondition, read. -/
theorem reads (x0 x1 x2 : FVec Ideal S8320x2048 .f32) (x3 : FVec Ideal S8320x16 .f32) (x4 x5 x6 : FVec Ideal S8320x2048 .f32)
    (x7 : FVec Ideal S8320x16 .f32) (h : fn (F := Ideal) x0 x1 x2 x3 x4 x5 x6 x7 = fun _ => 1#1) :
    (∀ i, x0 i = ((x0 i : EReal).toReal : EReal)) ∧ (∀ i, x1 i = ((x1 i : EReal).toReal : EReal))
      ∧ (∀ i, x2 i = ((x2 i : EReal).toReal : EReal)) ∧ (∀ i, x3 i = ((x3 i : EReal).toReal : EReal))
      ∧ (∀ i, x4 i = ((x4 i : EReal).toReal : EReal))
      ∧ ∀ (i : Fin 8320) (j : Fin 2048), i.val < 112 → x4 (ix2 i j) = (0 : EReal) := by
  have h0 := congrFun h (fun k : Fin 0 => k.elim0)
  unfold fn fn_part1 at h0
  dsimp only at h0
  obtain ⟨h0, hz⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨all_real x0 _ _ _ _ h0, all_real x1 _ _ _ _ h1, all_real x2 _ _ _ _ h2, all_real x3 _ _ _ _ h3, all_real x4 _ _ _ _ h4, ?_⟩
  intro i j hi
  haveI : Subsingleton S_.Idx := ⟨fun a b => funext fun k => k.elim0⟩
  have e := Host.reduce_andi_all _ _ _ _ _ hz (ix2 i j)
  rcases IntOp.ori_eq_one.1 e with e | e
  · exfalso
    have e' : IntOp.cmpi .sge (BitVec.ofNat 32 i.val) 112#32 = 1#1 := e
    have hn := IntOp.cmpi_sge.1 e'
    have e2 : (BitVec.ofNat 32 i.val).toNat = i.val := by rw [BitVec.toNat_ofNat]; exact Nat.mod_eq_of_lt (by omega)
    have e3 : (BitVec.ofNat 32 i.val).toInt = (i.val : ℤ) := by rw [BitVec.toInt_eq_toNat_of_lt (by rw [e2]; omega), e2]
    rw [e3, show (112#32 : BitVec 32).toInt = 112 from by decide] at hn
    omega
  · have e' : Ideal.cmp .oeq (x4 (ix2 i j)) (Ideal.ofBits .f32 0#32) = 1#1 := e
    have := one_of e'
    rw [this]
    exact Ideal.ofBits_zero_f32

end Cert.Pre_finite_inert.Val

end
-- ==== Proof.Agree.lean ====
/-
  Under the precondition the kernel's results are the reference's, array by array.
-/
module

public import proofs.«01_k».proof.Proof.Results
public import proofs.«01_k».proof.Proof.RefResults
public import proofs.«01_k».proof.Proof.Pre

@[expose] public section

noncomputable section

namespace Cert.KernelIdeal.Val

open Cert.KernelIdeal Cert.KernelIdeal.Gen Cert.Fox Idealize.ShloMosaic Idealize.ShloMosaic.TcCoe Idealize.ShloMosaic.ValueIdx
open Cert.ReferenceIdeal.Val (Mat Gate col Reads)
open Cert.ReferenceIdeal.Read (val_main_v32 val_main_v101 val_main_v102 val_main_v103 val_main_v104)
open scoped BigOperators

/-- The scale is a real number. -/
theorem scale_real : ∃ r : ℝ, Ideal.ofBits .f32 0x3DB504F3#32 = (r : EReal) := by
  unfold Ideal.ofBits Ideal.ieee
  exact ⟨_, rfl⟩

/-- The real numbers the arrays hold. -/
theorem exists_data (x0 x1 x2 x4 : Mat) (x3 : Gate)
    (h0 : ∀ i, x0 i = ((x0 i : EReal).toReal : EReal)) (h1 : ∀ i, x1 i = ((x1 i : EReal).toReal : EReal))
    (h2 : ∀ i, x2 i = ((x2 i : EReal).toReal : EReal)) (h3 : ∀ i, x3 i = ((x3 i : EReal).toReal : EReal))
    (h4 : ∀ i, x4 i = ((x4 i : EReal).toReal : EReal))
    (hz : ∀ (i : Fin 8320) (j : Fin 2048), i.val < 112 → x4 (ix2 i j) = (0 : EReal)) :
    ∃ D : Data, Reads D x0 x1 x2 x4 x3
      ∧ (∀ h i, val_main_v32 (F := Ideal) x0 x1 x3 (ix2 h i) = (D.mx h i : EReal))
      ∧ ∀ (i : Pos) h d, i.val < 112 → D.g i h d = 0 := by
  obtain ⟨r, hr⟩ := scale_real
  have rd : ∀ mx : Fin 16 → Pos → ℝ, Reads
      { q := fun i h d => (x0 (ix2 i (col h d)) : EReal).toReal, k := fun i h d => (x1 (ix2 i (col h d)) : EReal).toReal,
        v := fun i h d => (x2 (ix2 i (col h d)) : EReal).toReal, c := fun i h => (x3 (ix2 i h) : EReal).toReal,
        g := fun i h d => (x4 (ix2 i (col h d)) : EReal).toReal, sc := r, mx := mx } x0 x1 x2 x4 x3 := fun mx =>
    ⟨fun _ _ _ => h0 _, fun _ _ _ => h1 _, fun _ _ _ => h2 _, fun _ _ _ => h4 _, fun _ _ => h3 _, hr⟩
  have hmx : ∀ h : Fin 16, ∀ i : Pos, ∃ r : ℝ, val_main_v32 (F := Ideal) x0 x1 x3 (ix2 h i) = (r : EReal) := fun h i =>
    Cert.ReferenceIdeal.Val.v32_real (rd fun _ _ => 0) h i
  choose mx hmx using hmx
  refine ⟨_, rd mx, hmx, fun i h d hi => ?_⟩
  show (x4 (ix2 i (col h d)) : EReal).toReal = 0
  rw [hz i (col h d) hi]
  exact EReal.toReal_zero

/-- An index of a whole array, as a position, a head and a column. -/
theorem split_cols (x : S8320x2048.Idx) : ∃ (i : Pos) (h : Fin 16) (d : Fin 128), x = ix2 i (col h d) := by
  have hx : (x 1).val < 2048 := (x 1).isLt
  refine ⟨x 0, ⟨(x 1).val / 128, by omega⟩, ⟨(x 1).val % 128, by omega⟩, ?_⟩
  refine (eq_ix2 x).trans (congrArg (ix2 (x 0)) (Fin.ext ?_))
  show (x 1).val = (x 1).val / 128 * 128 + (x 1).val % 128
  omega

section
variable (m : (ℓ : Loc nD τ sig) → Buf (Elt Ideal) ℓ) (c : Dev nD)
variable {D : Data} (H : Reads D (X0 m c) (X1 m c) (X2 m c) (X4 m c) (X3 m c))
  (hm : ∀ h i, val_main_v32 (F := Ideal) (X0 m c) (X1 m c) (X3 m c) (ix2 h i) = (D.mx h i : EReal))
  (hz : ∀ (i : Pos) h d, i.val < 112 → D.g i h d = 0)
include H hm hz

theorem agree0 : A120 (VT m c) = val_main_v101 (F := Ideal) (X0 m c) (X1 m c) (X2 m c) (X3 m c) (X4 m c) := funext fun x => by
  obtain ⟨i, h, d, rfl⟩ := split_cols x
  exact (R0_at m c H hm hz h i d).trans (Cert.ReferenceIdeal.Val.v101_at H hm h i d).symm

theorem agree1 : A127 (VT m c) = val_main_v102 (F := Ideal) (X0 m c) (X1 m c) (X2 m c) (X3 m c) (X4 m c) (X5 m c) := funext fun x => by
  obtain ⟨i, h, d, rfl⟩ := split_cols x
  exact (R1_at m c H hm hz h i d).trans (Cert.ReferenceIdeal.Val.v102_at H hm (X5 m c) h i d).symm

theorem agree2 : A129 (VT m c) = val_main_v103 (F := Ideal) (X0 m c) (X1 m c) (X3 m c) (X4 m c) (X6 m c) := funext fun x => by
  obtain ⟨i, h, d, rfl⟩ := split_cols x
  exact (R2_at m c H hm hz h i d).trans (Cert.ReferenceIdeal.Val.v103_at H hm (X6 m c) h i d).symm

theorem agree3 : A125 (VT m c) = val_main_v104 (F := Ideal) (X0 m c) (X1 m c) (X2 m c) (X3 m c) (X4 m c) (X7 m c) := funext fun x => by
  rw [eq_ix2 x]
  exact (R3_at m c H hm hz (x 1) (x 0)).trans (Cert.ReferenceIdeal.Val.v104_at H hm (X7 m c) (x 1) (x 0)).symm

end

/-- The four arrays, from the precondition's conjuncts. -/
theorem agree (m : (ℓ : Loc nD τ sig) → Buf (Elt Ideal) ℓ) (c : Dev nD) [Cert.Pre_finite_inert.Facts]
    (h : Cert.Pre_finite_inert.fn (F := Ideal) (X0 m c) (X1 m c) (X2 m c) (X3 m c) (X4 m c) (X5 m c) (X6 m c) (X7 m c) = fun _ => 1#1) :
    A120 (VT m c) = val_main_v101 (F := Ideal) (X0 m c) (X1 m c) (X2 m c) (X3 m c) (X4 m c)
      ∧ A127 (VT m c) = val_main_v102 (F := Ideal) (X0 m c) (X1 m c) (X2 m c) (X3 m c) (X4 m c) (X5 m c)
      ∧ A129 (VT m c) = val_main_v103 (F := Ideal) (X0 m c) (X1 m c) (X3 m c) (X4 m c) (X6 m c)
      ∧ A125 (VT m c) = val_main_v104 (F := Ideal) (X0 m c) (X1 m c) (X2 m c) (X3 m c) (X4 m c) (X7 m c) := by
  obtain ⟨h0, h1, h2, h3, h4, hz⟩ := Cert.Pre_finite_inert.Val.reads _ _ _ _ _ _ _ _ h
  obtain ⟨D, H, hm, hz'⟩ := exists_data (X0 m c) (X1 m c) (X2 m c) (X4 m c) (X3 m c) h0 h1 h2 h3 h4 hz
  exact ⟨agree0 m c H hm hz', agree1 m c H hm hz', agree2 m c H hm hz', agree3 m c H hm hz'⟩

end Cert.KernelIdeal.Val

end
-- ==== Proof.Product.lean ====
/-
  A product added up in parts: an array read at natural coordinates, a sum cut into equal parts, and the contraction over
  both operands' rows read at an entry.
-/
module

public import Idealize.ShloMosaic.Lib.Pipeline.Value
public import Idealize.ShloMosaic.Lib.MatmulPlain
public import Idealize.ShloMosaic.Lib.ValueIdx

@[expose] public section

noncomputable section

namespace Cert.Product

open Idealize.ShloMosaic Idealize.ShloMosaic.ValueIdx
open scoped BigOperators

/-- The offset of a whole array. -/
theorem hz : (![0, 0] : Fin 2 → Nat) = fun _ => 0 := funext fun a => by fin_cases a <;> rfl

/-- An array of extended reals read at natural coordinates, zero outside. -/
def at2 {r c : ℕ} (A : (⟨2, ![r, c]⟩ : Shape).Idx → EReal) (i k : ℕ) : EReal :=
  if h : i < r ∧ k < c then A (ix2 ⟨i, h.1⟩ ⟨k, h.2⟩) else 0

/-- An entry by the values of its coordinates. -/
theorem at2_of {r c : ℕ} (A : (⟨2, ![r, c]⟩ : Shape).Idx → EReal) (j : (⟨2, ![r, c]⟩ : Shape).Idx) (i k : ℕ)
    (h0 : (j 0).val = i) (h1 : (j 1).val = k) : A j = at2 A i k := by
  subst h0 h1
  unfold at2
  rw [dif_pos ⟨(j 0).isLt, (j 1).isLt⟩]
  exact congrArg A (eq_ix2 j)

/-- The first part of a sum cut into parts of `T` terms. -/
theorem sum_first (T : ℕ) (f : ℕ → EReal) : ∑ k : Fin T, f (0 * T + k.val) = ∑ k : Fin ((0 + 1) * T), f k.val := by
  simp only [Fin.sum_univ_eq_sum_range f, Fin.sum_univ_eq_sum_range (fun k => f (0 * T + k)), zero_add, one_mul, zero_mul]

/-- Part `n` added to the parts before it. -/
theorem sum_next (n T : ℕ) (f : ℕ → EReal) :
    ∑ k : Fin (n * T), f k.val + ∑ k : Fin T, f (n * T + k.val) = ∑ k : Fin ((n + 1) * T), f k.val := by
  rw [Fin.sum_univ_eq_sum_range f, Fin.sum_univ_eq_sum_range f, Fin.sum_univ_eq_sum_range (fun k => f (n * T + k)),
    ← Finset.sum_range_add, ← Nat.succ_mul]

/-- A running sum that takes one part of `T` terms at a time holds, after part `j`, the first `(j + 1) T` terms. -/
theorem run_parts (n T : ℕ) (f : ℕ → EReal) (x : (j : ℕ) → j < n → EReal)
    (h0 : ∀ h, x 0 h = ∑ k : Fin T, f (0 * T + k.val))
    (hs : ∀ j h, x (j + 1) h = x j (Nat.lt_of_succ_lt h) + ∑ k : Fin T, f ((j + 1) * T + k.val)) :
    ∀ j h, x j h = ∑ k : Fin ((j + 1) * T), f k.val := by
  intro j
  induction j with
  | zero => exact fun h => (h0 h).trans (sum_first T f)
  | succ j ih => exact fun h => (hs j h).trans ((congrArg (· + _) (ih _)).trans (sum_next (j + 1) T f))

/-- The dimension numbers of a product that contracts both operands' rows. -/
def rowsDot (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The contraction over both operands' rows, read at an entry. -/
theorem rowsDot_apply {K M N : ℕ} (wf) {φ₁ φ₂ : FTy} (a : FVec Ideal ⟨2, ![K, M]⟩ φ₁) (b : FVec Ideal ⟨2, ![K, N]⟩ φ₂)
    (acc : FVec Ideal ⟨2, ![M, N]⟩ .f32) (s : Fin M) (l : Fin N) :
    FloatOps.matmul (rowsDot K M N wf) none a b acc (ix2 s l) = acc (ix2 s l) + ∑ r : Fin K, a (ix2 r s) * b (ix2 r l) := by
  have hr : (rowsDot K M N wf).contr.rank = 1 := rfl
  have hs : (rowsDot K M N wf).contr.size ⟨0, by rw [hr]; exact Nat.one_pos⟩ = K := rfl
  refine (Ideal.matmul_apply _ _ _ _ _ _).trans ?_
  rw [← Equiv.sum_comp (contrEquiv1 _ K hr hs).symm]
  refine congrArg (acc (ix2 s l) + ·) (Finset.sum_congr rfl fun r _ => ?_)
  have hk := contrEquiv1_symm_val _ K hr hs r
  have el : (rowsDot K M N wf).lhsIdx (ix2 s l) ((contrEquiv1 _ K hr hs).symm r) = ix2 r s := by
    funext x; apply Fin.ext
    match x with
    | ⟨0, _⟩ => exact hk
    | ⟨1, _⟩ => rfl
  have er : (rowsDot K M N wf).rhsIdx (ix2 s l) ((contrEquiv1 _ K hr hs).symm r) = ix2 r l := by
    funext x; apply Fin.ext
    match x with
    | ⟨0, _⟩ => exact hk
    | ⟨1, _⟩ => rfl
  rw [el, er]

/-- A part of a product of rows with columns: the terms from `o` on, for row `i` of `A` and column `j` of `B`. -/
theorem plain_part {R T C p q r' s' : ℕ} (wf) {φ₁ φ₂ : FTy} (a : FVec Ideal ⟨2, ![R, T]⟩ φ₁) (b : FVec Ideal ⟨2, ![T, C]⟩ φ₂)
    (A : (⟨2, ![p, q]⟩ : Shape).Idx → EReal) (B : (⟨2, ![r', s']⟩ : Shape).Idx → EReal) (i j o : ℕ) (r : Fin R) (s : Fin C)
    (ha : ∀ k, a (ix2 r k) = at2 A i (o + k.val)) (hb : ∀ k, b (ix2 k s) = at2 B (o + k.val) j) :
    FloatOps.matmul (⟨[1], [0], [0], [1], [], [], wf⟩ : DotDims ⟨2, ![R, T]⟩ ⟨2, ![T, C]⟩ ⟨2, ![R, C]⟩) none a b (constant (F := Ideal) ⟨2, ![R, C]⟩ .f32 0x00000000#32) (ix2 r s)
      = ∑ k : Fin T, at2 A i (o + k.val) * at2 B (o + k.val) j :=
  (Ideal.matmul_plain_apply none a b _ r s).trans (by
    rw [constant_apply, Ideal.ofBits_zero_f32, zero_add]
    exact Finset.sum_congr rfl fun k _ => congrArg₂ (· * ·) (ha k) (hb k))

/-- A part of a product of rows with rows. -/
theorem rows_part {R T C p q r' s' : ℕ} (wf) {φ₁ φ₂ : FTy} (a : FVec Ideal ⟨2, ![R, T]⟩ φ₁) (b : FVec Ideal ⟨2, ![C, T]⟩ φ₂)
    (A : (⟨2, ![p, q]⟩ : Shape).Idx → EReal) (B : (⟨2, ![r', s']⟩ : Shape).Idx → EReal) (i j o : ℕ) (r : Fin R) (s : Fin C)
    (ha : ∀ k, a (ix2 r k) = at2 A i (o + k.val)) (hb : ∀ k, b (ix2 s k) = at2 B j (o + k.val)) :
    FloatOps.matmul (⟨[1], [1], [0], [0], [], [], wf⟩ : DotDims ⟨2, ![R, T]⟩ ⟨2, ![C, T]⟩ ⟨2, ![R, C]⟩) none a b (constant (F := Ideal) ⟨2, ![R, C]⟩ .f32 0x00000000#32) (ix2 r s)
      = ∑ k : Fin T, at2 A i (o + k.val) * at2 B j (o + k.val) :=
  (Ideal.matmul_transposedRhs_apply none a b _ r s).trans (by
    rw [constant_apply, Ideal.ofBits_zero_f32, zero_add]
    exact Finset.sum_congr rfl fun k _ => congrArg₂ (· * ·) (ha k) (hb k))

/-- A part of a product of columns with columns. -/
theorem cols_part {R T C p q r' s' : ℕ} (wf) {φ₁ φ₂ : FTy} (a : FVec Ideal ⟨2, ![T, R]⟩ φ₁) (b : FVec Ideal ⟨2, ![T, C]⟩ φ₂)
    (A : (⟨2, ![p, q]⟩ : Shape).Idx → EReal) (B : (⟨2, ![r', s']⟩ : Shape).Idx → EReal) (i j o : ℕ) (r : Fin R) (s : Fin C)
    (ha : ∀ k, a (ix2 k r) = at2 A (o + k.val) i) (hb : ∀ k, b (ix2 k s) = at2 B (o + k.val) j) :
    FloatOps.matmul (rowsDot T R C wf) none a b (constant (F := Ideal) ⟨2, ![R, C]⟩ .f32 0x00000000#32) (ix2 r s)
      = ∑ k : Fin T, at2 A (o + k.val) i * at2 B (o + k.val) j :=
  (rowsDot_apply wf a b _ r s).trans (by
    rw [constant_apply, Ideal.ofBits_zero_f32, zero_add]
    exact Finset.sum_congr rfl fun k _ => congrArg₂ (· * ·) (ha k) (hb k))

/-- Blocks of `R × C` entries in rows of `q` blocks: the block an entry lies in and its place there give the entry back. -/
theorem place {R C q : ℕ} (x y : ℕ) (hy : y < q * C) :
    (q * (x / R) + y / C) / q * R + x % R = x ∧ (q * (x / R) + y / C) % q * C + y % C = y := by
  have hd : y / C < q := Nat.div_lt_of_lt_mul (by rwa [Nat.mul_comm] at hy)
  have hq : 0 < q := Nat.lt_of_le_of_lt (Nat.zero_le _) hd
  rw [Nat.mul_add_div hq, Nat.div_eq_of_lt hd, Nat.add_zero, Nat.mul_add_mod, Nat.mod_eq_of_lt hd]
  exact ⟨Nat.div_add_mod' _ _, Nat.div_add_mod' _ _⟩

/-- An array made of `p` rows of `q` blocks of `R × C` entries holds `val` if every block does. -/
theorem of_blocks {M N n : ℕ} (p q R C : ℕ) {G : (⟨2, ![M, N]⟩ : Shape).Idx → EReal} {val : ℕ → ℕ → EReal}
    (emb : Fin n → (⟨2, ![R, C]⟩ : Shape).Idx → (⟨2, ![M, N]⟩ : Shape).Idx) (hM : M = p * R) (hN : N = q * C) (hn : n = p * q)
    (h0 : ∀ t y, (emb t y 0).val = t.val / q * R + (y 0).val) (h1 : ∀ t y, (emb t y 1).val = t.val % q * C + (y 1).val)
    (hG : ∀ t r s, G (emb t (ix2 r s)) = val (t.val / q * R + r.val) (t.val % q * C + s.val)) (i : (⟨2, ![M, N]⟩ : Shape).Idx) :
    G i = val (i 0).val (i 1).val := by
  have hx : (i 0).val < p * R := lt_of_lt_of_eq (i 0).isLt hM
  have hy : (i 1).val < q * C := lt_of_lt_of_eq (i 1).isLt hN
  have hR : 0 < R := Nat.pos_of_ne_zero (by rintro rfl; exact absurd hx (by simp))
  have hC : 0 < C := Nat.pos_of_ne_zero (by rintro rfl; exact absurd hy (by simp))
  have ha : (i 0).val / R < p := Nat.div_lt_of_lt_mul (by rwa [Nat.mul_comm] at hx)
  have hb : (i 1).val / C < q := Nat.div_lt_of_lt_mul (by rwa [Nat.mul_comm] at hy)
  have ht : q * ((i 0).val / R) + (i 1).val / C < n := by
    rw [hn, Nat.mul_comm p q]
    exact lt_of_lt_of_le (Nat.add_lt_add_left hb _) (by rw [← Nat.mul_succ]; exact Nat.mul_le_mul_left _ ha)
  obtain ⟨e0, e1⟩ := place (R := R) (C := C) (q := q) (i 0).val (i 1).val hy
  have he : emb ⟨_, ht⟩ (ix2 ⟨(i 0).val % R, Nat.mod_lt _ hR⟩ ⟨(i 1).val % C, Nat.mod_lt _ hC⟩) = i := funext fun a => Fin.ext (by
    match a with
    | ⟨0, _⟩ => exact (h0 _ _).trans e0
    | ⟨1, _⟩ => exact (h1 _ _).trans e1)
  have h := hG ⟨_, ht⟩ ⟨(i 0).val % R, Nat.mod_lt _ hR⟩ ⟨(i 1).val % C, Nat.mod_lt _ hC⟩
  rw [he] at h
  exact h.trans (congrArg₂ val e0 e1)

/-- A block's entry read from the array, by the block's indices and the place in it. -/
theorem read_at {r c R C u v u' v' x y : ℕ} (A : (⟨2, ![r, c]⟩ : Shape).Idx → EReal) (j : (⟨2, ![r, c]⟩ : Shape).Idx)
    (h0 : (j 0).val = u * R + x) (h1 : (j 1).val = v * C + y) (hu : u = u') (hv : v = v') : A j = at2 A (u' * R + x) (v' * C + y) := by
  subst hu hv
  exact at2_of A j _ _ h0 h1

/-- An array made of `p` rows of `q` blocks of `R × C` entries, each block added up over `T` consecutive points: the first
    starts a running sum, the next ones add to it, and the last leaves what `post` makes of the sum. -/
theorem accumulated {M N n : ℕ} (T p q R C L : ℕ) {G : (⟨2, ![M, N]⟩ : Shape).Idx → EReal}
    {out run part : (t : ℕ) → t < n → (⟨2, ![R, C]⟩ : Shape).Idx → EReal} {f : ℕ → ℕ → ℕ → EReal} {post : ℕ → ℕ → EReal → EReal}
    (hT : 2 ≤ T) (hM : M = p * R) (hN : N = q * C) (hR : 0 < R) (hC : 0 < C) (hn : n = T * (p * q))
    (first : ∀ t h y, t % T = 0 → run t h y = part t h y)
    (mid : ∀ t h y, t % T ≠ 0 → t % T ≠ T - 1 → run t h y = run (t - 1) (Nat.lt_of_le_of_lt (Nat.sub_le _ _) h) y + part t h y)
    (last : ∀ t h r s, t % T = T - 1 → out t h (ix2 r s) = post (t / T / q * R + r.val) (t / T % q * C + s.val)
      (run (t - 1) (Nat.lt_of_le_of_lt (Nat.sub_le _ _) h) (ix2 r s) + part t h (ix2 r s)))
    (parts : ∀ t h r s, part t h (ix2 r s) = ∑ k : Fin L, f (t / T / q * R + r.val) (t / T % q * C + s.val) (t % T * L + k.val))
    (hG : ∀ i h, G i = out (T * (q * ((i 0).val / R) + (i 1).val / C) + (T - 1)) h
      (ix2 ⟨(i 0).val % R, Nat.mod_lt _ hR⟩ ⟨(i 1).val % C, Nat.mod_lt _ hC⟩))
    (i : (⟨2, ![M, N]⟩ : Shape).Idx) : G i = post (i 0).val (i 1).val (∑ k : Fin (T * L), f (i 0).val (i 1).val k.val) := by
  obtain ⟨P, rfl⟩ : ∃ P, T = P + 2 := ⟨T - 2, by omega⟩
  have hx : (i 0).val < p * R := lt_of_lt_of_eq (i 0).isLt hM
  have hy : (i 1).val < q * C := lt_of_lt_of_eq (i 1).isLt hN
  have ha : (i 0).val / R < p := Nat.div_lt_of_lt_mul (by rwa [Nat.mul_comm] at hx)
  have hb : (i 1).val / C < q := Nat.div_lt_of_lt_mul (by rwa [Nat.mul_comm] at hy)
  obtain ⟨e0, e1⟩ := place (R := R) (C := C) (q := q) (i 0).val (i 1).val hy
  have hlt : q * ((i 0).val / R) + (i 1).val / C < p * q := by
    rw [Nat.mul_comm p q]
    exact lt_of_lt_of_le (Nat.add_lt_add_left hb _) (by rw [← Nat.mul_succ]; exact Nat.mul_le_mul_left _ ha)
  have hG' := hG i
  generalize q * ((i 0).val / R) + (i 1).val / C = b at hlt e0 e1 hG'
  have ht : ∀ j, j < P + 2 → (P + 2) * b + j < n := fun j hj => by
    rw [hn]
    exact lt_of_lt_of_le (Nat.add_lt_add_left hj _) (by rw [← Nat.mul_succ]; exact Nat.mul_le_mul_left _ hlt)
  have hd : ∀ j, j < P + 2 → ((P + 2) * b + j) / (P + 2) = b := fun j hj => by
    rw [Nat.mul_add_div (by omega), Nat.div_eq_of_lt hj, Nat.add_zero]
  have hm : ∀ j, j < P + 2 → ((P + 2) * b + j) % (P + 2) = j := fun j hj => by rw [Nat.mul_add_mod, Nat.mod_eq_of_lt hj]
  have hp : ∀ j (hj : j < P + 2) r s, part ((P + 2) * b + j) (ht j hj) (ix2 r s)
      = ∑ k : Fin L, f (b / q * R + r.val) (b % q * C + s.val) (j * L + k.val) := fun j hj r s => by
    rw [parts, hd j hj, hm j hj]
  have hrun := fun r s => run_parts (P + 1) L (f (b / q * R + r.val) (b % q * C + s.val))
    (fun j hj => run ((P + 2) * b + j) (ht j (by omega)) (ix2 r s))
    (fun hj => (first _ _ _ (hm 0 (by omega))).trans (hp 0 (by omega) r s))
    (fun j hj => (mid _ _ _ (by rw [hm _ (by omega)]; omega) (by rw [hm _ (by omega)]; omega)).trans
      (congrArg (_ + ·) (hp (j + 1) (by omega) r s)))
  refine (hG' (ht (P + 1) (by omega))).trans ?_
  refine (last _ _ _ _ (hm (P + 1) (by omega))).trans ?_
  rw [hd (P + 1) (by omega)]
  refine (congrArg (post _ _) ((congrArg₂ (· + ·) (hrun _ _ P (by omega)) (hp (P + 1) (by omega) _ _)).trans
    (sum_next (P + 1) L (f _ _)))).trans ?_
  dsimp only
  rw [e0, e1]

end Cert.Product

end
-- ==== Proof.DownDx.lean ====
/-
  The gradient of the down projection's input: the blocked product of the gradients' rows with the weights' rows, each
  block in one step.
-/
module

public import proofs.«01_k».proof.Proof.Product
public import proofs.«01_k».proof.Proof.Gen.DownDxIdeal.Value
public import proofs.«01_k».proof.Proof.Gen.RefDownDxIdeal.Read
public import Idealize.ShloMosaic.Lib.WritesUnit

@[expose] public section

noncomputable section

namespace Cert.DownDxIdeal.Val

open Cert.Product Cert.DownDxIdeal Cert.DownDxIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S512x2048 .bf16) : out0_2 x0 x1 = k0_pay1 x0 x1 := by
  unfold out0_2
  rw [View.canon_unit_zero (S := S1040x512) hz]
  simp only [View.ld_unit_zero (S := S1040x2048) hz, View.ld_unit_zero (S := S512x2048) hz]

variable (m : (ℓ : Loc nD τ sig) → Buf (Elt Ideal) ℓ) (c : Dev nD)

/-- The two arrays the call reads. -/
abbrev Z : FVec Ideal S8320x2048 .bf16 := m ((c : Thread nD τ).loc main_arg0)
abbrev W : FVec Ideal S5632x2048 .bf16 := m ((c : Thread nD τ).loc main_arg1)

/-- Which block of each array a point reads and writes; every point writes its own. -/
theorem idx_at : ∀ t : Fin cfg0.N, (win0_0.index t 0 = t.val / 11 ∧ win0_0.index t 1 = 0)
    ∧ (win0_1.index t 0 = t.val % 11 ∧ win0_1.index t 1 = 0) ∧ (win0_2.index t 0 = t.val / 11 ∧ win0_2.index t 1 = t.val % 11)
    ∧ (cfg0.win 2).flush t = true :=
  (by decide +kernel : ∀ t : Fin grid0.N, _)

theorem z_at (t : Fin cfg0.N) (r : Fin 1040) (k : Fin 2048) :
    iblk m c 0 t (ix2 r k) = at2 (Z m c) (t.val / 11 * 1040 + r.val) (0 * 2048 + k.val) := by
  unfold iblk
  rw [View.read_apply]
  exact read_at (Z m c) _ (win0_0.rect_emb_val t _ 0) (win0_0.rect_emb_val t _ 1) (idx_at t).1.1 (idx_at t).1.2

theorem w_at (t : Fin cfg0.N) (s : Fin 512) (k : Fin 2048) :
    iblk m c 1 t (ix2 s k) = at2 (W m c) (t.val % 11 * 512 + s.val) (0 * 2048 + k.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 512) :
    (dats m 0 c).arrAt 2 cfg0.N (((cfg0.win 2).blk t).view.emb (ix2 r s))
      = ∑ k : Fin 2048, at2 (Z m c) (t.val / 11 * 1040 + r.val) k.val * at2 (W m c) (t.val % 11 * 512 + s.val) k.val := by
  have hw := congrFun ((Value.blocks2 m c t (idx_at t).2.2.2).trans (Value.flushed2 m c t)) (ix2 r s)
  rw [View.read_apply, out_eq] at hw
  exact hw.trans ((rows_part _ _ _ _ _ _ _ _ r s (z_at m c t r) (w_at m c t s)).trans (sum_first 2048 fun k => at2 (Z m c) _ k * at2 (W m c) _ k))

/-- The call's result is the product. -/
theorem result : (dats m 0 c).arrAt 2 cfg0.N = Cert.RefDownDxIdeal.Read.val_main_v4 (F := Ideal) (Z m c) (W m c) := funext fun i =>
  (of_blocks 8 11 1040 512 (val := fun x y => ∑ k : Fin 2048, at2 (Z m c) x k.val * at2 (W m c) y k.val)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 512 + (y 1).val) (idx_at t).2.2.1.2)) (block_at m c) i).trans
  ((Finset.sum_congr rfl fun k _ => congrArg₂ (· * ·) (at2_of (Z m c) (Cert.RefDownDxIdeal.Read.lidx_main_v4 i k) _ _ rfl rfl).symm
    (at2_of (W m c) (Cert.RefDownDxIdeal.Read.ridx_main_v4 i k) _ _ rfl rfl).symm).trans (Cert.RefDownDxIdeal.Read.val_main_v4_apply (Z m c) (W m c) i).symm)

end Cert.DownDxIdeal.Val

end
-- ==== Proof.DownDw.lean ====
/-
  The gradient of the down projection's weights: the blocked product over the rows of the activations and of the gradients,
  added up over five parts of the rows.
-/
module

public import proofs.«01_k».proof.Proof.Product
public import proofs.«01_k».proof.Proof.Gen.DownDwIdeal.Value
public import proofs.«01_k».proof.Proof.Gen.RefDownDwIdeal.Read
public import Idealize.ShloMosaic.Lib.WritesUnit
public import Idealize.ShloMosaic.Lib.Tactic

@[expose] public section

noncomputable section

namespace Cert.DownDwIdeal.Val

open Cert.Product Cert.DownDwIdeal Cert.DownDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x512 .bf16) (harg3 : arg3.IsWhole) (arg4 : Memref sig .tc .vmem S1664x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec Ideal S1664x512 .bf16) (x1 : Vec Ideal S1664x1024 .bf16) (xs0 : Vec Ideal S512x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S512x1024) hz]
  simp only [View.readAt_eq_ld, harg3.read_unread, harg4.read_unread, View.ld_unit_zero (S := S1664x512) hz, View.ld_unit_zero (S := S1664x1024) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S512x1024) hz]
  simp only [View.readAt_eq_ld, harg3.read_unread, harg4.read_unread, harg6.read_unread, View.ld_unit_zero (S := S1664x512) hz, View.ld_unit_zero (S := S1664x1024) hz, View.ld_unit_zero (S := S512x1024) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S512x1024) hz, View.readCov_unit_zero (S := S512x1024) _ hz]
  simp only [View.readAt_eq_ld, harg3.read_unread, harg4.read_unread, harg6.read_unread, View.ld_unit_zero (S := S1664x512) hz, View.ld_unit_zero (S := S1664x1024) hz, View.ld_unit_zero (S := S512x1024) hz]
  exact congrArg k0_pay4 (shapeCast_self ..)

end

variable (m : (ℓ : Loc nD τ sig) → Buf (Elt Ideal) ℓ) (c : Dev nD)

/-- The two arrays the call reads. -/
abbrev A : FVec Ideal S8320x5632 .bf16 := m ((c : Thread nD τ).loc main_arg0)
abbrev Z : FVec Ideal S8320x2048 .bf16 := m ((c : Thread nD τ).loc main_arg1)

/-- Which block of each array a point reads. -/
theorem idx_at : ∀ t : Fin cfg0.N, (win0_0.index t 0 = t.val % 5 ∧ win0_0.index t 1 = t.val / 5 / 2)
    ∧ (win0_1.index t 0 = t.val % 5 ∧ win0_1.index t 1 = t.val / 5 % 2) :=
  (by decide +kernel : ∀ t : Fin grid0.N, _)

theorem a_at (t : Fin cfg0.N) (k : Fin 1664) (r : Fin 512) :
    iblk m c 0 t (ix2 k r) = at2 (A m c) (t.val % 5 * 1664 + k.val) (t.val / 5 / 2 * 512 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 1024) :
    iblk m c 1 t (ix2 k s) = at2 (Z m c) (t.val % 5 * 1664 + k.val) (t.val / 5 % 2 * 1024 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefDownDwIdeal.Read.val_main_v6 (F := Ideal) (A m c) (Z m c) := funext fun i => by
  refine (accumulated 5 11 2 512 1024 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (2 * ((i 0).val / 512) + (i 1).val / 1024) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefDownDwIdeal.Read.val_main_v6_apply, Cert.RefDownDwIdeal.Read.val_main_v5_apply, Cert.RefDownDwIdeal.Read.val_main_v4_apply]
    exact Finset.sum_congr rfl fun k _ => (mul_comm _ _).trans (congrArg₂ (· * ·)
      (at2_of (Z m c) (Cert.RefDownDwIdeal.Read.lidx_main_v4 (Cert.RefDownDwIdeal.Read.idx_main_v5 i) k) _ _ rfl rfl).symm
      (at2_of (A m c) (Cert.RefDownDwIdeal.Read.ridx_main_v4 (Cert.RefDownDwIdeal.Read.idx_main_v5 i) k) _ _ rfl rfl).symm)

end Cert.DownDwIdeal.Val

end
-- ==== Proof.UpDw.lean ====
/-
  The gradient of the up projection's weights: the blocked product over the rows of the inputs and of one half of the gradients,
  added up over five parts of the rows.
-/
module

public import proofs.«01_k».proof.Proof.Product
public import proofs.«01_k».proof.Proof.Gen.UpDwIdeal.Value
public import proofs.«01_k».proof.Proof.Gen.RefUpDwIdeal.Read
public import Idealize.ShloMosaic.Lib.WritesUnit
public import Idealize.ShloMosaic.Lib.Tactic

@[expose] public section

noncomputable section

namespace Cert.UpDwIdeal.Val

open Cert.Product Cert.UpDwIdeal Cert.UpDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x1024 .bf16) (harg3 : arg3.IsWhole) (arg4 : Memref sig .tc .vmem S1664x512 .bf16) (harg4 : arg4.IsWhole)
  (arg5 : Memref sig .tc .vmem S1024x512 .bf16) (harg5 : arg5.IsWhole) (arg6 : Memref sig .tc .vmem S1024x512 .f32) (harg6 : arg6.IsWhole)
  (x0 : Vec Ideal S1664x1024 .bf16) (x1 : Vec Ideal S1664x512 .bf16) (xs0 : Vec Ideal S1024x512 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x512) hz]
  simp only [View.readAt_eq_ld, harg3.read_unread, harg4.read_unread, View.ld_unit_zero (S := S1664x1024) hz, View.ld_unit_zero (S := S1664x512) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x512) hz]
  simp only [View.readAt_eq_ld, harg3.read_unread, harg4.read_unread, harg6.read_unread, View.ld_unit_zero (S := S1664x1024) hz, View.ld_unit_zero (S := S1664x512) hz, View.ld_unit_zero (S := S1024x512) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x512) hz, View.readCov_unit_zero (S := S1024x512) _ hz]
  simp only [View.readAt_eq_ld, harg3.read_unread, harg4.read_unread, harg6.read_unread, View.ld_unit_zero (S := S1664x1024) hz, View.ld_unit_zero (S := S1664x512) hz, View.ld_unit_zero (S := S1024x512) hz]
  exact congrArg k0_pay4 (shapeCast_self ..)

end

variable (m : (ℓ : Loc nD τ sig) → Buf (Elt Ideal) ℓ) (c : Dev nD)

/-- The two arrays the call reads. -/
abbrev A : FVec Ideal S8320x2048 .bf16 := m ((c : Thread nD τ).loc main_arg0)
abbrev Z : FVec Ideal S8320x5632 .bf16 := m ((c : Thread nD τ).loc main_arg1)

/-- Which block of each array a point reads. -/
theorem idx_at : ∀ t : Fin cfg0.N, (win0_0.index t 0 = t.val % 5 ∧ win0_0.index t 1 = t.val / 5 / 11)
    ∧ (win0_1.index t 0 = t.val % 5 ∧ win0_1.index t 1 = t.val / 5 % 11) :=
  (by decide +kernel : ∀ t : Fin grid0.N, _)

theorem a_at (t : Fin cfg0.N) (k : Fin 1664) (r : Fin 1024) :
    iblk m c 0 t (ix2 k r) = at2 (A m c) (t.val % 5 * 1664 + k.val) (t.val / 5 / 11 * 1024 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 512) :
    iblk m c 1 t (ix2 k s) = at2 (Z m c) (t.val % 5 * 1664 + k.val) (t.val / 5 % 11 * 512 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefUpDwIdeal.Read.val_main_v6 (F := Ideal) (A m c) (Z m c) := funext fun i => by
  refine (accumulated 5 2 11 1024 512 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (11 * ((i 0).val / 1024) + (i 1).val / 512) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefUpDwIdeal.Read.val_main_v6_apply, Cert.RefUpDwIdeal.Read.val_main_v5_apply, Cert.RefUpDwIdeal.Read.val_main_v4_apply]
    exact Finset.sum_congr rfl fun k _ => (mul_comm _ _).trans (congrArg₂ (· * ·)
      (at2_of (Z m c) (Cert.RefUpDwIdeal.Read.lidx_main_v4 (Cert.RefUpDwIdeal.Read.idx_main_v5 i) k) _ _ rfl rfl).symm
      (at2_of (A m c) (Cert.RefUpDwIdeal.Read.ridx_main_v4 (Cert.RefUpDwIdeal.Read.idx_main_v5 i) k) _ _ rfl rfl).symm)

end Cert.UpDwIdeal.Val

end
-- ==== Proof.UpDx.lean ====
/-
  The gradient of the up projection's input: the blocked product of the columns' gradients with the weights' rows, added
  up over four parts of the columns, plus the scaled gradient of the residual.
-/
module

public import proofs.«01_k».proof.Proof.Product
public import proofs.«01_k».proof.Proof.Gen.UpDxIdeal.Value
public import proofs.«01_k».proof.Proof.Gen.RefUpDxIdeal.Read
public import Idealize.ShloMosaic.Lib.WritesUnit
public import Idealize.ShloMosaic.Lib.Tactic

@[expose] public section

noncomputable section

namespace Cert.UpDxIdeal.Val

open Cert.Product Cert.UpDxIdeal Cert.UpDxIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x1408 .bf16) (harg3 : arg3.IsWhole) (arg4 : Memref sig .tc .vmem S1024x1408 .bf16) (harg4 : arg4.IsWhole)
  (arg5 : Memref sig .tc .vmem S1040x1024 .f32) (harg5 : arg5.IsWhole) (arg6 : Memref sig .tc .vmem S1040x1024 .f32) (harg6 : arg6.IsWhole)
  (arg7 : Memref sig .tc .vmem S1040x1024 .f32) (harg7 : arg7.IsWhole)
  (x0 : Vec Ideal S1040x1408 .bf16) (x1 : Vec Ideal S1024x1408 .bf16) (x2 xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S1040x1024) hz]
  simp only [View.readAt_eq_ld, harg3.read_unread, harg4.read_unread, View.ld_unit_zero (S := S1040x1408) hz, View.ld_unit_zero (S := S1024x1408) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 arg7 harg7 hc0 hc1 hc2 x0 x1 x2 xs0 = addf xs0 (k0_pay1 x0 x1) := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero (S := S1040x1024) hz]
  simp only [View.readAt_eq_ld, harg3.read_unread, harg4.read_unread, harg7.read_unread, View.ld_unit_zero (S := S1040x1408) hz, View.ld_unit_zero (S := S1024x1408) hz, View.ld_unit_zero (S := S1040x1024) hz]
  exact shapeCast_self ..

/-- The last part adds to it and the result takes the sum. -/
theorem out_C (hc0 : ¬cond0_0 i) (hc1 : cond0_1 i) (hc2 : cond0_2 i) :
    out0_C_3 c i arg3 harg3 arg4 harg4 arg5 harg5 arg6 harg6 arg7 harg7 hc0 hc1 hc2 x0 x1 x2 xs0
      = k0_pay4 (addf xs0 (k0_pay1 x0 x1)) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero (S := S1040x1024) hz, View.readCov_unit_zero (S := S1040x1024) _ hz]
  simp only [View.readAt_eq_ld, harg3.read_unread, harg4.read_unread, harg5.read_unread, harg7.read_unread, View.ld_unit_zero (S := S1040x1408) hz, View.ld_unit_zero (S := S1024x1408) hz, View.ld_unit_zero (S := S1040x1024) hz]
  exact congrArg (k0_pay4 · x2) (shapeCast_self ..)

end

variable (m : (ℓ : Loc nD τ sig) → Buf (Elt Ideal) ℓ) (c : Dev nD)

/-- The three arrays the call reads. -/
abbrev U : FVec Ideal S8320x5632 .bf16 := m ((c : Thread nD τ).loc main_arg0)
abbrev W : FVec Ideal S2048x5632 .bf16 := m ((c : Thread nD τ).loc main_arg1)
abbrev Z : FVec Ideal S8320x2048 .f32 := m ((c : Thread nD τ).loc main_arg2)

/-- Which block of each array a point reads. -/
theorem idx_at : ∀ t : Fin cfg0.N, (win0_0.index t 0 = t.val / 4 / 2 ∧ win0_0.index t 1 = t.val % 4)
    ∧ (win0_1.index t 0 = t.val / 4 % 2 ∧ win0_1.index t 1 = t.val % 4)
    ∧ (win0_2.index t 0 = t.val / 4 / 2 ∧ win0_2.index t 1 = t.val / 4 % 2) :=
  (by decide +kernel : ∀ t : Fin grid0.N, _)

theorem u_at (t : Fin cfg0.N) (r : Fin 1040) (k : Fin 1408) :
    iblk m c 0 t (ix2 r k) = at2 (U m c) (t.val / 4 / 2 * 1040 + r.val) (t.val % 4 * 1408 + k.val) := by
  unfold iblk
  rw [View.read_apply]
  exact read_at (U m c) _ (win0_0.rect_emb_val t _ 0) (win0_0.rect_emb_val t _ 1) (idx_at t).1.1 (idx_at t).1.2

theorem w_at (t : Fin cfg0.N) (s : Fin 1024) (k : Fin 1408) :
    iblk m c 1 t (ix2 s k) = at2 (W m c) (t.val / 4 % 2 * 1024 + s.val) (t.val % 4 * 1408 + k.val) := by
  unfold iblk
  rw [View.read_apply]
  exact read_at (W m c) _ (win0_1.rect_emb_val t _ 0) (win0_1.rect_emb_val t _ 1) (idx_at t).2.1.1 (idx_at t).2.1.2

theorem z_at (t : Fin cfg0.N) (r : Fin 1040) (s : Fin 1024) :
    iblk m c 2 t (ix2 r s) = at2 (Z m c) (t.val / 4 / 2 * 1040 + r.val) (t.val / 4 % 2 * 1024 + s.val) := by
  unfold iblk
  rw [View.read_apply]
  exact read_at (Z m c) _ (win0_2.rect_emb_val t _ 0) (win0_2.rect_emb_val t _ 1) (idx_at t).2.2.1 (idx_at t).2.2.2

/-- What a point adds. -/
theorem part_at (t : ℕ) (h : t < cfg0.N) (r : Fin 1040) (s : Fin 1024) :
    k0_pay1 (F := Ideal) (iblk m c 0 ⟨t, h⟩) (iblk m c 1 ⟨t, h⟩) (ix2 r s)
      = ∑ k : Fin 1408, at2 (U m c) (t / 4 / 2 * 1040 + r.val) (t % 4 * 1408 + k.val) * at2 (W m c) (t / 4 % 2 * 1024 + s.val) (t % 4 * 1408 + k.val) :=
  rows_part _ _ _ _ _ _ _ _ r s (u_at m c ⟨t, h⟩ r) (w_at m c ⟨t, h⟩ s)

/-- The call's result is the product plus the scaled residual. -/
theorem result : Value.G3 m c = Cert.RefUpDxIdeal.Read.val_main_v7 (F := Ideal) (U m c) (W m c) (Z m c) := funext fun i => by
  refine (accumulated 4 8 2 1040 1024 1408 (out := fun t h => (outsAt0 m c t h).1) (run := fun t h => (outsAt0 m c t h).2)
    (part := fun t h => k0_pay1 (iblk m c 0 ⟨t, h⟩) (iblk m c 1 ⟨t, h⟩)) (f := fun x y k => at2 (U m c) x k * at2 (W m c) y k)
    (post := fun x y v => v + Ideal.ofBits .f32 0x3FD744FD#32 * at2 (Z m c) x y) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    exact congrArg (_ + _ * ·) (z_at m c ⟨t, h⟩ r s)
  · exact part_at m c
  · intro i h
    have hp : Value.pt3Of i = 4 * (2 * ((i 0).val / 1040) + (i 1).val / 1024) + 3 := by dsimp only [Value.pt3Of, Value.run3Of]; omega
    unfold Value.G3
    rw [dif_pos (hp ▸ h), ← Value.outsAt0_sweep m c (Value.pt3Of i) (hp ▸ h)]
    simp only [hp]
    exact congrArg _ (eq_ix2 _)
  · rw [Cert.RefUpDxIdeal.Read.val_main_v7_apply, Cert.RefUpDxIdeal.Read.val_main_v6_apply]
    exact (add_comm _ _).trans (congrArg₂ (· + ·) (congrArg (_ * ·) (at2_of (Z m c) i _ _ rfl rfl).symm)
      (Finset.sum_congr rfl fun k _ => congrArg₂ (· * ·) (at2_of (U m c) (Cert.RefUpDxIdeal.Read.lidx_main_v6 i k) _ _ rfl rfl).symm
        (at2_of (W m c) (Cert.RefUpDxIdeal.Read.ridx_main_v6 i k) _ _ rfl rfl).symm))

end Cert.UpDxIdeal.Val

end
-- ==== Proof.UpDxG.lean ====
/-
  The second half's share of the up projection's input gradient: the blocked product as for the first half, added to the
  gradient the first half's call left.
-/
module

public import proofs.«01_k».proof.Proof.UpDx
public import proofs.«01_k».proof.Proof.Gen.UpDxGIdeal.Value
public import proofs.«01_k».proof.Proof.Gen.RefUpDxGIdeal.Read
public import Idealize.ShloMosaic.Lib.WritesUnit
public import Idealize.ShloMosaic.Lib.IdealHost
public import Idealize.ShloMosaic.Lib.Tactic

@[expose] public section

noncomputable section

namespace Cert.UpDxGIdeal.Val

open Cert.Product Cert.UpDxGIdeal Cert.UpDxGIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x1408 .bf16) (harg3 : arg3.IsWhole) (arg4 : Memref sig .tc .vmem S1024x1408 .bf16) (harg4 : arg4.IsWhole)
  (arg5 : Memref sig .tc .vmem S1040x1024 .f32) (harg5 : arg5.IsWhole) (arg6 : Memref sig .tc .vmem S1040x1024 .f32) (harg6 : arg6.IsWhole)
  (arg7 : Memref sig .tc .vmem S1040x1024 .f32) (harg7 : arg7.IsWhole)
  (x0 : Vec Ideal S1040x1408 .bf16) (x1 : Vec Ideal S1024x1408 .bf16) (x2 xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S1040x1024) hz]
  simp only [View.readAt_eq_ld, harg3.read_unread, harg4.read_unread, View.ld_unit_zero (S := S1040x1408) hz, View.ld_unit_zero (S := S1024x1408) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 arg7 harg7 hc0 hc1 hc2 x0 x1 x2 xs0 = addf xs0 (k0_pay1 x0 x1) := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero (S := S1040x1024) hz]
  simp only [View.readAt_eq_ld, harg3.read_unread, harg4.read_unread, harg7.read_unread, View.ld_unit_zero (S := S1040x1408) hz, View.ld_unit_zero (S := S1024x1408) hz, View.ld_unit_zero (S := S1040x1024) hz]
  exact shapeCast_self ..

/-- The last part adds to it and the result takes the sum. -/
theorem out_C (hc0 : ¬cond0_0 i) (hc1 : cond0_1 i) (hc2 : cond0_2 i) :
    out0_C_3 c i arg3 harg3 arg4 harg4 arg5 harg5 arg6 harg6 arg7 harg7 hc0 hc1 hc2 x0 x1 x2 xs0
      = k0_pay4 (addf xs0 (k0_pay1 x0 x1)) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero (S := S1040x1024) hz, View.readCov_unit_zero (S := S1040x1024) _ hz]
  simp only [View.readAt_eq_ld, harg3.read_unread, harg4.read_unread, harg5.read_unread, harg7.read_unread, View.ld_unit_zero (S := S1040x1408) hz, View.ld_unit_zero (S := S1024x1408) hz, View.ld_unit_zero (S := S1040x1024) hz]
  exact congrArg (k0_pay4 · x2) (shapeCast_self ..)

end

variable (m : (ℓ : Loc nD τ sig) → Buf (Elt Ideal) ℓ) (c : Dev nD)

/-- The three arrays the call reads. -/
abbrev U : FVec Ideal S8320x5632 .bf16 := m ((c : Thread nD τ).loc main_arg0)
abbrev W : FVec Ideal S2048x5632 .bf16 := m ((c : Thread nD τ).loc main_arg1)
abbrev Z : FVec Ideal S8320x2048 .f32 := m ((c : Thread nD τ).loc main_arg2)

theorem z_at (t : Fin cfg0.N) (r : Fin 1040) (s : Fin 1024) :
    iblk m c 2 t (ix2 r s) = at2 (Z m c) (t.val / 4 / 2 * 1040 + r.val) (t.val / 4 % 2 * 1024 + s.val) :=
  Cert.UpDxIdeal.Val.z_at m c t r s

/-- The call's result is the product added to what it is given. -/
theorem result : Value.G3 m c = Cert.RefUpDxGIdeal.Read.val_main_v5 (F := Ideal) (U m c) (W m c) (Z m c) := funext fun i => by
  refine (accumulated 4 8 2 1040 1024 1408 (out := fun t h => (outsAt0 m c t h).1) (run := fun t h => (outsAt0 m c t h).2)
    (part := fun t h => k0_pay1 (iblk m c 0 ⟨t, h⟩) (iblk m c 1 ⟨t, h⟩)) (f := fun x y k => at2 (U m c) x k * at2 (W m c) y k)
    (post := fun x y v => v + Ideal.ofBits .f32 0x3F800000#32 * at2 (Z m c) x y) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    exact congrArg (_ + _ * ·) (z_at m c ⟨t, h⟩ r s)
  · exact Cert.UpDxIdeal.Val.part_at m c
  · intro i h
    have hp : Value.pt3Of i = 4 * (2 * ((i 0).val / 1040) + (i 1).val / 1024) + 3 := by dsimp only [Value.pt3Of, Value.run3Of]; omega
    unfold Value.G3
    rw [dif_pos (hp ▸ h), ← Value.outsAt0_sweep m c (Value.pt3Of i) (hp ▸ h)]
    simp only [hp]
    exact congrArg _ (eq_ix2 _)
  · rw [Cert.RefUpDxGIdeal.Read.val_main_v5_apply, Cert.RefUpDxGIdeal.Read.val_main_v4_apply]
    dsimp only
    rw [Ideal.ofBits_one_f32, one_mul]
    exact (add_comm _ _).trans (congrArg₂ (· + ·) (at2_of (Z m c) i _ _ rfl rfl).symm
      (Finset.sum_congr rfl fun k _ => congrArg₂ (· * ·) (at2_of (U m c) (Cert.RefUpDxGIdeal.Read.lidx_main_v4 i k) _ _ rfl rfl).symm
        (at2_of (W m c) (Cert.RefUpDxGIdeal.Read.ridx_main_v4 i k) _ _ rfl rfl).symm))

end Cert.UpDxGIdeal.Val

end
-- ==== Proof.Up.lean ====
/-
  One half of the up projection: the blocked product of the inputs' rows with the weights' columns, each block in one step.
-/
module

public import proofs.«01_k».proof.Proof.Product
public import proofs.«01_k».proof.Proof.Gen.UpIdeal.Value
public import proofs.«01_k».proof.Proof.Gen.RefUpIdeal.Read
public import Idealize.ShloMosaic.Lib.WritesUnit

@[expose] public section

noncomputable section

namespace Cert.UpIdeal.Val

open Cert.Product Cert.UpIdeal Cert.UpIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x512 .bf16) : out0_2 x0 x1 = k0_pay1 x0 x1 := by
  unfold out0_2
  rw [View.canon_unit_zero (S := S1040x512) hz]
  simp only [View.ld_unit_zero (S := S1040x2048) hz, View.ld_unit_zero (S := S2048x512) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x5632 .bf16 := m ((c : Thread nD τ).loc main_arg1)

/-- Which block of each array a point reads and writes; every point writes its own. -/
theorem idx_at : ∀ t : Fin cfg0.N, (win0_0.index t 0 = t.val / 11 ∧ win0_0.index t 1 = 0)
    ∧ (win0_1.index t 0 = 0 ∧ win0_1.index t 1 = t.val % 11) ∧ (win0_2.index t 0 = t.val / 11 ∧ win0_2.index t 1 = t.val % 11)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 11 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 512) :
    iblk m c 1 t (ix2 k s) = at2 (W m c) (0 * 2048 + k.val) (t.val % 11 * 512 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 512) :
    (dats m 0 c).arrAt 2 cfg0.N (((cfg0.win 2).blk t).view.emb (ix2 r s))
      = ∑ k : Fin 2048, at2 (X m c) (t.val / 11 * 1040 + r.val) k.val * at2 (W m c) k.val (t.val % 11 * 512 + s.val) := by
  have hw := congrFun ((Value.blocks2 m c t (idx_at t).2.2.2).trans (Value.flushed2 m c t)) (ix2 r s)
  rw [View.read_apply, out_eq] at hw
  exact hw.trans ((plain_part _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefUpIdeal.Read.val_main_v2 (F := Ideal) (X m c) (W m c) := funext fun i =>
  (of_blocks 8 11 1040 512 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 512 + (y 1).val) (idx_at t).2.2.1.2)) (block_at m c) i).trans
  ((Finset.sum_congr rfl fun k _ => congrArg₂ (· * ·) (at2_of (X m c) (Cert.RefUpIdeal.Read.lidx_main_v2 i k) _ _ rfl rfl).symm
    (at2_of (W m c) (Cert.RefUpIdeal.Read.ridx_main_v2 i k) _ _ rfl rfl).symm).trans (Cert.RefUpIdeal.Read.val_main_v2_apply (X m c) (W m c) i).symm)

end Cert.UpIdeal.Val

end
-- ==== Proof.Down.lean ====
/-
  The down projection: the blocked product of the activations' rows with the weights' columns, added up over four parts of
  the activations' columns.
-/
module

public import proofs.«01_k».proof.Proof.Product
public import proofs.«01_k».proof.Proof.Gen.DownIdeal.Value
public import proofs.«01_k».proof.Proof.Gen.RefDownIdeal.Read
public import Idealize.ShloMosaic.Lib.WritesUnit
public import Idealize.ShloMosaic.Lib.Tactic

@[expose] public section

noncomputable section

namespace Cert.DownIdeal.Val

open Cert.Product Cert.DownIdeal Cert.DownIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x1408 .bf16) (harg3 : arg3.IsWhole) (arg4 : Memref sig .tc .vmem S1408x1024 .bf16) (harg4 : arg4.IsWhole)
  (arg5 : Memref sig .tc .vmem S1040x1024 .f32) (harg5 : arg5.IsWhole) (arg6 : Memref sig .tc .vmem S1040x1024 .f32) (harg6 : arg6.IsWhole)
  (x0 : Vec Ideal S1040x1408 .bf16) (x1 : Vec Ideal S1408x1024 .bf16) (xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1040x1024) hz]
  simp only [View.readAt_eq_ld, harg3.read_unread, harg4.read_unread, View.ld_unit_zero (S := S1040x1408) hz, View.ld_unit_zero (S := S1408x1024) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1040x1024) hz]
  simp only [View.readAt_eq_ld, harg3.read_unread, harg4.read_unread, harg6.read_unread, View.ld_unit_zero (S := S1040x1408) hz, View.ld_unit_zero (S := S1408x1024) hz, View.ld_unit_zero (S := S1040x1024) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0
      = addf xs0 (k0_pay1 x0 x1) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1040x1024) hz, View.readCov_unit_zero (S := S1040x1024) _ hz]
  simp only [View.readAt_eq_ld, harg3.read_unread, harg4.read_unread, harg6.read_unread, View.ld_unit_zero (S := S1040x1408) hz, View.ld_unit_zero (S := S1408x1024) hz, View.ld_unit_zero (S := S1040x1024) hz]
  exact shapeCast_self ..

end

variable (m : (ℓ : Loc nD τ sig) → Buf (Elt Ideal) ℓ) (c : Dev nD)

/-- The two arrays the call reads. -/
abbrev A : FVec Ideal S8320x5632 .bf16 := m ((c : Thread nD τ).loc main_arg0)
abbrev W : FVec Ideal S5632x2048 .bf16 := m ((c : Thread nD τ).loc main_arg1)

/-- Which block of each array a point reads. -/
theorem idx_at : ∀ t : Fin cfg0.N, (win0_0.index t 0 = t.val / 4 / 2 ∧ win0_0.index t 1 = t.val % 4)
    ∧ (win0_1.index t 0 = t.val % 4 ∧ win0_1.index t 1 = t.val / 4 % 2) :=
  (by decide +kernel : ∀ t : Fin grid0.N, _)

theorem a_at (t : Fin cfg0.N) (r : Fin 1040) (k : Fin 1408) :
    iblk m c 0 t (ix2 r k) = at2 (A m c) (t.val / 4 / 2 * 1040 + r.val) (t.val % 4 * 1408 + k.val) := by
  unfold iblk
  rw [View.read_apply]
  exact read_at (A m c) _ (win0_0.rect_emb_val t _ 0) (win0_0.rect_emb_val t _ 1) (idx_at t).1.1 (idx_at t).1.2

theorem w_at (t : Fin cfg0.N) (k : Fin 1408) (s : Fin 1024) :
    iblk m c 1 t (ix2 k s) = at2 (W m c) (t.val % 4 * 1408 + k.val) (t.val / 4 % 2 * 1024 + s.val) := by
  unfold iblk
  rw [View.read_apply]
  exact read_at (W m c) _ (win0_1.rect_emb_val t _ 0) (win0_1.rect_emb_val t _ 1) (idx_at t).2.1 (idx_at t).2.2

/-- The call's result is the product. -/
theorem result : Value.G2 m c = Cert.RefDownIdeal.Read.val_main_v2 (F := Ideal) (A m c) (W m c) := funext fun i => by
  refine (accumulated 4 8 2 1040 1024 1408 (out := fun t h => (outsAt0 m c t h).1) (run := fun t h => (outsAt0 m c t h).2)
    (part := fun t h => k0_pay1 (iblk m c 0 ⟨t, h⟩) (iblk m c 1 ⟨t, h⟩)) (f := fun x y k => at2 (A m c) x k * at2 (W m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => plain_part _ _ _ _ _ _ _ _ r s (a_at m c ⟨t, h⟩ r) (fun k => w_at m c ⟨t, h⟩ k s)
  · intro i h
    have hp : Value.pt2Of i = 4 * (2 * ((i 0).val / 1040) + (i 1).val / 1024) + 3 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefDownIdeal.Read.val_main_v2_apply]
    exact Finset.sum_congr rfl fun k _ => congrArg₂ (· * ·) (at2_of (A m c) (Cert.RefDownIdeal.Read.lidx_main_v2 i k) _ _ rfl rfl).symm
      (at2_of (W m c) (Cert.RefDownIdeal.Read.ridx_main_v2 i k) _ _ rfl rfl).symm

end Cert.DownIdeal.Val

end
-- ==== Proof.Out.lean ====
/-
  The mixers' output projection: the blocked product of the inputs' rows with the weights' columns, each block in one step.
-/
module

public import proofs.«01_k».proof.Proof.Product
public import proofs.«01_k».proof.Proof.Gen.OutIdeal.Value
public import proofs.«01_k».proof.Proof.Gen.RefOutIdeal.Read
public import Idealize.ShloMosaic.Lib.WritesUnit

@[expose] public section

noncomputable section

namespace Cert.OutIdeal.Val

open Cert.Product Cert.OutIdeal Cert.OutIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x1024 .bf16) : out0_2 x0 x1 = k0_pay1 x0 x1 := by
  unfold out0_2
  rw [View.canon_unit_zero (S := S1040x1024) hz]
  simp only [View.ld_unit_zero (S := S1040x2048) hz, View.ld_unit_zero (S := S2048x1024) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x2048 .bf16 := m ((c : Thread nD τ).loc main_arg1)

/-- Which block of each array a point reads and writes; every point writes its own. -/
theorem idx_at : ∀ t : Fin cfg0.N, (win0_0.index t 0 = t.val / 2 ∧ win0_0.index t 1 = 0)
    ∧ (win0_1.index t 0 = 0 ∧ win0_1.index t 1 = t.val % 2) ∧ (win0_2.index t 0 = t.val / 2 ∧ win0_2.index t 1 = t.val % 2)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 2 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 1024) :
    iblk m c 1 t (ix2 k s) = at2 (W m c) (0 * 2048 + k.val) (t.val % 2 * 1024 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 1024) :
    (dats m 0 c).arrAt 2 cfg0.N (((cfg0.win 2).blk t).view.emb (ix2 r s))
      = ∑ k : Fin 2048, at2 (X m c) (t.val / 2 * 1040 + r.val) k.val * at2 (W m c) k.val (t.val % 2 * 1024 + s.val) := by
  have hw := congrFun ((Value.blocks2 m c t (idx_at t).2.2.2).trans (Value.flushed2 m c t)) (ix2 r s)
  rw [View.read_apply, out_eq] at hw
  exact hw.trans ((plain_part _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefOutIdeal.Read.val_main_v2 (F := Ideal) (X m c) (W m c) := funext fun i =>
  (of_blocks 8 2 1040 1024 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 1024 + (y 1).val) (idx_at t).2.2.1.2)) (block_at m c) i).trans
  ((Finset.sum_congr rfl fun k _ => congrArg₂ (· * ·) (at2_of (X m c) (Cert.RefOutIdeal.Read.lidx_main_v2 i k) _ _ rfl rfl).symm
    (at2_of (W m c) (Cert.RefOutIdeal.Read.ridx_main_v2 i k) _ _ rfl rfl).symm).trans (Cert.RefOutIdeal.Read.val_main_v2_apply (X m c) (W m c) i).symm)

end Cert.OutIdeal.Val

end
-- ==== Proof.OutDx.lean ====
/-
  The gradient of the mixers' output projection's input: the blocked product of the gradients' rows with the weights' rows,
  each block in one step.
-/
module

public import proofs.«01_k».proof.Proof.Product
public import proofs.«01_k».proof.Proof.Gen.OutDxIdeal.Value
public import proofs.«01_k».proof.Proof.Gen.RefOutDxIdeal.Read
public import Idealize.ShloMosaic.Lib.WritesUnit

@[expose] public section

noncomputable section

namespace Cert.OutDxIdeal.Val

open Cert.Product Cert.OutDxIdeal Cert.OutDxIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S1024x2048 .bf16) : out0_2 x0 x1 = k0_pay1 x0 x1 := by
  unfold out0_2
  rw [View.canon_unit_zero (S := S1040x1024) hz]
  simp only [View.ld_unit_zero (S := S1040x2048) hz, View.ld_unit_zero (S := S1024x2048) hz]

variable (m : (ℓ : Loc nD τ sig) → Buf (Elt Ideal) ℓ) (c : Dev nD)

/-- The two arrays the call reads. -/
abbrev Z : FVec Ideal S8320x2048 .bf16 := m ((c : Thread nD τ).loc main_arg0)
abbrev W : FVec Ideal S2048x2048 .bf16 := m ((c : Thread nD τ).loc main_arg1)

/-- Which block of each array a point reads and writes; every point writes its own. -/
theorem idx_at : ∀ t : Fin cfg0.N, (win0_0.index t 0 = t.val / 2 ∧ win0_0.index t 1 = 0)
    ∧ (win0_1.index t 0 = t.val % 2 ∧ win0_1.index t 1 = 0) ∧ (win0_2.index t 0 = t.val / 2 ∧ win0_2.index t 1 = t.val % 2)
    ∧ (cfg0.win 2).flush t = true :=
  (by decide +kernel : ∀ t : Fin grid0.N, _)

theorem z_at (t : Fin cfg0.N) (r : Fin 1040) (k : Fin 2048) :
    iblk m c 0 t (ix2 r k) = at2 (Z m c) (t.val / 2 * 1040 + r.val) (0 * 2048 + k.val) := by
  unfold iblk
  rw [View.read_apply]
  exact read_at (Z m c) _ (win0_0.rect_emb_val t _ 0) (win0_0.rect_emb_val t _ 1) (idx_at t).1.1 (idx_at t).1.2

theorem w_at (t : Fin cfg0.N) (s : Fin 1024) (k : Fin 2048) :
    iblk m c 1 t (ix2 s k) = at2 (W m c) (t.val % 2 * 1024 + s.val) (0 * 2048 + k.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 1024) :
    (dats m 0 c).arrAt 2 cfg0.N (((cfg0.win 2).blk t).view.emb (ix2 r s))
      = ∑ k : Fin 2048, at2 (Z m c) (t.val / 2 * 1040 + r.val) k.val * at2 (W m c) (t.val % 2 * 1024 + s.val) k.val := by
  have hw := congrFun ((Value.blocks2 m c t (idx_at t).2.2.2).trans (Value.flushed2 m c t)) (ix2 r s)
  rw [View.read_apply, out_eq] at hw
  exact hw.trans ((rows_part _ _ _ _ _ _ _ _ r s (z_at m c t r) (w_at m c t s)).trans (sum_first 2048 fun k => at2 (Z m c) _ k * at2 (W m c) _ k))

/-- The call's result is the product. -/
theorem result : (dats m 0 c).arrAt 2 cfg0.N = Cert.RefOutDxIdeal.Read.val_main_v4 (F := Ideal) (Z m c) (W m c) := funext fun i =>
  (of_blocks 8 2 1040 1024 (val := fun x y => ∑ k : Fin 2048, at2 (Z m c) x k.val * at2 (W m c) y k.val)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 1024 + (y 1).val) (idx_at t).2.2.1.2)) (block_at m c) i).trans
  ((Finset.sum_congr rfl fun k _ => congrArg₂ (· * ·) (at2_of (Z m c) (Cert.RefOutDxIdeal.Read.lidx_main_v4 i k) _ _ rfl rfl).symm
    (at2_of (W m c) (Cert.RefOutDxIdeal.Read.ridx_main_v4 i k) _ _ rfl rfl).symm).trans (Cert.RefOutDxIdeal.Read.val_main_v4_apply (Z m c) (W m c) i).symm)

end Cert.OutDxIdeal.Val

end
-- ==== Proof.OutDw.lean ====
/-
  The gradient of the mixers' output projection's weights: the blocked product over the rows of the inputs and of the
  gradients, added up over five parts of the rows.
-/
module

public import proofs.«01_k».proof.Proof.Product
public import proofs.«01_k».proof.Proof.Gen.OutDwIdeal.Value
public import proofs.«01_k».proof.Proof.Gen.RefOutDwIdeal.Read
public import Idealize.ShloMosaic.Lib.WritesUnit
public import Idealize.ShloMosaic.Lib.Tactic

@[expose] public section

noncomputable section

namespace Cert.OutDwIdeal.Val

open Cert.Product Cert.OutDwIdeal Cert.OutDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x1024 .bf16) (harg3 : arg3.IsWhole) (arg4 : Memref sig .tc .vmem S1664x1024 .bf16) (harg4 : arg4.IsWhole)
  (arg5 : Memref sig .tc .vmem S1024x1024 .bf16) (harg5 : arg5.IsWhole) (arg6 : Memref sig .tc .vmem S1024x1024 .f32) (harg6 : arg6.IsWhole)
  (x0 x1 : Vec Ideal S1664x1024 .bf16) (xs0 : Vec Ideal S1024x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz]
  simp only [View.readAt_eq_ld, harg3.read_unread, harg4.read_unread, View.ld_unit_zero (S := S1664x1024) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x1024) hz]
  simp only [View.readAt_eq_ld, harg3.read_unread, harg4.read_unread, harg6.read_unread, View.ld_unit_zero (S := S1664x1024) hz, View.ld_unit_zero (S := S1024x1024) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1664x1024) hz, View.ld_unit_zero (S := S1024x1024) hz]
  exact congrArg k0_pay4 (shapeCast_self ..)

end

variable (m : (ℓ : Loc nD τ sig) → Buf (Elt Ideal) ℓ) (c : Dev nD)

/-- The two arrays the call reads. -/
abbrev A : FVec Ideal S8320x2048 .bf16 := m ((c : Thread nD τ).loc main_arg0)
abbrev Z : FVec Ideal S8320x2048 .bf16 := m ((c : Thread nD τ).loc main_arg1)

/-- Which block of each array a point reads. -/
theorem idx_at : ∀ t : Fin cfg0.N, (win0_0.index t 0 = t.val % 5 ∧ win0_0.index t 1 = t.val / 5 / 2)
    ∧ (win0_1.index t 0 = t.val % 5 ∧ win0_1.index t 1 = t.val / 5 % 2) :=
  (by decide +kernel : ∀ t : Fin grid0.N, _)

theorem a_at (t : Fin cfg0.N) (k : Fin 1664) (r : Fin 1024) :
    iblk m c 0 t (ix2 k r) = at2 (A m c) (t.val % 5 * 1664 + k.val) (t.val / 5 / 2 * 1024 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 1024) :
    iblk m c 1 t (ix2 k s) = at2 (Z m c) (t.val % 5 * 1664 + k.val) (t.val / 5 % 2 * 1024 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefOutDwIdeal.Read.val_main_v6 (F := Ideal) (A m c) (Z m c) := funext fun i => by
  refine (accumulated 5 2 2 1024 1024 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (2 * ((i 0).val / 1024) + (i 1).val / 1024) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefOutDwIdeal.Read.val_main_v6_apply, Cert.RefOutDwIdeal.Read.val_main_v5_apply, Cert.RefOutDwIdeal.Read.val_main_v4_apply]
    exact Finset.sum_congr rfl fun k _ => (mul_comm _ _).trans (congrArg₂ (· * ·)
      (at2_of (Z m c) (Cert.RefOutDwIdeal.Read.lidx_main_v4 (Cert.RefOutDwIdeal.Read.idx_main_v5 i) k) _ _ rfl rfl).symm
      (at2_of (A m c) (Cert.RefOutDwIdeal.Read.ridx_main_v4 (Cert.RefOutDwIdeal.Read.idx_main_v5 i) k) _ _ rfl rfl).symm)

end Cert.OutDwIdeal.Val

end
-- ==== Proof.FoxIn.lean ====
/-
  The attention mixer's input projection: the blocked product of the inputs' rows with the weights' columns, each block in
  one step.
-/
module

public import proofs.«01_k».proof.Proof.Product
public import proofs.«01_k».proof.Proof.Gen.FoxInIdeal.Value
public import proofs.«01_k».proof.Proof.Gen.RefFoxInIdeal.Read
public import Idealize.ShloMosaic.Lib.WritesUnit

@[expose] public section

noncomputable section

namespace Cert.FoxInIdeal.Val

open Cert.Product Cert.FoxInIdeal Cert.FoxInIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x1024 .bf16) : out0_2 x0 x1 = k0_pay1 x0 x1 := by
  unfold out0_2
  rw [View.canon_unit_zero (S := S1040x1024) hz]
  simp only [View.ld_unit_zero (S := S1040x2048) hz, View.ld_unit_zero (S := S2048x1024) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x4096 .bf16 := m ((c : Thread nD τ).loc main_arg1)

/-- Which block of each array a point reads and writes; every point writes its own. -/
theorem idx_at : ∀ t : Fin cfg0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 4 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 1024) :
    iblk m c 1 t (ix2 k s) = at2 (W m c) (0 * 2048 + k.val) (t.val % 4 * 1024 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 1024) :
    (dats m 0 c).arrAt 2 cfg0.N (((cfg0.win 2).blk t).view.emb (ix2 r s))
      = ∑ k : Fin 2048, at2 (X m c) (t.val / 4 * 1040 + r.val) k.val * at2 (W m c) k.val (t.val % 4 * 1024 + s.val) := by
  have hw := congrFun ((Value.blocks2 m c t (idx_at t).2.2.2).trans (Value.flushed2 m c t)) (ix2 r s)
  rw [View.read_apply, out_eq] at hw
  exact hw.trans ((plain_part _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefFoxInIdeal.Read.val_main_v2 (F := Ideal) (X m c) (W m c) := funext fun i =>
  (of_blocks 8 4 1040 1024 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 1024 + (y 1).val) (idx_at t).2.2.1.2)) (block_at m c) i).trans
  ((Finset.sum_congr rfl fun k _ => congrArg₂ (· * ·) (at2_of (X m c) (Cert.RefFoxInIdeal.Read.lidx_main_v2 i k) _ _ rfl rfl).symm
    (at2_of (W m c) (Cert.RefFoxInIdeal.Read.ridx_main_v2 i k) _ _ rfl rfl).symm).trans (Cert.RefFoxInIdeal.Read.val_main_v2_apply (X m c) (W m c) i).symm)

end Cert.FoxInIdeal.Val

end
-- ==== Proof.FoxInDw.lean ====
/-
  The gradient of the attention mixer's input projection's weights: the blocked product over the rows of the inputs and of
  the gradients, added up over five parts of the rows.
-/
module

public import proofs.«01_k».proof.Proof.Product
public import proofs.«01_k».proof.Proof.Gen.FoxInDwIdeal.Value
public import proofs.«01_k».proof.Proof.Gen.RefFoxInDwIdeal.Read
public import Idealize.ShloMosaic.Lib.WritesUnit
public import Idealize.ShloMosaic.Lib.Tactic

@[expose] public section

noncomputable section

namespace Cert.FoxInDwIdeal.Val

open Cert.Product Cert.FoxInDwIdeal Cert.FoxInDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x1024 .bf16) (harg3 : arg3.IsWhole) (arg4 : Memref sig .tc .vmem S1664x1024 .bf16) (harg4 : arg4.IsWhole)
  (arg5 : Memref sig .tc .vmem S1024x1024 .bf16) (harg5 : arg5.IsWhole) (arg6 : Memref sig .tc .vmem S1024x1024 .f32) (harg6 : arg6.IsWhole)
  (x0 x1 : Vec Ideal S1664x1024 .bf16) (xs0 : Vec Ideal S1024x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz]
  simp only [View.readAt_eq_ld, harg3.read_unread, harg4.read_unread, View.ld_unit_zero (S := S1664x1024) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x1024) hz]
  simp only [View.readAt_eq_ld, harg3.read_unread, harg4.read_unread, harg6.read_unread, View.ld_unit_zero (S := S1664x1024) hz, View.ld_unit_zero (S := S1024x1024) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1664x1024) hz, View.ld_unit_zero (S := S1024x1024) hz]
  exact congrArg k0_pay4 (shapeCast_self ..)

end

variable (m : (ℓ : Loc nD τ sig) → Buf (Elt Ideal) ℓ) (c : Dev nD)

/-- The two arrays the call reads. -/
abbrev A : FVec Ideal S8320x2048 .bf16 := m ((c : Thread nD τ).loc main_arg0)
abbrev Z : FVec Ideal S8320x4096 .bf16 := m ((c : Thread nD τ).loc main_arg1)

/-- Which block of each array a point reads. -/
theorem idx_at : ∀ t : Fin cfg0.N, (win0_0.index t 0 = t.val % 5 ∧ win0_0.index t 1 = t.val / 5 / 4)
    ∧ (win0_1.index t 0 = t.val % 5 ∧ win0_1.index t 1 = t.val / 5 % 4) :=
  (by decide +kernel : ∀ t : Fin grid0.N, _)

theorem a_at (t : Fin cfg0.N) (k : Fin 1664) (r : Fin 1024) :
    iblk m c 0 t (ix2 k r) = at2 (A m c) (t.val % 5 * 1664 + k.val) (t.val / 5 / 4 * 1024 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 1024) :
    iblk m c 1 t (ix2 k s) = at2 (Z m c) (t.val % 5 * 1664 + k.val) (t.val / 5 % 4 * 1024 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefFoxInDwIdeal.Read.val_main_v6 (F := Ideal) (A m c) (Z m c) := funext fun i => by
  refine (accumulated 5 2 4 1024 1024 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (4 * ((i 0).val / 1024) + (i 1).val / 1024) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefFoxInDwIdeal.Read.val_main_v6_apply, Cert.RefFoxInDwIdeal.Read.val_main_v5_apply, Cert.RefFoxInDwIdeal.Read.val_main_v4_apply]
    exact Finset.sum_congr rfl fun k _ => (mul_comm _ _).trans (congrArg₂ (· * ·)
      (at2_of (Z m c) (Cert.RefFoxInDwIdeal.Read.lidx_main_v4 (Cert.RefFoxInDwIdeal.Read.idx_main_v5 i) k) _ _ rfl rfl).symm
      (at2_of (A m c) (Cert.RefFoxInDwIdeal.Read.ridx_main_v4 (Cert.RefFoxInDwIdeal.Read.idx_main_v5 i) k) _ _ rfl rfl).symm)

end Cert.FoxInDwIdeal.Val

end
-- ==== Proof.FoxInDx.lean ====
/-
  The gradient of the attention mixer's input projection's input: the blocked product of the gradients' rows with the
  weights' rows in two parts, and the scaled residual gradient added at the end.
-/
module

public import proofs.«01_k».proof.Proof.Product
public import proofs.«01_k».proof.Proof.Gen.FoxInDxIdeal.Value
public import proofs.«01_k».proof.Proof.Gen.RefFoxInDxIdeal.Read
public import Idealize.ShloMosaic.Lib.WritesUnit
public import Idealize.ShloMosaic.Lib.Tactic

@[expose] public section

noncomputable section

namespace Cert.FoxInDxIdeal.Val

open Cert.Product Cert.FoxInDxIdeal Cert.FoxInDxIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x2048 .bf16) (harg3 : arg3.IsWhole) (arg4 : Memref sig .tc .vmem S1024x2048 .bf16) (harg4 : arg4.IsWhole)
  (arg5 : Memref sig .tc .vmem S1040x1024 .f32) (harg5 : arg5.IsWhole) (arg6 : Memref sig .tc .vmem S1040x1024 .f32) (harg6 : arg6.IsWhole)
  (arg7 : Memref sig .tc .vmem S1040x1024 .f32) (harg7 : arg7.IsWhole)
  (x0 : Vec Ideal S1040x2048 .bf16) (x1 : Vec Ideal S1024x2048 .bf16) (x2 xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S1040x1024) hz]
  simp only [View.readAt_eq_ld, harg3.read_unread, harg4.read_unread, View.ld_unit_zero (S := S1040x2048) hz, View.ld_unit_zero (S := S1024x2048) hz]
  exact shapeCast_self ..

/-- The other part adds to it and the result takes the sum. -/
theorem out_B (hc0 : ¬cond0_0 i) (hc1 : cond0_1 i) (hc2 : cond0_2 i) :
    out0_B_3 c i arg3 harg3 arg4 harg4 arg5 harg5 arg6 harg6 arg7 harg7 hc0 hc1 hc2 x0 x1 x2 xs0
      = k0_pay4 (addf xs0 (k0_pay1 x0 x1)) x2 := by
  unfold out0_B_3
  rw [View.read_writes_eq_canon _ _ _ (cover0_B_3 c i arg3 harg3 arg4 harg4 arg5 harg5 arg6 harg6 arg7 harg7 hc0 hc1 hc2 x0 x1 x2 xs0)]
  unfold kernelRun0_B
  dsimp only
  sl_unfold_words
  rw [View.canon_unit_zero (S := S1040x1024) hz, View.readCov_unit_zero (S := S1040x1024) _ hz]
  simp only [View.readAt_eq_ld, harg3.read_unread, harg4.read_unread, harg5.read_unread, harg7.read_unread, View.ld_unit_zero (S := S1040x2048) hz, View.ld_unit_zero (S := S1024x2048) hz, View.ld_unit_zero (S := S1040x1024) hz]
  exact congrArg (k0_pay4 · x2) (shapeCast_self ..)

end

variable (m : (ℓ : Loc nD τ sig) → Buf (Elt Ideal) ℓ) (c : Dev nD)

/-- The three arrays the call reads. -/
abbrev U : FVec Ideal S8320x4096 .bf16 := m ((c : Thread nD τ).loc main_arg0)
abbrev W : FVec Ideal S2048x4096 .bf16 := m ((c : Thread nD τ).loc main_arg1)
abbrev Z : FVec Ideal S8320x2048 .f32 := m ((c : Thread nD τ).loc main_arg2)

/-- Which block of each array a point reads. -/
theorem idx_at : ∀ t : Fin cfg0.N, (win0_0.index t 0 = t.val / 2 / 2 ∧ win0_0.index t 1 = t.val % 2)
    ∧ (win0_1.index t 0 = t.val / 2 % 2 ∧ win0_1.index t 1 = t.val % 2)
    ∧ (win0_2.index t 0 = t.val / 2 / 2 ∧ win0_2.index t 1 = t.val / 2 % 2) :=
  (by decide +kernel : ∀ t : Fin grid0.N, _)

theorem u_at (t : Fin cfg0.N) (r : Fin 1040) (k : Fin 2048) :
    iblk m c 0 t (ix2 r k) = at2 (U m c) (t.val / 2 / 2 * 1040 + r.val) (t.val % 2 * 2048 + k.val) := by
  unfold iblk
  rw [View.read_apply]
  exact read_at (U m c) _ (win0_0.rect_emb_val t _ 0) (win0_0.rect_emb_val t _ 1) (idx_at t).1.1 (idx_at t).1.2

theorem w_at (t : Fin cfg0.N) (s : Fin 1024) (k : Fin 2048) :
    iblk m c 1 t (ix2 s k) = at2 (W m c) (t.val / 2 % 2 * 1024 + s.val) (t.val % 2 * 2048 + k.val) := by
  unfold iblk
  rw [View.read_apply]
  exact read_at (W m c) _ (win0_1.rect_emb_val t _ 0) (win0_1.rect_emb_val t _ 1) (idx_at t).2.1.1 (idx_at t).2.1.2

theorem z_at (t : Fin cfg0.N) (r : Fin 1040) (s : Fin 1024) :
    iblk m c 2 t (ix2 r s) = at2 (Z m c) (t.val / 2 / 2 * 1040 + r.val) (t.val / 2 % 2 * 1024 + s.val) := by
  unfold iblk
  rw [View.read_apply]
  exact read_at (Z m c) _ (win0_2.rect_emb_val t _ 0) (win0_2.rect_emb_val t _ 1) (idx_at t).2.2.1 (idx_at t).2.2.2

/-- The call's result is the product plus the scaled residual. -/
theorem result : Value.G3 m c = Cert.RefFoxInDxIdeal.Read.val_main_v7 (F := Ideal) (U m c) (W m c) (Z m c) := funext fun i => by
  refine (accumulated 2 8 2 1040 1024 2048 (out := fun t h => (outsAt0 m c t h).1) (run := fun t h => (outsAt0 m c t h).2)
    (part := fun t h => k0_pay1 (iblk m c 0 ⟨t, h⟩) (iblk m c 1 ⟨t, h⟩)) (f := fun x y k => at2 (U m c) x k * at2 (W m c) y k)
    (post := fun x y v => v + Ideal.ofBits .f32 0x3FD744FD#32 * at2 (Z m c) x y) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    omega
  · intro t h r s h1
    rw [outsAt0_B m c ⟨t, h⟩ (by dsimp only; omega) h1 h1, out_B]
    exact congrArg (_ + _ * ·) (z_at m c ⟨t, h⟩ r s)
  · exact fun t h r s => rows_part _ _ _ _ _ _ _ _ r s (u_at m c ⟨t, h⟩ r) (w_at m c ⟨t, h⟩ s)
  · intro i h
    have hp : Value.pt3Of i = 2 * (2 * ((i 0).val / 1040) + (i 1).val / 1024) + 1 := by dsimp only [Value.pt3Of, Value.run3Of]; omega
    unfold Value.G3
    rw [dif_pos (hp ▸ h), ← Value.outsAt0_sweep m c (Value.pt3Of i) (hp ▸ h)]
    simp only [hp]
    exact congrArg _ (eq_ix2 _)
  · rw [Cert.RefFoxInDxIdeal.Read.val_main_v7_apply, Cert.RefFoxInDxIdeal.Read.val_main_v6_apply]
    exact (add_comm _ _).trans (congrArg₂ (· + ·) (congrArg (_ * ·) (at2_of (Z m c) i _ _ rfl rfl).symm)
      (Finset.sum_congr rfl fun k _ => congrArg₂ (· * ·) (at2_of (U m c) (Cert.RefFoxInDxIdeal.Read.lidx_main_v6 i k) _ _ rfl rfl).symm
        (at2_of (W m c) (Cert.RefFoxInDxIdeal.Read.ridx_main_v6 i k) _ _ rfl rfl).symm))

end Cert.FoxInDxIdeal.Val

end
-- ==== Proof.GlaIn.lean ====
/-
  The linear mixer's input projection: the blocked product of the inputs' rows with the weights' columns, each block in one
  step.
-/
module

public import proofs.«01_k».proof.Proof.Product
public import proofs.«01_k».proof.Proof.Gen.GlaInIdeal.Value
public import proofs.«01_k».proof.Proof.Gen.RefGlaInIdeal.Read
public import Idealize.ShloMosaic.Lib.WritesUnit

@[expose] public section

noncomputable section

namespace Cert.GlaInIdeal.Val

open Cert.Product Cert.GlaInIdeal Cert.GlaInIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x896 .bf16) : out0_2 x0 x1 = k0_pay1 x0 x1 := by
  unfold out0_2
  rw [View.canon_unit_zero (S := S1040x896) hz]
  simp only [View.ld_unit_zero (S := S1040x2048) hz, View.ld_unit_zero (S := S2048x896) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x6272 .bf16 := m ((c : Thread nD τ).loc main_arg1)

/-- Which block of each array a point reads and writes; every point writes its own. -/
theorem idx_at : ∀ t : Fin cfg0.N, (win0_0.index t 0 = t.val / 7 ∧ win0_0.index t 1 = 0)
    ∧ (win0_1.index t 0 = 0 ∧ win0_1.index t 1 = t.val % 7) ∧ (win0_2.index t 0 = t.val / 7 ∧ win0_2.index t 1 = t.val % 7)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 7 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 896) :
    iblk m c 1 t (ix2 k s) = at2 (W m c) (0 * 2048 + k.val) (t.val % 7 * 896 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 896) :
    (dats m 0 c).arrAt 2 cfg0.N (((cfg0.win 2).blk t).view.emb (ix2 r s))
      = ∑ k : Fin 2048, at2 (X m c) (t.val / 7 * 1040 + r.val) k.val * at2 (W m c) k.val (t.val % 7 * 896 + s.val) := by
  have hw := congrFun ((Value.blocks2 m c t (idx_at t).2.2.2).trans (Value.flushed2 m c t)) (ix2 r s)
  rw [View.read_apply, out_eq] at hw
  exact hw.trans ((plain_part _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefGlaInIdeal.Read.val_main_v2 (F := Ideal) (X m c) (W m c) := funext fun i =>
  (of_blocks 8 7 1040 896 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 896 + (y 1).val) (idx_at t).2.2.1.2)) (block_at m c) i).trans
  ((Finset.sum_congr rfl fun k _ => congrArg₂ (· * ·) (at2_of (X m c) (Cert.RefGlaInIdeal.Read.lidx_main_v2 i k) _ _ rfl rfl).symm
    (at2_of (W m c) (Cert.RefGlaInIdeal.Read.ridx_main_v2 i k) _ _ rfl rfl).symm).trans (Cert.RefGlaInIdeal.Read.val_main_v2_apply (X m c) (W m c) i).symm)

end Cert.GlaInIdeal.Val

end
-- ==== Proof.GlaInDw.lean ====
/-
  The gradient of the linear mixer's input projection's weights: the blocked product over the rows of the inputs and of the
  gradients, added up over five parts of the rows.
-/
module

public import proofs.«01_k».proof.Proof.Product
public import proofs.«01_k».proof.Proof.Gen.GlaInDwIdeal.Value
public import proofs.«01_k».proof.Proof.Gen.RefGlaInDwIdeal.Read
public import Idealize.ShloMosaic.Lib.WritesUnit
public import Idealize.ShloMosaic.Lib.Tactic

@[expose] public section

noncomputable section

namespace Cert.GlaInDwIdeal.Val

open Cert.Product Cert.GlaInDwIdeal Cert.GlaInDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x1024 .bf16) (harg3 : arg3.IsWhole) (arg4 : Memref sig .tc .vmem S1664x896 .bf16) (harg4 : arg4.IsWhole)
  (arg5 : Memref sig .tc .vmem S1024x896 .bf16) (harg5 : arg5.IsWhole) (arg6 : Memref sig .tc .vmem S1024x896 .f32) (harg6 : arg6.IsWhole)
  (x0 : Vec Ideal S1664x1024 .bf16) (x1 : Vec Ideal S1664x896 .bf16) (xs0 : Vec Ideal S1024x896 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x896) hz]
  simp only [View.readAt_eq_ld, harg3.read_unread, harg4.read_unread, View.ld_unit_zero (S := S1664x1024) hz, View.ld_unit_zero (S := S1664x896) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x896) hz]
  simp only [View.readAt_eq_ld, harg3.read_unread, harg4.read_unread, harg6.read_unread, View.ld_unit_zero (S := S1664x1024) hz, View.ld_unit_zero (S := S1664x896) hz, View.ld_unit_zero (S := S1024x896) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x896) hz, View.readCov_unit_zero (S := S1024x896) _ hz]
  simp only [View.readAt_eq_ld, harg3.read_unread, harg4.read_unread, harg6.read_unread, View.ld_unit_zero (S := S1664x1024) hz, View.ld_unit_zero (S := S1664x896) hz, View.ld_unit_zero (S := S1024x896) hz]
  exact congrArg k0_pay4 (shapeCast_self ..)

end

variable (m : (ℓ : Loc nD τ sig) → Buf (Elt Ideal) ℓ) (c : Dev nD)

/-- The two arrays the call reads. -/
abbrev A : FVec Ideal S8320x2048 .bf16 := m ((c : Thread nD τ).loc main_arg0)
abbrev Z : FVec Ideal S8320x6272 .bf16 := m ((c : Thread nD τ).loc main_arg1)

/-- Which block of each array a point reads. -/
theorem idx_at : ∀ t : Fin cfg0.N, (win0_0.index t 0 = t.val % 5 ∧ win0_0.index t 1 = t.val / 5 / 7)
    ∧ (win0_1.index t 0 = t.val % 5 ∧ win0_1.index t 1 = t.val / 5 % 7) :=
  (by decide +kernel : ∀ t : Fin grid0.N, _)

theorem a_at (t : Fin cfg0.N) (k : Fin 1664) (r : Fin 1024) :
    iblk m c 0 t (ix2 k r) = at2 (A m c) (t.val % 5 * 1664 + k.val) (t.val / 5 / 7 * 1024 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 896) :
    iblk m c 1 t (ix2 k s) = at2 (Z m c) (t.val % 5 * 1664 + k.val) (t.val / 5 % 7 * 896 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefGlaInDwIdeal.Read.val_main_v6 (F := Ideal) (A m c) (Z m c) := funext fun i => by
  refine (accumulated 5 2 7 1024 896 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (7 * ((i 0).val / 1024) + (i 1).val / 896) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefGlaInDwIdeal.Read.val_main_v6_apply, Cert.RefGlaInDwIdeal.Read.val_main_v5_apply, Cert.RefGlaInDwIdeal.Read.val_main_v4_apply]
    exact Finset.sum_congr rfl fun k _ => (mul_comm _ _).trans (congrArg₂ (· * ·)
      (at2_of (Z m c) (Cert.RefGlaInDwIdeal.Read.lidx_main_v4 (Cert.RefGlaInDwIdeal.Read.idx_main_v5 i) k) _ _ rfl rfl).symm
      (at2_of (A m c) (Cert.RefGlaInDwIdeal.Read.ridx_main_v4 (Cert.RefGlaInDwIdeal.Read.idx_main_v5 i) k) _ _ rfl rfl).symm)

end Cert.GlaInDwIdeal.Val

end
-- ==== Proof.GlaInDx.lean ====
/-
  The gradient of the linear mixer's input projection's input: the blocked product of the gradients' rows with the weights'
  rows in seven parts, and the scaled residual gradient added at the end.
-/
module

public import proofs.«01_k».proof.Proof.Product
public import proofs.«01_k».proof.Proof.Gen.GlaInDxIdeal.Value
public import proofs.«01_k».proof.Proof.Gen.RefGlaInDxIdeal.Read
public import Idealize.ShloMosaic.Lib.WritesUnit
public import Idealize.ShloMosaic.Lib.Tactic

@[expose] public section

noncomputable section

namespace Cert.GlaInDxIdeal.Val

open Cert.Product Cert.GlaInDxIdeal Cert.GlaInDxIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x896 .bf16) (harg3 : arg3.IsWhole) (arg4 : Memref sig .tc .vmem S1024x896 .bf16) (harg4 : arg4.IsWhole)
  (arg5 : Memref sig .tc .vmem S1040x1024 .f32) (harg5 : arg5.IsWhole) (arg6 : Memref sig .tc .vmem S1040x1024 .f32) (harg6 : arg6.IsWhole)
  (arg7 : Memref sig .tc .vmem S1040x1024 .f32) (harg7 : arg7.IsWhole)
  (x0 : Vec Ideal S1040x896 .bf16) (x1 : Vec Ideal S1024x896 .bf16) (x2 xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S1040x1024) hz]
  simp only [View.readAt_eq_ld, harg3.read_unread, harg4.read_unread, View.ld_unit_zero (S := S1040x896) hz, View.ld_unit_zero (S := S1024x896) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 arg7 harg7 hc0 hc1 hc2 x0 x1 x2 xs0 = addf xs0 (k0_pay1 x0 x1) := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero (S := S1040x1024) hz]
  simp only [View.readAt_eq_ld, harg3.read_unread, harg4.read_unread, harg7.read_unread, View.ld_unit_zero (S := S1040x896) hz, View.ld_unit_zero (S := S1024x896) hz, View.ld_unit_zero (S := S1040x1024) hz]
  exact shapeCast_self ..

/-- The last part adds to it and the result takes the sum. -/
theorem out_C (hc0 : ¬cond0_0 i) (hc1 : cond0_1 i) (hc2 : cond0_2 i) :
    out0_C_3 c i arg3 harg3 arg4 harg4 arg5 harg5 arg6 harg6 arg7 harg7 hc0 hc1 hc2 x0 x1 x2 xs0
      = k0_pay4 (addf xs0 (k0_pay1 x0 x1)) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero (S := S1040x1024) hz, View.readCov_unit_zero (S := S1040x1024) _ hz]
  simp only [View.readAt_eq_ld, harg3.read_unread, harg4.read_unread, harg5.read_unread, harg7.read_unread, View.ld_unit_zero (S := S1040x896) hz, View.ld_unit_zero (S := S1024x896) hz, View.ld_unit_zero (S := S1040x1024) hz]
  exact congrArg (k0_pay4 · x2) (shapeCast_self ..)

end

variable (m : (ℓ : Loc nD τ sig) → Buf (Elt Ideal) ℓ) (c : Dev nD)

/-- The three arrays the call reads. -/
abbrev U : FVec Ideal S8320x6272 .bf16 := m ((c : Thread nD τ).loc main_arg0)
abbrev W : FVec Ideal S2048x6272 .bf16 := m ((c : Thread nD τ).loc main_arg1)
abbrev Z : FVec Ideal S8320x2048 .f32 := m ((c : Thread nD τ).loc main_arg2)

/-- Which block of each array a point reads. -/
theorem idx_at : ∀ t : Fin cfg0.N, (win0_0.index t 0 = t.val / 7 / 2 ∧ win0_0.index t 1 = t.val % 7)
    ∧ (win0_1.index t 0 = t.val / 7 % 2 ∧ win0_1.index t 1 = t.val % 7)
    ∧ (win0_2.index t 0 = t.val / 7 / 2 ∧ win0_2.index t 1 = t.val / 7 % 2) :=
  (by decide +kernel : ∀ t : Fin grid0.N, _)

theorem u_at (t : Fin cfg0.N) (r : Fin 1040) (k : Fin 896) :
    iblk m c 0 t (ix2 r k) = at2 (U m c) (t.val / 7 / 2 * 1040 + r.val) (t.val % 7 * 896 + k.val) := by
  unfold iblk
  rw [View.read_apply]
  exact read_at (U m c) _ (win0_0.rect_emb_val t _ 0) (win0_0.rect_emb_val t _ 1) (idx_at t).1.1 (idx_at t).1.2

theorem w_at (t : Fin cfg0.N) (s : Fin 1024) (k : Fin 896) :
    iblk m c 1 t (ix2 s k) = at2 (W m c) (t.val / 7 % 2 * 1024 + s.val) (t.val % 7 * 896 + k.val) := by
  unfold iblk
  rw [View.read_apply]
  exact read_at (W m c) _ (win0_1.rect_emb_val t _ 0) (win0_1.rect_emb_val t _ 1) (idx_at t).2.1.1 (idx_at t).2.1.2

theorem z_at (t : Fin cfg0.N) (r : Fin 1040) (s : Fin 1024) :
    iblk m c 2 t (ix2 r s) = at2 (Z m c) (t.val / 7 / 2 * 1040 + r.val) (t.val / 7 % 2 * 1024 + s.val) := by
  unfold iblk
  rw [View.read_apply]
  exact read_at (Z m c) _ (win0_2.rect_emb_val t _ 0) (win0_2.rect_emb_val t _ 1) (idx_at t).2.2.1 (idx_at t).2.2.2

/-- The call's result is the product plus the scaled residual. -/
theorem result : Value.G3 m c = Cert.RefGlaInDxIdeal.Read.val_main_v7 (F := Ideal) (U m c) (W m c) (Z m c) := funext fun i => by
  refine (accumulated 7 8 2 1040 1024 896 (out := fun t h => (outsAt0 m c t h).1) (run := fun t h => (outsAt0 m c t h).2)
    (part := fun t h => k0_pay1 (iblk m c 0 ⟨t, h⟩) (iblk m c 1 ⟨t, h⟩)) (f := fun x y k => at2 (U m c) x k * at2 (W m c) y k)
    (post := fun x y v => v + Ideal.ofBits .f32 0x3FD744FD#32 * at2 (Z m c) x y) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    exact congrArg (_ + _ * ·) (z_at m c ⟨t, h⟩ r s)
  · exact fun t h r s => rows_part _ _ _ _ _ _ _ _ r s (u_at m c ⟨t, h⟩ r) (w_at m c ⟨t, h⟩ s)
  · intro i h
    have hp : Value.pt3Of i = 7 * (2 * ((i 0).val / 1040) + (i 1).val / 1024) + 6 := by dsimp only [Value.pt3Of, Value.run3Of]; omega
    unfold Value.G3
    rw [dif_pos (hp ▸ h), ← Value.outsAt0_sweep m c (Value.pt3Of i) (hp ▸ h)]
    simp only [hp]
    exact congrArg _ (eq_ix2 _)
  · rw [Cert.RefGlaInDxIdeal.Read.val_main_v7_apply, Cert.RefGlaInDxIdeal.Read.val_main_v6_apply]
    exact (add_comm _ _).trans (congrArg₂ (· + ·) (congrArg (_ * ·) (at2_of (Z m c) i _ _ rfl rfl).symm)
      (Finset.sum_congr rfl fun k _ => congrArg₂ (· * ·) (at2_of (U m c) (Cert.RefGlaInDxIdeal.Read.lidx_main_v6 i k) _ _ rfl rfl).symm
        (at2_of (W m c) (Cert.RefGlaInDxIdeal.Read.ridx_main_v6 i k) _ _ rfl rfl).symm))

end Cert.GlaInDxIdeal.Val

end
-- ==== Proof.KvProj.lean ====
/-
  The projection to the keys and values that the forgetting attentions share: the blocked product of the inputs' rows with
  the weights' columns, each block in one step.
-/
module

public import proofs.«01_k».proof.Proof.Product
public import proofs.«01_k».proof.Proof.Gen.KvProjIdeal.Value
public import proofs.«01_k».proof.Proof.Gen.RefKvProjIdeal.Read
public import Idealize.ShloMosaic.Lib.WritesUnit

@[expose] public section

noncomputable section

namespace Cert.KvProjIdeal.Val

open Cert.Product Cert.KvProjIdeal Cert.KvProjIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x1024 .bf16) : out0_2 x0 x1 = k0_pay1 x0 x1 := by
  unfold out0_2
  rw [View.canon_unit_zero (S := S1040x1024) hz]
  simp only [View.ld_unit_zero (S := S1040x2048) hz, View.ld_unit_zero (S := S2048x1024) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x4096 .bf16 := m ((c : Thread nD τ).loc main_arg1)

/-- Which block of each array a point reads and writes; every point writes its own. -/
theorem idx_at : ∀ t : Fin cfg0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 4 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 1024) :
    iblk m c 1 t (ix2 k s) = at2 (W m c) (0 * 2048 + k.val) (t.val % 4 * 1024 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 1024) :
    (dats m 0 c).arrAt 2 cfg0.N (((cfg0.win 2).blk t).view.emb (ix2 r s))
      = ∑ k : Fin 2048, at2 (X m c) (t.val / 4 * 1040 + r.val) k.val * at2 (W m c) k.val (t.val % 4 * 1024 + s.val) := by
  have hw := congrFun ((Value.blocks2 m c t (idx_at t).2.2.2).trans (Value.flushed2 m c t)) (ix2 r s)
  rw [View.read_apply, out_eq] at hw
  exact hw.trans ((plain_part (φ₁ := .bf16) (φ₂ := .bf16) _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefKvProjIdeal.Read.val_main_v3 (F := Ideal) (X m c) (W m c) := funext fun i =>
  (of_blocks 8 4 1040 1024 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 1024 + (y 1).val) (idx_at t).2.2.1.2)) (block_at m c) i).trans
  ((Finset.sum_congr rfl fun k _ => congrArg₂ (· * ·) (at2_of (X m c) (Cert.RefKvProjIdeal.Read.lidx_main_v2 i k) _ _ rfl rfl).symm
    (at2_of (W m c) (Cert.RefKvProjIdeal.Read.ridx_main_v2 i k) _ _ rfl rfl).symm).trans (by
      rw [Cert.RefKvProjIdeal.Read.val_main_v3_apply]
      exact (Cert.RefKvProjIdeal.Read.val_main_v2_apply (X m c) (W m c) i).symm))

end Cert.KvProjIdeal.Val

end
-- ==== Proof.KvGate.lean ====
/-
  The projection to the forgetting attentions' gate logits: the blocked product of the inputs' rows with the weights'
  columns, each block in one step.
-/
module

public import proofs.«01_k».proof.Proof.Product
public import proofs.«01_k».proof.Proof.Gen.KvGateIdeal.Value
public import proofs.«01_k».proof.Proof.Gen.RefKvGateIdeal.Read
public import Idealize.ShloMosaic.Lib.WritesUnit

@[expose] public section

noncomputable section

namespace Cert.KvGateIdeal.Val

open Cert.Product Cert.KvGateIdeal Cert.KvGateIdeal.Gen Idealize.ShloMosaic Idealize.ShloMosaic.TcCoe Idealize.ShloMosaic.ValueIdx
open scoped BigOperators

/-- A point's result is its blocks' product. -/
theorem out_eq (x0 : Vec Ideal S1040x2048 .bf16) (x1 : Vec Ideal S2048x128 .bf16) : out0_2 x0 x1 = k0_pay1 x0 x1 := by
  unfold out0_2
  rw [View.canon_unit_zero (S := S1040x128) hz]
  simp only [View.ld_unit_zero (S := S1040x2048) hz, View.ld_unit_zero (S := S2048x128) hz]

variable (m : (ℓ : Loc nD τ sig) → Buf (Elt Ideal) ℓ) (c : Dev nD)

/-- The two arrays the call reads. -/
abbrev X : FVec Ideal S8320x2048 .bf16 := m ((c : Thread nD τ).loc main_arg0)
abbrev W : FVec Ideal S2048x128 .bf16 := m ((c : Thread nD τ).loc main_arg1)

/-- Which block of each array a point reads and writes; every point writes its own. -/
theorem idx_at : ∀ t : Fin cfg0.N, (win0_0.index t 0 = t.val / 1 ∧ win0_0.index t 1 = 0)
    ∧ (win0_1.index t 0 = 0 ∧ win0_1.index t 1 = t.val % 1) ∧ (win0_2.index t 0 = t.val / 1 ∧ win0_2.index t 1 = t.val % 1)
    ∧ (cfg0.win 2).flush t = true :=
  (by decide +kernel : ∀ t : Fin grid0.N, _)

theorem x_at (t : Fin cfg0.N) (r : Fin 1040) (k : Fin 2048) :
    iblk m c 0 t (ix2 r k) = at2 (X m c) (t.val / 1 * 1040 + r.val) (0 * 2048 + k.val) := by
  unfold iblk
  rw [View.read_apply]
  exact read_at (X m c) _ (win0_0.rect_emb_val t _ 0) (win0_0.rect_emb_val t _ 1) (idx_at t).1.1 (idx_at t).1.2

theorem w_at (t : Fin cfg0.N) (k : Fin 2048) (s : Fin 128) :
    iblk m c 1 t (ix2 k s) = at2 (W m c) (0 * 2048 + k.val) (t.val % 1 * 128 + s.val) := by
  unfold iblk
  rw [View.read_apply]
  exact read_at (W m c) _ (win0_1.rect_emb_val t _ 0) (win0_1.rect_emb_val t _ 1) (idx_at t).2.1.1 (idx_at t).2.1.2

/-- Every block holds its part of the product. -/
theorem block_at (t : Fin cfg0.N) (r : Fin 1040) (s : Fin 128) :
    (dats m 0 c).arrAt 2 cfg0.N (((cfg0.win 2).blk t).view.emb (ix2 r s))
      = ∑ k : Fin 2048, at2 (X m c) (t.val / 1 * 1040 + r.val) k.val * at2 (W m c) k.val (t.val % 1 * 128 + s.val) := by
  have hw := congrFun ((Value.blocks2 m c t (idx_at t).2.2.2).trans (Value.flushed2 m c t)) (ix2 r s)
  rw [View.read_apply, out_eq] at hw
  exact hw.trans ((plain_part _ _ _ _ _ _ _ _ r s (x_at m c t r) (fun k => w_at m c t k s)).trans (sum_first 2048 fun k => at2 (X m c) _ k * at2 (W m c) k _))

/-- The call's result is the product. -/
theorem result : (dats m 0 c).arrAt 2 cfg0.N = Cert.RefKvGateIdeal.Read.val_main_v2 (F := Ideal) (X m c) (W m c) := funext fun i =>
  (of_blocks 8 1 1040 128 (val := fun x y => ∑ k : Fin 2048, at2 (X m c) x k.val * at2 (W m c) k.val y)
    (fun t => ((cfg0.win 2).blk t).view.emb) rfl rfl N_0
    (fun t y => (win0_2.rect_emb_val t y 0).trans (congrArg (· * 1040 + (y 0).val) (idx_at t).2.2.1.1))
    (fun t y => (win0_2.rect_emb_val t y 1).trans (congrArg (· * 128 + (y 1).val) (idx_at t).2.2.1.2)) (block_at m c) i).trans
  ((Finset.sum_congr rfl fun k _ => congrArg₂ (· * ·) (at2_of (X m c) (Cert.RefKvGateIdeal.Read.lidx_main_v2 i k) _ _ rfl rfl).symm
    (at2_of (W m c) (Cert.RefKvGateIdeal.Read.ridx_main_v2 i k) _ _ rfl rfl).symm).trans (Cert.RefKvGateIdeal.Read.val_main_v2_apply (X m c) (W m c) i).symm)

end Cert.KvGateIdeal.Val

end
-- ==== Proof.KvDw.lean ====
/-
  The gradient of the shared projection's weights: the blocked product over the rows of the inputs and of the gradients of
  the keys, values and gate logits, added up over five parts of the rows.
-/
module

public import proofs.«01_k».proof.Proof.Product
public import proofs.«01_k».proof.Proof.Gen.KvDwIdeal.Value
public import proofs.«01_k».proof.Proof.Gen.RefKvDwIdeal.Read
public import Idealize.ShloMosaic.Lib.WritesUnit
public import Idealize.ShloMosaic.Lib.Tactic

@[expose] public section

noncomputable section

namespace Cert.KvDwIdeal.Val

open Cert.Product Cert.KvDwIdeal Cert.KvDwIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1664x1024 .bf16) (harg3 : arg3.IsWhole) (arg4 : Memref sig .tc .vmem S1664x384 .bf16) (harg4 : arg4.IsWhole)
  (arg5 : Memref sig .tc .vmem S1024x384 .bf16) (harg5 : arg5.IsWhole) (arg6 : Memref sig .tc .vmem S1024x384 .f32) (harg6 : arg6.IsWhole)
  (x0 : Vec Ideal S1664x1024 .bf16) (x1 : Vec Ideal S1664x384 .bf16) (xs0 : Vec Ideal S1024x384 .f32)

/-- The first part starts the running sum. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x384) hz]
  simp only [View.readAt_eq_ld, harg3.read_unread, harg4.read_unread, View.ld_unit_zero (S := S1664x1024) hz, View.ld_unit_zero (S := S1664x384) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x384) hz]
  simp only [View.readAt_eq_ld, harg3.read_unread, harg4.read_unread, harg6.read_unread, View.ld_unit_zero (S := S1664x1024) hz, View.ld_unit_zero (S := S1664x384) hz, View.ld_unit_zero (S := S1024x384) hz]
  exact shapeCast_self ..

/-- The last part adds to it and the result takes the sum. -/
theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (addf xs0 (k0_pay1 x0 x1)) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x384) hz, View.readCov_unit_zero (S := S1024x384) _ hz]
  simp only [View.readAt_eq_ld, harg3.read_unread, harg4.read_unread, harg6.read_unread, View.ld_unit_zero (S := S1664x1024) hz, View.ld_unit_zero (S := S1664x384) hz, View.ld_unit_zero (S := S1024x384) hz]
  exact congrArg k0_pay4 (shapeCast_self ..)

end

variable (m : (ℓ : Loc nD τ sig) → Buf (Elt Ideal) ℓ) (c : Dev nD)

/-- The two arrays the call reads. -/
abbrev A : FVec Ideal S8320x2048 .bf16 := m ((c : Thread nD τ).loc main_arg0)
abbrev Z : FVec Ideal S8320x4224 .bf16 := m ((c : Thread nD τ).loc main_arg1)

/-- Which block of each array a point reads. -/
theorem idx_at : ∀ t : Fin cfg0.N, (win0_0.index t 0 = t.val % 5 ∧ win0_0.index t 1 = t.val / 5 / 11)
    ∧ (win0_1.index t 0 = t.val % 5 ∧ win0_1.index t 1 = t.val / 5 % 11) :=
  (by decide +kernel : ∀ t : Fin grid0.N, _)

theorem a_at (t : Fin cfg0.N) (k : Fin 1664) (r : Fin 1024) :
    iblk m c 0 t (ix2 k r) = at2 (A m c) (t.val % 5 * 1664 + k.val) (t.val / 5 / 11 * 1024 + r.val) := by
  unfold iblk
  rw [View.read_apply]
  exact read_at (A m c) _ (win0_0.rect_emb_val t _ 0) (win0_0.rect_emb_val t _ 1) (idx_at t).1.1 (idx_at t).1.2

theorem z_at (t : Fin cfg0.N) (k : Fin 1664) (s : Fin 384) :
    iblk m c 1 t (ix2 k s) = at2 (Z m c) (t.val % 5 * 1664 + k.val) (t.val / 5 % 11 * 384 + s.val) := by
  unfold iblk
  rw [View.read_apply]
  exact read_at (Z m c) _ (win0_1.rect_emb_val t _ 0) (win0_1.rect_emb_val t _ 1) (idx_at t).2.1 (idx_at t).2.2

/-- The call's result is the product over the rows. -/
theorem result : Value.G2 m c = Cert.RefKvDwIdeal.Read.val_main_v6 (F := Ideal) (A m c) (Z m c) := funext fun i => by
  refine (accumulated 5 2 11 1024 384 1664 (out := fun t h => (outsAt0 m c t h).1) (run := fun t h => (outsAt0 m c t h).2)
    (part := fun t h => k0_pay1 (iblk m c 0 ⟨t, h⟩) (iblk m c 1 ⟨t, h⟩)) (f := fun x y k => at2 (A m c) k x * at2 (Z m c) k y)
    (post := fun _ _ v => v) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    rfl
  · exact fun t h r s => cols_part _ _ _ _ _ _ _ _ r s (fun k => a_at m c ⟨t, h⟩ k r) (fun k => z_at m c ⟨t, h⟩ k s)
  · intro i h
    have hp : Value.pt2Of i = 5 * (11 * ((i 0).val / 1024) + (i 1).val / 384) + 4 := by dsimp only [Value.pt2Of, Value.run2Of]; omega
    unfold Value.G2
    rw [dif_pos (hp ▸ h), ← Value.outsAt0_sweep m c (Value.pt2Of i) (hp ▸ h)]
    simp only [hp]
    exact congrArg _ (eq_ix2 _)
  · rw [Cert.RefKvDwIdeal.Read.val_main_v6_apply, Cert.RefKvDwIdeal.Read.val_main_v5_apply, Cert.RefKvDwIdeal.Read.val_main_v4_apply]
    exact Finset.sum_congr rfl fun k _ => (mul_comm _ _).trans (congrArg₂ (· * ·)
      (at2_of (Z m c) (Cert.RefKvDwIdeal.Read.lidx_main_v4 (Cert.RefKvDwIdeal.Read.idx_main_v5 i) k) _ _ rfl rfl).symm
      (at2_of (A m c) (Cert.RefKvDwIdeal.Read.ridx_main_v4 (Cert.RefKvDwIdeal.Read.idx_main_v5 i) k) _ _ rfl rfl).symm)

end Cert.KvDwIdeal.Val

end
-- ==== Proof.KvDx.lean ====
/-
  The gradient of the shared projection's input: the blocked product of the columns' gradients with the weights' rows, added
  up over three parts of the columns, plus the gradient that the call is given.
-/
module

public import proofs.«01_k».proof.Proof.Product
public import proofs.«01_k».proof.Proof.Gen.KvDxIdeal.Value
public import proofs.«01_k».proof.Proof.Gen.RefKvDxIdeal.Read
public import Idealize.ShloMosaic.Lib.WritesUnit
public import Idealize.ShloMosaic.Lib.IdealHost
public import Idealize.ShloMosaic.Lib.Tactic

@[expose] public section

noncomputable section

namespace Cert.KvDxIdeal.Val

open Cert.Product Cert.KvDxIdeal Cert.KvDxIdeal.Gen Idealize.ShloMosaic Idealize.ShloMosaic.TcCoe Idealize.ShloMosaic.ValueIdx Idealize.ShloMosaic.Tactic
open scoped BigOperators

section
variable (c : Dev nD) (i : grid0.Coords)
  (arg3 : Memref sig .tc .vmem S1040x1408 .bf16) (harg3 : arg3.IsWhole) (arg4 : Memref sig .tc .vmem S1024x1408 .bf16) (harg4 : arg4.IsWhole)
  (arg5 : Memref sig .tc .vmem S1040x1024 .f32) (harg5 : arg5.IsWhole) (arg6 : Memref sig .tc .vmem S1040x1024 .f32) (harg6 : arg6.IsWhole)
  (arg7 : Memref sig .tc .vmem S1040x1024 .f32) (harg7 : arg7.IsWhole)
  (x0 : Vec Ideal S1040x1408 .bf16) (x1 : Vec Ideal S1024x1408 .bf16) (x2 xs0 : Vec Ideal S1040x1024 .f32)

/-- The first part starts the running sum. -/
theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S1040x1024) hz]
  simp only [View.readAt_eq_ld, harg3.read_unread, harg4.read_unread, View.ld_unit_zero (S := S1040x1408) hz, View.ld_unit_zero (S := S1024x1408) hz]
  exact shapeCast_self ..

/-- A middle part adds to it. -/
theorem sout_B (hc0 : ¬cond0_0 i) (hc1 : cond0_1 i) (hc2 : ¬cond0_2 i) :
    sout0_B_0 c i arg3 harg3 arg4 harg4 arg5 harg5 arg6 harg6 arg7 harg7 hc0 hc1 hc2 x0 x1 x2 xs0 = addf xs0 (k0_pay1 x0 x1) := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  rw [View.canon_unit_zero (S := S1040x1024) hz]
  simp only [View.readAt_eq_ld, harg3.read_unread, harg4.read_unread, harg7.read_unread, View.ld_unit_zero (S := S1040x1408) hz, View.ld_unit_zero (S := S1024x1408) hz, View.ld_unit_zero (S := S1040x1024) hz]
  exact shapeCast_self ..

/-- The last part adds to it and the result takes the sum. -/
theorem out_C (hc0 : ¬cond0_0 i) (hc1 : cond0_1 i) (hc2 : cond0_2 i) :
    out0_C_3 c i arg3 harg3 arg4 harg4 arg5 harg5 arg6 harg6 arg7 harg7 hc0 hc1 hc2 x0 x1 x2 xs0
      = k0_pay4 (addf xs0 (k0_pay1 x0 x1)) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero (S := S1040x1024) hz, View.readCov_unit_zero (S := S1040x1024) _ hz]
  simp only [View.readAt_eq_ld, harg3.read_unread, harg4.read_unread, harg5.read_unread, harg7.read_unread, View.ld_unit_zero (S := S1040x1408) hz, View.ld_unit_zero (S := S1024x1408) hz, View.ld_unit_zero (S := S1040x1024) hz]
  exact congrArg (k0_pay4 · x2) (shapeCast_self ..)

end

variable (m : (ℓ : Loc nD τ sig) → Buf (Elt Ideal) ℓ) (c : Dev nD)

/-- The three arrays the call reads. -/
abbrev U : FVec Ideal S8320x4224 .bf16 := m ((c : Thread nD τ).loc main_arg0)
abbrev W : FVec Ideal S2048x4224 .bf16 := m ((c : Thread nD τ).loc main_arg1)
abbrev Z : FVec Ideal S8320x2048 .f32 := m ((c : Thread nD τ).loc main_arg2)

/-- Which block of each array a point reads. -/
theorem idx_at : ∀ t : Fin cfg0.N, (win0_0.index t 0 = t.val / 3 / 2 ∧ win0_0.index t 1 = t.val % 3)
    ∧ (win0_1.index t 0 = t.val / 3 % 2 ∧ win0_1.index t 1 = t.val % 3)
    ∧ (win0_2.index t 0 = t.val / 3 / 2 ∧ win0_2.index t 1 = t.val / 3 % 2) :=
  (by decide +kernel : ∀ t : Fin grid0.N, _)

theorem u_at (t : Fin cfg0.N) (r : Fin 1040) (k : Fin 1408) :
    iblk m c 0 t (ix2 r k) = at2 (U m c) (t.val / 3 / 2 * 1040 + r.val) (t.val % 3 * 1408 + k.val) := by
  unfold iblk
  rw [View.read_apply]
  exact read_at (U m c) _ (win0_0.rect_emb_val t _ 0) (win0_0.rect_emb_val t _ 1) (idx_at t).1.1 (idx_at t).1.2

theorem w_at (t : Fin cfg0.N) (s : Fin 1024) (k : Fin 1408) :
    iblk m c 1 t (ix2 s k) = at2 (W m c) (t.val / 3 % 2 * 1024 + s.val) (t.val % 3 * 1408 + k.val) := by
  unfold iblk
  rw [View.read_apply]
  exact read_at (W m c) _ (win0_1.rect_emb_val t _ 0) (win0_1.rect_emb_val t _ 1) (idx_at t).2.1.1 (idx_at t).2.1.2

theorem z_at (t : Fin cfg0.N) (r : Fin 1040) (s : Fin 1024) :
    iblk m c 2 t (ix2 r s) = at2 (Z m c) (t.val / 3 / 2 * 1040 + r.val) (t.val / 3 % 2 * 1024 + s.val) := by
  unfold iblk
  rw [View.read_apply]
  exact read_at (Z m c) _ (win0_2.rect_emb_val t _ 0) (win0_2.rect_emb_val t _ 1) (idx_at t).2.2.1 (idx_at t).2.2.2

/-- What a point adds. -/
theorem part_at (t : ℕ) (h : t < cfg0.N) (r : Fin 1040) (s : Fin 1024) :
    k0_pay1 (F := Ideal) (iblk m c 0 ⟨t, h⟩) (iblk m c 1 ⟨t, h⟩) (ix2 r s)
      = ∑ k : Fin 1408, at2 (U m c) (t / 3 / 2 * 1040 + r.val) (t % 3 * 1408 + k.val) * at2 (W m c) (t / 3 % 2 * 1024 + s.val) (t % 3 * 1408 + k.val) :=
  rows_part _ _ _ _ _ _ _ _ r s (u_at m c ⟨t, h⟩ r) (w_at m c ⟨t, h⟩ s)

/-- The call's result is the product plus the gradient it is given. -/
theorem result : Value.G3 m c = Cert.RefKvDxIdeal.Read.val_main_v5 (F := Ideal) (U m c) (W m c) (Z m c) := funext fun i => by
  refine (accumulated 3 8 2 1040 1024 1408 (out := fun t h => (outsAt0 m c t h).1) (run := fun t h => (outsAt0 m c t h).2)
    (part := fun t h => k0_pay1 (iblk m c 0 ⟨t, h⟩) (iblk m c 1 ⟨t, h⟩)) (f := fun x y k => at2 (U m c) x k * at2 (W m c) y k)
    (post := fun x y v => v + Ideal.ofBits .f32 0x3F800000#32 * at2 (Z m c) x y) (by decide) rfl rfl (by decide) (by decide) N_0 ?_ ?_ ?_ ?_ ?_ i).trans ?_
  · intro t h y h0
    rw [outsAt0_A m c ⟨t, h⟩ h0 (by dsimp only; omega) (by dsimp only; omega), sout_A]
  · intro t h y h0 h1
    rw [outsAt0_B m c ⟨t, h⟩ h0 (by dsimp only; omega) h1, sout_B]
    rfl
  · intro t h r s h1
    rw [outsAt0_C m c ⟨t, h⟩ (by dsimp only; omega) (by dsimp only; omega) h1, out_C]
    exact congrArg (_ + _ * ·) (z_at m c ⟨t, h⟩ r s)
  · exact part_at m c
  · intro i h
    have hp : Value.pt3Of i = 3 * (2 * ((i 0).val / 1040) + (i 1).val / 1024) + 2 := by dsimp only [Value.pt3Of, Value.run3Of]; omega
    unfold Value.G3
    rw [dif_pos (hp ▸ h), ← Value.outsAt0_sweep m c (Value.pt3Of i) (hp ▸ h)]
    simp only [hp]
    exact congrArg _ (eq_ix2 _)
  · rw [Cert.RefKvDxIdeal.Read.val_main_v5_apply, Cert.RefKvDxIdeal.Read.val_main_v4_apply]
    dsimp only
    rw [Ideal.ofBits_one_f32, one_mul]
    exact (add_comm _ _).trans (congrArg₂ (· + ·) (at2_of (Z m c) i _ _ rfl rfl).symm
      (Finset.sum_congr rfl fun k _ => congrArg₂ (· * ·) (at2_of (U m c) (Cert.RefKvDxIdeal.Read.lidx_main_v4 i k) _ _ rfl rfl).symm
        (at2_of (W m c) (Cert.RefKvDxIdeal.Read.ridx_main_v4 i k) _ _ rfl rfl).symm))

end Cert.KvDxIdeal.Val

end
-- ==== Proof.Adam.lean ====
/-
  The update of a weight: one AdamW step of an entry, an array made of blocks of whole rows, and a gradient whose rows lie
  in parts beneath each other.
-/
module

public import proofs.«01_k».proof.Proof.Product
public import Idealize.ShloMosaic.Lib.WritesUnit
import Idealize.ShloMosaic.Lib.WordCmp
import Idealize.ShloMosaic.Lib.Pointwise.SelectCore

@[expose] public section

noncomputable section

namespace Cert.Adam

open Cert.Product Idealize.ShloMosaic.ValueIdx
open Idealize.ShloMosaic hiding ix2

/-- The first moment after the step. -/
def newM (m g : EReal) : EReal := Ideal.ofBits .f32 0x3F666666#32 * m + Ideal.ofBits .f32 0x3DCCCCCD#32 * g

/-- The second moment after the step. -/
def newV (v g : EReal) : EReal := Ideal.ofBits .f32 0x3F7FBE77#32 * v + Ideal.ofBits .f32 0x3A83126F#32 * (g * g)

/-- The change of the weight. -/
def delta (w m v g : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32)
    + Ideal.ofBits .f32 0x3C23D70A#32 * w)

/-- An array made of `p` blocks of `R` whole rows, each made entry by entry from the blocks of four others there. -/
theorem updated {M C n : ℕ} (p R : ℕ) (f : EReal → EReal → EReal → EReal → EReal)
    {A : (⟨2, ![M, C]⟩ : Shape).Idx → EReal} {X Y Z : (⟨2, ![M, C]⟩ : Shape).Idx → EReal} {g : ℕ → ℕ → EReal}
    (emb : Fin n → (⟨2, ![R, C]⟩ : Shape).Idx → (⟨2, ![M, C]⟩ : Shape).Idx) {x y z k : Fin n → (⟨2, ![R, C]⟩ : Shape).Idx → EReal}
    (hM : M = p * R) (hn : n = p) (h0 : ∀ t j, (emb t j 0).val = t.val * R + (j 0).val) (h1 : ∀ t j, (emb t j 1).val = 0 * C + (j 1).val)
    (hx : ∀ t r s, x t (ix2 r s) = at2 X (t.val * R + r.val) (0 * C + s.val))
    (hy : ∀ t r s, y t (ix2 r s) = at2 Y (t.val * R + r.val) (0 * C + s.val))
    (hz : ∀ t r s, z t (ix2 r s) = at2 Z (t.val * R + r.val) (0 * C + s.val))
    (hk : ∀ t r s, k t (ix2 r s) = g (t.val * R + r.val) (0 * C + s.val))
    (hA : ∀ t j, A (emb t j) = f (x t j) (y t j) (z t j) (k t j)) (i : (⟨2, ![M, C]⟩ : Shape).Idx) :
    A i = f (X i) (Y i) (Z i) (g (i 0).val (i 1).val) := by
  have h := of_blocks p 1 R C (G := A) (val := fun a b => f (at2 X a b) (at2 Y a b) (at2 Z a b) (g a b)) emb hM (one_mul C).symm
    (hn.trans (mul_one p).symm) (fun t j => by rw [Nat.div_one]; exact h0 t j) (fun t j => by rw [Nat.mod_one]; exact h1 t j)
    (fun t r s => by rw [Nat.div_one, Nat.mod_one, hA, hx, hy, hz, hk]) i
  rw [h, ← at2_of X i _ _ rfl rfl, ← at2_of Y i _ _ rfl rfl, ← at2_of Z i _ _ rfl rfl]

/-- The four results of a step, each made of `p` blocks of `R` whole rows: the gradient, the change of the weight and the
    two new moments, from the weight, its moments and its gradient. -/
theorem results {M C n : ℕ} (p R : ℕ) {A0 A1 A2 A3 X Y Z : (⟨2, ![M, C]⟩ : Shape).Idx → EReal} {g : ℕ → ℕ → EReal}
    (e0 e1 e2 e3 : Fin n → (⟨2, ![R, C]⟩ : Shape).Idx → (⟨2, ![M, C]⟩ : Shape).Idx) {x y z k : Fin n → (⟨2, ![R, C]⟩ : Shape).Idx → EReal}
    (hM : M = p * R) (hn : n = p)
    (h0 : ∀ t j, (e0 t j 0).val = t.val * R + (j 0).val ∧ (e0 t j 1).val = 0 * C + (j 1).val)
    (h1 : ∀ t j, (e1 t j 0).val = t.val * R + (j 0).val ∧ (e1 t j 1).val = 0 * C + (j 1).val)
    (h2 : ∀ t j, (e2 t j 0).val = t.val * R + (j 0).val ∧ (e2 t j 1).val = 0 * C + (j 1).val)
    (h3 : ∀ t j, (e3 t j 0).val = t.val * R + (j 0).val ∧ (e3 t j 1).val = 0 * C + (j 1).val)
    (hx : ∀ t r s, x t (ix2 r s) = at2 X (t.val * R + r.val) (0 * C + s.val))
    (hy : ∀ t r s, y t (ix2 r s) = at2 Y (t.val * R + r.val) (0 * C + s.val))
    (hz : ∀ t r s, z t (ix2 r s) = at2 Z (t.val * R + r.val) (0 * C + s.val))
    (hk : ∀ t r s, k t (ix2 r s) = g (t.val * R + r.val) (0 * C + s.val))
    (hA : ∀ t j, A0 (e0 t j) = k t j ∧ A1 (e1 t j) = delta (x t j) (y t j) (z t j) (k t j) ∧ A2 (e2 t j) = newM (y t j) (k t j)
      ∧ A3 (e3 t j) = newV (z t j) (k t j)) {G : (⟨2, ![M, C]⟩ : Shape).Idx → EReal} (hG : ∀ i, G i = g (i 0).val (i 1).val) :
    A0 = G ∧ (A1 = fun i => delta (X i) (Y i) (Z i) (G i)) ∧ (A2 = fun i => newM (Y i) (G i)) ∧ (A3 = fun i => newV (Z i) (G i)) :=
  ⟨funext fun i => (updated p R (fun _ _ _ g => g) e0 hM hn (fun t j => (h0 t j).1) (fun t j => (h0 t j).2) hx hy hz hk
      (fun t j => (hA t j).1) i).trans (hG i).symm,
    funext fun i => (updated p R delta e1 hM hn (fun t j => (h1 t j).1) (fun t j => (h1 t j).2) hx hy hz hk
      (fun t j => (hA t j).2.1) i).trans (congrArg (delta _ _ _) (hG i).symm),
    funext fun i => (updated p R (fun _ m _ g => newM m g) e2 hM hn (fun t j => (h2 t j).1) (fun t j => (h2 t j).2) hx hy hz hk
      (fun t j => (hA t j).2.2.1) i).trans (congrArg (newM _) (hG i).symm),
    funext fun i => (updated p R (fun _ _ v g => newV v g) e3 hM hn (fun t j => (h3 t j).1) (fun t j => (h3 t j).2) hx hy hz hk
      (fun t j => (hA t j).2.2.2) i).trans (congrArg (newV _) (hG i).symm)⟩

/-- The rows of `a`, `n` of them, above those of `b`. -/
def above (n : ℕ) (a b : ℕ → ℕ → EReal) (x y : ℕ) : EReal := if x < n then a x y else b (x - n) y

/-- An entry of a block of `R` rows of two arrays one above the other, of which the upper has `T` blocks. -/
theorem above_at {T R t r s : ℕ} {a b : ℕ → ℕ → EReal} {u v : EReal} (hr : r < R) (hu : t < T → u = a (t * R + r) s)
    (hv : T ≤ t → v = b ((t - T) * R + r) s) : (if t < T then u else v) = above (T * R) a b (t * R + r) s := by
  unfold above
  by_cases h : t < T
  · have hl : t * R + r < T * R :=
      lt_of_lt_of_le (Nat.add_lt_add_left hr _) (by rw [← Nat.succ_mul]; exact Nat.mul_le_mul_right _ h)
    rw [if_pos h, if_pos hl, hu h]
  · have hg : T * R ≤ t * R := Nat.mul_le_mul_right _ (Nat.le_of_not_lt h)
    rw [if_neg h, if_neg (by omega), hv (Nat.le_of_not_lt h), Nat.sub_mul]
    congr 1
    omega

/-- The same of three arrays, of which the upper has `T` blocks and the middle one `U`. -/
theorem above_above_at {T U R t r s : ℕ} {a b d : ℕ → ℕ → EReal} {u v w : EReal} (hr : r < R) (hu : t < T → u = a (t * R + r) s)
    (hv : T ≤ t → t < T + U → v = b ((t - T) * R + r) s) (hw : T + U ≤ t → w = d ((t - (T + U)) * R + r) s) :
    (if t < T then u else if t < T + U then v else w) = above (T * R) a (above (U * R) b d) (t * R + r) s :=
  above_at hr hu fun h => by
    have e := above_at (T := U) (t := t - T) (u := v) (v := w) (a := b) (b := d) (s := s) hr (fun g => hv h (by omega))
      (fun g => by rw [Nat.sub_sub]; exact hw (by omega))
    rw [← e]
    exact if_congr (by omega) rfl rfl

/-- The choice by a point's number. -/
theorem pick {α : Type} (t n : ℕ) (ht : t < 2 ^ 31) (hn : n < 2 ^ 31) (a b : α) :
    Scalar.select (Scalar.cmpi .slt (BitVec.ofNat 32 t) (BitVec.ofNat 32 n)) a b = if t < n then a else b := by
  by_cases h : t < n <;>
    simp [Scalar.select, Scalar.cmpi, WordCmp.cmpi_slt_ofNat (w := 32) ht hn, h]

/-- Two arrays one above the other, read at an entry. -/
theorem stack2 {M A B C : ℕ} (a : (⟨2, ![A, C]⟩ : Shape).Idx → EReal) (b : (⟨2, ![B, C]⟩ : Shape).Idx → EReal) (h)
    (i : (⟨2, ![M, C]⟩ : Shape).Idx) : concatenate ⟨2, ![M, C]⟩ 0 [⟨⟨2, ![A, C]⟩, a⟩, ⟨⟨2, ![B, C]⟩, b⟩] h i
      = above A (at2 a) (at2 b) (i 0).val (i 1).val := by
  refine (concatenate_cons_apply _ _ _ _ _ h i).trans ((concatenateAt_cons ..).trans ?_)
  unfold above
  by_cases hx : (i 0).val < A
  · exact (dif_pos hx).trans ((at2_of a _ _ _ rfl rfl).trans (if_pos hx).symm)
  · exact (dif_neg hx).trans ((concatenateAt_singleton ..).trans ((at2_of b _ _ _ rfl rfl).trans (if_neg hx).symm))

/-- Three arrays one above the other, read at an entry. -/
theorem stack3 {M A B D C : ℕ} (a : (⟨2, ![A, C]⟩ : Shape).Idx → EReal) (b : (⟨2, ![B, C]⟩ : Shape).Idx → EReal)
    (d : (⟨2, ![D, C]⟩ : Shape).Idx → EReal) (h) (i : (⟨2, ![M, C]⟩ : Shape).Idx) :
    concatenate ⟨2, ![M, C]⟩ 0 [⟨⟨2, ![A, C]⟩, a⟩, ⟨⟨2, ![B, C]⟩, b⟩, ⟨⟨2, ![D, C]⟩, d⟩] h i
      = above A (at2 a) (above B (at2 b) (at2 d)) (i 0).val (i 1).val := by
  refine (concatenate_cons_apply _ _ _ _ _ h i).trans ((concatenateAt_cons ..).trans ?_)
  unfold above
  by_cases hx : (i 0).val < A
  · exact (dif_pos hx).trans ((at2_of a _ _ _ rfl rfl).trans (if_pos hx).symm)
  · refine (dif_neg hx).trans ((concatenateAt_cons ..).trans (Eq.trans ?_ (if_neg hx).symm))
    by_cases hy : (i 0).val - A < B
    · exact (dif_pos hy).trans ((at2_of b _ _ _ rfl rfl).trans (if_pos hy).symm)
    · exact (dif_neg hy).trans ((concatenateAt_singleton ..).trans ((at2_of d _ _ _ rfl rfl).trans (if_neg hy).symm))

end Cert.Adam

end
-- ==== Proof.AdamFoxIn.lean ====
/-
  The update of the attention mixer's input projection: every entry of the four results from the entries there.
-/
module

public import proofs.«01_k».proof.Proof.Adam
public import proofs.«01_k».proof.Proof.Gen.AdamFoxInIdeal.Value
public import proofs.«01_k».proof.Proof.Gen.RefAdamFoxInIdeal.Read

@[expose] public section

noncomputable section

namespace Cert.AdamFoxInIdeal.Val

open Cert.Product Cert.Adam Cert.AdamFoxInIdeal Cert.AdamFoxInIdeal.Gen Idealize.ShloMosaic Idealize.ShloMosaic.TcCoe Idealize.ShloMosaic.ValueIdx

/-- What a point leaves in each result, entry by entry. -/
theorem out_eq (w m v g : Vec Ideal S512x1024 .f32) (j : S512x1024.Idx) : out0_4 w m v g j = g j
    ∧ out0_5 w m v g j = delta (w j) (m j) (v j) (g j) ∧ out0_6 w m v g j = newM (m j) (g j) ∧ out0_7 w m v g j = newV (v j) (g j) := by
  unfold out0_4 out0_5 out0_6 out0_7
  simp only [View.canon_unit_zero (S := S512x1024) hz, View.ld_unit_zero (S := S512x1024) hz]
  exact ⟨trivial, rfl, rfl, rfl⟩

variable (m : (ℓ : Loc nD τ sig) → Buf (Elt Ideal) ℓ) (c : Dev nD)

/-- The weight, its two moments and its gradient. -/
abbrev W : FVec Ideal S4096x1024 .f32 := m ((c : Thread nD τ).loc main_arg0)
abbrev M : FVec Ideal S4096x1024 .f32 := m ((c : Thread nD τ).loc main_arg1)
abbrev V : FVec Ideal S4096x1024 .f32 := m ((c : Thread nD τ).loc main_arg2)
abbrev G : FVec Ideal S4096x1024 .f32 := m ((c : Thread nD τ).loc main_arg3)

/-- Every point reads and writes its own block of rows of each array. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (cfg0.win 4).flush t = true ∧ (cfg0.win 5).flush t = true ∧ (cfg0.win 6).flush t = true ∧ (cfg0.win 7).flush t = true :=
  (by decide +kernel : ∀ t : Fin grid0.N, _)

theorem w_at (t : Fin cfg0.N) (r : Fin 512) (s : Fin 1024) : iblk m c 0 t (ix2 r s) = at2 (W m c) (t.val * 512 + r.val) (0 * 1024 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 512) (s : Fin 1024) : iblk m c 1 t (ix2 r s) = at2 (M m c) (t.val * 512 + r.val) (0 * 1024 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 512) (s : Fin 1024) : iblk m c 2 t (ix2 r s) = at2 (V m c) (t.val * 512 + r.val) (0 * 1024 + s.val) := by
  unfold iblk
  rw [View.read_apply]
  exact read_at (V m c) _ (win0_2.rect_emb_val t _ 0) (win0_2.rect_emb_val t _ 1) (idx_at t).1.2.2.1.1 (idx_at t).1.2.2.1.2

theorem g_at (t : Fin cfg0.N) (r : Fin 512) (s : Fin 1024) : iblk m c 3 t (ix2 r s) = at2 (G m c) (t.val * 512 + r.val) (0 * 1024 + s.val) := by
  unfold iblk
  rw [View.read_apply]
  exact read_at (G m c) _ (win0_3.rect_emb_val t _ 0) (win0_3.rect_emb_val t _ 1) (idx_at t).1.2.2.2.1 (idx_at t).1.2.2.2.2

/-- The four results are the gradient, the change of the weight and the two new moments. -/
theorem result : (dats m 0 c).arrAt 4 cfg0.N = G m c
    ∧ (dats m 0 c).arrAt 5 cfg0.N = Cert.RefAdamFoxInIdeal.Read.val_main_v23 (F := Ideal) (W m c) (M m c) (V m c) (G m c)
    ∧ (dats m 0 c).arrAt 6 cfg0.N = Cert.RefAdamFoxInIdeal.Read.val_main_v4 (F := Ideal) (M m c) (G m c)
    ∧ (dats m 0 c).arrAt 7 cfg0.N = Cert.RefAdamFoxInIdeal.Read.val_main_v10 (F := Ideal) (V m c) (G m c) :=
  results 8 512 (fun t => ((cfg0.win 4).blk t).view.emb) (fun t => ((cfg0.win 5).blk t).view.emb)
    (fun t => ((cfg0.win 6).blk t).view.emb) (fun t => ((cfg0.win 7).blk t).view.emb) rfl N_0
    (fun t j => ⟨(win0_4.rect_emb_val t j 0).trans (congrArg (· * 512 + (j 0).val) (idx_at t).2.1.1.1),
      (win0_4.rect_emb_val t j 1).trans (congrArg (· * 1024 + (j 1).val) (idx_at t).2.1.1.2)⟩)
    (fun t j => ⟨(win0_5.rect_emb_val t j 0).trans (congrArg (· * 512 + (j 0).val) (idx_at t).2.1.2.1.1),
      (win0_5.rect_emb_val t j 1).trans (congrArg (· * 1024 + (j 1).val) (idx_at t).2.1.2.1.2)⟩)
    (fun t j => ⟨(win0_6.rect_emb_val t j 0).trans (congrArg (· * 512 + (j 0).val) (idx_at t).2.1.2.2.1.1),
      (win0_6.rect_emb_val t j 1).trans (congrArg (· * 1024 + (j 1).val) (idx_at t).2.1.2.2.1.2)⟩)
    (fun t j => ⟨(win0_7.rect_emb_val t j 0).trans (congrArg (· * 512 + (j 0).val) (idx_at t).2.1.2.2.2.1),
      (win0_7.rect_emb_val t j 1).trans (congrArg (· * 1024 + (j 1).val) (idx_at t).2.1.2.2.2.2)⟩)
    (w_at m c) (m_at m c) (v_at m c) (g_at m c)
    (fun t j => ⟨(congrFun ((Value.blocks4 m c t (idx_at t).2.2.1).trans (Value.flushed4 m c t)) j).trans (out_eq _ _ _ _ j).1,
      (congrFun ((Value.blocks5 m c t (idx_at t).2.2.2.1).trans (Value.flushed5 m c t)) j).trans (out_eq _ _ _ _ j).2.1,
      (congrFun ((Value.blocks6 m c t (idx_at t).2.2.2.2.1).trans (Value.flushed6 m c t)) j).trans (out_eq _ _ _ _ j).2.2.1,
      (congrFun ((Value.blocks7 m c t (idx_at t).2.2.2.2.2).trans (Value.flushed7 m c t)) j).trans (out_eq _ _ _ _ j).2.2.2⟩)
    (fun i => at2_of (G m c) i _ _ rfl rfl)

end Cert.AdamFoxInIdeal.Val

end
-- ==== Proof.AdamFoxOut.lean ====
/-
  The update of the attention mixer's output projection: every entry of the four results from the entries there.
-/
module

public import proofs.«01_k».proof.Proof.Adam
public import proofs.«01_k».proof.Proof.Gen.AdamFoxOutIdeal.Value
public import proofs.«01_k».proof.Proof.Gen.RefAdamFoxOutIdeal.Read

@[expose] public section

noncomputable section

namespace Cert.AdamFoxOutIdeal.Val

open Cert.Product Cert.Adam Cert.AdamFoxOutIdeal Cert.AdamFoxOutIdeal.Gen Idealize.ShloMosaic Idealize.ShloMosaic.TcCoe Idealize.ShloMosaic.ValueIdx

/-- What a point leaves in each result, entry by entry. -/
theorem out_eq (w m v g : Vec Ideal S256x2048 .f32) (j : S256x2048.Idx) : out0_4 w m v g j = g j
    ∧ out0_5 w m v g j = delta (w j) (m j) (v j) (g j) ∧ out0_6 w m v g j = newM (m j) (g j) ∧ out0_7 w m v g j = newV (v j) (g j) := by
  unfold out0_4 out0_5 out0_6 out0_7
  simp only [View.canon_unit_zero (S := S256x2048) hz, View.ld_unit_zero (S := S256x2048) hz]
  exact ⟨trivial, rfl, rfl, rfl⟩

variable (m : (ℓ : Loc nD τ sig) → Buf (Elt Ideal) ℓ) (c : Dev nD)

/-- The weight, its two moments and its gradient. -/
abbrev W : FVec Ideal S1024x2048 .f32 := m ((c : Thread nD τ).loc main_arg0)
abbrev M : FVec Ideal S1024x2048 .f32 := m ((c : Thread nD τ).loc main_arg1)
abbrev V : FVec Ideal S1024x2048 .f32 := m ((c : Thread nD τ).loc main_arg2)
abbrev G : FVec Ideal S1024x2048 .f32 := m ((c : Thread nD τ).loc main_arg3)

/-- Every point reads and writes its own block of rows of each array. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (cfg0.win 4).flush t = true ∧ (cfg0.win 5).flush t = true ∧ (cfg0.win 6).flush t = true ∧ (cfg0.win 7).flush t = true :=
  (by decide +kernel : ∀ t : Fin grid0.N, _)

theorem w_at (t : Fin cfg0.N) (r : Fin 256) (s : Fin 2048) : iblk m c 0 t (ix2 r s) = at2 (W m c) (t.val * 256 + r.val) (0 * 2048 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 256) (s : Fin 2048) : iblk m c 1 t (ix2 r s) = at2 (M m c) (t.val * 256 + r.val) (0 * 2048 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 256) (s : Fin 2048) : iblk m c 2 t (ix2 r s) = at2 (V m c) (t.val * 256 + r.val) (0 * 2048 + s.val) := by
  unfold iblk
  rw [View.read_apply]
  exact read_at (V m c) _ (win0_2.rect_emb_val t _ 0) (win0_2.rect_emb_val t _ 1) (idx_at t).1.2.2.1.1 (idx_at t).1.2.2.1.2

theorem g_at (t : Fin cfg0.N) (r : Fin 256) (s : Fin 2048) : iblk m c 3 t (ix2 r s) = at2 (G m c) (t.val * 256 + r.val) (0 * 2048 + s.val) := by
  unfold iblk
  rw [View.read_apply]
  exact read_at (G m c) _ (win0_3.rect_emb_val t _ 0) (win0_3.rect_emb_val t _ 1) (idx_at t).1.2.2.2.1 (idx_at t).1.2.2.2.2

/-- The four results are the gradient, the change of the weight and the two new moments. -/
theorem result : (dats m 0 c).arrAt 4 cfg0.N = G m c
    ∧ (dats m 0 c).arrAt 5 cfg0.N = Cert.RefAdamFoxOutIdeal.Read.val_main_v23 (F := Ideal) (W m c) (M m c) (V m c) (G m c)
    ∧ (dats m 0 c).arrAt 6 cfg0.N = Cert.RefAdamFoxOutIdeal.Read.val_main_v4 (F := Ideal) (M m c) (G m c)
    ∧ (dats m 0 c).arrAt 7 cfg0.N = Cert.RefAdamFoxOutIdeal.Read.val_main_v10 (F := Ideal) (V m c) (G m c) :=
  results 4 256 (fun t => ((cfg0.win 4).blk t).view.emb) (fun t => ((cfg0.win 5).blk t).view.emb)
    (fun t => ((cfg0.win 6).blk t).view.emb) (fun t => ((cfg0.win 7).blk t).view.emb) rfl N_0
    (fun t j => ⟨(win0_4.rect_emb_val t j 0).trans (congrArg (· * 256 + (j 0).val) (idx_at t).2.1.1.1),
      (win0_4.rect_emb_val t j 1).trans (congrArg (· * 2048 + (j 1).val) (idx_at t).2.1.1.2)⟩)
    (fun t j => ⟨(win0_5.rect_emb_val t j 0).trans (congrArg (· * 256 + (j 0).val) (idx_at t).2.1.2.1.1),
      (win0_5.rect_emb_val t j 1).trans (congrArg (· * 2048 + (j 1).val) (idx_at t).2.1.2.1.2)⟩)
    (fun t j => ⟨(win0_6.rect_emb_val t j 0).trans (congrArg (· * 256 + (j 0).val) (idx_at t).2.1.2.2.1.1),
      (win0_6.rect_emb_val t j 1).trans (congrArg (· * 2048 + (j 1).val) (idx_at t).2.1.2.2.1.2)⟩)
    (fun t j => ⟨(win0_7.rect_emb_val t j 0).trans (congrArg (· * 256 + (j 0).val) (idx_at t).2.1.2.2.2.1),
      (win0_7.rect_emb_val t j 1).trans (congrArg (· * 2048 + (j 1).val) (idx_at t).2.1.2.2.2.2)⟩)
    (w_at m c) (m_at m c) (v_at m c) (g_at m c)
    (fun t j => ⟨(congrFun ((Value.blocks4 m c t (idx_at t).2.2.1).trans (Value.flushed4 m c t)) j).trans (out_eq _ _ _ _ j).1,
      (congrFun ((Value.blocks5 m c t (idx_at t).2.2.2.1).trans (Value.flushed5 m c t)) j).trans (out_eq _ _ _ _ j).2.1,
      (congrFun ((Value.blocks6 m c t (idx_at t).2.2.2.2.1).trans (Value.flushed6 m c t)) j).trans (out_eq _ _ _ _ j).2.2.1,
      (congrFun ((Value.blocks7 m c t (idx_at t).2.2.2.2.2).trans (Value.flushed7 m c t)) j).trans (out_eq _ _ _ _ j).2.2.2⟩)
    (fun i => at2_of (G m c) i _ _ rfl rfl)

end Cert.AdamFoxOutIdeal.Val

end
-- ==== Proof.AdamKv.lean ====
/-
  The update of the weight of keys, values and gates: every entry of the four results from the entries there.
-/
module

public import proofs.«01_k».proof.Proof.Adam
public import proofs.«01_k».proof.Proof.Gen.AdamKvIdeal.Value
public import proofs.«01_k».proof.Proof.Gen.RefAdamKvIdeal.Read

@[expose] public section

noncomputable section

namespace Cert.AdamKvIdeal.Val

open Cert.Product Cert.Adam Cert.AdamKvIdeal Cert.AdamKvIdeal.Gen Idealize.ShloMosaic Idealize.ShloMosaic.TcCoe Idealize.ShloMosaic.ValueIdx

/-- What a point leaves in each result, entry by entry. -/
theorem out_eq (w m v g : Vec Ideal S512x1028 .f32) (j : S512x1028.Idx) : out0_4 w m v g j = g j
    ∧ out0_5 w m v g j = delta (w j) (m j) (v j) (g j) ∧ out0_6 w m v g j = newM (m j) (g j) ∧ out0_7 w m v g j = newV (v j) (g j) := by
  unfold out0_4 out0_5 out0_6 out0_7
  simp only [View.canon_unit_zero (S := S512x1028) hz, View.ld_unit_zero (S := S512x1028) hz]
  exact ⟨trivial, rfl, rfl, rfl⟩

variable (m : (ℓ : Loc nD τ sig) → Buf (Elt Ideal) ℓ) (c : Dev nD)

/-- The weight, its two moments and its gradient. -/
abbrev W : FVec Ideal S2048x1028 .f32 := m ((c : Thread nD τ).loc main_arg0)
abbrev M : FVec Ideal S2048x1028 .f32 := m ((c : Thread nD τ).loc main_arg1)
abbrev V : FVec Ideal S2048x1028 .f32 := m ((c : Thread nD τ).loc main_arg2)
abbrev G : FVec Ideal S2048x1028 .f32 := m ((c : Thread nD τ).loc main_arg3)

/-- Every point reads and writes its own block of rows of each array. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (cfg0.win 4).flush t = true ∧ (cfg0.win 5).flush t = true ∧ (cfg0.win 6).flush t = true ∧ (cfg0.win 7).flush t = true :=
  (by decide +kernel : ∀ t : Fin grid0.N, _)

theorem w_at (t : Fin cfg0.N) (r : Fin 512) (s : Fin 1028) : iblk m c 0 t (ix2 r s) = at2 (W m c) (t.val * 512 + r.val) (0 * 1028 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 512) (s : Fin 1028) : iblk m c 1 t (ix2 r s) = at2 (M m c) (t.val * 512 + r.val) (0 * 1028 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 512) (s : Fin 1028) : iblk m c 2 t (ix2 r s) = at2 (V m c) (t.val * 512 + r.val) (0 * 1028 + s.val) := by
  unfold iblk
  rw [View.read_apply]
  exact read_at (V m c) _ (win0_2.rect_emb_val t _ 0) (win0_2.rect_emb_val t _ 1) (idx_at t).1.2.2.1.1 (idx_at t).1.2.2.1.2

theorem g_at (t : Fin cfg0.N) (r : Fin 512) (s : Fin 1028) : iblk m c 3 t (ix2 r s) = at2 (G m c) (t.val * 512 + r.val) (0 * 1028 + s.val) := by
  unfold iblk
  rw [View.read_apply]
  exact read_at (G m c) _ (win0_3.rect_emb_val t _ 0) (win0_3.rect_emb_val t _ 1) (idx_at t).1.2.2.2.1 (idx_at t).1.2.2.2.2

/-- The four results are the gradient, the change of the weight and the two new moments. -/
theorem result : (dats m 0 c).arrAt 4 cfg0.N = G m c
    ∧ (dats m 0 c).arrAt 5 cfg0.N = Cert.RefAdamKvIdeal.Read.val_main_v23 (F := Ideal) (W m c) (M m c) (V m c) (G m c)
    ∧ (dats m 0 c).arrAt 6 cfg0.N = Cert.RefAdamKvIdeal.Read.val_main_v4 (F := Ideal) (M m c) (G m c)
    ∧ (dats m 0 c).arrAt 7 cfg0.N = Cert.RefAdamKvIdeal.Read.val_main_v10 (F := Ideal) (V m c) (G m c) :=
  results 4 512 (fun t => ((cfg0.win 4).blk t).view.emb) (fun t => ((cfg0.win 5).blk t).view.emb)
    (fun t => ((cfg0.win 6).blk t).view.emb) (fun t => ((cfg0.win 7).blk t).view.emb) rfl N_0
    (fun t j => ⟨(win0_4.rect_emb_val t j 0).trans (congrArg (· * 512 + (j 0).val) (idx_at t).2.1.1.1),
      (win0_4.rect_emb_val t j 1).trans (congrArg (· * 1028 + (j 1).val) (idx_at t).2.1.1.2)⟩)
    (fun t j => ⟨(win0_5.rect_emb_val t j 0).trans (congrArg (· * 512 + (j 0).val) (idx_at t).2.1.2.1.1),
      (win0_5.rect_emb_val t j 1).trans (congrArg (· * 1028 + (j 1).val) (idx_at t).2.1.2.1.2)⟩)
    (fun t j => ⟨(win0_6.rect_emb_val t j 0).trans (congrArg (· * 512 + (j 0).val) (idx_at t).2.1.2.2.1.1),
      (win0_6.rect_emb_val t j 1).trans (congrArg (· * 1028 + (j 1).val) (idx_at t).2.1.2.2.1.2)⟩)
    (fun t j => ⟨(win0_7.rect_emb_val t j 0).trans (congrArg (· * 512 + (j 0).val) (idx_at t).2.1.2.2.2.1),
      (win0_7.rect_emb_val t j 1).trans (congrArg (· * 1028 + (j 1).val) (idx_at t).2.1.2.2.2.2)⟩)
    (w_at m c) (m_at m c) (v_at m c) (g_at m c)
    (fun t j => ⟨(congrFun ((Value.blocks4 m c t (idx_at t).2.2.1).trans (Value.flushed4 m c t)) j).trans (out_eq _ _ _ _ j).1,
      (congrFun ((Value.blocks5 m c t (idx_at t).2.2.2.1).trans (Value.flushed5 m c t)) j).trans (out_eq _ _ _ _ j).2.1,
      (congrFun ((Value.blocks6 m c t (idx_at t).2.2.2.2.1).trans (Value.flushed6 m c t)) j).trans (out_eq _ _ _ _ j).2.2.1,
      (congrFun ((Value.blocks7 m c t (idx_at t).2.2.2.2.2).trans (Value.flushed7 m c t)) j).trans (out_eq _ _ _ _ j).2.2.2⟩)
    (fun i => at2_of (G m c) i _ _ rfl rfl)

end Cert.AdamKvIdeal.Val

end
-- ==== Proof.AdamGlaIn.lean ====
/-
  The update of the linear mixer's input projection: the gradient comes in two parts, one above the other; every entry of the four results
  from the entries there.
-/
module

public import proofs.«01_k».proof.Proof.Adam
public import proofs.«01_k».proof.Proof.Gen.AdamGlaInIdeal.Value
public import proofs.«01_k».proof.Proof.Gen.RefAdamGlaInIdeal.Read

@[expose] public section

noncomputable section

namespace Cert.AdamGlaInIdeal.Val

open Cert.Product Cert.Adam Cert.AdamGlaInIdeal Cert.AdamGlaInIdeal.Gen Idealize.ShloMosaic Idealize.ShloMosaic.TcCoe Idealize.ShloMosaic.ValueIdx

/-- The part of the gradient a point takes. -/
theorem chosen (i : grid0.Coords) (a b : Vec Ideal S256x1540 .f32) : k0_pay1 i b a = if (i 0).val < 8 then a else b :=
  pick _ _ (lt_of_lt_of_le (i 0).isLt (by decide)) (by decide) a b

/-- What a point leaves in each result, entry by entry. -/
theorem out_eq (i : grid0.Coords) (t : ℕ) (h : (i 0).val = t) (w m v a b : Vec Ideal S256x1540 .f32) (j : S256x1540.Idx) (g : EReal)
    (hg : g = if t < 8 then a j else b j) : out0_5 i w m v a b j = g
    ∧ out0_6 i w m v a b j = delta (w j) (m j) (v j) g ∧ out0_7 i w m v a b j = newM (m j) g ∧ out0_8 i w m v a b j = newV (v j) g := by
  have e : k0_pay1 i b a j = g := by
    subst h
    rw [hg, chosen]
    split_ifs <;> rfl
  unfold out0_5 out0_6 out0_7 out0_8
  simp only [View.canon_unit_zero (S := S256x1540) hz, View.ld_unit_zero (S := S256x1540) hz]
  subst e
  exact ⟨rfl, rfl, rfl, rfl⟩

variable (m : (ℓ : Loc nD τ sig) → Buf (Elt Ideal) ℓ) (c : Dev nD)

/-- The weight, its two moments and the parts of its gradient. -/
abbrev W : FVec Ideal S4096x1540 .f32 := m ((c : Thread nD τ).loc main_arg0)
abbrev M : FVec Ideal S4096x1540 .f32 := m ((c : Thread nD τ).loc main_arg1)
abbrev V : FVec Ideal S4096x1540 .f32 := m ((c : Thread nD τ).loc main_arg2)
abbrev G0 : FVec Ideal S2048x1540 .f32 := m ((c : Thread nD τ).loc main_arg3)
abbrev G1 : FVec Ideal S2048x1540 .f32 := m ((c : Thread nD τ).loc main_arg4)

/-- Every point reads and writes its own block of rows of each array, and of the gradient that of the part it takes. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (grid0.coords t 0).val = t.val)
    ∧ ((t.val < 8 → win0_3.index t 0 = t.val ∧ win0_3.index t 1 = 0)
    ∧ (8 ≤ t.val → win0_4.index t 0 = t.val - 8 ∧ win0_4.index t 1 = 0))
    ∧ ((win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0))
    ∧ (cfg0.win 5).flush t = true ∧ (cfg0.win 6).flush t = true ∧ (cfg0.win 7).flush t = true ∧ (cfg0.win 8).flush t = true :=
  (by decide +kernel : ∀ t : Fin grid0.N, _)

theorem w_at (t : Fin cfg0.N) (r : Fin 256) (s : Fin 1540) : iblk m c 0 t (ix2 r s) = at2 (W m c) (t.val * 256 + r.val) (0 * 1540 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 256) (s : Fin 1540) : iblk m c 1 t (ix2 r s) = at2 (M m c) (t.val * 256 + r.val) (0 * 1540 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 256) (s : Fin 1540) : iblk m c 2 t (ix2 r s) = at2 (V m c) (t.val * 256 + r.val) (0 * 1540 + s.val) := by
  unfold iblk
  rw [View.read_apply]
  exact read_at (V m c) _ (win0_2.rect_emb_val t _ 0) (win0_2.rect_emb_val t _ 1) (idx_at t).1.2.2.1.1 (idx_at t).1.2.2.1.2

theorem a_at (t : Fin cfg0.N) (r : Fin 256) (s : Fin 1540) (hu : t.val < 8) :
    iblk m c 3 t (ix2 r s) = at2 (G0 m c) (t.val * 256 + r.val) (0 * 1540 + s.val) := by
  unfold iblk
  rw [View.read_apply]
  exact read_at (G0 m c) _ (win0_3.rect_emb_val t _ 0) (win0_3.rect_emb_val t _ 1) ((idx_at t).2.1.1 hu).1 ((idx_at t).2.1.1 hu).2

theorem b_at (t : Fin cfg0.N) (r : Fin 256) (s : Fin 1540) (hl : 8 ≤ t.val) :
    iblk m c 4 t (ix2 r s) = at2 (G1 m c) ((t.val - 8) * 256 + r.val) (0 * 1540 + s.val) := by
  unfold iblk
  rw [View.read_apply]
  exact read_at (G1 m c) _ (win0_4.rect_emb_val t _ 0) (win0_4.rect_emb_val t _ 1) ((idx_at t).2.1.2 hl).1 ((idx_at t).2.1.2 hl).2

/-- The block of the gradient at a point. -/
def part (t : Fin cfg0.N) (j : S256x1540.Idx) : EReal := if t.val < 8 then iblk m c 3 t j else iblk m c 4 t j

theorem part_at (t : Fin cfg0.N) (r : Fin 256) (s : Fin 1540) : part m c t (ix2 r s)
    = above 2048 (at2 (G0 m c)) (at2 (G1 m c)) (t.val * 256 + r.val) (0 * 1540 + s.val) :=
  above_at (T := 8) r.isLt (a_at m c t r s) (b_at m c t r s)

/-- The four results are the gradient put together, the change of the weight and the two new moments. -/
theorem result : (dats m 0 c).arrAt 5 cfg0.N = Cert.RefAdamGlaInIdeal.Read.val_main_v0 (F := Ideal) (G0 m c) (G1 m c)
    ∧ (dats m 0 c).arrAt 6 cfg0.N = Cert.RefAdamGlaInIdeal.Read.val_main_v24 (F := Ideal) (W m c) (M m c) (V m c) (G0 m c) (G1 m c)
    ∧ (dats m 0 c).arrAt 7 cfg0.N = Cert.RefAdamGlaInIdeal.Read.val_main_v5 (F := Ideal) (M m c) (G0 m c) (G1 m c)
    ∧ (dats m 0 c).arrAt 8 cfg0.N = Cert.RefAdamGlaInIdeal.Read.val_main_v11 (F := Ideal) (V m c) (G0 m c) (G1 m c) :=
  results 16 256 (fun t => ((cfg0.win 5).blk t).view.emb) (fun t => ((cfg0.win 6).blk t).view.emb)
    (fun t => ((cfg0.win 7).blk t).view.emb) (fun t => ((cfg0.win 8).blk t).view.emb) rfl N_0
    (fun t j => ⟨(win0_5.rect_emb_val t j 0).trans (congrArg (· * 256 + (j 0).val) (idx_at t).2.2.1.1.1),
      (win0_5.rect_emb_val t j 1).trans (congrArg (· * 1540 + (j 1).val) (idx_at t).2.2.1.1.2)⟩)
    (fun t j => ⟨(win0_6.rect_emb_val t j 0).trans (congrArg (· * 256 + (j 0).val) (idx_at t).2.2.1.2.1.1),
      (win0_6.rect_emb_val t j 1).trans (congrArg (· * 1540 + (j 1).val) (idx_at t).2.2.1.2.1.2)⟩)
    (fun t j => ⟨(win0_7.rect_emb_val t j 0).trans (congrArg (· * 256 + (j 0).val) (idx_at t).2.2.1.2.2.1.1),
      (win0_7.rect_emb_val t j 1).trans (congrArg (· * 1540 + (j 1).val) (idx_at t).2.2.1.2.2.1.2)⟩)
    (fun t j => ⟨(win0_8.rect_emb_val t j 0).trans (congrArg (· * 256 + (j 0).val) (idx_at t).2.2.1.2.2.2.1),
      (win0_8.rect_emb_val t j 1).trans (congrArg (· * 1540 + (j 1).val) (idx_at t).2.2.1.2.2.2.2)⟩)
    (w_at m c) (m_at m c) (v_at m c) (part_at m c)
    (fun t j => ⟨(congrFun ((Value.blocks5 m c t (idx_at t).2.2.2.1).trans (Value.flushed5 m c t)) j).trans
        (out_eq _ t.val (idx_at t).1.2.2.2 _ _ _ _ _ j (part m c t j) rfl).1,
      (congrFun ((Value.blocks6 m c t (idx_at t).2.2.2.2.1).trans (Value.flushed6 m c t)) j).trans
        (out_eq _ t.val (idx_at t).1.2.2.2 _ _ _ _ _ j (part m c t j) rfl).2.1,
      (congrFun ((Value.blocks7 m c t (idx_at t).2.2.2.2.2.1).trans (Value.flushed7 m c t)) j).trans
        (out_eq _ t.val (idx_at t).1.2.2.2 _ _ _ _ _ j (part m c t j) rfl).2.2.1,
      (congrFun ((Value.blocks8 m c t (idx_at t).2.2.2.2.2.2).trans (Value.flushed8 m c t)) j).trans
        (out_eq _ t.val (idx_at t).1.2.2.2 _ _ _ _ _ j (part m c t j) rfl).2.2.2⟩)
    (fun i => stack2 (G0 m c) (G1 m c) _ i)

end Cert.AdamGlaInIdeal.Val

end
-- ==== Proof.AdamGlaOut.lean ====
/-
  The update of the linear mixer's output projection: the gradient comes in two parts, one above the other; every entry of the four results
  from the entries there.
-/
module

public import proofs.«01_k».proof.Proof.Adam
public import proofs.«01_k».proof.Proof.Gen.AdamGlaOutIdeal.Value
public import proofs.«01_k».proof.Proof.Gen.RefAdamGlaOutIdeal.Read

@[expose] public section

noncomputable section

namespace Cert.AdamGlaOutIdeal.Val

open Cert.Product Cert.Adam Cert.AdamGlaOutIdeal Cert.AdamGlaOutIdeal.Gen Idealize.ShloMosaic Idealize.ShloMosaic.TcCoe Idealize.ShloMosaic.ValueIdx

/-- The part of the gradient a point takes. -/
theorem chosen (i : grid0.Coords) (a b : Vec Ideal S128x2048 .f32) : k0_pay1 i b a = if (i 0).val < 4 then a else b :=
  pick _ _ (lt_of_lt_of_le (i 0).isLt (by decide)) (by decide) a b

/-- What a point leaves in each result, entry by entry. -/
theorem out_eq (i : grid0.Coords) (t : ℕ) (h : (i 0).val = t) (w m v a b : Vec Ideal S128x2048 .f32) (j : S128x2048.Idx) (g : EReal)
    (hg : g = if t < 4 then a j else b j) : out0_5 i w m v a b j = g
    ∧ out0_6 i w m v a b j = delta (w j) (m j) (v j) g ∧ out0_7 i w m v a b j = newM (m j) g ∧ out0_8 i w m v a b j = newV (v j) g := by
  have e : k0_pay1 i b a j = g := by
    subst h
    rw [hg, chosen]
    split_ifs <;> rfl
  unfold out0_5 out0_6 out0_7 out0_8
  simp only [View.canon_unit_zero (S := S128x2048) hz, View.ld_unit_zero (S := S128x2048) hz]
  subst e
  exact ⟨rfl, rfl, rfl, rfl⟩

variable (m : (ℓ : Loc nD τ sig) → Buf (Elt Ideal) ℓ) (c : Dev nD)

/-- The weight, its two moments and the parts of its gradient. -/
abbrev W : FVec Ideal S1024x2048 .f32 := m ((c : Thread nD τ).loc main_arg0)
abbrev M : FVec Ideal S1024x2048 .f32 := m ((c : Thread nD τ).loc main_arg1)
abbrev V : FVec Ideal S1024x2048 .f32 := m ((c : Thread nD τ).loc main_arg2)
abbrev G0 : FVec Ideal S512x2048 .f32 := m ((c : Thread nD τ).loc main_arg3)
abbrev G1 : FVec Ideal S512x2048 .f32 := m ((c : Thread nD τ).loc main_arg4)

/-- Every point reads and writes its own block of rows of each array, and of the gradient that of the part it takes. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (grid0.coords t 0).val = t.val)
    ∧ ((t.val < 4 → win0_3.index t 0 = t.val ∧ win0_3.index t 1 = 0)
    ∧ (4 ≤ t.val → win0_4.index t 0 = t.val - 4 ∧ win0_4.index t 1 = 0))
    ∧ ((win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0))
    ∧ (cfg0.win 5).flush t = true ∧ (cfg0.win 6).flush t = true ∧ (cfg0.win 7).flush t = true ∧ (cfg0.win 8).flush t = true :=
  (by decide +kernel : ∀ t : Fin grid0.N, _)

theorem w_at (t : Fin cfg0.N) (r : Fin 128) (s : Fin 2048) : iblk m c 0 t (ix2 r s) = at2 (W m c) (t.val * 128 + r.val) (0 * 2048 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 128) (s : Fin 2048) : iblk m c 1 t (ix2 r s) = at2 (M m c) (t.val * 128 + r.val) (0 * 2048 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 128) (s : Fin 2048) : iblk m c 2 t (ix2 r s) = at2 (V m c) (t.val * 128 + r.val) (0 * 2048 + s.val) := by
  unfold iblk
  rw [View.read_apply]
  exact read_at (V m c) _ (win0_2.rect_emb_val t _ 0) (win0_2.rect_emb_val t _ 1) (idx_at t).1.2.2.1.1 (idx_at t).1.2.2.1.2

theorem a_at (t : Fin cfg0.N) (r : Fin 128) (s : Fin 2048) (hu : t.val < 4) :
    iblk m c 3 t (ix2 r s) = at2 (G0 m c) (t.val * 128 + r.val) (0 * 2048 + s.val) := by
  unfold iblk
  rw [View.read_apply]
  exact read_at (G0 m c) _ (win0_3.rect_emb_val t _ 0) (win0_3.rect_emb_val t _ 1) ((idx_at t).2.1.1 hu).1 ((idx_at t).2.1.1 hu).2

theorem b_at (t : Fin cfg0.N) (r : Fin 128) (s : Fin 2048) (hl : 4 ≤ t.val) :
    iblk m c 4 t (ix2 r s) = at2 (G1 m c) ((t.val - 4) * 128 + r.val) (0 * 2048 + s.val) := by
  unfold iblk
  rw [View.read_apply]
  exact read_at (G1 m c) _ (win0_4.rect_emb_val t _ 0) (win0_4.rect_emb_val t _ 1) ((idx_at t).2.1.2 hl).1 ((idx_at t).2.1.2 hl).2

/-- The block of the gradient at a point. -/
def part (t : Fin cfg0.N) (j : S128x2048.Idx) : EReal := if t.val < 4 then iblk m c 3 t j else iblk m c 4 t j

theorem part_at (t : Fin cfg0.N) (r : Fin 128) (s : Fin 2048) : part m c t (ix2 r s)
    = above 512 (at2 (G0 m c)) (at2 (G1 m c)) (t.val * 128 + r.val) (0 * 2048 + s.val) :=
  above_at (T := 4) r.isLt (a_at m c t r s) (b_at m c t r s)

/-- The four results are the gradient put together, the change of the weight and the two new moments. -/
theorem result : (dats m 0 c).arrAt 5 cfg0.N = Cert.RefAdamGlaOutIdeal.Read.val_main_v0 (F := Ideal) (G0 m c) (G1 m c)
    ∧ (dats m 0 c).arrAt 6 cfg0.N = Cert.RefAdamGlaOutIdeal.Read.val_main_v24 (F := Ideal) (W m c) (M m c) (V m c) (G0 m c) (G1 m c)
    ∧ (dats m 0 c).arrAt 7 cfg0.N = Cert.RefAdamGlaOutIdeal.Read.val_main_v5 (F := Ideal) (M m c) (G0 m c) (G1 m c)
    ∧ (dats m 0 c).arrAt 8 cfg0.N = Cert.RefAdamGlaOutIdeal.Read.val_main_v11 (F := Ideal) (V m c) (G0 m c) (G1 m c) :=
  results 8 128 (fun t => ((cfg0.win 5).blk t).view.emb) (fun t => ((cfg0.win 6).blk t).view.emb)
    (fun t => ((cfg0.win 7).blk t).view.emb) (fun t => ((cfg0.win 8).blk t).view.emb) rfl N_0
    (fun t j => ⟨(win0_5.rect_emb_val t j 0).trans (congrArg (· * 128 + (j 0).val) (idx_at t).2.2.1.1.1),
      (win0_5.rect_emb_val t j 1).trans (congrArg (· * 2048 + (j 1).val) (idx_at t).2.2.1.1.2)⟩)
    (fun t j => ⟨(win0_6.rect_emb_val t j 0).trans (congrArg (· * 128 + (j 0).val) (idx_at t).2.2.1.2.1.1),
      (win0_6.rect_emb_val t j 1).trans (congrArg (· * 2048 + (j 1).val) (idx_at t).2.2.1.2.1.2)⟩)
    (fun t j => ⟨(win0_7.rect_emb_val t j 0).trans (congrArg (· * 128 + (j 0).val) (idx_at t).2.2.1.2.2.1.1),
      (win0_7.rect_emb_val t j 1).trans (congrArg (· * 2048 + (j 1).val) (idx_at t).2.2.1.2.2.1.2)⟩)
    (fun t j => ⟨(win0_8.rect_emb_val t j 0).trans (congrArg (· * 128 + (j 0).val) (idx_at t).2.2.1.2.2.2.1),
      (win0_8.rect_emb_val t j 1).trans (congrArg (· * 2048 + (j 1).val) (idx_at t).2.2.1.2.2.2.2)⟩)
    (w_at m c) (m_at m c) (v_at m c) (part_at m c)
    (fun t j => ⟨(congrFun ((Value.blocks5 m c t (idx_at t).2.2.2.1).trans (Value.flushed5 m c t)) j).trans
        (out_eq _ t.val (idx_at t).1.2.2.2 _ _ _ _ _ j (part m c t j) rfl).1,
      (congrFun ((Value.blocks6 m c t (idx_at t).2.2.2.2.1).trans (Value.flushed6 m c t)) j).trans
        (out_eq _ t.val (idx_at t).1.2.2.2 _ _ _ _ _ j (part m c t j) rfl).2.1,
      (congrFun ((Value.blocks7 m c t (idx_at t).2.2.2.2.2.1).trans (Value.flushed7 m c t)) j).trans
        (out_eq _ t.val (idx_at t).1.2.2.2 _ _ _ _ _ j (part m c t j) rfl).2.2.1,
      (congrFun ((Value.blocks8 m c t (idx_at t).2.2.2.2.2.2).trans (Value.flushed8 m c t)) j).trans
        (out_eq _ t.val (idx_at t).1.2.2.2 _ _ _ _ _ j (part m c t j) rfl).2.2.2⟩)
    (fun i => stack2 (G0 m c) (G1 m c) _ i)

end Cert.AdamGlaOutIdeal.Val

end
-- ==== Proof.AdamUp.lean ====
/-
  The update of the layers' upward weight: the gradient comes in three parts, one above the other; every entry of the four results
  from the entries there.
-/
module

public import proofs.«01_k».proof.Proof.Adam
public import proofs.«01_k».proof.Proof.Gen.AdamUpIdeal.Value
public import proofs.«01_k».proof.Proof.Gen.RefAdamUpIdeal.Read

@[expose] public section

noncomputable section

namespace Cert.AdamUpIdeal.Val

open Cert.Product Cert.Adam Cert.AdamUpIdeal Cert.AdamUpIdeal.Gen Idealize.ShloMosaic Idealize.ShloMosaic.TcCoe Idealize.ShloMosaic.ValueIdx

/-- The part of the gradient a point takes. -/
theorem chosen (i : grid0.Coords) (a b d : Vec Ideal S128x2816 .f32) : k0_pay2 i d b a = if (i 0).val < 16 then a else if (i 0).val < 32 then b else d :=
  (pick _ _ (lt_of_lt_of_le (i 0).isLt (by decide)) (by decide) a _).trans
    (if_congr Iff.rfl rfl (pick _ _ (lt_of_lt_of_le (i 0).isLt (by decide)) (by decide) b d))

/-- What a point leaves in each result, entry by entry. -/
theorem out_eq (i : grid0.Coords) (t : ℕ) (h : (i 0).val = t) (w m v a b d : Vec Ideal S128x2816 .f32) (j : S128x2816.Idx) (g : EReal)
    (hg : g = if t < 16 then a j else if t < 32 then b j else d j) : out0_6 i w m v a b d j = g
    ∧ out0_7 i w m v a b d j = delta (w j) (m j) (v j) g ∧ out0_8 i w m v a b d j = newM (m j) g ∧ out0_9 i w m v a b d j = newV (v j) g := by
  have e : k0_pay2 i d b a j = g := by
    subst h
    rw [hg, chosen]
    split_ifs <;> rfl
  unfold out0_6 out0_7 out0_8 out0_9
  simp only [View.canon_unit_zero (S := S128x2816) hz, View.ld_unit_zero (S := S128x2816) hz]
  subst e
  exact ⟨rfl, rfl, rfl, rfl⟩

variable (m : (ℓ : Loc nD τ sig) → Buf (Elt Ideal) ℓ) (c : Dev nD)

/-- The weight, its two moments and the parts of its gradient. -/
abbrev W : FVec Ideal S8192x2816 .f32 := m ((c : Thread nD τ).loc main_arg0)
abbrev M : FVec Ideal S8192x2816 .f32 := m ((c : Thread nD τ).loc main_arg1)
abbrev V : FVec Ideal S8192x2816 .f32 := m ((c : Thread nD τ).loc main_arg2)
abbrev G0 : FVec Ideal S2048x2816 .f32 := m ((c : Thread nD τ).loc main_arg3)
abbrev G1 : FVec Ideal S2048x2816 .f32 := m ((c : Thread nD τ).loc main_arg4)
abbrev G2 : FVec Ideal S4096x2816 .f32 := m ((c : Thread nD τ).loc main_arg5)

/-- Every point reads and writes its own block of rows of each array, and of the gradient that of the part it takes. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (grid0.coords t 0).val = t.val)
    ∧ ((t.val < 16 → win0_3.index t 0 = t.val ∧ win0_3.index t 1 = 0)
    ∧ (16 ≤ t.val → t.val < 32 → win0_4.index t 0 = t.val - 16 ∧ win0_4.index t 1 = 0)
    ∧ (32 ≤ t.val → win0_5.index t 0 = t.val - 32 ∧ win0_5.index t 1 = 0))
    ∧ ((win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0))
    ∧ (cfg0.win 6).flush t = true ∧ (cfg0.win 7).flush t = true ∧ (cfg0.win 8).flush t = true ∧ (cfg0.win 9).flush t = true :=
  (by decide +kernel : ∀ t : Fin grid0.N, _)

theorem w_at (t : Fin cfg0.N) (r : Fin 128) (s : Fin 2816) : iblk m c 0 t (ix2 r s) = at2 (W m c) (t.val * 128 + r.val) (0 * 2816 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 128) (s : Fin 2816) : iblk m c 1 t (ix2 r s) = at2 (M m c) (t.val * 128 + r.val) (0 * 2816 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 128) (s : Fin 2816) : iblk m c 2 t (ix2 r s) = at2 (V m c) (t.val * 128 + r.val) (0 * 2816 + s.val) := by
  unfold iblk
  rw [View.read_apply]
  exact read_at (V m c) _ (win0_2.rect_emb_val t _ 0) (win0_2.rect_emb_val t _ 1) (idx_at t).1.2.2.1.1 (idx_at t).1.2.2.1.2

theorem a_at (t : Fin cfg0.N) (r : Fin 128) (s : Fin 2816) (hu : t.val < 16) :
    iblk m c 3 t (ix2 r s) = at2 (G0 m c) (t.val * 128 + r.val) (0 * 2816 + s.val) := by
  unfold iblk
  rw [View.read_apply]
  exact read_at (G0 m c) _ (win0_3.rect_emb_val t _ 0) (win0_3.rect_emb_val t _ 1) ((idx_at t).2.1.1 hu).1 ((idx_at t).2.1.1 hu).2

theorem b_at (t : Fin cfg0.N) (r : Fin 128) (s : Fin 2816) (hl : 16 ≤ t.val) (hu : t.val < 32) :
    iblk m c 4 t (ix2 r s) = at2 (G1 m c) ((t.val - 16) * 128 + r.val) (0 * 2816 + s.val) := by
  unfold iblk
  rw [View.read_apply]
  exact read_at (G1 m c) _ (win0_4.rect_emb_val t _ 0) (win0_4.rect_emb_val t _ 1) ((idx_at t).2.1.2.1 hl hu).1 ((idx_at t).2.1.2.1 hl hu).2

theorem d_at (t : Fin cfg0.N) (r : Fin 128) (s : Fin 2816) (hl : 32 ≤ t.val) :
    iblk m c 5 t (ix2 r s) = at2 (G2 m c) ((t.val - 32) * 128 + r.val) (0 * 2816 + s.val) := by
  unfold iblk
  rw [View.read_apply]
  exact read_at (G2 m c) _ (win0_5.rect_emb_val t _ 0) (win0_5.rect_emb_val t _ 1) ((idx_at t).2.1.2.2 hl).1 ((idx_at t).2.1.2.2 hl).2

/-- The block of the gradient at a point. -/
def part (t : Fin cfg0.N) (j : S128x2816.Idx) : EReal := if t.val < 16 then iblk m c 3 t j else if t.val < 32 then iblk m c 4 t j else iblk m c 5 t j

theorem part_at (t : Fin cfg0.N) (r : Fin 128) (s : Fin 2816) : part m c t (ix2 r s)
    = above 2048 (at2 (G0 m c)) (above 2048 (at2 (G1 m c)) (at2 (G2 m c))) (t.val * 128 + r.val) (0 * 2816 + s.val) :=
  above_above_at (T := 16) (U := 16) r.isLt (a_at m c t r s) (b_at m c t r s) (d_at m c t r s)

/-- The four results are the gradient put together, the change of the weight and the two new moments. -/
theorem result : (dats m 0 c).arrAt 6 cfg0.N = Cert.RefAdamUpIdeal.Read.val_main_v0 (F := Ideal) (G0 m c) (G1 m c) (G2 m c)
    ∧ (dats m 0 c).arrAt 7 cfg0.N = Cert.RefAdamUpIdeal.Read.val_main_v24 (F := Ideal) (W m c) (M m c) (V m c) (G0 m c) (G1 m c) (G2 m c)
    ∧ (dats m 0 c).arrAt 8 cfg0.N = Cert.RefAdamUpIdeal.Read.val_main_v5 (F := Ideal) (M m c) (G0 m c) (G1 m c) (G2 m c)
    ∧ (dats m 0 c).arrAt 9 cfg0.N = Cert.RefAdamUpIdeal.Read.val_main_v11 (F := Ideal) (V m c) (G0 m c) (G1 m c) (G2 m c) :=
  results 64 128 (fun t => ((cfg0.win 6).blk t).view.emb) (fun t => ((cfg0.win 7).blk t).view.emb)
    (fun t => ((cfg0.win 8).blk t).view.emb) (fun t => ((cfg0.win 9).blk t).view.emb) rfl N_0
    (fun t j => ⟨(win0_6.rect_emb_val t j 0).trans (congrArg (· * 128 + (j 0).val) (idx_at t).2.2.1.1.1),
      (win0_6.rect_emb_val t j 1).trans (congrArg (· * 2816 + (j 1).val) (idx_at t).2.2.1.1.2)⟩)
    (fun t j => ⟨(win0_7.rect_emb_val t j 0).trans (congrArg (· * 128 + (j 0).val) (idx_at t).2.2.1.2.1.1),
      (win0_7.rect_emb_val t j 1).trans (congrArg (· * 2816 + (j 1).val) (idx_at t).2.2.1.2.1.2)⟩)
    (fun t j => ⟨(win0_8.rect_emb_val t j 0).trans (congrArg (· * 128 + (j 0).val) (idx_at t).2.2.1.2.2.1.1),
      (win0_8.rect_emb_val t j 1).trans (congrArg (· * 2816 + (j 1).val) (idx_at t).2.2.1.2.2.1.2)⟩)
    (fun t j => ⟨(win0_9.rect_emb_val t j 0).trans (congrArg (· * 128 + (j 0).val) (idx_at t).2.2.1.2.2.2.1),
      (win0_9.rect_emb_val t j 1).trans (congrArg (· * 2816 + (j 1).val) (idx_at t).2.2.1.2.2.2.2)⟩)
    (w_at m c) (m_at m c) (v_at m c) (part_at m c)
    (fun t j => ⟨(congrFun ((Value.blocks6 m c t (idx_at t).2.2.2.1).trans (Value.flushed6 m c t)) j).trans
        (out_eq _ t.val (idx_at t).1.2.2.2 _ _ _ _ _ _ j (part m c t j) rfl).1,
      (congrFun ((Value.blocks7 m c t (idx_at t).2.2.2.2.1).trans (Value.flushed7 m c t)) j).trans
        (out_eq _ t.val (idx_at t).1.2.2.2 _ _ _ _ _ _ j (part m c t j) rfl).2.1,
      (congrFun ((Value.blocks8 m c t (idx_at t).2.2.2.2.2.1).trans (Value.flushed8 m c t)) j).trans
        (out_eq _ t.val (idx_at t).1.2.2.2 _ _ _ _ _ _ j (part m c t j) rfl).2.2.1,
      (congrFun ((Value.blocks9 m c t (idx_at t).2.2.2.2.2.2).trans (Value.flushed9 m c t)) j).trans
        (out_eq _ t.val (idx_at t).1.2.2.2 _ _ _ _ _ _ j (part m c t j) rfl).2.2.2⟩)
    (fun i => stack3 (G0 m c) (G1 m c) (G2 m c) _ i)

end Cert.AdamUpIdeal.Val

end
-- ==== Proof.AdamDown.lean ====
/-
  The update of the layers' downward weight: the gradient comes in three parts, one above the other; every entry of the four results
  from the entries there.
-/
module

public import proofs.«01_k».proof.Proof.Adam
public import proofs.«01_k».proof.Proof.Gen.AdamDownIdeal.Value
public import proofs.«01_k».proof.Proof.Gen.RefAdamDownIdeal.Read

@[expose] public section

noncomputable section

namespace Cert.AdamDownIdeal.Val

open Cert.Product Cert.Adam Cert.AdamDownIdeal Cert.AdamDownIdeal.Gen Idealize.ShloMosaic Idealize.ShloMosaic.TcCoe Idealize.ShloMosaic.ValueIdx

/-- The part of the gradient a point takes. -/
theorem chosen (i : grid0.Coords) (a b d : Vec Ideal S176x2048 .f32) : k0_pay2 i d b a = if (i 0).val < 8 then a else if (i 0).val < 16 then b else d :=
  (pick _ _ (lt_of_lt_of_le (i 0).isLt (by decide)) (by decide) a _).trans
    (if_congr Iff.rfl rfl (pick _ _ (lt_of_lt_of_le (i 0).isLt (by decide)) (by decide) b d))

/-- What a point leaves in each result, entry by entry. -/
theorem out_eq (i : grid0.Coords) (t : ℕ) (h : (i 0).val = t) (w m v a b d : Vec Ideal S176x2048 .f32) (j : S176x2048.Idx) (g : EReal)
    (hg : g = if t < 8 then a j else if t < 16 then b j else d j) : out0_6 i w m v a b d j = g
    ∧ out0_7 i w m v a b d j = delta (w j) (m j) (v j) g ∧ out0_8 i w m v a b d j = newM (m j) g ∧ out0_9 i w m v a b d j = newV (v j) g := by
  have e : k0_pay2 i d b a j = g := by
    subst h
    rw [hg, chosen]
    split_ifs <;> rfl
  unfold out0_6 out0_7 out0_8 out0_9
  simp only [View.canon_unit_zero (S := S176x2048) hz, View.ld_unit_zero (S := S176x2048) hz]
  subst e
  exact ⟨rfl, rfl, rfl, rfl⟩

variable (m : (ℓ : Loc nD τ sig) → Buf (Elt Ideal) ℓ) (c : Dev nD)

/-- The weight, its two moments and the parts of its gradient. -/
abbrev W : FVec Ideal S5632x2048 .f32 := m ((c : Thread nD τ).loc main_arg0)
abbrev M : FVec Ideal S5632x2048 .f32 := m ((c : Thread nD τ).loc main_arg1)
abbrev V : FVec Ideal S5632x2048 .f32 := m ((c : Thread nD τ).loc main_arg2)
abbrev G0 : FVec Ideal S1408x2048 .f32 := m ((c : Thread nD τ).loc main_arg3)
abbrev G1 : FVec Ideal S1408x2048 .f32 := m ((c : Thread nD τ).loc main_arg4)
abbrev G2 : FVec Ideal S2816x2048 .f32 := m ((c : Thread nD τ).loc main_arg5)

/-- Every point reads and writes its own block of rows of each array, and of the gradient that of the part it takes. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (grid0.coords t 0).val = t.val)
    ∧ ((t.val < 8 → win0_3.index t 0 = t.val ∧ win0_3.index t 1 = 0)
    ∧ (8 ≤ t.val → t.val < 16 → win0_4.index t 0 = t.val - 8 ∧ win0_4.index t 1 = 0)
    ∧ (16 ≤ t.val → win0_5.index t 0 = t.val - 16 ∧ win0_5.index t 1 = 0))
    ∧ ((win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0))
    ∧ (cfg0.win 6).flush t = true ∧ (cfg0.win 7).flush t = true ∧ (cfg0.win 8).flush t = true ∧ (cfg0.win 9).flush t = true :=
  (by decide +kernel : ∀ t : Fin grid0.N, _)

theorem w_at (t : Fin cfg0.N) (r : Fin 176) (s : Fin 2048) : iblk m c 0 t (ix2 r s) = at2 (W m c) (t.val * 176 + r.val) (0 * 2048 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 176) (s : Fin 2048) : iblk m c 1 t (ix2 r s) = at2 (M m c) (t.val * 176 + r.val) (0 * 2048 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 176) (s : Fin 2048) : iblk m c 2 t (ix2 r s) = at2 (V m c) (t.val * 176 + r.val) (0 * 2048 + s.val) := by
  unfold iblk
  rw [View.read_apply]
  exact read_at (V m c) _ (win0_2.rect_emb_val t _ 0) (win0_2.rect_emb_val t _ 1) (idx_at t).1.2.2.1.1 (idx_at t).1.2.2.1.2

theorem a_at (t : Fin cfg0.N) (r : Fin 176) (s : Fin 2048) (hu : t.val < 8) :
    iblk m c 3 t (ix2 r s) = at2 (G0 m c) (t.val * 176 + r.val) (0 * 2048 + s.val) := by
  unfold iblk
  rw [View.read_apply]
  exact read_at (G0 m c) _ (win0_3.rect_emb_val t _ 0) (win0_3.rect_emb_val t _ 1) ((idx_at t).2.1.1 hu).1 ((idx_at t).2.1.1 hu).2

theorem b_at (t : Fin cfg0.N) (r : Fin 176) (s : Fin 2048) (hl : 8 ≤ t.val) (hu : t.val < 16) :
    iblk m c 4 t (ix2 r s) = at2 (G1 m c) ((t.val - 8) * 176 + r.val) (0 * 2048 + s.val) := by
  unfold iblk
  rw [View.read_apply]
  exact read_at (G1 m c) _ (win0_4.rect_emb_val t _ 0) (win0_4.rect_emb_val t _ 1) ((idx_at t).2.1.2.1 hl hu).1 ((idx_at t).2.1.2.1 hl hu).2

theorem d_at (t : Fin cfg0.N) (r : Fin 176) (s : Fin 2048) (hl : 16 ≤ t.val) :
    iblk m c 5 t (ix2 r s) = at2 (G2 m c) ((t.val - 16) * 176 + r.val) (0 * 2048 + s.val) := by
  unfold iblk
  rw [View.read_apply]
  exact read_at (G2 m c) _ (win0_5.rect_emb_val t _ 0) (win0_5.rect_emb_val t _ 1) ((idx_at t).2.1.2.2 hl).1 ((idx_at t).2.1.2.2 hl).2

/-- The block of the gradient at a point. -/
def part (t : Fin cfg0.N) (j : S176x2048.Idx) : EReal := if t.val < 8 then iblk m c 3 t j else if t.val < 16 then iblk m c 4 t j else iblk m c 5 t j

theorem part_at (t : Fin cfg0.N) (r : Fin 176) (s : Fin 2048) : part m c t (ix2 r s)
    = above 1408 (at2 (G0 m c)) (above 1408 (at2 (G1 m c)) (at2 (G2 m c))) (t.val * 176 + r.val) (0 * 2048 + s.val) :=
  above_above_at (T := 8) (U := 8) r.isLt (a_at m c t r s) (b_at m c t r s) (d_at m c t r s)

/-- The four results are the gradient put together, the change of the weight and the two new moments. -/
theorem result : (dats m 0 c).arrAt 6 cfg0.N = Cert.RefAdamDownIdeal.Read.val_main_v0 (F := Ideal) (G0 m c) (G1 m c) (G2 m c)
    ∧ (dats m 0 c).arrAt 7 cfg0.N = Cert.RefAdamDownIdeal.Read.val_main_v24 (F := Ideal) (W m c) (M m c) (V m c) (G0 m c) (G1 m c) (G2 m c)
    ∧ (dats m 0 c).arrAt 8 cfg0.N = Cert.RefAdamDownIdeal.Read.val_main_v5 (F := Ideal) (M m c) (G0 m c) (G1 m c) (G2 m c)
    ∧ (dats m 0 c).arrAt 9 cfg0.N = Cert.RefAdamDownIdeal.Read.val_main_v11 (F := Ideal) (V m c) (G0 m c) (G1 m c) (G2 m c) :=
  results 32 176 (fun t => ((cfg0.win 6).blk t).view.emb) (fun t => ((cfg0.win 7).blk t).view.emb)
    (fun t => ((cfg0.win 8).blk t).view.emb) (fun t => ((cfg0.win 9).blk t).view.emb) rfl N_0
    (fun t j => ⟨(win0_6.rect_emb_val t j 0).trans (congrArg (· * 176 + (j 0).val) (idx_at t).2.2.1.1.1),
      (win0_6.rect_emb_val t j 1).trans (congrArg (· * 2048 + (j 1).val) (idx_at t).2.2.1.1.2)⟩)
    (fun t j => ⟨(win0_7.rect_emb_val t j 0).trans (congrArg (· * 176 + (j 0).val) (idx_at t).2.2.1.2.1.1),
      (win0_7.rect_emb_val t j 1).trans (congrArg (· * 2048 + (j 1).val) (idx_at t).2.2.1.2.1.2)⟩)
    (fun t j => ⟨(win0_8.rect_emb_val t j 0).trans (congrArg (· * 176 + (j 0).val) (idx_at t).2.2.1.2.2.1.1),
      (win0_8.rect_emb_val t j 1).trans (congrArg (· * 2048 + (j 1).val) (idx_at t).2.2.1.2.2.1.2)⟩)
    (fun t j => ⟨(win0_9.rect_emb_val t j 0).trans (congrArg (· * 176 + (j 0).val) (idx_at t).2.2.1.2.2.2.1),
      (win0_9.rect_emb_val t j 1).trans (congrArg (· * 2048 + (j 1).val) (idx_at t).2.2.1.2.2.2.2)⟩)
    (w_at m c) (m_at m c) (v_at m c) (part_at m c)
    (fun t j => ⟨(congrFun ((Value.blocks6 m c t (idx_at t).2.2.2.1).trans (Value.flushed6 m c t)) j).trans
        (out_eq _ t.val (idx_at t).1.2.2.2 _ _ _ _ _ _ j (part m c t j) rfl).1,
      (congrFun ((Value.blocks7 m c t (idx_at t).2.2.2.2.1).trans (Value.flushed7 m c t)) j).trans
        (out_eq _ t.val (idx_at t).1.2.2.2 _ _ _ _ _ _ j (part m c t j) rfl).2.1,
      (congrFun ((Value.blocks8 m c t (idx_at t).2.2.2.2.2.1).trans (Value.flushed8 m c t)) j).trans
        (out_eq _ t.val (idx_at t).1.2.2.2 _ _ _ _ _ _ j (part m c t j) rfl).2.2.1,
      (congrFun ((Value.blocks9 m c t (idx_at t).2.2.2.2.2.2).trans (Value.flushed9 m c t)) j).trans
        (out_eq _ t.val (idx_at t).1.2.2.2 _ _ _ _ _ _ j (part m c t j) rfl).2.2.2⟩)
    (fun i => stack3 (G0 m c) (G1 m c) (G2 m c) _ i)

end Cert.AdamDownIdeal.Val

end
-- ==== Proof.AdamSmall.lean ====
/-
  The update of the small weights, packed into one array: every entry of the four results from the entries there.
-/
module

public import proofs.«01_k».proof.Proof.Adam
public import proofs.«01_k».proof.Proof.Gen.AdamSmallIdeal.Value
public import proofs.«01_k».proof.Proof.Gen.RefAdamSmallIdeal.Read

@[expose] public section

noncomputable section

namespace Cert.AdamSmallIdeal.Val

open Cert.Product Cert.Adam Cert.AdamSmallIdeal Cert.AdamSmallIdeal.Gen Idealize.ShloMosaic Idealize.ShloMosaic.TcCoe Idealize.ShloMosaic.ValueIdx

/-- What a point leaves in each result, entry by entry. -/
theorem out_eq (w m v g : Vec Ideal S816x128 .f32) (j : S816x128.Idx) : out0_4 w m v g j = g j
    ∧ out0_5 w m v g j = delta (w j) (m j) (v j) (g j) ∧ out0_6 w m v g j = newM (m j) (g j) ∧ out0_7 w m v g j = newV (v j) (g j) := by
  unfold out0_4 out0_5 out0_6 out0_7
  simp only [View.canon_unit_zero (S := S816x128) hz, View.ld_unit_zero (S := S816x128) hz]
  exact ⟨trivial, rfl, rfl, rfl⟩

variable (m : (ℓ : Loc nD τ sig) → Buf (Elt Ideal) ℓ) (c : Dev nD)

/-- The weight, its two moments and its gradient. -/
abbrev W : FVec Ideal S816x128 .f32 := m ((c : Thread nD τ).loc main_arg0)
abbrev M : FVec Ideal S816x128 .f32 := m ((c : Thread nD τ).loc main_arg1)
abbrev V : FVec Ideal S816x128 .f32 := m ((c : Thread nD τ).loc main_arg2)
abbrev G : FVec Ideal S816x128 .f32 := m ((c : Thread nD τ).loc main_arg3)

/-- The one point reads and writes the whole of each array. -/
theorem idx_at : ∀ t : Fin cfg0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))
    ∧ (cfg0.win 4).flush t = true ∧ (cfg0.win 5).flush t = true ∧ (cfg0.win 6).flush t = true ∧ (cfg0.win 7).flush t = true :=
  (by decide +kernel : ∀ t : Fin grid0.N, _)

theorem w_at (t : Fin cfg0.N) (r : Fin 816) (s : Fin 128) : iblk m c 0 t (ix2 r s) = at2 (W m c) (t.val * 816 + r.val) (0 * 128 + s.val) := by
  unfold iblk
  rw [View.read_apply]
  exact read_at (W m c) _ (win0_0.rect_emb_val t _ 0) (win0_0.rect_emb_val t _ 1) (idx_at t).1.1.1 (idx_at t).1.1.2

theorem m_at (t : Fin cfg0.N) (r : Fin 816) (s : Fin 128) : iblk m c 1 t (ix2 r s) = at2 (M m c) (t.val * 816 + r.val) (0 * 128 + s.val) := by
  unfold iblk
  rw [View.read_apply]
  exact read_at (M m c) _ (win0_1.rect_emb_val t _ 0) (win0_1.rect_emb_val t _ 1) (idx_at t).1.2.1.1 (idx_at t).1.2.1.2

theorem v_at (t : Fin cfg0.N) (r : Fin 816) (s : Fin 128) : iblk m c 2 t (ix2 r s) = at2 (V m c) (t.val * 816 + r.val) (0 * 128 + s.val) := by
  unfold iblk
  rw [View.read_apply]
  exact read_at (V m c) _ (win0_2.rect_emb_val t _ 0) (win0_2.rect_emb_val t _ 1) (idx_at t).1.2.2.1.1 (idx_at t).1.2.2.1.2

theorem g_at (t : Fin cfg0.N) (r : Fin 816) (s : Fin 128) : iblk m c 3 t (ix2 r s) = at2 (G m c) (t.val * 816 + r.val) (0 * 128 + s.val) := by
  unfold iblk
  rw [View.read_apply]
  exact read_at (G m c) _ (win0_3.rect_emb_val t _ 0) (win0_3.rect_emb_val t _ 1) (idx_at t).1.2.2.2.1 (idx_at t).1.2.2.2.2

/-- The four results are the gradient, the change of the weight and the two new moments. -/
theorem result : (dats m 0 c).arrAt 4 cfg0.N = G m c
    ∧ (dats m 0 c).arrAt 5 cfg0.N = Cert.RefAdamSmallIdeal.Read.val_main_v23 (F := Ideal) (W m c) (M m c) (V m c) (G m c)
    ∧ (dats m 0 c).arrAt 6 cfg0.N = Cert.RefAdamSmallIdeal.Read.val_main_v4 (F := Ideal) (M m c) (G m c)
    ∧ (dats m 0 c).arrAt 7 cfg0.N = Cert.RefAdamSmallIdeal.Read.val_main_v10 (F := Ideal) (V m c) (G m c) :=
  results 1 816 (fun t => ((cfg0.win 4).blk t).view.emb) (fun t => ((cfg0.win 5).blk t).view.emb)
    (fun t => ((cfg0.win 6).blk t).view.emb) (fun t => ((cfg0.win 7).blk t).view.emb) rfl N_0
    (fun t j => ⟨(win0_4.rect_emb_val t j 0).trans (congrArg (· * 816 + (j 0).val) (idx_at t).2.1.1.1),
      (win0_4.rect_emb_val t j 1).trans (congrArg (· * 128 + (j 1).val) (idx_at t).2.1.1.2)⟩)
    (fun t j => ⟨(win0_5.rect_emb_val t j 0).trans (congrArg (· * 816 + (j 0).val) (idx_at t).2.1.2.1.1),
      (win0_5.rect_emb_val t j 1).trans (congrArg (· * 128 + (j 1).val) (idx_at t).2.1.2.1.2)⟩)
    (fun t j => ⟨(win0_6.rect_emb_val t j 0).trans (congrArg (· * 816 + (j 0).val) (idx_at t).2.1.2.2.1.1),
      (win0_6.rect_emb_val t j 1).trans (congrArg (· * 128 + (j 1).val) (idx_at t).2.1.2.2.1.2)⟩)
    (fun t j => ⟨(win0_7.rect_emb_val t j 0).trans (congrArg (· * 816 + (j 0).val) (idx_at t).2.1.2.2.2.1),
      (win0_7.rect_emb_val t j 1).trans (congrArg (· * 128 + (j 1).val) (idx_at t).2.1.2.2.2.2)⟩)
    (w_at m c) (m_at m c) (v_at m c) (g_at m c)
    (fun t j => ⟨(congrFun ((Value.blocks4 m c t (idx_at t).2.2.1).trans (Value.flushed4 m c t)) j).trans (out_eq _ _ _ _ j).1,
      (congrFun ((Value.blocks5 m c t (idx_at t).2.2.2.1).trans (Value.flushed5 m c t)) j).trans (out_eq _ _ _ _ j).2.1,
      (congrFun ((Value.blocks6 m c t (idx_at t).2.2.2.2.1).trans (Value.flushed6 m c t)) j).trans (out_eq _ _ _ _ j).2.2.1,
      (congrFun ((Value.blocks7 m c t (idx_at t).2.2.2.2.2).trans (Value.flushed7 m c t)) j).trans (out_eq _ _ _ _ j).2.2.2⟩)
    (fun i => at2_of (G m c) i _ _ rfl rfl)

end Cert.AdamSmallIdeal.Val

end
-- ==== Proof.SumSmall.lean ====
/-
  The sum over the devices of the small weights' gradients and of the loss, packed into one array per device: every entry of the
  result is the sum of the eight entries there.
-/
module

public import proofs.«01_k».proof.Proof.Gen.SumSmallIdeal.Value
public import proofs.«01_k».proof.Proof.Gen.RefSumSmallIdeal.Read
public import Idealize.ShloMosaic.Lib.ValueIdxCore
import Idealize.ShloMosaic.Lib.ValueLayout
import Idealize.ShloMosaic.Lib.Pipeline.ValueKit.Tiles

@[expose] public section

noncomputable section

namespace Cert.SumSmallIdeal.Val

open Cert.SumSmallIdeal Cert.SumSmallIdeal.Gen Idealize.ShloMosaic Idealize.ShloMosaic.TcCoe Idealize.ShloMosaic.ValueIdx

/-- Device `k`'s array, loaded as one slice and read without its axis of one, is that array's entry. -/
theorem slice_at (x : Vec Ideal S8x2208x128 .f32) (k : Fin 8) (inb) (h) (i : Fin 2208) (j : Fin 128) :
    shapeCast S2208x128 (View.ld x (Rect.unit (s := S8x2208x128) ![k.val, 0, 0] S1x2208x128.size inb)) h (ix2 i j) = x (ix3 k i j) :=
  (shapeCast_1ab_ab_apply _ h i j).trans (View.ld_unit_apply_of x _ _ inb _ _ fun a => match a with
    | ⟨0, _⟩ => by show k.val = k.val + 0; omega
    | ⟨1, _⟩ => by show i.val = 0 + i.val; omega
    | ⟨2, _⟩ => by show j.val = 0 + j.val; omega)

/-- What the call leaves is the sum of the eight arrays. -/
theorem result (x : FVec Ideal S8x2208x128 .f32) : Value.G1 (F := Ideal) x = Cert.RefSumSmallIdeal.Read.val_main_v0 (F := Ideal) x := by
  funext y
  obtain ⟨i, j, rfl⟩ : ∃ i j, y = ix2 i j := ⟨y 0, y 1, by funext a; match a with | ⟨0, _⟩ => rfl | ⟨1, _⟩ => rfl⟩
  have hr : ∀ k : Fin 8, Cert.RefSumSmallIdeal.Read.idx_main_v0 (ix2 i j) k = ix3 k i j := fun k => by
    funext a; match a with | ⟨0, _⟩ => rfl | ⟨1, _⟩ => rfl | ⟨2, _⟩ => rfl
  have hz : Cert.RefSumSmallIdeal.Read.val_main_cst (F := Ideal) (Shape.Idx.first Cert.RefSumSmallIdeal.Gen.h_S_) = 0 :=
    Ideal.ofBits_zero_f32
  rw [Cert.RefSumSmallIdeal.Read.val_main_v0_apply, hz, zero_add, Fin.sum_univ_eight]
  simp only [hr]
  rw [← slice_at x 0 inb_S8x2208x128_S1x2208x128_0_0_0 shapeCasts_S1x2208x128_S2208x128 i j,
    ← slice_at x 1 inb_S8x2208x128_S1x2208x128_1_0_0 shapeCasts_S1x2208x128_S2208x128 i j,
    ← slice_at x 2 inb_S8x2208x128_S1x2208x128_2_0_0 shapeCasts_S1x2208x128_S2208x128 i j,
    ← slice_at x 3 inb_S8x2208x128_S1x2208x128_3_0_0 shapeCasts_S1x2208x128_S2208x128 i j,
    ← slice_at x 4 inb_S8x2208x128_S1x2208x128_4_0_0 shapeCasts_S1x2208x128_S2208x128 i j,
    ← slice_at x 5 inb_S8x2208x128_S1x2208x128_5_0_0 shapeCasts_S1x2208x128_S2208x128 i j,
    ← slice_at x 6 inb_S8x2208x128_S1x2208x128_6_0_0 shapeCasts_S1x2208x128_S2208x128 i j,
    ← slice_at x 7 inb_S8x2208x128_S1x2208x128_7_0_0 shapeCasts_S1x2208x128_S2208x128 i j]
  rfl

end Cert.SumSmallIdeal.Val

end
-- ==== Proof.lean ====
/-
  The certificate: the programs run to the end with their arguments kept, the idealized kernel is the kernel's own text, and
  under the precondition its four results are the reference's; each of the products and of the updates is its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DownDx.Frame
public import proofs.«01_k».proof.Proof.Gen.DownDxIdeal.Value
public import proofs.«01_k».proof.Proof.Gen.RefDownDxIdeal.Read
public import proofs.«01_k».proof.Proof.Gen.DownDw.Frame
public import proofs.«01_k».proof.Proof.Gen.DownDwIdeal.Value
public import proofs.«01_k».proof.Proof.Gen.RefDownDwIdeal.Read
public import proofs.«01_k».proof.Proof.Gen.UpDw.Frame
public import proofs.«01_k».proof.Proof.Gen.UpDwIdeal.Value
public import proofs.«01_k».proof.Proof.Gen.RefUpDwIdeal.Read
public import proofs.«01_k».proof.Proof.Gen.UpDx.Frame
public import proofs.«01_k».proof.Proof.Gen.UpDxIdeal.Value
public import proofs.«01_k».proof.Proof.Gen.RefUpDxIdeal.Read
public import proofs.«01_k».proof.Proof.Gen.UpDxG.Frame
public import proofs.«01_k».proof.Proof.Gen.UpDxGIdeal.Value
public import proofs.«01_k».proof.Proof.Gen.RefUpDxGIdeal.Read
public import proofs.«01_k».proof.Proof.Gen.Up.Frame
public import proofs.«01_k».proof.Proof.Gen.UpIdeal.Value
public import proofs.«01_k».proof.Proof.Gen.RefUpIdeal.Read
public import proofs.«01_k».proof.Proof.Gen.Down.Frame
public import proofs.«01_k».proof.Proof.Gen.DownIdeal.Value
public import proofs.«01_k».proof.Proof.Gen.RefDownIdeal.Read
public import proofs.«01_k».proof.Proof.Gen.Out.Frame
public import proofs.«01_k».proof.Proof.Gen.OutIdeal.Value
public import proofs.«01_k».proof.Proof.Gen.RefOutIdeal.Read
public import proofs.«01_k».proof.Proof.Gen.OutDx.Frame
public import proofs.«01_k».proof.Proof.Gen.OutDxIdeal.Value
public import proofs.«01_k».proof.Proof.Gen.RefOutDxIdeal.Read
public import proofs.«01_k».proof.Proof.Gen.OutDw.Frame
public import proofs.«01_k».proof.Proof.Gen.OutDwIdeal.Value
public import proofs.«01_k».proof.Proof.Gen.RefOutDwIdeal.Read
public import proofs.«01_k».proof.Proof.Gen.FoxIn.Frame
public import proofs.«01_k».proof.Proof.Gen.FoxInIdeal.Value
public import proofs.«01_k».proof.Proof.Gen.RefFoxInIdeal.Read
public import proofs.«01_k».proof.Proof.Gen.FoxInDw.Frame
public import proofs.«01_k».proof.Proof.Gen.FoxInDwIdeal.Value
public import proofs.«01_k».proof.Proof.Gen.RefFoxInDwIdeal.Read
public import proofs.«01_k».proof.Proof.Gen.FoxInDx.Frame
public import proofs.«01_k».proof.Proof.Gen.FoxInDxIdeal.Value
public import proofs.«01_k».proof.Proof.Gen.RefFoxInDxIdeal.Read
public import proofs.«01_k».proof.Proof.Gen.GlaIn.Frame
public import proofs.«01_k».proof.Proof.Gen.GlaInIdeal.Value
public import proofs.«01_k».proof.Proof.Gen.RefGlaInIdeal.Read
public import proofs.«01_k».proof.Proof.Gen.GlaInDw.Frame
public import proofs.«01_k».proof.Proof.Gen.GlaInDwIdeal.Value
public import proofs.«01_k».proof.Proof.Gen.RefGlaInDwIdeal.Read
public import proofs.«01_k».proof.Proof.Gen.GlaInDx.Frame
public import proofs.«01_k».proof.Proof.Gen.GlaInDxIdeal.Value
public import proofs.«01_k».proof.Proof.Gen.RefGlaInDxIdeal.Read
public import proofs.«01_k».proof.Proof.Gen.KvProj.Frame
public import proofs.«01_k».proof.Proof.Gen.KvProjIdeal.Value
public import proofs.«01_k».proof.Proof.Gen.RefKvProjIdeal.Read
public import proofs.«01_k».proof.Proof.Gen.KvGate.Frame
public import proofs.«01_k».proof.Proof.Gen.KvGateIdeal.Value
public import proofs.«01_k».proof.Proof.Gen.RefKvGateIdeal.Read
public import proofs.«01_k».proof.Proof.Gen.KvDw.Frame
public import proofs.«01_k».proof.Proof.Gen.KvDwIdeal.Value
public import proofs.«01_k».proof.Proof.Gen.RefKvDwIdeal.Read
public import proofs.«01_k».proof.Proof.Gen.KvDx.Frame
public import proofs.«01_k».proof.Proof.Gen.KvDxIdeal.Value
public import proofs.«01_k».proof.Proof.Gen.RefKvDxIdeal.Read
public import proofs.«01_k».proof.Proof.Gen.AdamFoxIn.Frame
public import proofs.«01_k».proof.Proof.Gen.AdamFoxInIdeal.Value
public import proofs.«01_k».proof.Proof.Gen.RefAdamFoxInIdeal.Read
public import proofs.«01_k».proof.Proof.Gen.AdamFoxOut.Frame
public import proofs.«01_k».proof.Proof.Gen.AdamFoxOutIdeal.Value
public import proofs.«01_k».proof.Proof.Gen.RefAdamFoxOutIdeal.Read
public import proofs.«01_k».proof.Proof.Gen.AdamKv.Frame
public import proofs.«01_k».proof.Proof.Gen.AdamKvIdeal.Value
public import proofs.«01_k».proof.Proof.Gen.RefAdamKvIdeal.Read
public import proofs.«01_k».proof.Proof.Gen.AdamGlaIn.Frame
public import proofs.«01_k».proof.Proof.Gen.AdamGlaInIdeal.Value
public import proofs.«01_k».proof.Proof.Gen.RefAdamGlaInIdeal.Read
public import proofs.«01_k».proof.Proof.Gen.AdamGlaOut.Frame
public import proofs.«01_k».proof.Proof.Gen.AdamGlaOutIdeal.Value
public import proofs.«01_k».proof.Proof.Gen.RefAdamGlaOutIdeal.Read
public import proofs.«01_k».proof.Proof.Gen.AdamUp.Frame
public import proofs.«01_k».proof.Proof.Gen.AdamUpIdeal.Value
public import proofs.«01_k».proof.Proof.Gen.RefAdamUpIdeal.Read
public import proofs.«01_k».proof.Proof.Gen.AdamDown.Frame
public import proofs.«01_k».proof.Proof.Gen.AdamDownIdeal.Value
public import proofs.«01_k».proof.Proof.Gen.RefAdamDownIdeal.Read
public import proofs.«01_k».proof.Proof.Gen.AdamSmall.Frame
public import proofs.«01_k».proof.Proof.Gen.AdamSmallIdeal.Value
public import proofs.«01_k».proof.Proof.Gen.RefAdamSmallIdeal.Read
public import proofs.«01_k».proof.Proof.Gen.SumSmall.Frame
public import proofs.«01_k».proof.Proof.Gen.SumSmallIdeal.Value
public import proofs.«01_k».proof.Proof.Gen.RefSumSmallIdeal.Read
public import proofs.«01_k».proof.Proof.Agree
public import proofs.«01_k».proof.Proof.DownDx
public import proofs.«01_k».proof.Proof.DownDw
public import proofs.«01_k».proof.Proof.UpDw
public import proofs.«01_k».proof.Proof.UpDx
public import proofs.«01_k».proof.Proof.UpDxG
public import proofs.«01_k».proof.Proof.Up
public import proofs.«01_k».proof.Proof.Down
public import proofs.«01_k».proof.Proof.Out
public import proofs.«01_k».proof.Proof.OutDx
public import proofs.«01_k».proof.Proof.OutDw
public import proofs.«01_k».proof.Proof.FoxIn
public import proofs.«01_k».proof.Proof.FoxInDw
public import proofs.«01_k».proof.Proof.FoxInDx
public import proofs.«01_k».proof.Proof.GlaIn
public import proofs.«01_k».proof.Proof.GlaInDw
public import proofs.«01_k».proof.Proof.GlaInDx
public import proofs.«01_k».proof.Proof.KvProj
public import proofs.«01_k».proof.Proof.KvGate
public import proofs.«01_k».proof.Proof.KvDw
public import proofs.«01_k».proof.Proof.KvDx
public import proofs.«01_k».proof.Proof.AdamFoxIn
public import proofs.«01_k».proof.Proof.AdamFoxOut
public import proofs.«01_k».proof.Proof.AdamKv
public import proofs.«01_k».proof.Proof.AdamGlaIn
public import proofs.«01_k».proof.Proof.AdamGlaOut
public import proofs.«01_k».proof.Proof.AdamUp
public import proofs.«01_k».proof.Proof.AdamDown
public import proofs.«01_k».proof.Proof.AdamSmall
public import proofs.«01_k».proof.Proof.SumSmall
public import Idealize.ShloMosaic.Adequacy
public import Idealize.ShloMosaic.Init

@[expose] public section

noncomputable section

namespace Cert.Proof

open Idealize.ShloMosaic Idealize.ShloMosaic.TcCoe Idealize.SL.Sem

theorem frame_k : Cert.quiescent_Kernel (hKernel := Cert.Kernel.Gen.facts) := fun m ρ _ => Cert.Kernel.Gen.frame m ρ

theorem frame_ki : Cert.quiescent_KernelIdeal (hKernelIdeal := Cert.KernelIdeal.Gen.facts) := fun m ρ _ => Cert.KernelIdeal.Gen.frame m ρ

theorem frame_kip : Cert.quiescent_KernelIdeal_pre_finite_inert (hKernelIdeal := Cert.KernelIdeal.Gen.facts)
    (hPre_finite_inert := Cert.Pre_finite_inert.Val.facts) := fun m ρ _ => Cert.KernelIdeal.Gen.frame m ρ

/-- The reference runs with its arguments kept; it declares no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem frame_rip : Cert.quiescent_ReferenceIdeal_pre_finite_inert (hReferenceIdeal := Cert.ReferenceIdeal.Gen.facts)
    (hPre_finite_inert := Cert.Pre_finite_inert.Val.facts) := fun m ρ _ => frame_ri m ρ trivial

section
open Cert.KernelIdeal Cert.KernelIdeal.Gen Cert.KernelIdeal.Val

variable (m : (ℓ : Loc nD τ sig) → Buf (Elt Ideal) ℓ) (ρ : Dev nD → PrngReg)

/-- What the idealized kernel's run leaves in its results. -/
theorem run_ki : θ_run (defs (F := Ideal)) (onTc (τ := τ) (main (F := Ideal))) ⟨m, fun _ => 0, ρ⟩ (fun r => ∀ c : Dev nD,
    r.2.mem ((c.tc : Thread nD τ).loc main_v120) = A120 (VT m c)
    ∧ r.2.mem ((c.tc : Thread nD τ).loc main_v127) = A127 (VT m c)
    ∧ r.2.mem ((c.tc : Thread nD τ).loc main_v129) = A129 (VT m c)
    ∧ r.2.mem ((c.tc : Thread nD τ).loc main_v125) = A125 (VT m c)) :=
  (θ_run (defs (F := Ideal)) _ _).mono (fun r h c =>
    ⟨((h c).2 main_v120 (Pipeline.mem_restRefs_of main_v120 (by decide) (by decide))).trans (by unfold A120 VT; rfl),
      ((h c).2 main_v127 (Pipeline.mem_restRefs_of main_v127 (by decide) (by decide))).trans (by unfold A127 VT; rfl),
      ((h c).2 main_v129 (Pipeline.mem_restRefs_of main_v129 (by decide) (by decide))).trans (by unfold A129 VT; rfl),
      ((h c).2 main_v125 (Pipeline.mem_restRefs_of main_v125 (by decide) (by decide))).trans (by unfold A125 VT; rfl)⟩)
    (run_main m ρ)

end

theorem algebraic : Cert.algebraic_KernelIdeal_ReferenceIdeal_pre_finite_inert (hKernelIdeal := Cert.KernelIdeal.Gen.facts)
    (hReferenceIdeal := Cert.ReferenceIdeal.Gen.facts) (hPre_finite_inert := Cert.Pre_finite_inert.Val.facts) := by
  letI := Cert.Pre_finite_inert.Val.facts
  intro m ρ m' ρ' hpre hagree
  have hv := fun c => Cert.KernelIdeal.Val.agree m c (by
    unfold Cert.KernelIdeal.Val.X0 Cert.KernelIdeal.Val.X1 Cert.KernelIdeal.Val.X2 Cert.KernelIdeal.Val.X3 Cert.KernelIdeal.Val.X4
      Cert.KernelIdeal.Val.X5 Cert.KernelIdeal.Val.X6 Cert.KernelIdeal.Val.X7
    exact hpre c)
  unfold Cert.KernelIdeal.Val.X0 Cert.KernelIdeal.Val.X1 Cert.KernelIdeal.Val.X2 Cert.KernelIdeal.Val.X3 Cert.KernelIdeal.Val.X4
    Cert.KernelIdeal.Val.X5 Cert.KernelIdeal.Val.X6 Cert.KernelIdeal.Val.X7 at hv
  refine ⟨fun c => Cert.KernelIdeal.Val.A120 (Cert.KernelIdeal.Val.VT m c), fun c => Cert.KernelIdeal.Val.A127 (Cert.KernelIdeal.Val.VT m c),
    fun c => Cert.KernelIdeal.Val.A129 (Cert.KernelIdeal.Val.VT m c), fun c => Cert.KernelIdeal.Val.A125 (Cert.KernelIdeal.Val.VT m c), ?_, ?_⟩
  · exact (θ_run Cert.KernelIdeal.defs _ _).mono
      (fun r h c => ⟨(h.1 c).1, (h.1 c).2.1, (h.1 c).2.2.1, (h.1 c).2.2.2, h.2 c⟩)
      (θ_run_and (run_ki m ρ) (Cert.KernelIdeal.Gen.unchanged m ρ))
  · refine (θ_run Cert.ReferenceIdeal.defs _ _).mono (fun r h c => ?_) (Cert.ReferenceIdeal.Value.run (F := Ideal) m' ρ')
    obtain ⟨e0, e1, e2, e3, e4, e5, e6, e7⟩ := hagree c
    obtain ⟨r0, r1, r2, r3, rest⟩ := h c
    refine ⟨r0.trans ?_, r1.trans ?_, r2.trans ?_, r3.trans ?_, rest⟩
    · exact (Cert.ReferenceIdeal.Read.val_main_v101_eq m' c).trans ((by rw [e0, e1, e2, e3, e4] : _ = _).trans (hv c).1.symm)
    · exact (Cert.ReferenceIdeal.Read.val_main_v102_eq m' c).trans ((by rw [e0, e1, e2, e3, e4, e5] : _ = _).trans (hv c).2.1.symm)
    · exact (Cert.ReferenceIdeal.Read.val_main_v103_eq m' c).trans ((by rw [e0, e1, e3, e4, e6] : _ = _).trans (hv c).2.2.1.symm)
    · exact (Cert.ReferenceIdeal.Read.val_main_v104_eq m' c).trans ((by rw [e0, e1, e2, e3, e4, e7] : _ = _).trans (hv c).2.2.2.symm)

/-! The products. Each program's run is the one its generated modules state, and its value is its module's `result`. -/

section
open Idealize.SL

variable {nD : ℕ} {τ : Topo} {sig : RefSig} {Val : EltTy → Type} {Λ : Labels} {D : Defs nD τ sig Val Λ}
  {P : (c : Thread nD τ) → Prog (TpuEff nD τ sig Val Λ c.2) PUnit} {s : MemSt nD τ sig Val}

/-- A run that keeps its arguments, of a program without semaphores, ends with its counters at zero. -/
theorem quiet {A B : PUnit × MemSt nD τ sig Val → Dev nD → Prop} (h0 : sig.nSem + sig.nDmaSem = 0)
    (h : θ_run D P s fun r => ∀ c, A r c ∧ B r c) : θ_run D P s fun r => (∀ c, B r c) ∧ r.2.sem = fun _ => 0 :=
  (θ_run D P s).mono (fun r h => ⟨fun c => (h c).2, sem_eq_zero_of_no_sems h0 r.2⟩) h

/-- A run that leaves one value leaves any value equal to it. -/
theorem leaves {β : Dev nD → Type} {f : PUnit × MemSt nD τ sig Val → (c : Dev nD) → β c} {v w : (c : Dev nD) → β c}
    {B : PUnit × MemSt nD τ sig Val → Dev nD → Prop} (h : θ_run D P s fun r => ∀ c, f r c = v c ∧ B r c)
    (e : ∀ c, w c = v c) : θ_run D P s fun r => ∀ c, f r c = w c ∧ B r c :=
  (θ_run D P s).mono (fun r h c => ⟨(h c).1.trans (e c).symm, (h c).2⟩) h

/-- `quiet` of a run that states four results. -/
theorem quiet4 {A0 A1 A2 A3 B : PUnit × MemSt nD τ sig Val → Dev nD → Prop} (h0 : sig.nSem + sig.nDmaSem = 0)
    (h : θ_run D P s fun r => ∀ c, A0 r c ∧ A1 r c ∧ A2 r c ∧ A3 r c ∧ B r c) :
    θ_run D P s fun r => (∀ c, B r c) ∧ r.2.sem = fun _ => 0 :=
  quiet (A := fun _ _ => True) h0 ((θ_run D P s).mono (fun _ h c => ⟨trivial, (h c).2.2.2.2⟩) h)

/-- `leaves` of four values. -/
theorem leaves4 {β0 β1 β2 β3 : Dev nD → Type} {f0 : PUnit × MemSt nD τ sig Val → (c : Dev nD) → β0 c}
    {f1 : PUnit × MemSt nD τ sig Val → (c : Dev nD) → β1 c} {f2 : PUnit × MemSt nD τ sig Val → (c : Dev nD) → β2 c}
    {f3 : PUnit × MemSt nD τ sig Val → (c : Dev nD) → β3 c} {v0 w0 : (c : Dev nD) → β0 c} {v1 w1 : (c : Dev nD) → β1 c}
    {v2 w2 : (c : Dev nD) → β2 c} {v3 w3 : (c : Dev nD) → β3 c} {B : PUnit × MemSt nD τ sig Val → Dev nD → Prop}
    (h : θ_run D P s fun r => ∀ c, f0 r c = v0 c ∧ f1 r c = v1 c ∧ f2 r c = v2 c ∧ f3 r c = v3 c ∧ B r c)
    (e : ∀ c, w0 c = v0 c ∧ w1 c = v1 c ∧ w2 c = v2 c ∧ w3 c = v3 c) :
    θ_run D P s fun r => ∀ c, f0 r c = w0 c ∧ f1 r c = w1 c ∧ f2 r c = w2 c ∧ f3 r c = w3 c ∧ B r c :=
  (θ_run D P s).mono (fun _ h c => ⟨(h c).1.trans (e c).1.symm, (h c).2.1.trans (e c).2.1.symm, (h c).2.2.1.trans (e c).2.2.1.symm,
    (h c).2.2.2.1.trans (e c).2.2.2.symm, (h c).2.2.2.2⟩) h

end

theorem frame_down_dx : Cert.quiescent_RefDownDxIdeal (hRefDownDxIdeal := Cert.RefDownDxIdeal.Gen.facts) := fun m ρ _ =>
  quiet (by decide) (Cert.RefDownDxIdeal.Value.run (F := Ideal) m ρ)

theorem algebraic_down_dx : Cert.algebraic_DownDxIdeal_RefDownDxIdeal (hDownDxIdeal := Cert.DownDxIdeal.Gen.facts)
    (hRefDownDxIdeal := Cert.RefDownDxIdeal.Gen.facts) := fun m ρ m' ρ' _ h =>
  ⟨_, Cert.DownDxIdeal.Value.run_blocks m ρ, leaves (Cert.RefDownDxIdeal.Value.run (F := Ideal) m' ρ') fun c => by
    rw [(h c).1, (h c).2]
    exact Cert.DownDxIdeal.Val.result m c⟩

theorem frame_down_dw : Cert.quiescent_RefDownDwIdeal (hRefDownDwIdeal := Cert.RefDownDwIdeal.Gen.facts) := fun m ρ _ =>
  quiet (by decide) (Cert.RefDownDwIdeal.Value.run (F := Ideal) m ρ)

theorem algebraic_down_dw : Cert.algebraic_DownDwIdeal_RefDownDwIdeal (hDownDwIdeal := Cert.DownDwIdeal.Gen.facts)
    (hRefDownDwIdeal := Cert.RefDownDwIdeal.Gen.facts) := fun m ρ m' ρ' _ h =>
  ⟨_, Cert.DownDwIdeal.Value.run m ρ, leaves (Cert.RefDownDwIdeal.Value.run (F := Ideal) m' ρ') fun c => by
    rw [(h c).1, (h c).2]
    exact Cert.DownDwIdeal.Val.result m c⟩

theorem frame_up_dw : Cert.quiescent_RefUpDwIdeal (hRefUpDwIdeal := Cert.RefUpDwIdeal.Gen.facts) := fun m ρ _ =>
  quiet (by decide) (Cert.RefUpDwIdeal.Value.run (F := Ideal) m ρ)

theorem algebraic_up_dw : Cert.algebraic_UpDwIdeal_RefUpDwIdeal (hUpDwIdeal := Cert.UpDwIdeal.Gen.facts)
    (hRefUpDwIdeal := Cert.RefUpDwIdeal.Gen.facts) := fun m ρ m' ρ' _ h =>
  ⟨_, Cert.UpDwIdeal.Value.run m ρ, leaves (Cert.RefUpDwIdeal.Value.run (F := Ideal) m' ρ') fun c => by
    rw [(h c).1, (h c).2]
    exact Cert.UpDwIdeal.Val.result m c⟩

theorem frame_up_dx : Cert.quiescent_RefUpDxIdeal (hRefUpDxIdeal := Cert.RefUpDxIdeal.Gen.facts) := fun m ρ _ =>
  quiet (by decide) (Cert.RefUpDxIdeal.Value.run (F := Ideal) m ρ)

theorem algebraic_up_dx : Cert.algebraic_UpDxIdeal_RefUpDxIdeal (hUpDxIdeal := Cert.UpDxIdeal.Gen.facts)
    (hRefUpDxIdeal := Cert.RefUpDxIdeal.Gen.facts) := fun m ρ m' ρ' _ h =>
  ⟨_, Cert.UpDxIdeal.Value.run m ρ, leaves (Cert.RefUpDxIdeal.Value.run (F := Ideal) m' ρ') fun c => by
    rw [(h c).1, (h c).2.1, (h c).2.2]
    exact Cert.UpDxIdeal.Val.result m c⟩

theorem frame_up_dx_g : Cert.quiescent_RefUpDxGIdeal (hRefUpDxGIdeal := Cert.RefUpDxGIdeal.Gen.facts) := fun m ρ _ =>
  quiet (by decide) (Cert.RefUpDxGIdeal.Value.run (F := Ideal) m ρ)

theorem algebraic_up_dx_g : Cert.algebraic_UpDxGIdeal_RefUpDxGIdeal (hUpDxGIdeal := Cert.UpDxGIdeal.Gen.facts)
    (hRefUpDxGIdeal := Cert.RefUpDxGIdeal.Gen.facts) := fun m ρ m' ρ' _ h =>
  ⟨_, Cert.UpDxGIdeal.Value.run m ρ, leaves (Cert.RefUpDxGIdeal.Value.run (F := Ideal) m' ρ') fun c => by
    rw [(h c).1, (h c).2.1, (h c).2.2]
    exact Cert.UpDxGIdeal.Val.result m c⟩

theorem frame_up : Cert.quiescent_RefUpIdeal (hRefUpIdeal := Cert.RefUpIdeal.Gen.facts) := fun m ρ _ =>
  quiet (by decide) (Cert.RefUpIdeal.Value.run (F := Ideal) m ρ)

theorem algebraic_up : Cert.algebraic_UpIdeal_RefUpIdeal (hUpIdeal := Cert.UpIdeal.Gen.facts)
    (hRefUpIdeal := Cert.RefUpIdeal.Gen.facts) := fun m ρ m' ρ' _ h =>
  ⟨_, Cert.UpIdeal.Value.run_blocks m ρ, leaves (Cert.RefUpIdeal.Value.run (F := Ideal) m' ρ') fun c => by
    rw [(h c).1, (h c).2]
    exact Cert.UpIdeal.Val.result m c⟩

theorem frame_down : Cert.quiescent_RefDownIdeal (hRefDownIdeal := Cert.RefDownIdeal.Gen.facts) := fun m ρ _ =>
  quiet (by decide) (Cert.RefDownIdeal.Value.run (F := Ideal) m ρ)

theorem algebraic_down : Cert.algebraic_DownIdeal_RefDownIdeal (hDownIdeal := Cert.DownIdeal.Gen.facts)
    (hRefDownIdeal := Cert.RefDownIdeal.Gen.facts) := fun m ρ m' ρ' _ h =>
  ⟨_, Cert.DownIdeal.Value.run m ρ, leaves (Cert.RefDownIdeal.Value.run (F := Ideal) m' ρ') fun c => by
    rw [(h c).1, (h c).2]
    exact Cert.DownIdeal.Val.result m c⟩

theorem frame_out : Cert.quiescent_RefOutIdeal (hRefOutIdeal := Cert.RefOutIdeal.Gen.facts) := fun m ρ _ =>
  quiet (by decide) (Cert.RefOutIdeal.Value.run (F := Ideal) m ρ)

theorem algebraic_out : Cert.algebraic_OutIdeal_RefOutIdeal (hOutIdeal := Cert.OutIdeal.Gen.facts)
    (hRefOutIdeal := Cert.RefOutIdeal.Gen.facts) := fun m ρ m' ρ' _ h =>
  ⟨_, Cert.OutIdeal.Value.run_blocks m ρ, leaves (Cert.RefOutIdeal.Value.run (F := Ideal) m' ρ') fun c => by
    rw [(h c).1, (h c).2]
    exact Cert.OutIdeal.Val.result m c⟩

theorem frame_out_dx : Cert.quiescent_RefOutDxIdeal (hRefOutDxIdeal := Cert.RefOutDxIdeal.Gen.facts) := fun m ρ _ =>
  quiet (by decide) (Cert.RefOutDxIdeal.Value.run (F := Ideal) m ρ)

theorem algebraic_out_dx : Cert.algebraic_OutDxIdeal_RefOutDxIdeal (hOutDxIdeal := Cert.OutDxIdeal.Gen.facts)
    (hRefOutDxIdeal := Cert.RefOutDxIdeal.Gen.facts) := fun m ρ m' ρ' _ h =>
  ⟨_, Cert.OutDxIdeal.Value.run_blocks m ρ, leaves (Cert.RefOutDxIdeal.Value.run (F := Ideal) m' ρ') fun c => by
    rw [(h c).1, (h c).2]
    exact Cert.OutDxIdeal.Val.result m c⟩

theorem frame_out_dw : Cert.quiescent_RefOutDwIdeal (hRefOutDwIdeal := Cert.RefOutDwIdeal.Gen.facts) := fun m ρ _ =>
  quiet (by decide) (Cert.RefOutDwIdeal.Value.run (F := Ideal) m ρ)

theorem algebraic_out_dw : Cert.algebraic_OutDwIdeal_RefOutDwIdeal (hOutDwIdeal := Cert.OutDwIdeal.Gen.facts)
    (hRefOutDwIdeal := Cert.RefOutDwIdeal.Gen.facts) := fun m ρ m' ρ' _ h =>
  ⟨_, Cert.OutDwIdeal.Value.run m ρ, leaves (Cert.RefOutDwIdeal.Value.run (F := Ideal) m' ρ') fun c => by
    rw [(h c).1, (h c).2]
    exact Cert.OutDwIdeal.Val.result m c⟩

theorem frame_fox_in : Cert.quiescent_RefFoxInIdeal (hRefFoxInIdeal := Cert.RefFoxInIdeal.Gen.facts) := fun m ρ _ =>
  quiet (by decide) (Cert.RefFoxInIdeal.Value.run (F := Ideal) m ρ)

theorem algebraic_fox_in : Cert.algebraic_FoxInIdeal_RefFoxInIdeal (hFoxInIdeal := Cert.FoxInIdeal.Gen.facts)
    (hRefFoxInIdeal := Cert.RefFoxInIdeal.Gen.facts) := fun m ρ m' ρ' _ h =>
  ⟨_, Cert.FoxInIdeal.Value.run_blocks m ρ, leaves (Cert.RefFoxInIdeal.Value.run (F := Ideal) m' ρ') fun c => by
    rw [(h c).1, (h c).2]
    exact Cert.FoxInIdeal.Val.result m c⟩

theorem frame_fox_in_dw : Cert.quiescent_RefFoxInDwIdeal (hRefFoxInDwIdeal := Cert.RefFoxInDwIdeal.Gen.facts) := fun m ρ _ =>
  quiet (by decide) (Cert.RefFoxInDwIdeal.Value.run (F := Ideal) m ρ)

theorem algebraic_fox_in_dw : Cert.algebraic_FoxInDwIdeal_RefFoxInDwIdeal (hFoxInDwIdeal := Cert.FoxInDwIdeal.Gen.facts)
    (hRefFoxInDwIdeal := Cert.RefFoxInDwIdeal.Gen.facts) := fun m ρ m' ρ' _ h =>
  ⟨_, Cert.FoxInDwIdeal.Value.run m ρ, leaves (Cert.RefFoxInDwIdeal.Value.run (F := Ideal) m' ρ') fun c => by
    rw [(h c).1, (h c).2]
    exact Cert.FoxInDwIdeal.Val.result m c⟩

theorem frame_fox_in_dx : Cert.quiescent_RefFoxInDxIdeal (hRefFoxInDxIdeal := Cert.RefFoxInDxIdeal.Gen.facts) := fun m ρ _ =>
  quiet (by decide) (Cert.RefFoxInDxIdeal.Value.run (F := Ideal) m ρ)

theorem algebraic_fox_in_dx : Cert.algebraic_FoxInDxIdeal_RefFoxInDxIdeal (hFoxInDxIdeal := Cert.FoxInDxIdeal.Gen.facts)
    (hRefFoxInDxIdeal := Cert.RefFoxInDxIdeal.Gen.facts) := fun m ρ m' ρ' _ h =>
  ⟨_, Cert.FoxInDxIdeal.Value.run m ρ, leaves (Cert.RefFoxInDxIdeal.Value.run (F := Ideal) m' ρ') fun c => by
    rw [(h c).1, (h c).2.1, (h c).2.2]
    exact Cert.FoxInDxIdeal.Val.result m c⟩

theorem frame_gla_in : Cert.quiescent_RefGlaInIdeal (hRefGlaInIdeal := Cert.RefGlaInIdeal.Gen.facts) := fun m ρ _ =>
  quiet (by decide) (Cert.RefGlaInIdeal.Value.run (F := Ideal) m ρ)

theorem algebraic_gla_in : Cert.algebraic_GlaInIdeal_RefGlaInIdeal (hGlaInIdeal := Cert.GlaInIdeal.Gen.facts)
    (hRefGlaInIdeal := Cert.RefGlaInIdeal.Gen.facts) := fun m ρ m' ρ' _ h =>
  ⟨_, Cert.GlaInIdeal.Value.run_blocks m ρ, leaves (Cert.RefGlaInIdeal.Value.run (F := Ideal) m' ρ') fun c => by
    rw [(h c).1, (h c).2]
    exact Cert.GlaInIdeal.Val.result m c⟩

theorem frame_gla_in_dw : Cert.quiescent_RefGlaInDwIdeal (hRefGlaInDwIdeal := Cert.RefGlaInDwIdeal.Gen.facts) := fun m ρ _ =>
  quiet (by decide) (Cert.RefGlaInDwIdeal.Value.run (F := Ideal) m ρ)

theorem algebraic_gla_in_dw : Cert.algebraic_GlaInDwIdeal_RefGlaInDwIdeal (hGlaInDwIdeal := Cert.GlaInDwIdeal.Gen.facts)
    (hRefGlaInDwIdeal := Cert.RefGlaInDwIdeal.Gen.facts) := fun m ρ m' ρ' _ h =>
  ⟨_, Cert.GlaInDwIdeal.Value.run m ρ, leaves (Cert.RefGlaInDwIdeal.Value.run (F := Ideal) m' ρ') fun c => by
    rw [(h c).1, (h c).2]
    exact Cert.GlaInDwIdeal.Val.result m c⟩

theorem frame_gla_in_dx : Cert.quiescent_RefGlaInDxIdeal (hRefGlaInDxIdeal := Cert.RefGlaInDxIdeal.Gen.facts) := fun m ρ _ =>
  quiet (by decide) (Cert.RefGlaInDxIdeal.Value.run (F := Ideal) m ρ)

theorem algebraic_gla_in_dx : Cert.algebraic_GlaInDxIdeal_RefGlaInDxIdeal (hGlaInDxIdeal := Cert.GlaInDxIdeal.Gen.facts)
    (hRefGlaInDxIdeal := Cert.RefGlaInDxIdeal.Gen.facts) := fun m ρ m' ρ' _ h =>
  ⟨_, Cert.GlaInDxIdeal.Value.run m ρ, leaves (Cert.RefGlaInDxIdeal.Value.run (F := Ideal) m' ρ') fun c => by
    rw [(h c).1, (h c).2.1, (h c).2.2]
    exact Cert.GlaInDxIdeal.Val.result m c⟩

theorem frame_kv_proj : Cert.quiescent_RefKvProjIdeal (hRefKvProjIdeal := Cert.RefKvProjIdeal.Gen.facts) := fun m ρ _ =>
  quiet (by decide) (Cert.RefKvProjIdeal.Value.run (F := Ideal) m ρ)

theorem algebraic_kv_proj : Cert.algebraic_KvProjIdeal_RefKvProjIdeal (hKvProjIdeal := Cert.KvProjIdeal.Gen.facts)
    (hRefKvProjIdeal := Cert.RefKvProjIdeal.Gen.facts) := fun m ρ m' ρ' _ h =>
  ⟨_, Cert.KvProjIdeal.Value.run_blocks m ρ, leaves (Cert.RefKvProjIdeal.Value.run (F := Ideal) m' ρ') fun c => by
    rw [(h c).1, (h c).2]
    exact Cert.KvProjIdeal.Val.result m c⟩

theorem frame_kv_gate : Cert.quiescent_RefKvGateIdeal (hRefKvGateIdeal := Cert.RefKvGateIdeal.Gen.facts) := fun m ρ _ =>
  quiet (by decide) (Cert.RefKvGateIdeal.Value.run (F := Ideal) m ρ)

theorem algebraic_kv_gate : Cert.algebraic_KvGateIdeal_RefKvGateIdeal (hKvGateIdeal := Cert.KvGateIdeal.Gen.facts)
    (hRefKvGateIdeal := Cert.RefKvGateIdeal.Gen.facts) := fun m ρ m' ρ' _ h =>
  ⟨_, Cert.KvGateIdeal.Value.run_blocks m ρ, leaves (Cert.RefKvGateIdeal.Value.run (F := Ideal) m' ρ') fun c => by
    rw [(h c).1, (h c).2]
    exact Cert.KvGateIdeal.Val.result m c⟩

theorem frame_kv_dw : Cert.quiescent_RefKvDwIdeal (hRefKvDwIdeal := Cert.RefKvDwIdeal.Gen.facts) := fun m ρ _ =>
  quiet (by decide) (Cert.RefKvDwIdeal.Value.run (F := Ideal) m ρ)

theorem algebraic_kv_dw : Cert.algebraic_KvDwIdeal_RefKvDwIdeal (hKvDwIdeal := Cert.KvDwIdeal.Gen.facts)
    (hRefKvDwIdeal := Cert.RefKvDwIdeal.Gen.facts) := fun m ρ m' ρ' _ h =>
  ⟨_, Cert.KvDwIdeal.Value.run m ρ, leaves (Cert.RefKvDwIdeal.Value.run (F := Ideal) m' ρ') fun c => by
    rw [(h c).1, (h c).2]
    exact Cert.KvDwIdeal.Val.result m c⟩

theorem frame_kv_dx : Cert.quiescent_RefKvDxIdeal (hRefKvDxIdeal := Cert.RefKvDxIdeal.Gen.facts) := fun m ρ _ =>
  quiet (by decide) (Cert.RefKvDxIdeal.Value.run (F := Ideal) m ρ)

theorem algebraic_kv_dx : Cert.algebraic_KvDxIdeal_RefKvDxIdeal (hKvDxIdeal := Cert.KvDxIdeal.Gen.facts)
    (hRefKvDxIdeal := Cert.RefKvDxIdeal.Gen.facts) := fun m ρ m' ρ' _ h =>
  ⟨_, Cert.KvDxIdeal.Value.run m ρ, leaves (Cert.RefKvDxIdeal.Value.run (F := Ideal) m' ρ') fun c => by
    rw [(h c).1, (h c).2.1, (h c).2.2]
    exact Cert.KvDxIdeal.Val.result m c⟩

theorem frame_adam_fox_in : Cert.quiescent_RefAdamFoxInIdeal (hRefAdamFoxInIdeal := Cert.RefAdamFoxInIdeal.Gen.facts) := fun m ρ _ =>
  quiet4 (by decide) (Cert.RefAdamFoxInIdeal.Value.run (F := Ideal) m ρ)

theorem algebraic_adam_fox_in : Cert.algebraic_AdamFoxInIdeal_RefAdamFoxInIdeal (hAdamFoxInIdeal := Cert.AdamFoxInIdeal.Gen.facts)
    (hRefAdamFoxInIdeal := Cert.RefAdamFoxInIdeal.Gen.facts) := fun m ρ m' ρ' _ h =>
  ⟨_, _, _, _, Cert.AdamFoxInIdeal.Value.run_blocks m ρ, leaves4 (Cert.RefAdamFoxInIdeal.Value.run (F := Ideal) m' ρ') fun c => by
    rw [(h c).1, (h c).2.1, (h c).2.2.1, (h c).2.2.2]
    exact Cert.AdamFoxInIdeal.Val.result m c⟩

theorem frame_adam_fox_out : Cert.quiescent_RefAdamFoxOutIdeal (hRefAdamFoxOutIdeal := Cert.RefAdamFoxOutIdeal.Gen.facts) := fun m ρ _ =>
  quiet4 (by decide) (Cert.RefAdamFoxOutIdeal.Value.run (F := Ideal) m ρ)

theorem algebraic_adam_fox_out : Cert.algebraic_AdamFoxOutIdeal_RefAdamFoxOutIdeal (hAdamFoxOutIdeal := Cert.AdamFoxOutIdeal.Gen.facts)
    (hRefAdamFoxOutIdeal := Cert.RefAdamFoxOutIdeal.Gen.facts) := fun m ρ m' ρ' _ h =>
  ⟨_, _, _, _, Cert.AdamFoxOutIdeal.Value.run_blocks m ρ, leaves4 (Cert.RefAdamFoxOutIdeal.Value.run (F := Ideal) m' ρ') fun c => by
    rw [(h c).1, (h c).2.1, (h c).2.2.1, (h c).2.2.2]
    exact Cert.AdamFoxOutIdeal.Val.result m c⟩

theorem frame_adam_kv : Cert.quiescent_RefAdamKvIdeal (hRefAdamKvIdeal := Cert.RefAdamKvIdeal.Gen.facts) := fun m ρ _ =>
  quiet4 (by decide) (Cert.RefAdamKvIdeal.Value.run (F := Ideal) m ρ)

theorem algebraic_adam_kv : Cert.algebraic_AdamKvIdeal_RefAdamKvIdeal (hAdamKvIdeal := Cert.AdamKvIdeal.Gen.facts)
    (hRefAdamKvIdeal := Cert.RefAdamKvIdeal.Gen.facts) := fun m ρ m' ρ' _ h =>
  ⟨_, _, _, _, Cert.AdamKvIdeal.Value.run_blocks m ρ, leaves4 (Cert.RefAdamKvIdeal.Value.run (F := Ideal) m' ρ') fun c => by
    rw [(h c).1, (h c).2.1, (h c).2.2.1, (h c).2.2.2]
    exact Cert.AdamKvIdeal.Val.result m c⟩

theorem frame_adam_gla_in : Cert.quiescent_RefAdamGlaInIdeal (hRefAdamGlaInIdeal := Cert.RefAdamGlaInIdeal.Gen.facts) := fun m ρ _ =>
  quiet4 (by decide) (Cert.RefAdamGlaInIdeal.Value.run (F := Ideal) m ρ)

theorem algebraic_adam_gla_in : Cert.algebraic_AdamGlaInIdeal_RefAdamGlaInIdeal (hAdamGlaInIdeal := Cert.AdamGlaInIdeal.Gen.facts)
    (hRefAdamGlaInIdeal := Cert.RefAdamGlaInIdeal.Gen.facts) := fun m ρ m' ρ' _ h =>
  ⟨_, _, _, _, Cert.AdamGlaInIdeal.Value.run_blocks m ρ, leaves4 (Cert.RefAdamGlaInIdeal.Value.run (F := Ideal) m' ρ') fun c => by
    rw [(h c).1, (h c).2.1, (h c).2.2.1, (h c).2.2.2.1, (h c).2.2.2.2]
    exact Cert.AdamGlaInIdeal.Val.result m c⟩

theorem frame_adam_gla_out : Cert.quiescent_RefAdamGlaOutIdeal (hRefAdamGlaOutIdeal := Cert.RefAdamGlaOutIdeal.Gen.facts) := fun m ρ _ =>
  quiet4 (by decide) (Cert.RefAdamGlaOutIdeal.Value.run (F := Ideal) m ρ)

theorem algebraic_adam_gla_out : Cert.algebraic_AdamGlaOutIdeal_RefAdamGlaOutIdeal (hAdamGlaOutIdeal := Cert.AdamGlaOutIdeal.Gen.facts)
    (hRefAdamGlaOutIdeal := Cert.RefAdamGlaOutIdeal.Gen.facts) := fun m ρ m' ρ' _ h =>
  ⟨_, _, _, _, Cert.AdamGlaOutIdeal.Value.run_blocks m ρ, leaves4 (Cert.RefAdamGlaOutIdeal.Value.run (F := Ideal) m' ρ') fun c => by
    rw [(h c).1, (h c).2.1, (h c).2.2.1, (h c).2.2.2.1, (h c).2.2.2.2]
    exact Cert.AdamGlaOutIdeal.Val.result m c⟩

theorem frame_adam_up : Cert.quiescent_RefAdamUpIdeal (hRefAdamUpIdeal := Cert.RefAdamUpIdeal.Gen.facts) := fun m ρ _ =>
  quiet4 (by decide) (Cert.RefAdamUpIdeal.Value.run (F := Ideal) m ρ)

theorem algebraic_adam_up : Cert.algebraic_AdamUpIdeal_RefAdamUpIdeal (hAdamUpIdeal := Cert.AdamUpIdeal.Gen.facts)
    (hRefAdamUpIdeal := Cert.RefAdamUpIdeal.Gen.facts) := fun m ρ m' ρ' _ h =>
  ⟨_, _, _, _, Cert.AdamUpIdeal.Value.run_blocks m ρ, leaves4 (Cert.RefAdamUpIdeal.Value.run (F := Ideal) m' ρ') fun c => by
    rw [(h c).1, (h c).2.1, (h c).2.2.1, (h c).2.2.2.1, (h c).2.2.2.2.1, (h c).2.2.2.2.2]
    exact Cert.AdamUpIdeal.Val.result m c⟩

theorem frame_adam_down : Cert.quiescent_RefAdamDownIdeal (hRefAdamDownIdeal := Cert.RefAdamDownIdeal.Gen.facts) := fun m ρ _ =>
  quiet4 (by decide) (Cert.RefAdamDownIdeal.Value.run (F := Ideal) m ρ)

theorem algebraic_adam_down : Cert.algebraic_AdamDownIdeal_RefAdamDownIdeal (hAdamDownIdeal := Cert.AdamDownIdeal.Gen.facts)
    (hRefAdamDownIdeal := Cert.RefAdamDownIdeal.Gen.facts) := fun m ρ m' ρ' _ h =>
  ⟨_, _, _, _, Cert.AdamDownIdeal.Value.run_blocks m ρ, leaves4 (Cert.RefAdamDownIdeal.Value.run (F := Ideal) m' ρ') fun c => by
    rw [(h c).1, (h c).2.1, (h c).2.2.1, (h c).2.2.2.1, (h c).2.2.2.2.1, (h c).2.2.2.2.2]
    exact Cert.AdamDownIdeal.Val.result m c⟩

theorem frame_adam_small : Cert.quiescent_RefAdamSmallIdeal (hRefAdamSmallIdeal := Cert.RefAdamSmallIdeal.Gen.facts) := fun m ρ _ =>
  quiet4 (by decide) (Cert.RefAdamSmallIdeal.Value.run (F := Ideal) m ρ)

theorem algebraic_adam_small : Cert.algebraic_AdamSmallIdeal_RefAdamSmallIdeal (hAdamSmallIdeal := Cert.AdamSmallIdeal.Gen.facts)
    (hRefAdamSmallIdeal := Cert.RefAdamSmallIdeal.Gen.facts) := fun m ρ m' ρ' _ h =>
  ⟨_, _, _, _, Cert.AdamSmallIdeal.Value.run_blocks m ρ, leaves4 (Cert.RefAdamSmallIdeal.Value.run (F := Ideal) m' ρ') fun c => by
    rw [(h c).1, (h c).2.1, (h c).2.2.1, (h c).2.2.2]
    exact Cert.AdamSmallIdeal.Val.result m c⟩

theorem frame_sum_small : Cert.quiescent_RefSumSmallIdeal (hRefSumSmallIdeal := Cert.RefSumSmallIdeal.Gen.facts) := fun m ρ _ =>
  quiet (by decide) (Cert.RefSumSmallIdeal.Value.run (F := Ideal) m ρ)

theorem algebraic_sum_small : Cert.algebraic_SumSmallIdeal_RefSumSmallIdeal (hSumSmallIdeal := Cert.SumSmallIdeal.Gen.facts)
    (hRefSumSmallIdeal := Cert.RefSumSmallIdeal.Gen.facts) := fun m ρ m' ρ' _ h =>
  ⟨_, Cert.SumSmallIdeal.Value.run m ρ, leaves (Cert.RefSumSmallIdeal.Value.run (F := Ideal) m' ρ') fun c => by
    rw [h c]
    exact Cert.SumSmallIdeal.Val.result _⟩

theorem claim : Cert.Claim := ⟨Cert.Kernel.Gen.facts, Cert.KernelIdeal.Gen.facts, Cert.ReferenceIdeal.Gen.facts,
  Cert.DownDx.Gen.facts, Cert.DownDxIdeal.Gen.facts, Cert.RefDownDxIdeal.Gen.facts,
  Cert.DownDw.Gen.facts, Cert.DownDwIdeal.Gen.facts, Cert.RefDownDwIdeal.Gen.facts,
  Cert.UpDw.Gen.facts, Cert.UpDwIdeal.Gen.facts, Cert.RefUpDwIdeal.Gen.facts,
  Cert.UpDx.Gen.facts, Cert.UpDxIdeal.Gen.facts, Cert.RefUpDxIdeal.Gen.facts,
  Cert.UpDxG.Gen.facts, Cert.UpDxGIdeal.Gen.facts, Cert.RefUpDxGIdeal.Gen.facts,
  Cert.Up.Gen.facts, Cert.UpIdeal.Gen.facts, Cert.RefUpIdeal.Gen.facts,
  Cert.Down.Gen.facts, Cert.DownIdeal.Gen.facts, Cert.RefDownIdeal.Gen.facts,
  Cert.Out.Gen.facts, Cert.OutIdeal.Gen.facts, Cert.RefOutIdeal.Gen.facts,
  Cert.OutDx.Gen.facts, Cert.OutDxIdeal.Gen.facts, Cert.RefOutDxIdeal.Gen.facts,
  Cert.OutDw.Gen.facts, Cert.OutDwIdeal.Gen.facts, Cert.RefOutDwIdeal.Gen.facts,
  Cert.FoxIn.Gen.facts, Cert.FoxInIdeal.Gen.facts, Cert.RefFoxInIdeal.Gen.facts,
  Cert.FoxInDw.Gen.facts, Cert.FoxInDwIdeal.Gen.facts, Cert.RefFoxInDwIdeal.Gen.facts,
  Cert.FoxInDx.Gen.facts, Cert.FoxInDxIdeal.Gen.facts, Cert.RefFoxInDxIdeal.Gen.facts,
  Cert.GlaIn.Gen.facts, Cert.GlaInIdeal.Gen.facts, Cert.RefGlaInIdeal.Gen.facts,
  Cert.GlaInDw.Gen.facts, Cert.GlaInDwIdeal.Gen.facts, Cert.RefGlaInDwIdeal.Gen.facts,
  Cert.GlaInDx.Gen.facts, Cert.GlaInDxIdeal.Gen.facts, Cert.RefGlaInDxIdeal.Gen.facts,
  Cert.KvProj.Gen.facts, Cert.KvProjIdeal.Gen.facts, Cert.RefKvProjIdeal.Gen.facts,
  Cert.KvGate.Gen.facts, Cert.KvGateIdeal.Gen.facts, Cert.RefKvGateIdeal.Gen.facts,
  Cert.KvDw.Gen.facts, Cert.KvDwIdeal.Gen.facts, Cert.RefKvDwIdeal.Gen.facts,
  Cert.KvDx.Gen.facts, Cert.KvDxIdeal.Gen.facts, Cert.RefKvDxIdeal.Gen.facts,
  Cert.AdamFoxIn.Gen.facts, Cert.AdamFoxInIdeal.Gen.facts, Cert.RefAdamFoxInIdeal.Gen.facts,
  Cert.AdamFoxOut.Gen.facts, Cert.AdamFoxOutIdeal.Gen.facts, Cert.RefAdamFoxOutIdeal.Gen.facts,
  Cert.AdamKv.Gen.facts, Cert.AdamKvIdeal.Gen.facts, Cert.RefAdamKvIdeal.Gen.facts,
  Cert.AdamGlaIn.Gen.facts, Cert.AdamGlaInIdeal.Gen.facts, Cert.RefAdamGlaInIdeal.Gen.facts,
  Cert.AdamGlaOut.Gen.facts, Cert.AdamGlaOutIdeal.Gen.facts, Cert.RefAdamGlaOutIdeal.Gen.facts,
  Cert.AdamUp.Gen.facts, Cert.AdamUpIdeal.Gen.facts, Cert.RefAdamUpIdeal.Gen.facts,
  Cert.AdamDown.Gen.facts, Cert.AdamDownIdeal.Gen.facts, Cert.RefAdamDownIdeal.Gen.facts,
  Cert.AdamSmall.Gen.facts, Cert.AdamSmallIdeal.Gen.facts, Cert.RefAdamSmallIdeal.Gen.facts,
  Cert.SumSmall.Gen.facts, Cert.SumSmallIdeal.Gen.facts, Cert.RefSumSmallIdeal.Gen.facts,
  Cert.Pre_finite_inert.Val.facts,
  frame_k, frame_ki, frame_kip, frame_ri, frame_rip,
  fun m ρ _ => Cert.DownDx.Gen.frame m ρ, fun m ρ _ => Cert.DownDxIdeal.Gen.frame m ρ, frame_down_dx,
  fun m ρ _ => Cert.DownDw.Gen.frame m ρ, fun m ρ _ => Cert.DownDwIdeal.Gen.frame m ρ, frame_down_dw,
  fun m ρ _ => Cert.UpDw.Gen.frame m ρ, fun m ρ _ => Cert.UpDwIdeal.Gen.frame m ρ, frame_up_dw,
  fun m ρ _ => Cert.UpDx.Gen.frame m ρ, fun m ρ _ => Cert.UpDxIdeal.Gen.frame m ρ, frame_up_dx,
  fun m ρ _ => Cert.UpDxG.Gen.frame m ρ, fun m ρ _ => Cert.UpDxGIdeal.Gen.frame m ρ, frame_up_dx_g,
  fun m ρ _ => Cert.Up.Gen.frame m ρ, fun m ρ _ => Cert.UpIdeal.Gen.frame m ρ, frame_up,
  fun m ρ _ => Cert.Down.Gen.frame m ρ, fun m ρ _ => Cert.DownIdeal.Gen.frame m ρ, frame_down,
  fun m ρ _ => Cert.Out.Gen.frame m ρ, fun m ρ _ => Cert.OutIdeal.Gen.frame m ρ, frame_out,
  fun m ρ _ => Cert.OutDx.Gen.frame m ρ, fun m ρ _ => Cert.OutDxIdeal.Gen.frame m ρ, frame_out_dx,
  fun m ρ _ => Cert.OutDw.Gen.frame m ρ, fun m ρ _ => Cert.OutDwIdeal.Gen.frame m ρ, frame_out_dw,
  fun m ρ _ => Cert.FoxIn.Gen.frame m ρ, fun m ρ _ => Cert.FoxInIdeal.Gen.frame m ρ, frame_fox_in,
  fun m ρ _ => Cert.FoxInDw.Gen.frame m ρ, fun m ρ _ => Cert.FoxInDwIdeal.Gen.frame m ρ, frame_fox_in_dw,
  fun m ρ _ => Cert.FoxInDx.Gen.frame m ρ, fun m ρ _ => Cert.FoxInDxIdeal.Gen.frame m ρ, frame_fox_in_dx,
  fun m ρ _ => Cert.GlaIn.Gen.frame m ρ, fun m ρ _ => Cert.GlaInIdeal.Gen.frame m ρ, frame_gla_in,
  fun m ρ _ => Cert.GlaInDw.Gen.frame m ρ, fun m ρ _ => Cert.GlaInDwIdeal.Gen.frame m ρ, frame_gla_in_dw,
  fun m ρ _ => Cert.GlaInDx.Gen.frame m ρ, fun m ρ _ => Cert.GlaInDxIdeal.Gen.frame m ρ, frame_gla_in_dx,
  fun m ρ _ => Cert.KvProj.Gen.frame m ρ, fun m ρ _ => Cert.KvProjIdeal.Gen.frame m ρ, frame_kv_proj,
  fun m ρ _ => Cert.KvGate.Gen.frame m ρ, fun m ρ _ => Cert.KvGateIdeal.Gen.frame m ρ, frame_kv_gate,
  fun m ρ _ => Cert.KvDw.Gen.frame m ρ, fun m ρ _ => Cert.KvDwIdeal.Gen.frame m ρ, frame_kv_dw,
  fun m ρ _ => Cert.KvDx.Gen.frame m ρ, fun m ρ _ => Cert.KvDxIdeal.Gen.frame m ρ, frame_kv_dx,
  fun m ρ _ => Cert.AdamFoxIn.Gen.frame m ρ, fun m ρ _ => Cert.AdamFoxInIdeal.Gen.frame m ρ, frame_adam_fox_in,
  fun m ρ _ => Cert.AdamFoxOut.Gen.frame m ρ, fun m ρ _ => Cert.AdamFoxOutIdeal.Gen.frame m ρ, frame_adam_fox_out,
  fun m ρ _ => Cert.AdamKv.Gen.frame m ρ, fun m ρ _ => Cert.AdamKvIdeal.Gen.frame m ρ, frame_adam_kv,
  fun m ρ _ => Cert.AdamGlaIn.Gen.frame m ρ, fun m ρ _ => Cert.AdamGlaInIdeal.Gen.frame m ρ, frame_adam_gla_in,
  fun m ρ _ => Cert.AdamGlaOut.Gen.frame m ρ, fun m ρ _ => Cert.AdamGlaOutIdeal.Gen.frame m ρ, frame_adam_gla_out,
  fun m ρ _ => Cert.AdamUp.Gen.frame m ρ, fun m ρ _ => Cert.AdamUpIdeal.Gen.frame m ρ, frame_adam_up,
  fun m ρ _ => Cert.AdamDown.Gen.frame m ρ, fun m ρ _ => Cert.AdamDownIdeal.Gen.frame m ρ, frame_adam_down,
  fun m ρ _ => Cert.AdamSmall.Gen.frame m ρ, fun m ρ _ => Cert.AdamSmallIdeal.Gen.frame m ρ, frame_adam_small,
  fun m ρ _ => Cert.SumSmall.Gen.frame m ρ, fun m ρ _ => Cert.SumSmallIdeal.Gen.frame m ρ, frame_sum_small,
  trivial, algebraic,
  trivial, algebraic_down_dx, trivial, algebraic_down_dw, trivial, algebraic_up_dw,
  trivial, algebraic_up_dx, trivial, algebraic_up_dx_g, trivial, algebraic_up,
  trivial, algebraic_down, trivial, algebraic_out, trivial, algebraic_out_dx,
  trivial, algebraic_out_dw, trivial, algebraic_fox_in, trivial, algebraic_fox_in_dw,
  trivial, algebraic_fox_in_dx, trivial, algebraic_gla_in, trivial, algebraic_gla_in_dw,
  trivial, algebraic_gla_in_dx,
  trivial, algebraic_kv_proj, trivial, algebraic_kv_gate, trivial, algebraic_kv_dw, trivial, algebraic_kv_dx,
  trivial, algebraic_adam_fox_in, trivial, algebraic_adam_fox_out, trivial, algebraic_adam_kv,
  trivial, algebraic_adam_gla_in, trivial, algebraic_adam_gla_out,
  trivial, algebraic_adam_up, trivial, algebraic_adam_down, trivial, algebraic_adam_small,
  trivial, algebraic_sum_small⟩

end Cert.Proof

end
